-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v249)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v249) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v16_0)) (v1 : (c : Dev Cert.Kernel10Ideal.nD) → Buf (Elt Ideal) ((c.tc : Thread Cert.Kernel10Ideal.nD Cert.Kernel10Ideal.τ).loc Cert.Kernel10Ideal.main_v16_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16_0) = v0 c
          ∧ r.2.mem ((c.tc : Thread Cert.Kernel10Ideal.nD Cert.Kernel10Ideal.τ).loc Cert.Kernel10Ideal.main_v16_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v71) = v0 c
          ∧ r.2.mem ((c.tc : Thread Cert.Reference10Ideal.nD Cert.Reference10Ideal.τ).loc Cert.Reference10Ideal.main_v72) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v15_0)) (v1 : (c : Dev Cert.Kernel11Ideal.nD) → Buf (Elt Ideal) ((c.tc : Thread Cert.Kernel11Ideal.nD Cert.Kernel11Ideal.τ).loc Cert.Kernel11Ideal.main_v15_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15_0) = v0 c
          ∧ r.2.mem ((c.tc : Thread Cert.Kernel11Ideal.nD Cert.Kernel11Ideal.τ).loc Cert.Kernel11Ideal.main_v15_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v52) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v25) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S18432x3072 : Shape := ⟨2, ![18432, 3072]⟩
abbrev S8x15x31 : Shape := ⟨3, ![8, 15, 31]⟩
abbrev S_ : Shape := ⟨0, ![]⟩

class Facts : Prop where
  bitsLt_bf16_f32 : FTy.bits .bf16 < FTy.bits .f32
  bcast_S_S18432x3072 : S_.BroadcastsInDim S18432x3072 (![] : Fin 0 → Fin S18432x3072.rank)
  reducesTo_S18432x3072_S_d0_1 : S18432x3072.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S18432x3072 .bf16) (main_arg1 : FVec F S8x15x31 .f32) : IVec S_ 1 :=
  let main_v0 : FVec F S18432x3072 .f32 := (extf .f32 · bitsLt_bf16_f32) main_arg0
  let main_v1 : FVec F S18432x3072 .f32 := Host.absf main_v0
  let main_cst : FVec F S_ .f32 := constant S_ .f32 0x7F800000#32
  let main_v2 : FVec F S18432x3072 .f32 := broadcastInDim S18432x3072 ![] bcast_S_S18432x3072 main_cst
  let main_v3 : IVec S18432x3072 1 := cmpf .olt main_v1 main_v2
  let main_c : IVec S_ 1 := constantI S_ 1 1#1
  let main_v4 : IVec S_ 1 := (fun x v => Host.reduce IntOp.andi x v reducesTo_S18432x3072_S_d0_1 h_S_) main_v3 main_c
  let main_v5 : FVec F S8x15x31 .f32 := Host.absf main_arg1
  let main_cst_0 : FVec F S_ .f32 := constant S_ .f32 0x7F800000#32
  let main_v6 : FVec F S8x15x31 .f32 := broadcastInDim S8x15x31 ![] bcast_S_S8x15x31 main_cst_0
  let main_v7 : IVec S8x15x31 1 := cmpf .olt main_v5 main_v6
  let main_c_1 : IVec S_ 1 := constantI S_ 1 1#1
  let main_v8 : IVec S_ 1 := (fun x v => Host.reduce IntOp.andi x v reducesTo_S8x15x31_S_d0_1_2 h_S_) main_v7 main_c_1
  let main_v9 : IVec S_ 1 := andi main_v4 main_v8
  main_v9
-- ==== Pre_finite3.lean ====
abbrev S16384x8192 : Shape := ⟨2, ![16384, 8192]⟩
abbrev S1x8192x2048 : Shape := ⟨3, ![1, 8192, 2048]⟩
abbrev S16384x2048 : Shape := ⟨2, ![16384, 2048]⟩
abbrev S16x1x12288 : Shape := ⟨3, ![16, 1, 12288]⟩
abbrev S2048 : Shape := ⟨1, ![2048]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S1x8192x2048 : S_.BroadcastsInDim S1x8192x2048 (![] : Fin 0 → Fin S1x8192x2048.rank)
  reducesTo_S1x8192x2048_S_d0_1_2 : S1x8192x2048.ReducesTo [0, 1, 2] S_
  bcast_S_S16x1x12288 : S_.BroadcastsInDim S16x1x12288 (![] : Fin 0 → Fin S16x1x12288.rank)
  reducesTo_S16x1x12288_S_d0_1_2 : S16x1x12288.ReducesTo [0, 1, 2] S_

variable [Facts]

def fn {F : FTy → Type} [FloatOps F] (main_arg0 : FVec F S16384x8192 .bf16) (main_arg1 : FVec F S1x8192x2048 .bf16) (main_arg2 : FVec F S16384x2048 .f32) (main_arg3 : FVec F S16x1x12288 .f32) (main_arg4 : FVec F S2048 .f32) : IVec S_ 1 :=
  let main_v0 : FVec F S16384x8192 .f32 := (extf .f32 · bitsLt_bf16_f32) main_arg0
  let main_v1 : FVec F S16384x8192 .f32 := Host.absf main_v0
  let main_cst : FVec F S_ .f32 := constant S_ .f32 0x7F800000#32
  let main_v2 : FVec F S16384x8192 .f32 := broadcastInDim S16384x8192 ![] bcast_S_S16384x8192 main_cst
  let main_v3 : IVec S16384x8192 1 := cmpf .olt main_v1 main_v2
  let main_c : IVec S_ 1 := constantI S_ 1 1#1
  let main_v4 : IVec S_ 1 := (fun x v => Host.reduce IntOp.andi x v reducesTo_S16384x8192_S_d0_1 h_S_) main_v3 main_c
  let main_v5 : FVec F S1x8192x2048 .f32 := (extf .f32 · bitsLt_bf16_f32) main_arg1
  let main_v6 : FVec F S1x8192x2048 .f32 := Host.absf main_v5
  let main_cst_0 : FVec F S_ .f32 := constant S_ .f32 0x7F800000#32
  let main_v7 : FVec F S1x8192x2048 .f32 := broadcastInDim S1x8192x2048 ![] bcast_S_S1x8192x2048 main_cst_0
  let main_v8 : IVec S1x8192x2048 1 := cmpf .olt main_v6 main_v7
  let main_c_1 : IVec S_ 1 := constantI S_ 1 1#1
  let main_v9 : IVec S_ 1 := (fun x v => Host.reduce IntOp.andi x v reducesTo_S1x8192x2048_S_d0_1_2 h_S_) main_v8 main_c_1
  let main_v10 : IVec S_ 1 := andi main_v4 main_v9
  let main_v11 : FVec F S16x1x12288 .f32 := Host.absf main_arg3
  let main_cst_2 : FVec F S_ .f32 := constant S_ .f32 0x7F800000#32
  let main_v12 : FVec F S16x1x12288 .f32 := broadcastInDim S16x1x12288 ![] bcast_S_S16x1x12288 main_cst_2
  let main_v13 : IVec S16x1x12288 1 := cmpf .olt main_v11 main_v12
  let main_c_3 : IVec S_ 1 := constantI S_ 1 1#1
  let main_v14 : IVec S_ 1 := (fun x v => Host.reduce IntOp.andi x v reducesTo_S16x1x12288_S_d0_1_2 h_S_) main_v13 main_c_3
  let main_v15 : IVec S_ 1 := andi main_v10 main_v14
  main_v15
-- ==== Pre_finite4.lean ====
abbrev S18432x8192 : Shape := ⟨2, ![18432, 8192]⟩
abbrev S1x8192x2048 : Shape := ⟨3, ![1, 8192, 2048]⟩
abbrev S18432x2048 : Shape := ⟨2, ![18432, 2048]⟩
abbrev S16x1x12288 : Shape := ⟨3, ![16, 1, 12288]⟩
abbrev S2048 : Shape := ⟨1, ![2048]⟩
abbrev S_ : Shape := ⟨0, ![]⟩

class Facts : Prop where
  bitsLt_bf16_f32 : FTy.bits .bf16 < FTy.bits .f32
  bcast_S_S18432x8192 : S_.BroadcastsInDim S18432x8192 (![] : Fin 0 → Fin S18432x8192.rank)
  reducesTo_S18432x8192_S_d0_1 : S18432x8192.ReducesTo [0, 1] S_
  h_S_ : 0 < S_.numel
  bcast_S_S1x8192x2048 : S_.BroadcastsInDim S1x8192x2048 (![] : Fin 0 → Fin S1x8192x2048.rank)
  reducesTo_S1x8192x2048_S_d0_1_2 : S1x8192x2048.ReducesTo [0, 1, 2] S_
  bcast_S_S16x1x12288 : S_.BroadcastsInDim S16x1x12288 (![] : Fin 0 → Fin S16x1x12288.rank)
  reducesTo_S16x1x12288_S_d0_1_2 : S16x1x12288.ReducesTo [0, 1, 2] S_

variable [Facts]

def fn {F : FTy → Type} [FloatOps F] (main_arg0 : FVec F S18432x8192 .bf16) (main_arg1 : FVec F S1x8192x2048 .bf16) (main_arg2 : FVec F S18432x2048 .f32) (main_arg3 : FVec F S16x1x12288 .f32) (main_arg4 : FVec F S16x1x12288 .f32) (main_arg5 : FVec F S2048 .f32) : IVec S_ 1 :=
  let main_v0 : FVec F S18432x8192 .f32 := (extf .f32 · bitsLt_bf16_f32) main_arg0
  let main_v1 : FVec F S18432x8192 .f32 := Host.absf main_v0
  let main_cst : FVec F S_ .f32 := constant S_ .f32 0x7F800000#32
  let main_v2 : FVec F S18432x8192 .f32 := broadcastInDim S18432x8192 ![] bcast_S_S18432x8192 main_cst
  let main_v3 : IVec S18432x8192 1 := cmpf .olt main_v1 main_v2
  let main_c : IVec S_ 1 := constantI S_ 1 1#1
  let main_v4 : IVec S_ 1 := (fun x v => Host.reduce IntOp.andi x v reducesTo_S18432x8192_S_d0_1 h_S_) main_v3 main_c
  let main_v5 : FVec F S1x8192x2048 .f32 := (extf .f32 · bitsLt_bf16_f32) main_arg1
  let main_v6 : FVec F S1x8192x2048 .f32 := Host.absf main_v5
  let main_cst_0 : FVec F S_ .f32 := constant S_ .f32 0x7F800000#32
  let main_v7 : FVec F S1x8192x2048 .f32 := broadcastInDim S1x8192x2048 ![] bcast_S_S1x8192x2048 main_cst_0
  let main_v8 : IVec S1x8192x2048 1 := cmpf .olt main_v6 main_v7
  let main_c_1 : IVec S_ 1 := constantI S_ 1 1#1
  let main_v9 : IVec S_ 1 := (fun x v => Host.reduce IntOp.andi x v reducesTo_S1x8192x2048_S_d0_1_2 h_S_) main_v8 main_c_1
  let main_v10 : IVec S_ 1 := andi main_v4 main_v9
  let main_v11 : FVec F S16x1x12288 .f32 := Host.absf main_arg3
  let main_cst_2 : FVec F S_ .f32 := constant S_ .f32 0x7F800000#32
  let main_v12 : FVec F S16x1x12288 .f32 := broadcastInDim S16x1x12288 ![] bcast_S_S16x1x12288 main_cst_2
  let main_v13 : IVec S16x1x12288 1 := cmpf .olt main_v11 main_v12
  let main_c_3 : IVec S_ 1 := constantI S_ 1 1#1
  let main_v14 : IVec S_ 1 := (fun x v => Host.reduce IntOp.andi x v reducesTo_S16x1x12288_S_d0_1_2 h_S_) main_v13 main_c_3
  let main_v15 : IVec S_ 1 := andi main_v10 main_v14
  main_v15
-- ==== Kernel.lean ====
abbrev S18432x3072 : Shape := ⟨2, ![18432, 3072]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S8x15x64x64 : Shape := ⟨4, ![8, 15, 64, 64]⟩
abbrev S1x1x64x64 : Shape := ⟨4, ![1, 1, 64, 64]⟩
abbrev S8x64x64 : Shape := ⟨3, ![8, 64, 64]⟩
abbrev S8x1x64x64 : Shape := ⟨4, ![8, 1, 64, 64]⟩
abbrev S8x64x768 : Shape := ⟨3, ![8, 64, 768]⟩
abbrev S8x256x768 : Shape := ⟨3, ![8, 256, 768]⟩
abbrev S8x1x256x768 : Shape := ⟨4, ![8, 1, 256, 768]⟩
abbrev S8x3x256x768 : Shape := ⟨4, ![8, 3, 256, 768]⟩
abbrev S18432x1024 : Shape := ⟨2, ![18432, 1024]⟩
abbrev S256x512 : Shape := ⟨2, ![256, 512]⟩
abbrev S4x1x256x768 : Shape := ⟨4, ![4, 1, 256, 768]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256x256 : Shape := ⟨4, ![1, 1, 256, 256]⟩

abbrev nBuf : Space → Nat
  | .hbm => 267
  | .vmem => 22
  | .smem => 0
  | _ => 0

abbrev hbmTy0_0 (i : Nat) : BufTy := match i % 128 with
  | 0 => ⟨S18432x3072, .bf16⟩
  | 1 => ⟨S8x15x31, .f32⟩
  | 2 => ⟨S64, .i32⟩
  | 3 => ⟨S64x1, .i32⟩
  | 4 => ⟨S64, .i32⟩
  | 5 => ⟨S1x64, .i32⟩
  | 6 => ⟨S_, .i32⟩
  | 7 => ⟨S64x1, .i32⟩
  | 8 => ⟨S64x1, .i32⟩
  | 9 => ⟨S_, .i32⟩
  | 10 => ⟨S_, .i32⟩
  | 11 => ⟨S_, .i32⟩
  | 12 => ⟨S64x1, .i32⟩
  | 13 => ⟨S64x1, .i32⟩
  | 14 => ⟨S_, .i32⟩
  | 15 => ⟨S64x1, .i32⟩
  | 16 => ⟨S64x1, .i32⟩
  | 17 => ⟨S64x64, .i32⟩
  | 18 => ⟨S64x64, .i32⟩
  | 19 => ⟨S64x64, .i1⟩
  | 20 => ⟨S_, .i32⟩
  | 21 => ⟨S64x1, .i32⟩
  | 22 => ⟨S64x1, .i32⟩
  | 23 => ⟨S64x64, .i32⟩
  | 24 => ⟨S64x64, .i32⟩
  | 25 => ⟨S64x64, .i1⟩
  | 26 => ⟨S64x64, .i1⟩
  | 27 => ⟨S64x64, .i32⟩
  | 28 => ⟨S64x64, .i32⟩
  | 29 => ⟨S64x64, .i32⟩
  | 30 => ⟨S_, .i32⟩
  | 31 => ⟨S64x64, .i32⟩
  | 32 => ⟨S64x64, .i32⟩
  | 33 => ⟨S64x64x1, .i32⟩
  | 34 => ⟨S31, .i32⟩
  | 35 => ⟨S1x1x31, .i32⟩
  | 36 => ⟨S64x64x31, .i32⟩
  | 37 => ⟨S64x64x31, .i32⟩
  | 38 => ⟨S64x64x31, .i1⟩
  | 39 => ⟨S64x64x1, .i1⟩
  | 40 => ⟨S64x64x31, .i1⟩
  | 41 => ⟨S64x64x31, .i1⟩
  | 42 => ⟨S64x64x31, .f32⟩
  | 43 => ⟨S8x15x64x64, .f32⟩
  | 44 => ⟨S_, .f32⟩
  | 45 => ⟨S_, .f32⟩
  | 46 => ⟨S64x64, .f32⟩
  | 47 => ⟨S64x64, .f32⟩
  | 48 => ⟨S64x64, .f32⟩
  | 49 => ⟨S64x64, .f32⟩
  | 50 => ⟨S1x1x64x64, .f32⟩
  | 51 => ⟨S8x15x64x64, .f32⟩
  | 52 => ⟨S8x15x64x64, .f32⟩
  | 53 => ⟨S_, .f32⟩
  | 54 => ⟨S8x64x64, .f32⟩
  | 55 => ⟨S8x1x64x64, .f32⟩
  | 56 => ⟨S8x64x64, .f32⟩
  | 57 => ⟨S8x1x64x64, .f32⟩
  | 58 => ⟨S8x64x64, .f32⟩
  | 59 => ⟨S8x1x64x64, .f32⟩
  | 60 => ⟨S8x64x64, .f32⟩
  | 61 => ⟨S8x1x64x64, .f32⟩
  | 62 => ⟨S8x64x64, .f32⟩
  | 63 => ⟨S8x1x64x64, .f32⟩
  | 64 => ⟨S8x64x64, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x64x768, .f32⟩
  | 72 => ⟨S8x1x64x64, .f32⟩
  | 73 => ⟨S8x64x64, .f32⟩
  | 74 => ⟨S8x1x64x64, .f32⟩
  | 75 => ⟨S8x64x64, .f32⟩
  | 76 => ⟨S8x1x64x64, .f32⟩
  | 77 => ⟨S8x64x64, .f32⟩
  | 78 => ⟨S8x1x64x64, .f32⟩
  | 79 => ⟨S8x64x64, .f32⟩
  | 80 => ⟨S8x1x64x64, .f32⟩
  | 81 => ⟨S8x64x64, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x64x768, .f32⟩
  | 89 => ⟨S8x1x64x64, .f32⟩
  | 90 => ⟨S8x64x64, .f32⟩
  | 91 => ⟨S8x1x64x64, .f32⟩
  | 92 => ⟨S8x64x64, .f32⟩
  | 93 => ⟨S8x1x64x64, .f32⟩
  | 94 => ⟨S8x64x64, .f32⟩
  | 95 => ⟨S8x1x64x64, .f32⟩
  | 96 => ⟨S8x64x64, .f32⟩
  | 97 => ⟨S8x1x64x64, .f32⟩
  | 98 => ⟨S8x64x64, .f32⟩
  | 99 => ⟨S8x1x64x64, .f32⟩
  | 100 => ⟨S8x64x64, .f32⟩
  | 101 => ⟨S8x1x64x64, .f32⟩
  | 102 => ⟨S8x64x64, .f32⟩
  | 103 => ⟨S8x1x64x64, .f32⟩
  | 104 => ⟨S8x64x64, .f32⟩
  | 105 => ⟨S8x64x768, .f32⟩
  | 106 => ⟨S8x1x64x64, .f32⟩
  | 107 => ⟨S8x64x64, .f32⟩
  | 108 => ⟨S8x1x64x64, .f32⟩
  | 109 => ⟨S8x64x64, .f32⟩
  | 110 => ⟨S8x1x64x64, .f32⟩
  | 111 => ⟨S8x64x64, .f32⟩
  | 112 => ⟨S8x1x64x64, .f32⟩
  | 113 => ⟨S8x64x64, .f32⟩
  | 114 => ⟨S8x1x64x64, .f32⟩
  | 115 => ⟨S8x64x64, .f32⟩
  | 116 => ⟨S8x1x64x64, .f32⟩
  | 117 => ⟨S8x64x64, .f32⟩
  | 118 => ⟨S8x1x64x64, .f32⟩
  | 119 => ⟨S8x64x64, .f32⟩
  | 120 => ⟨S8x1x64x64, .f32⟩
  | 121 => ⟨S8x64x64, .f32⟩
  | 122 => ⟨S8x64x768, .f32⟩
  | 123 => ⟨S8x256x768, .f32⟩
  | 124 => ⟨S8x1x64x64, .f32⟩
  | 125 => ⟨S8x64x64, .f32⟩
  | 126 => ⟨S8x1x64x64, .f32⟩
  | 127 => ⟨S8x64x64, .f32⟩
  | _ => ⟨S18432x3072, .bf16⟩

abbrev hbmTy0_1 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x1x64x64, .f32⟩
  | 5 => ⟨S8x64x64, .f32⟩
  | 6 => ⟨S8x1x64x64, .f32⟩
  | 7 => ⟨S8x64x64, .f32⟩
  | 8 => ⟨S8x1x64x64, .f32⟩
  | 9 => ⟨S8x64x64, .f32⟩
  | 10 => ⟨S8x1x64x64, .f32⟩
  | 11 => ⟨S8x64x64, .f32⟩
  | 12 => ⟨S8x64x768, .f32⟩
  | 13 => ⟨S8x1x64x64, .f32⟩
  | 14 => ⟨S8x64x64, .f32⟩
  | 15 => ⟨S8x1x64x64, .f32⟩
  | 16 => ⟨S8x64x64, .f32⟩
  | 17 => ⟨S8x1x64x64, .f32⟩
  | 18 => ⟨S8x64x64, .f32⟩
  | 19 => ⟨S8x1x64x64, .f32⟩
  | 20 => ⟨S8x64x64, .f32⟩
  | 21 => ⟨S8x1x64x64, .f32⟩
  | 22 => ⟨S8x64x64, .f32⟩
  | 23 => ⟨S8x1x64x64, .f32⟩
  | 24 => ⟨S8x64x64, .f32⟩
  | 25 => ⟨S8x1x64x64, .f32⟩
  | 26 => ⟨S8x64x64, .f32⟩
  | 27 => ⟨S8x1x64x64, .f32⟩
  | 28 => ⟨S8x64x64, .f32⟩
  | 29 => ⟨S8x64x768, .f32⟩
  | 30 => ⟨S8x1x64x64, .f32⟩
  | 31 => ⟨S8x64x64, .f32⟩
  | 32 => ⟨S8x1x64x64, .f32⟩
  | 33 => ⟨S8x64x64, .f32⟩
  | 34 => ⟨S8x1x64x64, .f32⟩
  | 35 => ⟨S8x64x64, .f32⟩
  | 36 => ⟨S8x1x64x64, .f32⟩
  | 37 => ⟨S8x64x64, .f32⟩
  | 38 => ⟨S8x1x64x64, .f32⟩
  | 39 => ⟨S8x64x64, .f32⟩
  | 40 => ⟨S8x1x64x64, .f32⟩
  | 41 => ⟨S8x64x64, .f32⟩
  | 42 => ⟨S8x1x64x64, .f32⟩
  | 43 => ⟨S8x64x64, .f32⟩
  | 44 => ⟨S8x1x64x64, .f32⟩
  | 45 => ⟨S8x64x64, .f32⟩
  | 46 => ⟨S8x64x768, .f32⟩
  | 47 => ⟨S8x1x64x64, .f32⟩
  | 48 => ⟨S8x64x64, .f32⟩
  | 49 => ⟨S8x1x64x64, .f32⟩
  | 50 => ⟨S8x64x64, .f32⟩
  | 51 => ⟨S8x1x64x64, .f32⟩
  | 52 => ⟨S8x64x64, .f32⟩
  | 53 => ⟨S8x1x64x64, .f32⟩
  | 54 => ⟨S8x64x64, .f32⟩
  | 55 => ⟨S8x1x64x64, .f32⟩
  | 56 => ⟨S8x64x64, .f32⟩
  | 57 => ⟨S8x1x64x64, .f32⟩
  | 58 => ⟨S8x64x64, .f32⟩
  | 59 => ⟨S8x1x64x64, .f32⟩
  | 60 => ⟨S8x64x64, .f32⟩
  | 61 => ⟨S8x1x64x64, .f32⟩
  | 62 => ⟨S8x64x64, .f32⟩
  | 63 => ⟨S8x64x768, .f32⟩
  | 64 => ⟨S8x256x768, .f32⟩
  | 65 => ⟨S8x1x64x64, .f32⟩
  | 66 => ⟨S8x64x64, .f32⟩
  | 67 => ⟨S8x1x64x64, .f32⟩
  | 68 => ⟨S8x64x64, .f32⟩
  | 69 => ⟨S8x1x64x64, .f32⟩
  | 70 => ⟨S8x64x64, .f32⟩
  | 71 => ⟨S8x1x64x64, .f32⟩
  | 72 => ⟨S8x64x64, .f32⟩
  | 73 => ⟨S8x1x64x64, .f32⟩
  | 74 => ⟨S8x64x64, .f32⟩
  | 75 => ⟨S8x1x64x64, .f32⟩
  | 76 => ⟨S8x64x64, .f32⟩
  | 77 => ⟨S8x1x64x64, .f32⟩
  | 78 => ⟨S8x64x64, .f32⟩
  | 79 => ⟨S8x1x64x64, .f32⟩
  | 80 => ⟨S8x64x64, .f32⟩
  | 81 => ⟨S8x64x768, .f32⟩
  | 82 => ⟨S8x1x64x64, .f32⟩
  | 83 => ⟨S8x64x64, .f32⟩
  | 84 => ⟨S8x1x64x64, .f32⟩
  | 85 => ⟨S8x64x64, .f32⟩
  | 86 => ⟨S8x1x64x64, .f32⟩
  | 87 => ⟨S8x64x64, .f32⟩
  | 88 => ⟨S8x1x64x64, .f32⟩
  | 89 => ⟨S8x64x64, .f32⟩
  | 90 => ⟨S8x1x64x64, .f32⟩
  | 91 => ⟨S8x64x64, .f32⟩
  | 92 => ⟨S8x1x64x64, .f32⟩
  | 93 => ⟨S8x64x64, .f32⟩
  | 94 => ⟨S8x1x64x64, .f32⟩
  | 95 => ⟨S8x64x64, .f32⟩
  | 96 => ⟨S8x1x64x64, .f32⟩
  | 97 => ⟨S8x64x64, .f32⟩
  | 98 => ⟨S8x64x768, .f32⟩
  | 99 => ⟨S8x1x64x64, .f32⟩
  | 100 => ⟨S8x64x64, .f32⟩
  | 101 => ⟨S8x1x64x64, .f32⟩
  | 102 => ⟨S8x64x64, .f32⟩
  | 103 => ⟨S8x1x64x64, .f32⟩
  | 104 => ⟨S8x64x64, .f32⟩
  | 105 => ⟨S8x1x64x64, .f32⟩
  | 106 => ⟨S8x64x64, .f32⟩
  | 107 => ⟨S8x1x64x64, .f32⟩
  | 108 => ⟨S8x64x64, .f32⟩
  | 109 => ⟨S8x1x64x64, .f32⟩
  | 110 => ⟨S8x64x64, .f32⟩
  | 111 => ⟨S8x1x64x64, .f32⟩
  | 112 => ⟨S8x64x64, .f32⟩
  | 113 => ⟨S8x1x64x64, .f32⟩
  | 114 => ⟨S8x64x64, .f32⟩
  | 115 => ⟨S8x64x768, .f32⟩
  | 116 => ⟨S8x1x64x64, .f32⟩
  | 117 => ⟨S8x64x64, .f32⟩
  | 118 => ⟨S8x1x64x64, .f32⟩
  | 119 => ⟨S8x64x64, .f32⟩
  | 120 => ⟨S8x1x64x64, .f32⟩
  | 121 => ⟨S8x64x64, .f32⟩
  | 122 => ⟨S8x1x64x64, .f32⟩
  | 123 => ⟨S8x64x64, .f32⟩
  | 124 => ⟨S8x1x64x64, .f32⟩
  | 125 => ⟨S8x64x64, .f32⟩
  | 126 => ⟨S8x1x64x64, .f32⟩
  | 127 => ⟨S8x64x64, .f32⟩
  | _ => ⟨S18432x3072, .bf16⟩

abbrev hbmTy0_2 (i : Nat) : BufTy := match i % 128 with
  | 0 => ⟨S8x1x64x64, .f32⟩
  | 1 => ⟨S8x64x64, .f32⟩
  | 2 => ⟨S8x1x64x64, .f32⟩
  | 3 => ⟨S8x64x64, .f32⟩
  | 4 => ⟨S8x64x768, .f32⟩
  | 5 => ⟨S8x256x768, .f32⟩
  | 6 => ⟨S8x1x256x768, .f32⟩
  | 7 => ⟨S8x1x256x768, .f32⟩
  | 8 => ⟨S8x1x256x768, .f32⟩
  | 9 => ⟨S8x3x256x768, .f32⟩
  | 10 => ⟨S18432x1024, .bf16⟩
  | _ => ⟨S18432x3072, .bf16⟩

abbrev hbmTy (i : Nat) : BufTy := match i / 128 with
  | 0 => hbmTy0_0 i
  | 1 => hbmTy0_1 i
  | 2 => hbmTy0_2 i
  | _ => ⟨S18432x3072, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S4x1x256x768, .f32⟩
  | .local _ .vmem, ⟨19, _⟩ => ⟨S4x1x256x768, .f32⟩
  | .local _ .vmem, ⟨20, _⟩ => ⟨S256x512, .bf16⟩
  | .local _ .vmem, ⟨21, _⟩ => ⟨S256x512, .bf16⟩
  | _, _ => ⟨S18432x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 9, 8], ![false, false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg1 c8_i32
  let c8_i32_0 : BitVec 32 := 8#32
  let v1 : BitVec 32 := Scalar.muli arg2 c8_i32_0
  let v2 : BitVec 32 := Scalar.addi v1 arg1
  let c64_i32 : BitVec 32 := 64#32
  let v3 : BitVec 32 := Scalar.addi c64_i32 arg2
  let v4 : BitVec 32 := Scalar.select v0 v2 v3
  let c0_i32 : BitVec 32 := 0#32
  ![v4.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi arg1 c1_i32
  let c0_i32 : BitVec 32 := 0#32
  let c5_i32 : BitVec 32 := 5#32
  let v2 : BitVec 32 := Scalar.maxsi c0_i32 v1
  let v3 : BitVec 32 := Scalar.minsi c5_i32 v2
  let v4 : BitVec 32 := Scalar.addi v0 v3
  let c0_i32_0 : BitVec 32 := 0#32
  let v5 : BitVec 32 := Scalar.addi v4 c0_i32_0
  let c2_i32 : BitVec 32 := 2#32
  let v6 : BitVec 32 := Scalar.addi c2_i32 arg0
  let c0_i32_1 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi arg1 c1_i32
  let c0_i32 : BitVec 32 := 0#32
  let c5_i32 : BitVec 32 := 5#32
  let v2 : BitVec 32 := Scalar.maxsi c0_i32 v1
  let v3 : BitVec 32 := Scalar.minsi c5_i32 v2
  let v4 : BitVec 32 := Scalar.addi v0 v3
  let c1_i32_0 : BitVec 32 := 1#32
  let v5 : BitVec 32 := Scalar.addi v4 c1_i32_0
  let c2_i32 : BitVec 32 := 2#32
  let v6 : BitVec 32 := Scalar.addi c2_i32 arg0
  let c0_i32_1 : BitVec 32 := 0#32
  ![v5.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi arg1 c1_i32
  let c0_i32 : BitVec 32 := 0#32
  let c5_i32 : BitVec 32 := 5#32
  let v2 : BitVec 32 := Scalar.maxsi c0_i32 v1
  let v3 : BitVec 32 := Scalar.minsi c5_i32 v2
  let v4 : BitVec 32 := Scalar.addi v0 v3
  let c2_i32 : BitVec 32 := 2#32
  let v5 : BitVec 32 := Scalar.addi v4 c2_i32
  let c2_i32_0 : BitVec 32 := 2#32
  let v6 : BitVec 32 := Scalar.addi c2_i32_0 arg0
  let c0_i32_1 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi arg1 c1_i32
  let c0_i32 : BitVec 32 := 0#32
  let c5_i32 : BitVec 32 := 5#32
  let v2 : BitVec 32 := Scalar.maxsi c0_i32 v1
  let v3 : BitVec 32 := Scalar.minsi c5_i32 v2
  let v4 : BitVec 32 := Scalar.addi v0 v3
  let c0_i32_0 : BitVec 32 := 0#32
  let v5 : BitVec 32 := Scalar.addi v4 c0_i32_0
  let c4_i32 : BitVec 32 := 4#32
  let v6 : BitVec 32 := Scalar.addi c4_i32 arg0
  let c0_i32_1 : BitVec 32 := 0#32
  ![v5.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi arg1 c1_i32
  let c0_i32 : BitVec 32 := 0#32
  let c5_i32 : BitVec 32 := 5#32
  let v2 : BitVec 32 := Scalar.maxsi c0_i32 v1
  let v3 : BitVec 32 := Scalar.minsi c5_i32 v2
  let v4 : BitVec 32 := Scalar.addi v0 v3
  let c1_i32_0 : BitVec 32 := 1#32
  let v5 : BitVec 32 := Scalar.addi v4 c1_i32_0
  let c4_i32 : BitVec 32 := 4#32
  let v6 : BitVec 32 := Scalar.addi c4_i32 arg0
  let c0_i32_1 : BitVec 32 := 0#32
  ![v5.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi arg1 c1_i32
  let c0_i32 : BitVec 32 := 0#32
  let c5_i32 : BitVec 32 := 5#32
  let v2 : BitVec 32 := Scalar.maxsi c0_i32 v1
  let v3 : BitVec 32 := Scalar.minsi c5_i32 v2
  let v4 : BitVec 32 := Scalar.addi v0 v3
  let c2_i32 : BitVec 32 := 2#32
  let v5 : BitVec 32 := Scalar.addi v4 c2_i32
  let c4_i32 : BitVec 32 := 4#32
  let v6 : BitVec 32 := Scalar.addi c4_i32 arg0
  let c0_i32_0 : BitVec 32 := 0#32
  ![v5.toNat, v6.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg2
  let c2_i32 : BitVec 32 := 2#32
  let v1 : BitVec 32 := Scalar.addi c2_i32 arg0
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg2
  let c4_i32 : BitVec 32 := 4#32
  let v1 : BitVec 32 := Scalar.addi c4_i32 arg0
  let c0_i32 : BitVec 32 := 0#32
  ![v0.toNat, v1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c7_i32 : BitVec 32 := 7#32
  let v1 : BitVec 1 := Scalar.cmpi .sge arg1 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg1 c8_i32
  let c8_i32_0 : BitVec 32 := 8#32
  let v1 : BitVec 32 := Scalar.muli arg2 c8_i32_0
  let v2 : BitVec 32 := Scalar.addi v1 arg1
  let c64_i32 : BitVec 32 := 64#32
  let v3 : BitVec 32 := Scalar.addi c64_i32 arg2
  let v4 : BitVec 32 := Scalar.select v0 v2 v3
  let c0_i32 : BitVec 32 := 0#32
  ![v4.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S4x1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S18432x3072 : Shape := ⟨2, ![18432, 3072]⟩
abbrev S8x15x31 : Shape := ⟨3, ![8, 15, 31]⟩
abbrev S16384x3072 : Shape := ⟨2, ![16384, 3072]⟩
abbrev S8x2048x3x8x128 : Shape := ⟨5, ![8, 2048, 3, 8, 128]⟩
abbrev S2048x3072 : Shape := ⟨2, ![2048, 3072]⟩
abbrev S8x256x3x8x128 : Shape := ⟨5, ![8, 256, 3, 8, 128]⟩
abbrev S8x2048x1x8x128 : Shape := ⟨5, ![8, 2048, 1, 8, 128]⟩
abbrev S8x2048x8x128 : Shape := ⟨4, ![8, 2048, 8, 128]⟩
abbrev S8x256x1x8x128 : Shape := ⟨5, ![8, 256, 1, 8, 128]⟩
abbrev S8x256x8x128 : Shape := ⟨4, ![8, 256, 8, 128]⟩
abbrev S32x64x32x64 : Shape := ⟨4, ![32, 64, 32, 64]⟩
abbrev S_ : Shape := ⟨0, ![]⟩
abbrev S32x64x32x64x1 : Shape := ⟨5, ![32, 64, 32, 64, 1]⟩
abbrev S32x64x32x64x2 : Shape := ⟨5, ![32, 64, 32, 64, 2]⟩
abbrev S8x32x64x32x64 : Shape := ⟨5, ![8, 32, 64, 32, 64]⟩
abbrev S8x8x2048x2048 : Shape := ⟨4, ![8, 8, 2048, 2048]⟩
abbrev S2048x2048 : Shape := ⟨2, ![2048, 2048]⟩
abbrev S8x2048x2048 : Shape := ⟨3, ![8, 2048, 2048]⟩
abbrev S1x8x2048x2048 : Shape := ⟨4, ![1, 8, 2048, 2048]⟩
abbrev S8x8x2048x256 : Shape := ⟨4, ![8, 8, 2048, 256]⟩
abbrev S8x8x2048x2304 : Shape := ⟨4, ![8, 8, 2048, 2304]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x8x256x256 : Shape := ⟨4, ![8, 8, 256, 256]⟩
abbrev S8x8x256 : Shape := ⟨3, ![8, 8, 256]⟩
abbrev S8x8x256x1 : Shape := ⟨4, ![8, 8, 256, 1]⟩
abbrev S8x8x128x256 : Shape := ⟨4, ![8, 8, 128, 256]⟩
abbrev S16384x1024 : Shape := ⟨2, ![16384, 1024]⟩
abbrev S2048x1024 : Shape := ⟨2, ![2048, 1024]⟩
abbrev S18432x1024 : Shape := ⟨2, ![18432, 1024]⟩

abbrev nBuf : Space → Nat
  | .hbm => 164
  | .vmem => 0
  | .smem => 0
  | _ => 0

abbrev hbmTy0_0 (i : Nat) : BufTy := match i % 128 with
  | 0 => ⟨S18432x3072, .bf16⟩
  | 1 => ⟨S8x15x31, .f32⟩
  | 2 => ⟨S18432x3072, .f32⟩
  | 3 => ⟨S16384x3072, .f32⟩
  | 4 => ⟨S8x2048x3x8x128, .f32⟩
  | 5 => ⟨S2048x3072, .f32⟩
  | 6 => ⟨S8x256x3x8x128, .f32⟩
  | 7 => ⟨S8x2048x1x8x128, .f32⟩
  | 8 => ⟨S8x2048x8x128, .f32⟩
  | 9 => ⟨S8x2048x1x8x128, .f32⟩
  | 10 => ⟨S8x2048x8x128, .f32⟩
  | 11 => ⟨S8x2048x1x8x128, .f32⟩
  | 12 => ⟨S8x2048x8x128, .f32⟩
  | 13 => ⟨S8x256x1x8x128, .f32⟩
  | 14 => ⟨S8x256x8x128, .f32⟩
  | 15 => ⟨S8x256x1x8x128, .f32⟩
  | 16 => ⟨S8x256x8x128, .f32⟩
  | 17 => ⟨S8x256x1x8x128, .f32⟩
  | 18 => ⟨S8x256x8x128, .f32⟩
  | 19 => ⟨S32x64x32x64, .i32⟩
  | 20 => ⟨S32x64x32x64, .i32⟩
  | 21 => ⟨S32x64x32x64, .i32⟩
  | 22 => ⟨S32x64x32x64, .i32⟩
  | 23 => ⟨S_, .i32⟩
  | 24 => ⟨S32x64x32x64, .i32⟩
  | 25 => ⟨S32x64x32x64, .i32⟩
  | 26 => ⟨S_, .i32⟩
  | 27 => ⟨S_, .i32⟩
  | 28 => ⟨S_, .i32⟩
  | 29 => ⟨S32x64x32x64, .i32⟩
  | 30 => ⟨S32x64x32x64, .i32⟩
  | 31 => ⟨S_, .i32⟩
  | 32 => ⟨S32x64x32x64, .i32⟩
  | 33 => ⟨S32x64x32x64, .i32⟩
  | 34 => ⟨S_, .i32⟩
  | 35 => ⟨S32x64x32x64, .i32⟩
  | 36 => ⟨S32x64x32x64, .i32⟩
  | 37 => ⟨S_, .i32⟩
  | 38 => ⟨S_, .i32⟩
  | 39 => ⟨S_, .i32⟩
  | 40 => ⟨S32x64x32x64, .i32⟩
  | 41 => ⟨S32x64x32x64, .i32⟩
  | 42 => ⟨S_, .i32⟩
  | 43 => ⟨S32x64x32x64, .i32⟩
  | 44 => ⟨S32x64x32x64, .i32⟩
  | 45 => ⟨S32x64x32x64, .i1⟩
  | 46 => ⟨S_, .i32⟩
  | 47 => ⟨S32x64x32x64, .i32⟩
  | 48 => ⟨S32x64x32x64, .i32⟩
  | 49 => ⟨S32x64x32x64, .i1⟩
  | 50 => ⟨S32x64x32x64, .i1⟩
  | 51 => ⟨S32x64x32x64, .i1⟩
  | 52 => ⟨S32x64x32x64, .i1⟩
  | 53 => ⟨S_, .i32⟩
  | 54 => ⟨S32x64x32x64, .i32⟩
  | 55 => ⟨S32x64x32x64, .i32⟩
  | 56 => ⟨S32x64x32x64, .i1⟩
  | 57 => ⟨S32x64x32x64, .i1⟩
  | 58 => ⟨S32x64x32x64, .i32⟩
  | 59 => ⟨S_, .i32⟩
  | 60 => ⟨S32x64x32x64, .i32⟩
  | 61 => ⟨S32x64x32x64, .i32⟩
  | 62 => ⟨S_, .i32⟩
  | 63 => ⟨S_, .i32⟩
  | 64 => ⟨S_, .i32⟩
  | 65 => ⟨S32x64x32x64, .i32⟩
  | 66 => ⟨S32x64x32x64, .i32⟩
  | 67 => ⟨S_, .i32⟩
  | 68 => ⟨S32x64x32x64, .i32⟩
  | 69 => ⟨S32x64x32x64, .i32⟩
  | 70 => ⟨S32x64x32x64, .i32⟩
  | 71 => ⟨S_, .i32⟩
  | 72 => ⟨S32x64x32x64, .i32⟩
  | 73 => ⟨S32x64x32x64, .i32⟩
  | 74 => ⟨S_, .i32⟩
  | 75 => ⟨S_, .i32⟩
  | 76 => ⟨S_, .i32⟩
  | 77 => ⟨S32x64x32x64, .i32⟩
  | 78 => ⟨S32x64x32x64, .i32⟩
  | 79 => ⟨S_, .i32⟩
  | 80 => ⟨S32x64x32x64, .i32⟩
  | 81 => ⟨S32x64x32x64, .i32⟩
  | 82 => ⟨S_, .i32⟩
  | 83 => ⟨S32x64x32x64, .i32⟩
  | 84 => ⟨S32x64x32x64, .i1⟩
  | 85 => ⟨S_, .i32⟩
  | 86 => ⟨S32x64x32x64, .i32⟩
  | 87 => ⟨S32x64x32x64, .i32⟩
  | 88 => ⟨S32x64x32x64, .i32⟩
  | 89 => ⟨S_, .i32⟩
  | 90 => ⟨S32x64x32x64, .i32⟩
  | 91 => ⟨S32x64x32x64, .i1⟩
  | 92 => ⟨S_, .i32⟩
  | 93 => ⟨S32x64x32x64, .i32⟩
  | 94 => ⟨S32x64x32x64, .i32⟩
  | 95 => ⟨S32x64x32x64, .i32⟩
  | 96 => ⟨S32x64x32x64x1, .i32⟩
  | 97 => ⟨S32x64x32x64x1, .i32⟩
  | 98 => ⟨S32x64x32x64x2, .i32⟩
  | 99 => ⟨S8x32x64x32x64, .f32⟩
  | 100 => ⟨S8x8x2048x2048, .f32⟩
  | 101 => ⟨S_, .f32⟩
  | 102 => ⟨S8x8x2048x2048, .f32⟩
  | 103 => ⟨S8x8x2048x2048, .f32⟩
  | 104 => ⟨S2048x2048, .i1⟩
  | 105 => ⟨S8x2048x2048, .f32⟩
  | 106 => ⟨S1x8x2048x2048, .f32⟩
  | 107 => ⟨S8x8x2048x2048, .f32⟩
  | 108 => ⟨S8x8x2048x2048, .f32⟩
  | 109 => ⟨S_, .f32⟩
  | 110 => ⟨S_, .f32⟩
  | 111 => ⟨S8x8x2048x2048, .i1⟩
  | 112 => ⟨S8x8x2048x2048, .f32⟩
  | 113 => ⟨S8x8x2048x2048, .f32⟩
  | 114 => ⟨S8x8x2048x256, .f32⟩
  | 115 => ⟨S_, .f32⟩
  | 116 => ⟨S8x8x2048x256, .f32⟩
  | 117 => ⟨S8x8x2048x256, .f32⟩
  | 118 => ⟨S8x8x2048x2304, .f32⟩
  | 119 => ⟨S_, .f32⟩
  | 120 => ⟨S8x8x2048, .f32⟩
  | 121 => ⟨S_, .f32⟩
  | 122 => ⟨S8x8x2048, .f32⟩
  | 123 => ⟨S8x8x2048, .f32⟩
  | 124 => ⟨S8x8x2048x1, .f32⟩
  | 125 => ⟨S8x8x2048x2304, .f32⟩
  | 126 => ⟨S8x8x2048x2304, .f32⟩
  | 127 => ⟨S8x8x2048x2304, .f32⟩
  | _ => ⟨S18432x3072, .bf16⟩

abbrev hbmTy0_1 (i : Nat) : BufTy := match i % 128 with
  | 0 => ⟨S_, .f32⟩
  | 1 => ⟨S8x8x2048, .f32⟩
  | 2 => ⟨S8x8x2048x1, .f32⟩
  | 3 => ⟨S8x8x2048x2304, .f32⟩
  | 4 => ⟨S8x8x2048x2304, .f32⟩
  | 5 => ⟨S8x8x2048x256, .f32⟩
  | 6 => ⟨S8x8x128x2048, .f32⟩
  | 7 => ⟨S8x2048x8x128, .f32⟩
  | 8 => ⟨S8x8x2048x2048, .f32⟩
  | 9 => ⟨S8x8x128x2048, .f32⟩
  | 10 => ⟨S8x2048x8x128, .f32⟩
  | 11 => ⟨S8x2048x8x128, .f32⟩
  | 12 => ⟨S8x8x256x256, .f32⟩
  | 13 => ⟨S_, .f32⟩
  | 14 => ⟨S8x8x256x256, .f32⟩
  | 15 => ⟨S8x8x256x256, .f32⟩
  | 16 => ⟨S_, .f32⟩
  | 17 => ⟨S8x8x256, .f32⟩
  | 18 => ⟨S_, .f32⟩
  | 19 => ⟨S8x8x256, .f32⟩
  | 20 => ⟨S8x8x256, .f32⟩
  | 21 => ⟨S8x8x256x1, .f32⟩
  | 22 => ⟨S8x8x256x256, .f32⟩
  | 23 => ⟨S8x8x256x256, .f32⟩
  | 24 => ⟨S8x8x256x256, .f32⟩
  | 25 => ⟨S_, .f32⟩
  | 26 => ⟨S8x8x256, .f32⟩
  | 27 => ⟨S8x8x256x1, .f32⟩
  | 28 => ⟨S8x8x256x256, .f32⟩
  | 29 => ⟨S8x8x256x256, .f32⟩
  | 30 => ⟨S8x8x128x256, .f32⟩
  | 31 => ⟨S8x256x8x128, .f32⟩
  | 32 => ⟨S16384x1024, .f32⟩
  | 33 => ⟨S2048x1024, .f32⟩
  | 34 => ⟨S18432x1024, .f32⟩
  | 35 => ⟨S18432x1024, .bf16⟩
  | _ => ⟨S18432x3072, .bf16⟩

abbrev hbmTy (i : Nat) : BufTy := match i / 128 with
  | 0 => hbmTy0_0 i
  | 1 => hbmTy0_1 i
  | _ => ⟨S18432x3072, .bf16⟩

abbrev bufTy : (tb : Table) → Fin (tcTables nBuf tb) → BufTy
  | .hbm, ⟨i, _⟩ => hbmTy i
  | _, _ => ⟨S18432x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_c_9 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_c_12 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v45 : Ref sig .tc := ⟨.hbm, 81, rfl⟩
abbrev main_c_13 : Ref sig .tc := ⟨.hbm, 82, rfl⟩
abbrev main_v46 : Ref sig .tc := ⟨.hbm, 83, rfl⟩
abbrev main_v47 : Ref sig .tc := ⟨.hbm, 84, rfl⟩
abbrev main_c_14 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_15 : Ref sig .tc := ⟨.hbm, 89, rfl⟩
abbrev main_v51 : Ref sig .tc := ⟨.hbm, 90, rfl⟩
abbrev main_v52 : Ref sig .tc := ⟨.hbm, 91, rfl⟩
abbrev main_c_16 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_17 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v68 : Ref sig .tc := ⟨.hbm, 113, rfl⟩
abbrev main_v69 : Ref sig .tc := ⟨.hbm, 114, rfl⟩
abbrev main_cst_18 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_19 : Ref sig .tc := ⟨.hbm, 119, rfl⟩
abbrev main_v73 : Ref sig .tc := ⟨.hbm, 120, rfl⟩
abbrev main_cst_20 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_21 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_22 : Ref sig .tc := ⟨.hbm, 141, rfl⟩
abbrev main_v92 : Ref sig .tc := ⟨.hbm, 142, rfl⟩
abbrev main_v93 : Ref sig .tc := ⟨.hbm, 143, rfl⟩
abbrev main_cst_23 : Ref sig .tc := ⟨.hbm, 144, rfl⟩
abbrev main_v94 : Ref sig .tc := ⟨.hbm, 145, rfl⟩
abbrev main_cst_24 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_25 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩

abbrev nD : Nat := 1
abbrev τ : Topo := Topo.v7x

variable {F : FTy → Type} [FloatOps F]
-- ==== Kernel2.lean ====
abbrev S18432x2048 : Shape := ⟨2, ![18432, 2048]⟩
abbrev S2x2048x8192 : Shape := ⟨3, ![2, 2048, 8192]⟩
abbrev S2x8192x2048 : Shape := ⟨3, ![2, 8192, 2048]⟩
abbrev S18432x8192 : Shape := ⟨2, ![18432, 8192]⟩
abbrev S1x8192x2048 : Shape := ⟨3, ![1, 8192, 2048]⟩
abbrev S2048x2048 : Shape := ⟨2, ![2048, 2048]⟩
abbrev S1x2048x1024 : Shape := ⟨3, ![1, 2048, 1024]⟩
abbrev S1x128x2048 : Shape := ⟨3, ![1, 128, 2048]⟩
abbrev S2048x1024 : Shape := ⟨2, ![2048, 1024]⟩
abbrev S128x2048 : Shape := ⟨2, ![128, 2048]⟩

abbrev nBuf : Space → Nat
  | .hbm => 5
  | .vmem => 11
  | .smem => 0
  | _ => 0

abbrev bufTy : (tb : Table) → Fin (tcTables nBuf tb) → BufTy
  | .hbm, ⟨0, _⟩ => ⟨S18432x2048, .bf16⟩
  | .hbm, ⟨1, _⟩ => ⟨S2x2048x8192, .f32⟩
  | .hbm, ⟨2, _⟩ => ⟨S2x8192x2048, .f32⟩
  | .hbm, ⟨3, _⟩ => ⟨S18432x8192, .bf16⟩
  | .hbm, ⟨4, _⟩ => ⟨S1x8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128x2048, .f32⟩
  | .local _ .vmem, ⟨5, _⟩ => ⟨S1x128x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x128x2048, .bf16⟩
  | .local _ .vmem, ⟨9, _⟩ => ⟨S1x128x2048, .bf16⟩
  | .local _ .vmem, ⟨10, _⟩ => ⟨S2048x1024, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S18432x2048 : Shape := ⟨2, ![18432, 2048]⟩
abbrev S2x2048x8192 : Shape := ⟨3, ![2, 2048, 8192]⟩
abbrev S2x8192x2048 : Shape := ⟨3, ![2, 8192, 2048]⟩
abbrev S1x2048x8192 : Shape := ⟨3, ![1, 2048, 8192]⟩
abbrev S2048x8192 : Shape := ⟨2, ![2048, 8192]⟩
abbrev S18432x8192 : Shape := ⟨2, ![18432, 8192]⟩
abbrev S_ : Shape := ⟨0, ![]⟩
abbrev S1x8192x2048 : Shape := ⟨3, ![1, 8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2x2048x8192, .f32⟩
  | .hbm, ⟨2, _⟩ => ⟨S2x8192x2048, .f32⟩
  | .hbm, ⟨3, _⟩ => ⟨S18432x2048, .f32⟩
  | .hbm, ⟨4, _⟩ => ⟨S1x2048x8192, .f32⟩
  | .hbm, ⟨5, _⟩ => ⟨S2048x8192, .f32⟩
  | .hbm, ⟨6, _⟩ => ⟨S18432x8192, .f32⟩
  | .hbm, ⟨7, _⟩ => ⟨S_, .f32⟩
  | .hbm, ⟨8, _⟩ => ⟨S18432x8192, .f32⟩
  | .hbm, ⟨9, _⟩ => ⟨S18432x8192, .f32⟩
  | .hbm, ⟨10, _⟩ => ⟨S18432x8192, .f32⟩
  | .hbm, ⟨11, _⟩ => ⟨S18432x8192, .bf16⟩
  | .hbm, ⟨12, _⟩ => ⟨S1x8192x2048, .f32⟩
  | .hbm, ⟨13, _⟩ => ⟨S1x8192x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S16384x8192 : Shape := ⟨2, ![16384, 8192]⟩
abbrev S1x8192x2048 : Shape := ⟨3, ![1, 8192, 2048]⟩
abbrev S16384x2048 : Shape := ⟨2, ![16384, 2048]⟩
abbrev S16x1x12288 : Shape := ⟨3, ![16, 1, 12288]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S1x2048x512 : Shape := ⟨3, ![1, 2048, 512]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x8192, .bf16⟩
  | .hbm, ⟨1, _⟩ => ⟨S1x8192x2048, .bf16⟩
  | .hbm, ⟨2, _⟩ => ⟨S16384x2048, .f32⟩
  | .hbm, ⟨3, _⟩ => ⟨S16x1x12288, .f32⟩
  | .hbm, ⟨4, _⟩ => ⟨S2048, .f32⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c5_i32 : BitVec 32 := 5#32
  let c0_i32_5 : BitVec 32 := 0#32
  ![v18.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x8192 : Shape := ⟨2, ![16384, 8192]⟩
abbrev S1x8192x2048 : Shape := ⟨3, ![1, 8192, 2048]⟩
abbrev S16384x2048 : Shape := ⟨2, ![16384, 2048]⟩
abbrev S16x1x12288 : Shape := ⟨3, ![16, 1, 12288]⟩
abbrev S2048 : Shape := ⟨1, ![2048]⟩
abbrev S8x1x2048 : Shape := ⟨3, ![8, 1, 2048]⟩
abbrev S8192x2048 : Shape := ⟨2, ![8192, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S1x8192x2048, .bf16⟩
  | .hbm, ⟨2, _⟩ => ⟨S16384x2048, .f32⟩
  | .hbm, ⟨3, _⟩ => ⟨S16x1x12288, .f32⟩
  | .hbm, ⟨4, _⟩ => ⟨S2048, .f32⟩
  | .hbm, ⟨5, _⟩ => ⟨S8x1x2048, .f32⟩
  | .hbm, ⟨6, _⟩ => ⟨S16384x8192, .f32⟩
  | .hbm, ⟨7, _⟩ => ⟨S8192x2048, .bf16⟩
  | .hbm, ⟨8, _⟩ => ⟨S8192x2048, .f32⟩
  | .hbm, ⟨9, _⟩ => ⟨S16384x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S18432x8192 : Shape := ⟨2, ![18432, 8192]⟩
abbrev S1x8192x2048 : Shape := ⟨3, ![1, 8192, 2048]⟩
abbrev S18432x2048 : Shape := ⟨2, ![18432, 2048]⟩
abbrev S16x1x12288 : Shape := ⟨3, ![16, 1, 12288]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S1x2048x512 : Shape := ⟨3, ![1, 2048, 512]⟩
abbrev S2048x512 : Shape := ⟨2, ![2048, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S18432x8192, .bf16⟩
  | .hbm, ⟨1, _⟩ => ⟨S1x8192x2048, .bf16⟩
  | .hbm, ⟨2, _⟩ => ⟨S18432x2048, .f32⟩
  | .hbm, ⟨3, _⟩ => ⟨S16x1x12288, .f32⟩
  | .hbm, ⟨4, _⟩ => ⟨S16x1x12288, .f32⟩
  | .hbm, ⟨5, _⟩ => ⟨S2048, .f32⟩
  | .hbm, ⟨6, _⟩ => ⟨S1x2048, .f32⟩
  | .hbm, ⟨7, _⟩ => ⟨S18432x2048, .f32⟩
  | .hbm, ⟨8, _⟩ => ⟨S18432x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | _, _ => ⟨S18432x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![36, 4], ![false, false]⟩

def k0_cond2 (i : grid0.Coords) : BitVec 1 :=
  let arg1 : BitVec 32 := BitVec.ofNat 32 (i 1).val
  let c3_i32 : BitVec 32 := 3#32
  let v51 : BitVec 1 := Scalar.cmpi .eq arg1 c3_i32
  let v52 : BitVec 32 := Scalar.extui v51
  let c0_i32_48 : BitVec 32 := 0#32
  let v53 : BitVec 1 := Scalar.cmpi .ne v52 c0_i32_48
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c5_i32 : BitVec 32 := 5#32
  let c0_i32_5 : BitVec 32 := 0#32
  ![v18.toNat, c0_i32_4.toNat, c5_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c1_i32_5 : BitVec 32 := 1#32
  let c0_i32_6 : BitVec 32 := 0#32
  ![v18.toNat, c0_i32_4.toNat, c1_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S18432x8192 : Shape := ⟨2, ![18432, 8192]⟩
abbrev S1x8192x2048 : Shape := ⟨3, ![1, 8192, 2048]⟩
abbrev S18432x2048 : Shape := ⟨2, ![18432, 2048]⟩
abbrev S16x1x12288 : Shape := ⟨3, ![16, 1, 12288]⟩
abbrev S2048 : Shape := ⟨1, ![2048]⟩
abbrev S8192x2048 : Shape := ⟨2, ![8192, 2048]⟩
abbrev S16384x2048 : Shape := ⟨2, ![16384, 2048]⟩
abbrev S8x2048x2048 : Shape := ⟨3, ![8, 2048, 2048]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S8x256x2048 : Shape := ⟨3, ![8, 256, 2048]⟩
abbrev S1x1x12288 : Shape := ⟨3, ![1, 1, 12288]⟩
abbrev S8x256 : Shape := ⟨2, ![8, 256]⟩
abbrev S8x256x1 : Shape := ⟨3, ![8, 256, 1]⟩

abbrev nBuf : Space → Nat
  | .hbm => 88
  | .vmem => 0
  | .smem => 0
  | _ => 0

abbrev bufTy : (tb : Table) → Fin (tcTables nBuf tb) → BufTy
  | .hbm, ⟨0, _⟩ => ⟨S18432x8192, .bf16⟩
  | .hbm, ⟨1, _⟩ => ⟨S1x8192x2048, .bf16⟩
  | .hbm, ⟨2, _⟩ => ⟨S18432x2048, .f32⟩
  | .hbm, ⟨3, _⟩ => ⟨S16x1x12288, .f32⟩
  | .hbm, ⟨4, _⟩ => ⟨S16x1x12288, .f32⟩
  | .hbm, ⟨5, _⟩ => ⟨S2048, .f32⟩
  | .hbm, ⟨6, _⟩ => ⟨S18432x8192, .f32⟩
  | .hbm, ⟨7, _⟩ => ⟨S8192x2048, .bf16⟩
  | .hbm, ⟨8, _⟩ => ⟨S8192x2048, .f32⟩
  | .hbm, ⟨9, _⟩ => ⟨S18432x2048, .f32⟩
  | .hbm, ⟨10, _⟩ => ⟨S16384x2048, .f32⟩
  | .hbm, ⟨11, _⟩ => ⟨S8x2048x2048, .f32⟩
  | .hbm, ⟨12, _⟩ => ⟨S16384x2048, .f32⟩
  | .hbm, ⟨13, _⟩ => ⟨S8x2048x2048, .f32⟩
  | .hbm, ⟨14, _⟩ => ⟨S8x1x12288, .f32⟩
  | .hbm, ⟨15, _⟩ => ⟨S8x1x12288, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S1x1x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x1x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S16384x2048, .f32⟩
  | .hbm, ⟨46, _⟩ => ⟨S16384x2048, .f32⟩
  | .hbm, ⟨47, _⟩ => ⟨S16384x2048, .bf16⟩
  | .hbm, ⟨48, _⟩ => ⟨S2048x2048, .f32⟩
  | .hbm, ⟨49, _⟩ => ⟨S8x256x2048, .f32⟩
  | .hbm, ⟨50, _⟩ => ⟨S2048x2048, .f32⟩
  | .hbm, ⟨51, _⟩ => ⟨S8x256x2048, .f32⟩
  | .hbm, ⟨52, _⟩ => ⟨S1x1x12288, .f32⟩
  | .hbm, ⟨53, _⟩ => ⟨S1x1x12288, .f32⟩
  | .hbm, ⟨54, _⟩ => ⟨S1x1x2048, .f32⟩
  | .hbm, ⟨55, _⟩ => ⟨S1x1x2048, .f32⟩
  | .hbm, ⟨56, _⟩ => ⟨S1x1x2048, .f32⟩
  | .hbm, ⟨57, _⟩ => ⟨S8x256x2048, .f32⟩
  | .hbm, ⟨58, _⟩ => ⟨S8x256x2048, .f32⟩
  | .hbm, ⟨59, _⟩ => ⟨S8x256x2048, .f32⟩
  | .hbm, ⟨60, _⟩ => ⟨S8x256x2048, .f32⟩
  | .hbm, ⟨61, _⟩ => ⟨S_, .f32⟩
  | .hbm, ⟨62, _⟩ => ⟨S8x256, .f32⟩
  | .hbm, ⟨63, _⟩ => ⟨S8x256x1, .f32⟩
  | .hbm, ⟨64, _⟩ => ⟨S_, .f32⟩
  | .hbm, ⟨65, _⟩ => ⟨S8x256x1, .f32⟩
  | .hbm, ⟨66, _⟩ => ⟨S8x256x1, .f32⟩
  | .hbm, ⟨67, _⟩ => ⟨S_, .f32⟩
  | .hbm, ⟨68, _⟩ => ⟨S8x256x1, .f32⟩
  | .hbm, ⟨69, _⟩ => ⟨S8x256x1, .f32⟩
  | .hbm, ⟨70, _⟩ => ⟨S8x256x1, .f32⟩
  | .hbm, ⟨71, _⟩ => ⟨S8x256x2048, .f32⟩
  | .hbm, ⟨72, _⟩ => ⟨S8x256x2048, .f32⟩
  | .hbm, ⟨73, _⟩ => ⟨S1x1x2048, .f32⟩
  | .hbm, ⟨74, _⟩ => ⟨S8x256x2048, .f32⟩
  | .hbm, ⟨75, _⟩ => ⟨S8x256x2048, .f32⟩
  | .hbm, ⟨76, _⟩ => ⟨S_, .f32⟩
  | .hbm, ⟨77, _⟩ => ⟨S1x1x2048, .f32⟩
  | .hbm, ⟨78, _⟩ => ⟨S1x1x2048, .f32⟩
  | .hbm, ⟨79, _⟩ => ⟨S8x256x2048, .f32⟩
  | .hbm, ⟨80, _⟩ => ⟨S8x256x2048, .f32⟩
  | .hbm, ⟨81, _⟩ => ⟨S8x256x2048, .f32⟩
  | .hbm, ⟨82, _⟩ => ⟨S8x256x2048, .f32⟩
  | .hbm, ⟨83, _⟩ => ⟨S2048x2048, .f32⟩
  | .hbm, ⟨84, _⟩ => ⟨S2048x2048, .f32⟩
  | .hbm, ⟨85, _⟩ => ⟨S2048x2048, .bf16⟩
  | .hbm, ⟨86, _⟩ => ⟨S18432x2048, .f32⟩
  | .hbm, ⟨87, _⟩ => ⟨S18432x2048, .bf16⟩
  | _, _ => ⟨S18432x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Kernel5.lean ====
abbrev S18432x2048 : Shape := ⟨2, ![18432, 2048]⟩
abbrev S1x2048x6176 : Shape := ⟨3, ![1, 2048, 6176]⟩
abbrev S1x2048x2048 : Shape := ⟨3, ![1, 2048, 2048]⟩
abbrev S18432x6144 : Shape := ⟨2, ![18432, 6144]⟩
abbrev S2048x2048 : Shape := ⟨2, ![2048, 2048]⟩
abbrev S1x2048x1024 : Shape := ⟨3, ![1, 2048, 1024]⟩
abbrev S1x128x2048 : Shape := ⟨3, ![1, 128, 2048]⟩
abbrev S2048x1024 : Shape := ⟨2, ![2048, 1024]⟩
abbrev S128x2048 : Shape := ⟨2, ![128, 2048]⟩

abbrev nBuf : Space → Nat
  | .hbm => 5
  | .vmem => 11
  | .smem => 0
  | _ => 0

abbrev bufTy : (tb : Table) → Fin (tcTables nBuf tb) → BufTy
  | .hbm, ⟨0, _⟩ => ⟨S18432x2048, .bf16⟩
  | .hbm, ⟨1, _⟩ => ⟨S1x2048x6176, .f32⟩
  | .hbm, ⟨2, _⟩ => ⟨S1x2048x2048, .f32⟩
  | .hbm, ⟨3, _⟩ => ⟨S18432x6144, .bf16⟩
  | .hbm, ⟨4, _⟩ => ⟨S1x2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128x2048, .f32⟩
  | .local _ .vmem, ⟨5, _⟩ => ⟨S1x128x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x128x2048, .bf16⟩
  | .local _ .vmem, ⟨9, _⟩ => ⟨S1x128x2048, .bf16⟩
  | .local _ .vmem, ⟨10, _⟩ => ⟨S2048x1024, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S18432x2048 : Shape := ⟨2, ![18432, 2048]⟩
abbrev S1x2048x6176 : Shape := ⟨3, ![1, 2048, 6176]⟩
abbrev S1x2048x2048 : Shape := ⟨3, ![1, 2048, 2048]⟩
abbrev S2048x6176 : Shape := ⟨2, ![2048, 6176]⟩
abbrev S18432x6176 : Shape := ⟨2, ![18432, 6176]⟩
abbrev S18432x6144 : Shape := ⟨2, ![18432, 6144]⟩

abbrev nBuf : Space → Nat
  | .hbm => 9
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S1x2048x6176, .f32⟩
  | .hbm, ⟨2, _⟩ => ⟨S1x2048x2048, .f32⟩
  | .hbm, ⟨3, _⟩ => ⟨S18432x2048, .f32⟩
  | .hbm, ⟨4, _⟩ => ⟨S2048x6176, .f32⟩
  | .hbm, ⟨5, _⟩ => ⟨S18432x6176, .f32⟩
  | .hbm, ⟨6, _⟩ => ⟨S18432x6144, .f32⟩
  | .hbm, ⟨7, _⟩ => ⟨S18432x6144, .bf16⟩
  | .hbm, ⟨8, _⟩ => ⟨S1x2048x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S18432x2048 : Shape := ⟨2, ![18432, 2048]⟩
abbrev S1x2048x4096 : Shape := ⟨3, ![1, 2048, 4096]⟩
abbrev S1x2048x2048 : Shape := ⟨3, ![1, 2048, 2048]⟩
abbrev S18432x3072 : Shape := ⟨2, ![18432, 3072]⟩
abbrev S2048x2048 : Shape := ⟨2, ![2048, 2048]⟩
abbrev S1x2048x1024 : Shape := ⟨3, ![1, 2048, 1024]⟩
abbrev S1x128x2048 : Shape := ⟨3, ![1, 128, 2048]⟩
abbrev S2048x1024 : Shape := ⟨2, ![2048, 1024]⟩
abbrev S128x2048 : Shape := ⟨2, ![128, 2048]⟩

abbrev nBuf : Space → Nat
  | .hbm => 5
  | .vmem => 11
  | .smem => 0
  | _ => 0

abbrev bufTy : (tb : Table) → Fin (tcTables nBuf tb) → BufTy
  | .hbm, ⟨0, _⟩ => ⟨S18432x2048, .bf16⟩
  | .hbm, ⟨1, _⟩ => ⟨S1x2048x4096, .f32⟩
  | .hbm, ⟨2, _⟩ => ⟨S1x2048x2048, .f32⟩
  | .hbm, ⟨3, _⟩ => ⟨S18432x3072, .bf16⟩
  | .hbm, ⟨4, _⟩ => ⟨S1x2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128x2048, .f32⟩
  | .local _ .vmem, ⟨5, _⟩ => ⟨S1x128x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x128x2048, .bf16⟩
  | .local _ .vmem, ⟨9, _⟩ => ⟨S1x128x2048, .bf16⟩
  | .local _ .vmem, ⟨10, _⟩ => ⟨S2048x1024, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S18432x2048 : Shape := ⟨2, ![18432, 2048]⟩
abbrev S1x2048x4096 : Shape := ⟨3, ![1, 2048, 4096]⟩
abbrev S1x2048x2048 : Shape := ⟨3, ![1, 2048, 2048]⟩
abbrev S2048x4096 : Shape := ⟨2, ![2048, 4096]⟩
abbrev S18432x4096 : Shape := ⟨2, ![18432, 4096]⟩
abbrev S18432x3072 : Shape := ⟨2, ![18432, 3072]⟩

abbrev nBuf : Space → Nat
  | .hbm => 9
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S1x2048x4096, .f32⟩
  | .hbm, ⟨2, _⟩ => ⟨S1x2048x2048, .f32⟩
  | .hbm, ⟨3, _⟩ => ⟨S18432x2048, .f32⟩
  | .hbm, ⟨4, _⟩ => ⟨S2048x4096, .f32⟩
  | .hbm, ⟨5, _⟩ => ⟨S18432x4096, .f32⟩
  | .hbm, ⟨6, _⟩ => ⟨S18432x3072, .f32⟩
  | .hbm, ⟨7, _⟩ => ⟨S18432x3072, .bf16⟩
  | .hbm, ⟨8, _⟩ => ⟨S1x2048x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x2048 : Shape := ⟨2, ![16384, 2048]⟩
abbrev S1x2048x2048 : Shape := ⟨3, ![1, 2048, 2048]⟩
abbrev S18432x2048 : Shape := ⟨2, ![18432, 2048]⟩
abbrev S16x1x12288 : Shape := ⟨3, ![16, 1, 12288]⟩
abbrev S2048 : Shape := ⟨1, ![2048]⟩
abbrev S1x2048 : Shape := ⟨2, ![1, 2048]⟩
abbrev S512x2048 : Shape := ⟨2, ![512, 2048]⟩
abbrev S1x1x2048 : Shape := ⟨3, ![1, 1, 2048]⟩
abbrev S256x2048 : Shape := ⟨2, ![256, 2048]⟩
abbrev S1x2048x512 : Shape := ⟨3, ![1, 2048, 512]⟩
abbrev S2048x512 : Shape := ⟨2, ![2048, 512]⟩
abbrev S256x512 : Shape := ⟨2, ![256, 512]⟩
abbrev S1x1x512 : Shape := ⟨3, ![1, 1, 512]⟩
abbrev S1x512 : Shape := ⟨2, ![1, 512]⟩
abbrev S256 : Shape := ⟨1, ![256]⟩
abbrev S256x1 : Shape := ⟨2, ![256, 1]⟩

abbrev nBuf : Space → Nat
  | .hbm => 8
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .bf16⟩
  | .hbm, ⟨2, _⟩ => ⟨S18432x2048, .f32⟩
  | .hbm, ⟨3, _⟩ => ⟨S16x1x12288, .f32⟩
  | .hbm, ⟨4, _⟩ => ⟨S2048, .f32⟩
  | .hbm, ⟨5, _⟩ => ⟨S1x2048, .f32⟩
  | .hbm, ⟨6, _⟩ => ⟨S16384x2048, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c2_i32 : BitVec 32 := 2#32
  let c0_i32_5 : BitVec 32 := 0#32
  ![v18.toNat, c0_i32_4.toNat, c2_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c3_i32 : BitVec 32 := 3#32
  let c0_i32_5 : BitVec 32 := 0#32
  ![v18.toNat, c0_i32_4.toNat, c3_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c4_i32 : BitVec 32 := 4#32
  let c0_i32_5 : BitVec 32 := 0#32
  ![v18.toNat, c0_i32_4.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S16384x2048 : Shape := ⟨2, ![16384, 2048]⟩
abbrev S1x2048x2048 : Shape := ⟨3, ![1, 2048, 2048]⟩
abbrev S18432x2048 : Shape := ⟨2, ![18432, 2048]⟩
abbrev S16x1x12288 : Shape := ⟨3, ![16, 1, 12288]⟩
abbrev S2048 : Shape := ⟨1, ![2048]⟩
abbrev S2048x2048 : Shape := ⟨2, ![2048, 2048]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .bf16⟩
  | .hbm, ⟨2, _⟩ => ⟨S18432x2048, .f32⟩
  | .hbm, ⟨3, _⟩ => ⟨S16x1x12288, .f32⟩
  | .hbm, ⟨4, _⟩ => ⟨S2048, .f32⟩
  | .hbm, ⟨5, _⟩ => ⟨S16384x2048, .f32⟩
  | .hbm, ⟨6, _⟩ => ⟨S2048x2048, .bf16⟩
  | .hbm, ⟨7, _⟩ => ⟨S2048x2048, .f32⟩
  | .hbm, ⟨8, _⟩ => ⟨S16384x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S16384x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S16384x2048, .f32⟩
  | .hbm, ⟨42, _⟩ => ⟨S16384x2048, .f32⟩
  | .hbm, ⟨43, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel8.lean ====
abbrev S16x1152x2048 : Shape := ⟨3, ![16, 1152, 2048]⟩
abbrev S1x2048x4096 : Shape := ⟨3, ![1, 2048, 4096]⟩
abbrev S64x16x16x1152 : Shape := ⟨4, ![64, 16, 16, 1152]⟩
abbrev S1x2048x1024 : Shape := ⟨3, ![1, 2048, 1024]⟩
abbrev S1x1152x2048 : Shape := ⟨3, ![1, 1152, 2048]⟩
abbrev S64x1x16x1152 : Shape := ⟨4, ![64, 1, 16, 1152]⟩
abbrev S1024x2048 : Shape := ⟨2, ![1024, 2048]⟩
abbrev S2048x1024 : Shape := ⟨2, ![2048, 1024]⟩
abbrev S1152x2048 : Shape := ⟨2, ![1152, 2048]⟩
abbrev S1024x1152 : Shape := ⟨2, ![1024, 1152]⟩
abbrev S64x16x1152 : Shape := ⟨3, ![64, 16, 1152]⟩

abbrev nBuf : Space → Nat
  | .hbm => 3
  | .vmem => 6
  | .smem => 0
  | _ => 0

abbrev bufTy : (tb : Table) → Fin (tcTables nBuf tb) → BufTy
  | .hbm, ⟨0, _⟩ => ⟨S16x1152x2048, .bf16⟩
  | .hbm, ⟨1, _⟩ => ⟨S1x2048x4096, .f32⟩
  | .hbm, ⟨2, _⟩ => ⟨S64x16x16x1152, .bf16⟩
  | .local _ .vmem, ⟨0, _⟩ => ⟨S1x2048x1024, .f32⟩
  | .local _ .vmem, ⟨1, _⟩ => ⟨S1x1152x2048, .bf16⟩
  | .local _ .vmem, ⟨2, _⟩ => ⟨S1x1152x2048, .bf16⟩
  | .local _ .vmem, ⟨3, _⟩ => ⟨S64x1x16x1152, .bf16⟩
  | .local _ .vmem, ⟨4, _⟩ => ⟨S64x1x16x1152, .bf16⟩
  | .local _ .vmem, ⟨5, _⟩ => ⟨S1024x2048, .bf16⟩
  | _, _ => ⟨S16x1152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1x16x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16x1152x2048 : Shape := ⟨3, ![16, 1152, 2048]⟩
abbrev S1x2048x4096 : Shape := ⟨3, ![1, 2048, 4096]⟩
abbrev S1x2048x1024 : Shape := ⟨3, ![1, 2048, 1024]⟩
abbrev S2048x1024 : Shape := ⟨2, ![2048, 1024]⟩
abbrev S16x1152x1024 : Shape := ⟨3, ![16, 1152, 1024]⟩
abbrev S16x1152x64x16 : Shape := ⟨4, ![16, 1152, 64, 16]⟩
abbrev S64x16x16x1152 : Shape := ⟨4, ![64, 16, 16, 1152]⟩

abbrev nBuf : Space → Nat
  | .hbm => 9
  | .vmem => 0
  | .smem => 0
  | _ => 0

abbrev bufTy : (tb : Table) → Fin (tcTables nBuf tb) → BufTy
  | .hbm, ⟨0, _⟩ => ⟨S16x1152x2048, .bf16⟩
  | .hbm, ⟨1, _⟩ => ⟨S1x2048x4096, .f32⟩
  | .hbm, ⟨2, _⟩ => ⟨S16x1152x2048, .f32⟩
  | .hbm, ⟨3, _⟩ => ⟨S1x2048x1024, .f32⟩
  | .hbm, ⟨4, _⟩ => ⟨S2048x1024, .f32⟩
  | .hbm, ⟨5, _⟩ => ⟨S16x1152x1024, .f32⟩
  | .hbm, ⟨6, _⟩ => ⟨S16x1152x64x16, .f32⟩
  | .hbm, ⟨7, _⟩ => ⟨S64x16x16x1152, .f32⟩
  | .hbm, ⟨8, _⟩ => ⟨S64x16x16x1152, .bf16⟩
  | _, _ => ⟨S16x1152x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel9.lean ====
abbrev S64x16x16x1152 : Shape := ⟨4, ![64, 16, 16, 1152]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S1152x16384 : Shape := ⟨2, ![1152, 16384]⟩
abbrev S64x1x16x1152 : Shape := ⟨4, ![64, 1, 16, 1152]⟩
abbrev S1152x1024 : Shape := ⟨2, ![1152, 1024]⟩
abbrev S64x16x1152 : Shape := ⟨3, ![64, 16, 1152]⟩
abbrev S1024x1152 : Shape := ⟨2, ![1024, 1152]⟩

abbrev nBuf : Space → Nat
  | .hbm => 9
  | .vmem => 6
  | .smem => 0
  | _ => 0

abbrev bufTy : (tb : Table) → Fin (tcTables nBuf tb) → BufTy
  | .hbm, ⟨0, _⟩ => ⟨S64x16x16x1152, .bf16⟩
  | .hbm, ⟨1, _⟩ => ⟨S1x1024x1024, .f32⟩
  | .hbm, ⟨2, _⟩ => ⟨S1x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024, .f32⟩
  | .hbm, ⟨7, _⟩ => ⟨S1024x1, .f32⟩
  | .hbm, ⟨8, _⟩ => ⟨S1152x16384, .bf16⟩
  | .local _ .vmem, ⟨0, _⟩ => ⟨S64x1x16x1152, .bf16⟩
  | .local _ .vmem, ⟨1, _⟩ => ⟨S64x1x16x1152, .bf16⟩
  | .local _ .vmem, ⟨2, _⟩ => ⟨S1024x1024, .bf16⟩
  | .local _ .vmem, ⟨3, _⟩ => ⟨S1024x1, .f32⟩
  | .local _ .vmem, ⟨4, _⟩ => ⟨S1152x1024, .bf16⟩
  | .local _ .vmem, ⟨5, _⟩ => ⟨S1152x1024, .bf16⟩
  | _, _ => ⟨S64x16x16x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1x16x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S64x16x16x1152 : Shape := ⟨4, ![64, 16, 16, 1152]⟩
abbrev S1x1024x1024 : Shape := ⟨3, ![1, 1024, 1024]⟩
abbrev S1x1024 : Shape := ⟨2, ![1, 1024]⟩
abbrev S1152x16x64x16 : Shape := ⟨4, ![1152, 16, 64, 16]⟩
abbrev S1152x16x1024 : Shape := ⟨3, ![1152, 16, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S1152x16384 : Shape := ⟨2, ![1152, 16384]⟩

abbrev nBuf : Space → Nat
  | .hbm => 23
  | .vmem => 0
  | .smem => 0
  | _ => 0

abbrev bufTy : (tb : Table) → Fin (tcTables nBuf tb) → BufTy
  | .hbm, ⟨0, _⟩ => ⟨S64x16x16x1152, .bf16⟩
  | .hbm, ⟨1, _⟩ => ⟨S1x1024x1024, .f32⟩
  | .hbm, ⟨2, _⟩ => ⟨S1x1024, .f32⟩
  | .hbm, ⟨3, _⟩ => ⟨S64x16x16x1152, .f32⟩
  | .hbm, ⟨4, _⟩ => ⟨S1152x16x64x16, .f32⟩
  | .hbm, ⟨5, _⟩ => ⟨S1152x16x1024, .f32⟩
  | .hbm, ⟨6, _⟩ => ⟨S1024x1024, .f32⟩
  | .hbm, ⟨7, _⟩ => ⟨S1152x16x1024, .f32⟩
  | .hbm, ⟨8, _⟩ => ⟨S1024, .f32⟩
  | .hbm, ⟨9, _⟩ => ⟨S1x1x1024, .f32⟩
  | .hbm, ⟨10, _⟩ => ⟨S1152x16x1024, .f32⟩
  | .hbm, ⟨11, _⟩ => ⟨S1152x16x1024, .f32⟩
  | .hbm, ⟨12, _⟩ => ⟨S1152x16x1024, .f32⟩
  | .hbm, ⟨13, _⟩ => ⟨S1152x16x1024, .f32⟩
  | .hbm, ⟨14, _⟩ => ⟨S_, .f32⟩
  | .hbm, ⟨15, _⟩ => ⟨S1152x16x1024, .f32⟩
  | .hbm, ⟨16, _⟩ => ⟨S1152x16x1024, .f32⟩
  | .hbm, ⟨17, _⟩ => ⟨S_, .f32⟩
  | .hbm, ⟨18, _⟩ => ⟨S1152x16x1024, .f32⟩
  | .hbm, ⟨19, _⟩ => ⟨S1152x16x1024, .f32⟩
  | .hbm, ⟨20, _⟩ => ⟨S1152x16x1024, .f32⟩
  | .hbm, ⟨21, _⟩ => ⟨S1152x16384, .f32⟩
  | .hbm, ⟨22, _⟩ => ⟨S1152x16384, .bf16⟩
  | _, _ => ⟨S64x16x16x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel10.lean ====
abbrev S18432x1024 : Shape := ⟨2, ![18432, 1024]⟩
abbrev S1152x16384 : Shape := ⟨2, ![1152, 16384]⟩
abbrev S1x2048x2048 : Shape := ⟨3, ![1, 2048, 2048]⟩
abbrev S16384x2048 : Shape := ⟨2, ![16384, 2048]⟩
abbrev S2048x2048 : Shape := ⟨2, ![2048, 2048]⟩
abbrev S16x1x12288 : Shape := ⟨3, ![16, 1, 12288]⟩
abbrev S2048 : Shape := ⟨1, ![2048]⟩
abbrev S1x2048 : Shape := ⟨2, ![1, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S18432x2048 : Shape := ⟨2, ![18432, 2048]⟩
abbrev S512x1024 : Shape := ⟨2, ![512, 1024]⟩
abbrev S32x16384 : Shape := ⟨2, ![32, 16384]⟩
abbrev S1x1024x2048 : Shape := ⟨3, ![1, 1024, 2048]⟩
abbrev S512x2048 : Shape := ⟨2, ![512, 2048]⟩
abbrev S1x1x2048 : Shape := ⟨3, ![1, 1, 2048]⟩
abbrev S32x1024 : Shape := ⟨2, ![32, 1024]⟩
abbrev S256x1024 : Shape := ⟨2, ![256, 1024]⟩
abbrev S1x1024x512 : Shape := ⟨3, ![1, 1024, 512]⟩
abbrev S1024x512 : Shape := ⟨2, ![1024, 512]⟩
abbrev S256x512 : Shape := ⟨2, ![256, 512]⟩
abbrev S1x1x512 : Shape := ⟨3, ![1, 1, 512]⟩
abbrev S256x2048 : Shape := ⟨2, ![256, 2048]⟩
abbrev S256 : Shape := ⟨1, ![256]⟩
abbrev S256x1 : Shape := ⟨2, ![256, 1]⟩

abbrev nBuf : Space → Nat
  | .hbm => 64
  | .vmem => 22
  | .smem => 0
  | _ => 0

abbrev bufTy : (tb : Table) → Fin (tcTables nBuf tb) → BufTy
  | .hbm, ⟨0, _⟩ => ⟨S18432x1024, .bf16⟩
  | .hbm, ⟨1, _⟩ => ⟨S1152x16384, .bf16⟩
  | .hbm, ⟨2, _⟩ => ⟨S1x2048x2048, .bf16⟩
  | .hbm, ⟨3, _⟩ => ⟨S16384x2048, .f32⟩
  | .hbm, ⟨4, _⟩ => ⟨S2048x2048, .f32⟩
  | .hbm, ⟨5, _⟩ => ⟨S16x1x12288, .f32⟩
  | .hbm, ⟨6, _⟩ => ⟨S2048, .f32⟩
  | .hbm, ⟨7, _⟩ => ⟨S1x2048, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S_, .i1⟩
  | .hbm, ⟨25, _⟩ => ⟨S512, .i1⟩
  | .hbm, ⟨26, _⟩ => ⟨S512, .i1⟩
  | .hbm, ⟨27, _⟩ => ⟨S512, .i1⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i32⟩
  | .hbm, ⟨43, _⟩ => ⟨S512, .i32⟩
  | .hbm, ⟨44, _⟩ => ⟨S_, .i32⟩
  | .hbm, ⟨45, _⟩ => ⟨S512, .i32⟩
  | .hbm, ⟨46, _⟩ => ⟨S512, .i1⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S512x1, .i32⟩
  | .hbm, ⟨55, _⟩ => ⟨S1x512, .i32⟩
  | .hbm, ⟨56, _⟩ => ⟨S512x512, .i32⟩
  | .hbm, ⟨57, _⟩ => ⟨S512x512, .i32⟩
  | .hbm, ⟨58, _⟩ => ⟨S512x512, .i1⟩
  | .hbm, ⟨59, _⟩ => ⟨S512x512, .f32⟩
  | .hbm, ⟨60, _⟩ => ⟨S512x512, .f32⟩
  | .hbm, ⟨61, _⟩ => ⟨S512x512, .bf16⟩
  | .hbm, ⟨62, _⟩ => ⟨S18432x2048, .f32⟩
  | .hbm, ⟨63, _⟩ => ⟨S18432x2048, .bf16⟩
  | .local _ .vmem, ⟨0, _⟩ => ⟨S512x1024, .bf16⟩
  | .local _ .vmem, ⟨1, _⟩ => ⟨S512x1024, .bf16⟩
  | .local _ .vmem, ⟨2, _⟩ => ⟨S32x16384, .bf16⟩
  | .local _ .vmem, ⟨3, _⟩ => ⟨S32x16384, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048, .f32⟩
  | .local _ .vmem, ⟨17, _⟩ => ⟨S512x512, .bf16⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v2 : Ref sig .tc := ⟨.hbm, 30, rfl⟩
abbrev main_c_0 : Ref sig .tc := ⟨.hbm, 31, rfl⟩
abbrev main_v3 : Ref sig .tc := ⟨.hbm, 32, rfl⟩
abbrev main_v4 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16_0 : Ref sig .tc := ⟨.hbm, 62, rfl⟩
abbrev main_v16_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![36, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c2_i32 : BitVec 32 := 2#32
  let c0_i32_5 : BitVec 32 := 0#32
  ![v18.toNat, c0_i32_4.toNat, c2_i32.toNat]

def cc0_transform_7 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c3_i32 : BitVec 32 := 3#32
  let c0_i32_5 : BitVec 32 := 0#32
  ![v18.toNat, c0_i32_4.toNat, c3_i32.toNat]

def cc0_transform_8 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c4_i32 : BitVec 32 := 4#32
  let c0_i32_5 : BitVec 32 := 0#32
  ![v18.toNat, c0_i32_4.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference10Ideal.lean ====
abbrev S18432x1024 : Shape := ⟨2, ![18432, 1024]⟩
abbrev S1152x16384 : Shape := ⟨2, ![1152, 16384]⟩
abbrev S1x2048x2048 : Shape := ⟨3, ![1, 2048, 2048]⟩
abbrev S16384x2048 : Shape := ⟨2, ![16384, 2048]⟩
abbrev S2048x2048 : Shape := ⟨2, ![2048, 2048]⟩
abbrev S16x1x12288 : Shape := ⟨3, ![16, 1, 12288]⟩
abbrev S2048 : Shape := ⟨1, ![2048]⟩
abbrev S18432x2048 : Shape := ⟨2, ![18432, 2048]⟩
abbrev S8x2048x2048 : Shape := ⟨3, ![8, 2048, 2048]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x256x2048 : Shape := ⟨3, ![8, 256, 2048]⟩
abbrev S1x1x12288 : Shape := ⟨3, ![1, 1, 12288]⟩
abbrev S8x256 : Shape := ⟨2, ![8, 256]⟩
abbrev S8x256x1 : Shape := ⟨3, ![8, 256, 1]⟩

abbrev nBuf : Space → Nat
  | .hbm => 88
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S1152x16384, .bf16⟩
  | .hbm, ⟨2, _⟩ => ⟨S1x2048x2048, .bf16⟩
  | .hbm, ⟨3, _⟩ => ⟨S16384x2048, .f32⟩
  | .hbm, ⟨4, _⟩ => ⟨S2048x2048, .f32⟩
  | .hbm, ⟨5, _⟩ => ⟨S16x1x12288, .f32⟩
  | .hbm, ⟨6, _⟩ => ⟨S2048, .f32⟩
  | .hbm, ⟨7, _⟩ => ⟨S18432x1024, .f32⟩
  | .hbm, ⟨8, _⟩ => ⟨S1152x16384, .f32⟩
  | .hbm, ⟨9, _⟩ => ⟨S18432x1024, .f32⟩
  | .hbm, ⟨10, _⟩ => ⟨S18432x2048, .f32⟩
  | .hbm, ⟨11, _⟩ => ⟨S2048x2048, .bf16⟩
  | .hbm, ⟨12, _⟩ => ⟨S2048x2048, .f32⟩
  | .hbm, ⟨13, _⟩ => ⟨S18432x2048, .f32⟩
  | .hbm, ⟨14, _⟩ => ⟨S8x2048x2048, .f32⟩
  | .hbm, ⟨15, _⟩ => ⟨S16384x2048, .f32⟩
  | .hbm, ⟨16, _⟩ => ⟨S8x2048x2048, .f32⟩
  | .hbm, ⟨17, _⟩ => ⟨S8x1x12288, .f32⟩
  | .hbm, ⟨18, _⟩ => ⟨S8x1x2048, .f32⟩
  | .hbm, ⟨19, _⟩ => ⟨S8x1x2048, .f32⟩
  | .hbm, ⟨20, _⟩ => ⟨S8x1x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S1x1x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x1x2048, .f32⟩
  | .hbm, ⟨42, _⟩ => ⟨S8x1x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S16384x2048, .f32⟩
  | .hbm, ⟨48, _⟩ => ⟨S16384x2048, .f32⟩
  | .hbm, ⟨49, _⟩ => ⟨S16384x2048, .bf16⟩
  | .hbm, ⟨50, _⟩ => ⟨S8x256x2048, .f32⟩
  | .hbm, ⟨51, _⟩ => ⟨S2048x2048, .f32⟩
  | .hbm, ⟨52, _⟩ => ⟨S8x256x2048, .f32⟩
  | .hbm, ⟨53, _⟩ => ⟨S1x1x12288, .f32⟩
  | .hbm, ⟨54, _⟩ => ⟨S1x1x2048, .f32⟩
  | .hbm, ⟨55, _⟩ => ⟨S1x1x2048, .f32⟩
  | .hbm, ⟨56, _⟩ => ⟨S1x1x2048, .f32⟩
  | .hbm, ⟨57, _⟩ => ⟨S8x256x2048, .f32⟩
  | .hbm, ⟨58, _⟩ => ⟨S8x256x2048, .f32⟩
  | .hbm, ⟨59, _⟩ => ⟨S8x256x2048, .f32⟩
  | .hbm, ⟨60, _⟩ => ⟨S8x256x2048, .f32⟩
  | .hbm, ⟨61, _⟩ => ⟨S_, .f32⟩
  | .hbm, ⟨62, _⟩ => ⟨S8x256, .f32⟩
  | .hbm, ⟨63, _⟩ => ⟨S8x256x1, .f32⟩
  | .hbm, ⟨64, _⟩ => ⟨S_, .f32⟩
  | .hbm, ⟨65, _⟩ => ⟨S8x256x1, .f32⟩
  | .hbm, ⟨66, _⟩ => ⟨S8x256x1, .f32⟩
  | .hbm, ⟨67, _⟩ => ⟨S_, .f32⟩
  | .hbm, ⟨68, _⟩ => ⟨S8x256x1, .f32⟩
  | .hbm, ⟨69, _⟩ => ⟨S8x256x1, .f32⟩
  | .hbm, ⟨70, _⟩ => ⟨S8x256x1, .f32⟩
  | .hbm, ⟨71, _⟩ => ⟨S8x256x2048, .f32⟩
  | .hbm, ⟨72, _⟩ => ⟨S8x256x2048, .f32⟩
  | .hbm, ⟨73, _⟩ => ⟨S1x1x2048, .f32⟩
  | .hbm, ⟨74, _⟩ => ⟨S8x256x2048, .f32⟩
  | .hbm, ⟨75, _⟩ => ⟨S8x256x2048, .f32⟩
  | .hbm, ⟨76, _⟩ => ⟨S_, .f32⟩
  | .hbm, ⟨77, _⟩ => ⟨S1x1x2048, .f32⟩
  | .hbm, ⟨78, _⟩ => ⟨S1x1x2048, .f32⟩
  | .hbm, ⟨79, _⟩ => ⟨S8x256x2048, .f32⟩
  | .hbm, ⟨80, _⟩ => ⟨S8x256x2048, .f32⟩
  | .hbm, ⟨81, _⟩ => ⟨S8x256x2048, .f32⟩
  | .hbm, ⟨82, _⟩ => ⟨S8x256x2048, .f32⟩
  | .hbm, ⟨83, _⟩ => ⟨S2048x2048, .f32⟩
  | .hbm, ⟨84, _⟩ => ⟨S2048x2048, .f32⟩
  | .hbm, ⟨85, _⟩ => ⟨S2048x2048, .bf16⟩
  | .hbm, ⟨86, _⟩ => ⟨S18432x2048, .f32⟩
  | .hbm, ⟨87, _⟩ => ⟨S18432x2048, .bf16⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Kernel11.lean ====
abbrev S16384x2048 : Shape := ⟨2, ![16384, 2048]⟩
abbrev S2048x2048 : Shape := ⟨2, ![2048, 2048]⟩
abbrev S16x1x12288 : Shape := ⟨3, ![16, 1, 12288]⟩
abbrev S2048 : Shape := ⟨1, ![2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x2048 : Shape := ⟨2, ![1, 2048]⟩
abbrev S18432x2048 : Shape := ⟨2, ![18432, 2048]⟩
abbrev S16x1152x2048 : Shape := ⟨3, ![16, 1152, 2048]⟩
abbrev S512x2048 : Shape := ⟨2, ![512, 2048]⟩
abbrev S1x1x2048 : Shape := ⟨3, ![1, 1, 2048]⟩
abbrev S16x32x2048 : Shape := ⟨3, ![16, 32, 2048]⟩

abbrev nBuf : Space → Nat
  | .hbm => 60
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16x1x12288, .f32⟩
  | .hbm, ⟨3, _⟩ => ⟨S2048, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S_, .i1⟩
  | .hbm, ⟨21, _⟩ => ⟨S512, .i1⟩
  | .hbm, ⟨22, _⟩ => ⟨S512, .i1⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S512x512, .f32⟩
  | .hbm, ⟨56, _⟩ => ⟨S1x2048, .f32⟩
  | .hbm, ⟨57, _⟩ => ⟨S512x512, .bf16⟩
  | .hbm, ⟨58, _⟩ => ⟨S18432x2048, .bf16⟩
  | .hbm, ⟨59, _⟩ => ⟨S16x1152x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S16x32x2048, .bf16⟩
  | .local _ .vmem, ⟨13, _⟩ => ⟨S16x32x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15_0 : Ref sig .tc := ⟨.hbm, 58, rfl⟩
abbrev main_v15_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c1_i32_5 : BitVec 32 := 1#32
  let c0_i32_6 : BitVec 32 := 0#32
  ![v18.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S16384x2048 : Shape := ⟨2, ![16384, 2048]⟩
abbrev S2048x2048 : Shape := ⟨2, ![2048, 2048]⟩
abbrev S16x1x12288 : Shape := ⟨3, ![16, 1, 12288]⟩
abbrev S2048 : Shape := ⟨1, ![2048]⟩
abbrev S8x2048x2048 : Shape := ⟨3, ![8, 2048, 2048]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x256x2048 : Shape := ⟨3, ![8, 256, 2048]⟩
abbrev S1x1x12288 : Shape := ⟨3, ![1, 1, 12288]⟩
abbrev S8x256 : Shape := ⟨2, ![8, 256]⟩
abbrev S8x256x1 : Shape := ⟨3, ![8, 256, 1]⟩
abbrev S18432x2048 : Shape := ⟨2, ![18432, 2048]⟩
abbrev S1152x16x2048 : Shape := ⟨3, ![1152, 16, 2048]⟩
abbrev S16x1152x2048 : Shape := ⟨3, ![16, 1152, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16x1x12288, .f32⟩
  | .hbm, ⟨3, _⟩ => ⟨S2048, .f32⟩
  | .hbm, ⟨4, _⟩ => ⟨S8x2048x2048, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S16384x2048, .f32⟩
  | .hbm, ⟨32, _⟩ => ⟨S16384x2048, .bf16⟩
  | .hbm, ⟨33, _⟩ => ⟨S8x256x2048, .f32⟩
  | .hbm, ⟨34, _⟩ => ⟨S1x1x12288, .f32⟩
  | .hbm, ⟨35, _⟩ => ⟨S1x1x2048, .f32⟩
  | .hbm, ⟨36, _⟩ => ⟨S1x1x2048, .f32⟩
  | .hbm, ⟨37, _⟩ => ⟨S8x256x2048, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S8x256x1, .f32⟩
  | .hbm, ⟨48, _⟩ => ⟨S8x256x2048, .f32⟩
  | .hbm, ⟨49, _⟩ => ⟨S8x256x2048, .f32⟩
  | .hbm, ⟨50, _⟩ => ⟨S1x1x2048, .f32⟩
  | .hbm, ⟨51, _⟩ => ⟨S8x256x2048, .f32⟩
  | .hbm, ⟨52, _⟩ => ⟨S8x256x2048, .f32⟩
  | .hbm, ⟨53, _⟩ => ⟨S_, .f32⟩
  | .hbm, ⟨54, _⟩ => ⟨S1x1x2048, .f32⟩
  | .hbm, ⟨55, _⟩ => ⟨S1x1x2048, .f32⟩
  | .hbm, ⟨56, _⟩ => ⟨S8x256x2048, .f32⟩
  | .hbm, ⟨57, _⟩ => ⟨S8x256x2048, .f32⟩
  | .hbm, ⟨58, _⟩ => ⟨S8x256x2048, .f32⟩
  | .hbm, ⟨59, _⟩ => ⟨S8x256x2048, .f32⟩
  | .hbm, ⟨60, _⟩ => ⟨S2048x2048, .f32⟩
  | .hbm, ⟨61, _⟩ => ⟨S2048x2048, .bf16⟩
  | .hbm, ⟨62, _⟩ => ⟨S18432x2048, .bf16⟩
  | .hbm, ⟨63, _⟩ => ⟨S1152x16x2048, .bf16⟩
  | .hbm, ⟨64, _⟩ => ⟨S16x1152x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel12.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩
abbrev S1x16x12288 : Shape := ⟨3, ![1, 16, 12288]⟩
abbrev S2x16x12288 : Shape := ⟨3, ![2, 16, 12288]⟩

abbrev nBuf : Space → Nat
  | .hbm => 31
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x12288, .f32⟩
  | .hbm, ⟨13, _⟩ => ⟨S2048x12288, .f32⟩
  | .hbm, ⟨14, _⟩ => ⟨S16x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S16x12288, .f32⟩
  | .hbm, ⟨19, _⟩ => ⟨S16x12288, .f32⟩
  | .hbm, ⟨20, _⟩ => ⟨S1x2048x12288, .f32⟩
  | .hbm, ⟨21, _⟩ => ⟨S2048x12288, .f32⟩
  | .hbm, ⟨22, _⟩ => ⟨S16x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S16x12288, .f32⟩
  | .hbm, ⟨27, _⟩ => ⟨S16x12288, .f32⟩
  | .hbm, ⟨28, _⟩ => ⟨S1x16x12288, .f32⟩
  | .hbm, ⟨29, _⟩ => ⟨S1x16x12288, .f32⟩
  | .hbm, ⟨30, _⟩ => ⟨S2x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.Run.lean ====
/- The launch: what the kernel's body leaves at each grid point, the proof data of the pipeline, and the run. -/
module

public import proofs.«01_k».proof.Proof.Gen.KernelIdeal.Frame.RunB
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A grid point whose queries are latent tokens does not meet the second condition. -/
theorem lat_not (t : Fin cfg0.N) (h : t.val / 8 % 9 ≤ 7) : ¬ cond0_1 (grid0.coords t) :=
  fun h' => by have := (hcond0_1 t).mp h'; omega

/-- A grid point whose queries are not latent tokens does not meet the first condition. -/
theorem ctx_not (t : Fin cfg0.N) (h : ¬ t.val / 8 % 9 ≤ 7) : ¬ cond0_0 (grid0.coords t) :=
  fun h' => h ((hcond0_0 t).mp h')

/-- A grid point whose queries are not latent tokens meets the second condition. -/
theorem ctx_cond (t : Fin cfg0.N) (h : ¬ t.val / 8 % 9 ≤ 7) : cond0_1 (grid0.coords t) :=
  (hcond0_1 t).mpr (by have : t.val / 8 % 9 < 9 := Nat.mod_lt _ (by decide); omega)

/-- The body's run at a point whose queries are latent tokens. -/
abbrev runLat (c : Dev nD) (t : Fin cfg0.N) (h : t.val / 8 % 9 ≤ 7) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (lat_not t h) (iblk m c 0 t) (iblk m c 1 t) (iblk m c 2 t) (iblk m c 3 t) (iblk m c 4 t) (iblk m c 5 t) (iblk m c 6 t) (iblk m c 7 t) (iblk m c 8 t) (iblk m c 9 t)

/-- What it leaves in the output's staging buffer. -/
def leftLat (c : Dev nD) (t : Fin cfg0.N) (h : t.val / 8 % 9 ≤ 7) : Vec F S256x512 .bf16 :=
  VO0_10.read (Elt F) (VO0_10.writes (Elt F) VO0_10.junk (runLat m c t h).1)

/-- Its four stores fill the buffer. -/
theorem coverLat (c : Dev nD) (t : Fin cfg0.N) (h : t.val / 8 % 9 ≤ 7) (y : S256x512.Idx) :
    ∃ p ∈ (runLat m c t h).1, y ∈ p.1.set :=
  View.cover_of_tiledL (runLat m c t h).1 S256x128.size (by sl_kernel_rfl) y

/-- The body's run at a point whose queries are context tokens. -/
abbrev runCtx (c : Dev nD) (t : Fin cfg0.N) (h : ¬ t.val / 8 % 9 ≤ 7) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ctx_not t h) (ctx_cond t h) (iblk m c 0 t) (iblk m c 1 t) (iblk m c 2 t) (iblk m c 3 t) (iblk m c 4 t) (iblk m c 5 t) (iblk m c 6 t) (iblk m c 7 t) (iblk m c 8 t) (iblk m c 9 t)

/-- What it leaves in the output's staging buffer. -/
def leftCtx (c : Dev nD) (t : Fin cfg0.N) (h : ¬ t.val / 8 % 9 ≤ 7) : Vec F S256x512 .bf16 :=
  VO0_10.read (Elt F) (VO0_10.writes (Elt F) VO0_10.junk (runCtx m c t h).1)

/-- Its four stores fill the buffer. -/
theorem coverCtx (c : Dev nD) (t : Fin cfg0.N) (h : ¬ t.val / 8 % 9 ≤ 7) (y : S256x512.Idx) :
    ∃ p ∈ (runCtx m c t h).1, y ∈ p.1.set :=
  View.cover_of_tiledL (runCtx m c t h).1 S256x128.size (by sl_kernel_rfl) y

/-- What the body leaves at any point. -/
def left (c : Dev nD) (t : Fin cfg0.N) : Vec F S256x512 .bf16 :=
  if h : t.val / 8 % 9 ≤ 7 then leftLat m c t h else leftCtx m c t h

/-- The pipeline's proof data: the arrays as the launch finds them; after each point every input's buffer holds its
    block and the output's what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left m c t
  Φ _ := Pipeline.ΦA spec0 c
  q w := Pipeline.shareOf spec0 w
  owed _ := 0

theorem arrays_eq (c : Dev nD) (w : Fin cfg0.W) : (dats m 0 c).A w = V m c (Pipeline.arrRef spec0 w) := by
  dsimp only [dats]

theorem after_out (c : Dev nD) (t : Fin cfg0.N) : (dats m 0 c).after 10 t = left m c t := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (arrays_eq m c 0) (after_0 m c) t d
theorem leaves_0 (c : Dev nD) (t : Fin cfg0.N) :
    (dats m 0 c).leavesExact 0 t = owns (c : Thread nD τ) (ms0_0 t) fullShare (iblk m c 0 t) := by
  unfold Dat.leavesExact; rw [liveAt0_0 t, after_0]

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (arrays_eq m c 1) (after_1 m c) t d
theorem leaves_1 (c : Dev nD) (t : Fin cfg0.N) :
    (dats m 0 c).leavesExact 1 t = owns (c : Thread nD τ) (ms0_1 t) fullShare (iblk m c 1 t) := by
  unfold Dat.leavesExact; rw [liveAt0_1 t, after_1]

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (arrays_eq m c 2) (after_2 m c) t d
theorem leaves_2 (c : Dev nD) (t : Fin cfg0.N) :
    (dats m 0 c).leavesExact 2 t = owns (c : Thread nD τ) (ms0_2 t) fullShare (iblk m c 2 t) := by
  unfold Dat.leavesExact; rw [liveAt0_2 t, after_2]

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (arrays_eq m c 3) (after_3 m c) t d
theorem leaves_3 (c : Dev nD) (t : Fin cfg0.N) :
    (dats m 0 c).leavesExact 3 t = owns (c : Thread nD τ) (ms0_3 t) fullShare (iblk m c 3 t) := by
  unfold Dat.leavesExact; rw [liveAt0_3 t, after_3]

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (arrays_eq m c 4) (after_4 m c) t d
theorem leaves_4 (c : Dev nD) (t : Fin cfg0.N) :
    (dats m 0 c).leavesExact 4 t = owns (c : Thread nD τ) (ms0_4 t) fullShare (iblk m c 4 t) := by
  unfold Dat.leavesExact; rw [liveAt0_4 t, after_4]

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (arrays_eq m c 5) (after_5 m c) t d
theorem leaves_5 (c : Dev nD) (t : Fin cfg0.N) :
    (dats m 0 c).leavesExact 5 t = owns (c : Thread nD τ) (ms0_5 t) fullShare (iblk m c 5 t) := by
  unfold Dat.leavesExact; rw [liveAt0_5 t, after_5]

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (arrays_eq m c 6) (after_6 m c) t d
theorem leaves_6 (c : Dev nD) (t : Fin cfg0.N) :
    (dats m 0 c).leavesExact 6 t = owns (c : Thread nD τ) (ms0_6 t) fullShare (iblk m c 6 t) := by
  unfold Dat.leavesExact; rw [liveAt0_6 t, after_6]

theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (arrays_eq m c 7) (after_7 m c) t d
theorem leaves_7 (c : Dev nD) (t : Fin cfg0.N) :
    (dats m 0 c).leavesExact 7 t = owns (c : Thread nD τ) (ms0_7 t) fullShare (iblk m c 7 t) := by
  unfold Dat.leavesExact; rw [liveAt0_7 t, after_7]

theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (arrays_eq m c 8) (after_8 m c) t d
theorem leaves_8 (c : Dev nD) (t : Fin cfg0.N) :
    (dats m 0 c).leavesExact 8 t = owns (c : Thread nD τ) (ms0_8 t) fullShare (iblk m c 8 t) := by
  unfold Dat.leavesExact; rw [liveAt0_8 t, after_8]

theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (arrays_eq m c 9) (after_9 m c) t d
theorem leaves_9 (c : Dev nD) (t : Fin cfg0.N) :
    (dats m 0 c).leavesExact 9 t = owns (c : Thread nD τ) (ms0_9 t) fullShare (iblk m c 9 t) := by
  unfold Dat.leavesExact; rw [liveAt0_9 t, after_9]

/-- What the body is handed at a point, window by window. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it hands back. -/
def handed (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The body at any point, by which of its two branches the point takes. -/
theorem body_at (c : Dev nD) (t : Fin cfg0.N) :
    given m c t ⊢ wp frame (wpE (defs₀ (F := F)) Variants.none c none) Set.univ (bodyAt0 t) (fun _ => handed m c t) := by
  unfold given handed bodyAt0
  simp only [before_0, leaves_0, before_1, leaves_1, before_2, leaves_2, before_3, leaves_3, before_4, leaves_4, before_5, leaves_5, before_6, leaves_6, before_7, leaves_7, before_8, leaves_8, before_9, leaves_9]
  rw [show (dats m 0 c).Φ t.succ = (dats m 0 c).Φ t.castSucc from rfl,
    show (dats m 0 c).owesAt () t.succ = (dats m 0 c).owesAt () t.castSucc from rfl]
  by_cases h : t.val / 8 % 9 ≤ 7

  · rw [show (dats m 0 c).leavesExact 10 t = owns (c : Thread nD τ) (ms0_10 t) fullShare (left m c t) from by
      unfold Dat.leavesExact; rw [liveAt0_10_A t ((hcond0_0 t).mpr h) (lat_not t h), after_out]]
    rw [show left m c t = leftLat m c t h from dif_pos h]
    unfold leftLat
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runLat m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverLat m c t h)

  · rw [show (dats m 0 c).leavesExact 10 t = owns (c : Thread nD τ) (ms0_10 t) fullShare (left m c t) from by
      unfold Dat.leavesExact; rw [liveAt0_10_B t (ctx_not t h) (ctx_cond t h), after_out]]
    rw [show left m c t = leftCtx m c t h from dif_neg h]
    unfold leftCtx
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runCtx m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverCtx m c t h)

/-- The pipeline's body obligation. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_at m c t) rfl .rfl fun _ => .rfl

set_option backward.isDefEq.respectTransparency.types false in
/-- The run: every array of the pipeline ends at what the proof data compute, and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays_eq m) (hΦ := fun _ _ => rfl)

/-- The run without the counters. -/
theorem run_post : θ_run defs (onTc (τ := τ) (main (F := F))) (s₀ m ρ) (Pipeline.FramePost cfgs (dats m) 0 (V m)) :=
  (θ_run defs _ _).mono (fun _ h => h.1) (run_all m ρ)

/-- The arguments end unchanged, and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays_eq m) (run_post m ρ)) ((θ_run defs _ _).mono (fun _ h => h.2) (run_all m ρ))

/-- The run with the result array named, the arguments unchanged. -/
theorem run_named : θ_run defs (onTc (τ := τ) (main (F := F))) ⟨m, fun _ => 0, ρ⟩ fun r => ∀ c : Dev nD,
      r.2.mem ((c : Thread nD τ).loc main_v249) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 10,
      ((h c).1 8).trans (((dats m 0 c).arrAt_in 8 rfl _).trans ((arrays_eq m c 8).trans (V_main_arg0 m c))),
      ((h c).2 main_arg1 (Pipeline.mem_restRefs_of main_arg1 (by decide) (by decide))).trans (V_main_arg1 m c)⟩)
    (run_post m ρ)

end Cert.KernelIdeal.Run

end
-- ==== Proof.FrameKernel.lean ====
/- The frame of the kernel over words: the two printed texts are the same, so the one run serves both. -/
module

public import proofs.«01_k».proof.Proof.Run
public import proofs.«01_k».proof.Defs
public import proofs.«01_k».proof.Proof.Gen.Kernel

@[expose] public section

set_option maxRecDepth 16384

noncomputable section

namespace Cert.Proof

open Idealize.ShloMosaic Idealize.SL.Sem

/-- The frame, said of the text that is read at the ideal instance, over words. -/
def Quiet : Prop :=
  ∀ (m : (ℓ : Loc Cert.KernelIdeal.nD Cert.KernelIdeal.τ Cert.KernelIdeal.sig) → Buf (Elt Bits) ℓ)
    (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1))
      ∧ r.2.sem = fun _ => 0)

/-- The two texts are one. -/
theorem same : Quiet = Cert.quiescent_Kernel (hKernel := Cert.Kernel.Gen.facts) := by
  sl_kernel_rfl

/-- The kernel over words ends with its arguments unchanged and every counter at zero. -/
theorem frame_kernel : Cert.quiescent_Kernel (hKernel := Cert.Kernel.Gen.facts) :=
  same ▸ fun m ρ _ => Cert.KernelIdeal.Run.quiet (F := Bits) m ρ

end Cert.Proof

end
-- ==== Proof.Finite.lean ====
module

/-
What the precondition says: no element of either argument is infinite.
-/

public import proofs.«01_k».proof.Pre_finite
public import Idealize.ShloMosaic.PureOps.Ideal
public import Idealize.ShloMosaic.Lib.ReduceAll
public import Idealize.ShloMosaic.Lib.Pointwise

@[expose] public section
noncomputable section
namespace Cert.Pre_finite

open Cert.Pre_finite
open Idealize.ShloMosaic Idealize.ShloMosaic.Tactic

/-- The facts that the precondition's operations stand on. -/
theorem facts : Facts := ⟨by decide, by decide, by decide, by decide, by decide, by decide⟩

/-- The infinity that the magnitudes are compared with. -/
theorem highest : Ideal.ofBits .f32 0x7F800000#32 = ⊤ := by
  simp [Ideal.ofBits, Ideal.ieee]

/-- A magnitude below infinity is a real's. -/
theorem real_of_lt (x : EReal) (h : Ideal.cmp .olt (max x (-x)) (Ideal.ofBits .f32 0x7F800000#32) = 1#1) :
    x ≠ ⊤ ∧ x ≠ ⊥ := by
  rw [highest] at h
  constructor <;> rintro rfl <;> revert h <;> simp [Ideal.cmp]

/-- No element of the arguments is infinite. -/
theorem real_of [hf : Facts] (A : FVec Ideal S18432x3072 .bf16) (T : FVec Ideal S8x15x31 .f32)
    (h : fn (F := Ideal) A T = fun _ => 1#1) : (∀ i, A i ≠ ⊤ ∧ A i ≠ ⊥) ∧ ∀ i, T i ≠ ⊤ ∧ T i ≠ ⊥ := by
  haveI : Subsingleton S_.Idx := ⟨fun a b => funext fun x => x.elim0⟩
  have h0 := congrFun h fun x => x.elim0
  obtain ⟨h1, h2⟩ := IntOp.andi_eq_one.1 h0
  exact ⟨fun i => real_of_lt _ (Host.reduce_andi_all _ _ _ _ _ h1 i), fun i => real_of_lt _ (Host.reduce_andi_all _ _ _ _ _ h2 i)⟩

end Cert.Pre_finite
end
-- ==== Proof.RefParts.lean ====
/- The reference, cut into named parts. -/
module

public import proofs.«01_k».proof.Proof.Gen.ReferenceIdeal.Run
public import Idealize.ShloMosaic.Lib.Pointwise

@[expose] public section

set_option maxRecDepth 16384

noncomputable section

namespace Cert.ReferenceIdeal.Parts

open Idealize.ShloMosaic Idealize.ShloMosaic.TcCoe Idealize.SL.Sem Cert.ReferenceIdeal Cert.ReferenceIdeal.Gen
open Facts

/-- The queries of the latent tokens, by batch, token, head and lane. -/
def latQ (A : FVec Ideal S18432x3072 .bf16) : FVec Ideal S8x2048x8x128 .f32 :=
  shapeCast _ (extractStridedSlice S8x2048x1x8x128 ![0, 0, 0, 0, 0] (shapeCast _ (extractStridedSlice S16384x3072 ![0, 0] (extf .f32 A bitsLt_bf16_f32) slices_S18432x3072_S16384x3072_0_0) shapeCasts_S16384x3072_S8x2048x3x8x128) slices_S8x2048x3x8x128_S8x2048x1x8x128_0_0_0_0_0) shapeCasts_S8x2048x1x8x128_S8x2048x8x128

/-- The keys of the latent tokens, by batch, token, head and lane. -/
def latK (A : FVec Ideal S18432x3072 .bf16) : FVec Ideal S8x2048x8x128 .f32 :=
  shapeCast _ (extractStridedSlice S8x2048x1x8x128 ![0, 0, 1, 0, 0] (shapeCast _ (extractStridedSlice S16384x3072 ![0, 0] (extf .f32 A bitsLt_bf16_f32) slices_S18432x3072_S16384x3072_0_0) shapeCasts_S16384x3072_S8x2048x3x8x128) slices_S8x2048x3x8x128_S8x2048x1x8x128_0_0_1_0_0) shapeCasts_S8x2048x1x8x128_S8x2048x8x128

/-- The values of the latent tokens, by batch, token, head and lane. -/
def latV (A : FVec Ideal S18432x3072 .bf16) : FVec Ideal S8x2048x8x128 .f32 :=
  shapeCast _ (extractStridedSlice S8x2048x1x8x128 ![0, 0, 2, 0, 0] (shapeCast _ (extractStridedSlice S16384x3072 ![0, 0] (extf .f32 A bitsLt_bf16_f32) slices_S18432x3072_S16384x3072_0_0) shapeCasts_S16384x3072_S8x2048x3x8x128) slices_S8x2048x3x8x128_S8x2048x1x8x128_0_0_2_0_0) shapeCasts_S8x2048x1x8x128_S8x2048x8x128

/-- The queries of the context tokens, by batch, token, head and lane. -/
def ctxQ (A : FVec Ideal S18432x3072 .bf16) : FVec Ideal S8x256x8x128 .f32 :=
  shapeCast _ (extractStridedSlice S8x256x1x8x128 ![0, 0, 0, 0, 0] (shapeCast _ (extractStridedSlice S2048x3072 ![16384, 0] (extf .f32 A bitsLt_bf16_f32) slices_S18432x3072_S2048x3072_16384_0) shapeCasts_S2048x3072_S8x256x3x8x128) slices_S8x256x3x8x128_S8x256x1x8x128_0_0_0_0_0) shapeCasts_S8x256x1x8x128_S8x256x8x128

/-- The keys of the context tokens, by batch, token, head and lane. -/
def ctxK (A : FVec Ideal S18432x3072 .bf16) : FVec Ideal S8x256x8x128 .f32 :=
  shapeCast _ (extractStridedSlice S8x256x1x8x128 ![0, 0, 1, 0, 0] (shapeCast _ (extractStridedSlice S2048x3072 ![16384, 0] (extf .f32 A bitsLt_bf16_f32) slices_S18432x3072_S2048x3072_16384_0) shapeCasts_S2048x3072_S8x256x3x8x128) slices_S8x256x3x8x128_S8x256x1x8x128_0_0_1_0_0) shapeCasts_S8x256x1x8x128_S8x256x8x128

/-- The values of the context tokens, by batch, token, head and lane. -/
def ctxV (A : FVec Ideal S18432x3072 .bf16) : FVec Ideal S8x256x8x128 .f32 :=
  shapeCast _ (extractStridedSlice S8x256x1x8x128 ![0, 0, 2, 0, 0] (shapeCast _ (extractStridedSlice S2048x3072 ![16384, 0] (extf .f32 A bitsLt_bf16_f32) slices_S18432x3072_S2048x3072_16384_0) shapeCasts_S2048x3072_S8x256x3x8x128) slices_S8x256x3x8x128_S8x256x1x8x128_0_0_2_0_0) shapeCasts_S8x256x1x8x128_S8x256x8x128

/-- Whether a key lies in the window of a query. -/
def inWin : IVec S2048x2048 1 :=
  shapeCast _ (andi (andi (andi (cmpi .sge (iotaInDim S32x64x32x64 32 2) (minsi (broadcastInDim S32x64x32x64 ![] bcast_S_S32x64x32x64 (id (constantI S_ 32 24#32))) (maxsi (broadcastInDim S32x64x32x64 ![] bcast_S_S32x64x32x64 (id (constantI S_ 32 0#32))) (subi (iotaInDim S32x64x32x64 32 0) (broadcastInDim S32x64x32x64 ![] bcast_S_S32x64x32x64 (constantI S_ 32 4#32)))))) (cmpi .slt (iotaInDim S32x64x32x64 32 2) (addi (minsi (broadcastInDim S32x64x32x64 ![] bcast_S_S32x64x32x64 (id (constantI S_ 32 24#32))) (maxsi (broadcastInDim S32x64x32x64 ![] bcast_S_S32x64x32x64 (id (constantI S_ 32 0#32))) (subi (iotaInDim S32x64x32x64 32 0) (broadcastInDim S32x64x32x64 ![] bcast_S_S32x64x32x64 (constantI S_ 32 4#32))))) (broadcastInDim S32x64x32x64 ![] bcast_S_S32x64x32x64 (constantI S_ 32 8#32))))) (cmpi .sge (iotaInDim S32x64x32x64 32 3) (minsi (broadcastInDim S32x64x32x64 ![] bcast_S_S32x64x32x64 (id (constantI S_ 32 48#32))) (maxsi (broadcastInDim S32x64x32x64 ![] bcast_S_S32x64x32x64 (id (constantI S_ 32 0#32))) (subi (iotaInDim S32x64x32x64 32 1) (broadcastInDim S32x64x32x64 ![] bcast_S_S32x64x32x64 (constantI S_ 32 8#32))))))) (cmpi .slt (iotaInDim S32x64x32x64 32 3) (addi (minsi (broadcastInDim S32x64x32x64 ![] bcast_S_S32x64x32x64 (id (constantI S_ 32 48#32))) (maxsi (broadcastInDim S32x64x32x64 ![] bcast_S_S32x64x32x64 (id (constantI S_ 32 0#32))) (subi (iotaInDim S32x64x32x64 32 1) (broadcastInDim S32x64x32x64 ![] bcast_S_S32x64x32x64 (constantI S_ 32 8#32))))) (broadcastInDim S32x64x32x64 ![] bcast_S_S32x64x32x64 (constantI S_ 32 16#32))))) shapeCasts_S32x64x32x64_S2048x2048

/-- The row of the bias table that a query and a key select. -/
def rowOff : IVec S32x64x32x64 32 :=
  select (cmpi .slt (minsi (broadcastInDim S32x64x32x64 ![] bcast_S_S32x64x32x64 (id (constantI S_ 32 14#32))) (maxsi (broadcastInDim S32x64x32x64 ![] bcast_S_S32x64x32x64 (id (constantI S_ 32 0#32))) (addi (subi (iotaInDim S32x64x32x64 32 2) (iotaInDim S32x64x32x64 32 0)) (broadcastInDim S32x64x32x64 ![] bcast_S_S32x64x32x64 (constantI S_ 32 7#32))))) (broadcastInDim S32x64x32x64 ![] bcast_S_S32x64x32x64 (constantI S_ 32 0#32))) (addi (minsi (broadcastInDim S32x64x32x64 ![] bcast_S_S32x64x32x64 (id (constantI S_ 32 14#32))) (maxsi (broadcastInDim S32x64x32x64 ![] bcast_S_S32x64x32x64 (id (constantI S_ 32 0#32))) (addi (subi (iotaInDim S32x64x32x64 32 2) (iotaInDim S32x64x32x64 32 0)) (broadcastInDim S32x64x32x64 ![] bcast_S_S32x64x32x64 (constantI S_ 32 7#32))))) (broadcastInDim S32x64x32x64 ![] bcast_S_S32x64x32x64 (constantI S_ 32 15#32))) (minsi (broadcastInDim S32x64x32x64 ![] bcast_S_S32x64x32x64 (id (constantI S_ 32 14#32))) (maxsi (broadcastInDim S32x64x32x64 ![] bcast_S_S32x64x32x64 (id (constantI S_ 32 0#32))) (addi (subi (iotaInDim S32x64x32x64 32 2) (iotaInDim S32x64x32x64 32 0)) (broadcastInDim S32x64x32x64 ![] bcast_S_S32x64x32x64 (constantI S_ 32 7#32)))))

/-- The column of the bias table that a query and a key select. -/
def colOff : IVec S32x64x32x64 32 :=
  select (cmpi .slt (minsi (broadcastInDim S32x64x32x64 ![] bcast_S_S32x64x32x64 (id (constantI S_ 32 30#32))) (maxsi (broadcastInDim S32x64x32x64 ![] bcast_S_S32x64x32x64 (id (constantI S_ 32 0#32))) (addi (subi (iotaInDim S32x64x32x64 32 3) (iotaInDim S32x64x32x64 32 1)) (broadcastInDim S32x64x32x64 ![] bcast_S_S32x64x32x64 (constantI S_ 32 15#32))))) (broadcastInDim S32x64x32x64 ![] bcast_S_S32x64x32x64 (constantI S_ 32 0#32))) (addi (minsi (broadcastInDim S32x64x32x64 ![] bcast_S_S32x64x32x64 (id (constantI S_ 32 30#32))) (maxsi (broadcastInDim S32x64x32x64 ![] bcast_S_S32x64x32x64 (id (constantI S_ 32 0#32))) (addi (subi (iotaInDim S32x64x32x64 32 3) (iotaInDim S32x64x32x64 32 1)) (broadcastInDim S32x64x32x64 ![] bcast_S_S32x64x32x64 (constantI S_ 32 15#32))))) (broadcastInDim S32x64x32x64 ![] bcast_S_S32x64x32x64 (constantI S_ 32 31#32))) (minsi (broadcastInDim S32x64x32x64 ![] bcast_S_S32x64x32x64 (id (constantI S_ 32 30#32))) (maxsi (broadcastInDim S32x64x32x64 ![] bcast_S_S32x64x32x64 (id (constantI S_ 32 0#32))) (addi (subi (iotaInDim S32x64x32x64 32 3) (iotaInDim S32x64x32x64 32 1)) (broadcastInDim S32x64x32x64 ![] bcast_S_S32x64x32x64 (constantI S_ 32 15#32)))))

/-- The bias of a query and a key, per head. -/
def bias (T : FVec Ideal S8x15x31 .f32) : FVec Ideal S8x2048x2048 .f32 :=
  shapeCast _ (Host.gather gather_S8x15x31_S32x64x32x64x2_S8x32x64x32x64_0_12_n_n_12_4_811 T (concatenate S32x64x32x64x2 4 [⟨S32x64x32x64x1, (broadcastInDim S32x64x32x64x1 ![0, 1, 2, 3] bcast_S32x64x32x64_S32x64x32x64x1_0_1_2_3 (rowOff))⟩, ⟨S32x64x32x64x1, (broadcastInDim S32x64x32x64x1 ![0, 1, 2, 3] bcast_S32x64x32x64_S32x64x32x64x1_0_1_2_3 (colOff))⟩] concatenates_S32x64x32x64x1_S32x64x32x64x1_S32x64x32x64x2_d4)) shapeCasts_S8x32x64x32x64_S8x2048x2048

/-- The scores of the latent queries against the latent keys, -inf outside the window. -/
def winScore (A : FVec Ideal S18432x3072 .bf16) (T : FVec Ideal S8x15x31 .f32) : FVec Ideal S8x8x2048x2048 .f32 :=
  select (broadcastInDim S8x8x2048x2048 ![2, 3] bcast_S2048x2048_S8x8x2048x2048_2_3 (inWin)) (addf (mulf (Host.dotGeneral dot_S8x2048x8x128_S8x2048x8x128_S8x8x2048x2048_3_3_1_1_02_02 none (latQ A) (latK A)) (broadcastInDim S8x8x2048x2048 ![] bcast_S_S8x8x2048x2048 (constant S_ .f32 0x3DB504F3#32))) (broadcastInDim S8x8x2048x2048 ![0, 1, 2, 3] bcast_S1x8x2048x2048_S8x8x2048x2048_0_1_2_3 (broadcastInDim S1x8x2048x2048 ![1, 2, 3] bcast_S8x2048x2048_S1x8x2048x2048_1_2_3 (bias T)))) (broadcastInDim S8x8x2048x2048 ![] bcast_S_S8x8x2048x2048 (id (constant S_ .f32 0xFF800000#32)))

/-- The scores of the latent queries against the context keys. -/
def preScore (A : FVec Ideal S18432x3072 .bf16) : FVec Ideal S8x8x2048x256 .f32 :=
  mulf (Host.dotGeneral dot_S8x2048x8x128_S8x256x8x128_S8x8x2048x256_3_3_1_1_02_02 none (latQ A) (ctxK A)) (broadcastInDim S8x8x2048x256 ![] bcast_S_S8x8x2048x256 (constant S_ .f32 0x3DB504F3#32))

/-- Both groups of scores of a latent query, the context first. -/
def allScore (A : FVec Ideal S18432x3072 .bf16) (T : FVec Ideal S8x15x31 .f32) : FVec Ideal S8x8x2048x2304 .f32 :=
  concatenate S8x8x2048x2304 3 [⟨S8x8x2048x256, (preScore A)⟩, ⟨S8x8x2048x2048, (winScore A T)⟩] concatenates_S8x8x2048x256_S8x8x2048x2048_S8x8x2048x2304_d3

/-- The largest score of a latent query. -/
def rowMax (A : FVec Ideal S18432x3072 .bf16) (T : FVec Ideal S8x15x31 .f32) : FVec Ideal S8x8x2048 .f32 :=
  maximumf (broadcastInDim S8x8x2048 ![] bcast_S_S8x8x2048 (constant S_ .f32 0xFF800000#32)) (Host.reduce FloatOps.maximumf (allScore A T) (constant S_ .f32 0xFF800000#32) reducesTo_S8x8x2048x2304_S8x8x2048_d3 h_S_)

/-- The exponentials of a latent query. -/
def expo (A : FVec Ideal S18432x3072 .bf16) (T : FVec Ideal S8x15x31 .f32) : FVec Ideal S8x8x2048x2304 .f32 :=
  Host.exp (subf (allScore A T) (broadcastInDim S8x8x2048x2304 ![0, 1, 2, 3] bcast_S8x8x2048x1_S8x8x2048x2304_0_1_2_3 (broadcastInDim S8x8x2048x1 ![0, 1, 2] bcast_S8x8x2048_S8x8x2048x1_0_1_2 (rowMax A T))))

/-- The sum of the exponentials of a latent query. -/
def rowSum (A : FVec Ideal S18432x3072 .bf16) (T : FVec Ideal S8x15x31 .f32) : FVec Ideal S8x8x2048 .f32 :=
  Host.reduceAdd (expo A T) (constant S_ .f32 0x00000000#32) reducesTo_S8x8x2048x2304_S8x8x2048_d3 h_S_

/-- The weights of a latent query. -/
def probs (A : FVec Ideal S18432x3072 .bf16) (T : FVec Ideal S8x15x31 .f32) : FVec Ideal S8x8x2048x2304 .f32 :=
  Host.divf (expo A T) (broadcastInDim S8x8x2048x2304 ![0, 1, 2, 3] bcast_S8x8x2048x1_S8x8x2048x2304_0_1_2_3 (broadcastInDim S8x8x2048x1 ![0, 1, 2] bcast_S8x8x2048_S8x8x2048x1_0_1_2 (rowSum A T)))

/-- The scores of the context queries. -/
def cScore (A : FVec Ideal S18432x3072 .bf16) : FVec Ideal S8x8x256x256 .f32 :=
  mulf (Host.dotGeneral dot_S8x256x8x128_S8x256x8x128_S8x8x256x256_3_3_1_1_02_02 none (ctxQ A) (ctxK A)) (broadcastInDim S8x8x256x256 ![] bcast_S_S8x8x256x256 (constant S_ .f32 0x3DB504F3#32))

/-- The largest score of a context query. -/
def cMax (A : FVec Ideal S18432x3072 .bf16) : FVec Ideal S8x8x256 .f32 :=
  maximumf (broadcastInDim S8x8x256 ![] bcast_S_S8x8x256 (constant S_ .f32 0xFF800000#32)) (Host.reduce FloatOps.maximumf (cScore A) (constant S_ .f32 0xFF800000#32) reducesTo_S8x8x256x256_S8x8x256_d3 h_S_)

/-- The exponentials of a context query. -/
def cExpo (A : FVec Ideal S18432x3072 .bf16) : FVec Ideal S8x8x256x256 .f32 :=
  Host.exp (subf (cScore A) (broadcastInDim S8x8x256x256 ![0, 1, 2, 3] bcast_S8x8x256x1_S8x8x256x256_0_1_2_3 (broadcastInDim S8x8x256x1 ![0, 1, 2] bcast_S8x8x256_S8x8x256x1_0_1_2 (cMax A))))

/-- The sum of the exponentials of a context query. -/
def cSum (A : FVec Ideal S18432x3072 .bf16) : FVec Ideal S8x8x256 .f32 :=
  Host.reduceAdd (cExpo A) (constant S_ .f32 0x00000000#32) reducesTo_S8x8x256x256_S8x8x256_d3 h_S_

/-- The weights of a context query. -/
def cProbs (A : FVec Ideal S18432x3072 .bf16) : FVec Ideal S8x8x256x256 .f32 :=
  Host.divf (cExpo A) (broadcastInDim S8x8x256x256 ![0, 1, 2, 3] bcast_S8x8x256x1_S8x8x256x256_0_1_2_3 (broadcastInDim S8x8x256x1 ![0, 1, 2] bcast_S8x8x256_S8x8x256x1_0_1_2 (cSum A)))

/-- The attention of the latent queries. -/
def latOut (A : FVec Ideal S18432x3072 .bf16) (T : FVec Ideal S8x15x31 .f32) : FVec Ideal S8x2048x8x128 .f32 :=
  addf (transpose S8x2048x8x128 [0, 3, 1, 2] (Host.dotGeneral dot_S8x256x8x128_S8x8x2048x256_S8x8x128x2048_1_3_3_2_02_01 none (ctxV A) (extractStridedSlice S8x8x2048x256 ![0, 0, 0, 0] (probs A T) slices_S8x8x2048x2304_S8x8x2048x256_0_0_0_0)) transposes_S8x8x128x2048_S8x2048x8x128_0_3_1_2) (transpose S8x2048x8x128 [0, 3, 1, 2] (Host.dotGeneral dot_S8x2048x8x128_S8x8x2048x2048_S8x8x128x2048_1_3_3_2_02_01 none (latV A) (extractStridedSlice S8x8x2048x2048 ![0, 0, 0, 256] (probs A T) slices_S8x8x2048x2304_S8x8x2048x2048_0_0_0_256)) transposes_S8x8x128x2048_S8x2048x8x128_0_3_1_2)

/-- The attention of the context queries. -/
def ctxOut (A : FVec Ideal S18432x3072 .bf16) : FVec Ideal S8x256x8x128 .f32 :=
  transpose S8x256x8x128 [0, 3, 1, 2] (Host.dotGeneral dot_S8x256x8x128_S8x8x256x256_S8x8x128x256_1_3_3_2_02_01 none (ctxV A) (cProbs A)) transposes_S8x8x128x256_S8x256x8x128_0_3_1_2

/-- The result of the reference. -/
def out (A : FVec Ideal S18432x3072 .bf16) (T : FVec Ideal S8x15x31 .f32) : FVec Ideal S18432x1024 .bf16 :=
  truncf .bf16 (concatenate S18432x1024 0 [⟨S16384x1024, (shapeCast _ (latOut A T) shapeCasts_S8x2048x8x128_S16384x1024)⟩, ⟨S2048x1024, (shapeCast _ (ctxOut A) shapeCasts_S8x256x8x128_S2048x1024)⟩] concatenates_S16384x1024_S2048x1024_S18432x1024_d0) bitsLt_bf16_f32

/-- The run's result is the last of the parts. -/
theorem result_eq (m : (ℓ : Loc nD τ sig) → Buf (Elt Ideal) ℓ) (c : Dev nD) :
    Cert.ReferenceIdeal.Value.res_main_v110 m c
      = out (m ((c.tc : Thread nD τ).loc main_arg0)) (m ((c.tc : Thread nD τ).loc main_arg1)) := rfl

end Cert.ReferenceIdeal.Parts

end
-- ==== Proof.Spread.lean ====
module

/-
The biases spread over the columns: at a query's column and a key's column within reach the bias of their distance,
at any other the lowest value.
-/

public import proofs.«01_k».proof.Proof.Run
public import Idealize.ShloMosaic.Lib.StableHlo.ReadAt
public import Idealize.ShloMosaic.Lib.Pointwise

@[expose] public section
set_option maxRecDepth 16384
noncomputable section
namespace Cert.KernelIdeal.Table

open Cert.KernelIdeal Cert.KernelIdeal.Gen
open Idealize.ShloMosaic Idealize.ShloMosaic.TcCoe Idealize.ShloMosaic.Tactic

/-- The first column that a query's column reaches. -/
def firstCol (q : ℕ) : ℕ := min 48 (q - 8)

/-- A key's column is within reach of a query's. -/
def ColOk (q k : ℕ) : Prop := firstCol q ≤ k ∧ k < firstCol q + 16

instance (q k : ℕ) : Decidable (ColOk q k) := by unfold ColOk; infer_instance

/-- The word that says so. -/
def colWord (q k : ℕ) : BitVec 1 :=
  IntOp.andi
    (IntOp.cmpi CmpIPredicate.sge (BitVec.ofNat 32 k)
      (IntOp.minsi 48#32 (IntOp.maxsi 0#32 (IntOp.subi (BitVec.ofNat 32 q) 8#32))))
    (IntOp.cmpi CmpIPredicate.slt (BitVec.ofNat 32 k)
      (IntOp.addi (IntOp.minsi 48#32 (IntOp.maxsi 0#32 (IntOp.subi (BitVec.ofNat 32 q) 8#32))) 16#32))

theorem colWord_eq : ∀ q k : Fin 64, colWord q.val k.val = if ColOk q.val k.val then 1#1 else 0#1 := by
  decide +kernel

/-- The word that says that a distance of columns is `x - 15`. -/
theorem distWord_eq (q k : Fin 64) (x : Fin 31) :
    IntOp.cmpi CmpIPredicate.eq (IntOp.addi (IntOp.subi (BitVec.ofNat 32 k.val) (BitVec.ofNat 32 q.val)) 15#32)
      (BitVec.ofNat 32 x.val) = if k.val + 15 = q.val + x.val then 1#1 else 0#1 := by
  have e : (BitVec.ofNat 32 k.val - BitVec.ofNat 32 q.val + 15#32 = BitVec.ofNat 32 x.val) ↔ k.val + 15 = q.val + x.val := by
    constructor <;> intro h <;> bv_omega
  show BitVec.ofBool (BitVec.ofNat 32 k.val - BitVec.ofNat 32 q.val + 15#32 == BitVec.ofNat 32 x.val) = _
  by_cases h : k.val + 15 = q.val + x.val
  · rw [if_pos h, e.mpr h, beq_self_eq_true]; rfl
  · rw [if_neg h, beq_eq_false_iff_ne.mpr fun g => h (e.mp g)]; rfl

variable (m : (ℓ : Loc nD τ sig) → Buf (Elt Ideal) ℓ)

/-- The relative biases. -/
def biases (c : Dev nD) : FVec Ideal S8x15x31 .f32 := m (c.tc.loc main_arg1)

/-- The buffers after the host code up to the spread biases. -/
abbrev early (m : (ℓ : Loc nD τ sig) → Buf (Elt Ideal) ℓ) (c : Dev nD) :=
  StableHlo.after (List.flatten [hostOps0 (F := Ideal), hostOps0_1, hostOps0_2, hostOps0_3]) (fun b => m (c, b))

theorem onehot_at (c : Dev nD) (h : Fin 8) (n : Fin 15) (q k : Fin 64) :
    (early m c (Proc.devRef .tc main_v31) : FVec Ideal S8x15x64x64 .f32) (ix4 h n q k) =
      ∑ x : Fin 31, biases m c (ix3 h n x) *
        (if k.val + 15 = q.val + x.val ∧ ColOk q.val k.val then (1 : EReal) else 0) := by
  after_reads_at
  refine Finset.sum_congr rfl fun x _ => ?_
  refine congrArg (biases m c (ix3 h n x) * ·) ?_
  show FloatOps.uitofp FTy.f32 (IntOp.andi (IntOp.cmpi CmpIPredicate.eq (IntOp.addi (IntOp.subi (BitVec.ofNat 32 k.val) (BitVec.ofNat 32 q.val)) 15#32)
      (BitVec.ofNat 32 x.val)) (colWord q.val k.val)) = _
  rw [distWord_eq, colWord_eq]
  by_cases h1 : k.val + 15 = q.val + x.val <;> by_cases h2 : ColOk q.val k.val <;> simp [h1, h2, IntOp.andi, FloatOps.uitofp]

theorem mask_at (c : Dev nD) (q k : Fin 64) :
    (early m c (Proc.devRef .tc main_v32) : FVec Ideal S64x64 .f32) (ix2 q k) = if ColOk q.val k.val then (0 : EReal) else ⊥ := by
  after_reads_at
  show Scalar.select (colWord q.val k.val) (0 : EReal) (Ideal.ofBits FTy.f32 4286578688#32) = _
  rw [colWord_eq]
  by_cases h2 : ColOk q.val k.val <;> simp [h2, Scalar.select, Ideal.ofBits, Ideal.ieee]

end Cert.KernelIdeal.Table
end
-- ==== Proof.RefWin.lean ====
module

/-
Which keys the reference lets a query reach, and the bias it gives the two.
-/

public import proofs.«01_k».proof.Proof.RefParts
public import proofs.«01_k».proof.Proof.Spread

@[expose] public section
set_option maxRecDepth 16384
noncomputable section
namespace Cert.ReferenceIdeal.Parts

open Cert.ReferenceIdeal Cert.ReferenceIdeal.Gen
open Cert.KernelIdeal.Table (firstCol ColOk colWord colWord_eq)
open Idealize.ShloMosaic Idealize.ShloMosaic.TcCoe Idealize.ShloMosaic.Tactic

/-- The gather at an index: the table at the head's plane, in the row and the column that the index words name. -/
theorem gather_at (T : FVec Ideal S8x15x31 .f32) (I : IVec S32x64x32x64x2 32) (h : Fin 8) (a : Fin 32) (q : Fin 64)
    (b : Fin 32) (k : Fin 64) (n : Fin 15) (e : Fin 31) (hn : I (ix5 a q b k 0) = BitVec.ofNat 32 n.val)
    (he : I (ix5 a q b k 1) = BitVec.ofNat 32 e.val) :
    Host.gather gather_S8x15x31_S32x64x32x64x2_S8x32x64x32x64_0_12_n_n_12_4_811 T I (ix5 h a q b k) = T (ix3 h n e) := by
  unfold Host.gather
  congr 1
  set d := gather_S8x15x31_S32x64x32x64x2_S8x32x64x32x64_0_12_n_n_12_4_811 with hd
  have s0 : d.siIdx (ix5 h a q b k) ⟨0, by decide⟩ = ix5 a q b k 0 := by
    funext x; refine Fin.ext ?_; fin_cases x <;> rfl
  have s1 : d.siIdx (ix5 h a q b k) ⟨1, by decide⟩ = ix5 a q b k 1 := by
    funext x; refine Fin.ext ?_; fin_cases x <;> rfl
  have t0 : d.start (ix5 h a q b k) I 0 = 0 := rfl
  have t1 : d.start (ix5 h a q b k) I 1 = n.val := by
    show min (I (d.siIdx (ix5 h a q b k) ⟨0, by decide⟩)).toInt.toNat 14 = n.val
    rw [s0, hn]; clear hn; revert n; decide
  have t2 : d.start (ix5 h a q b k) I 2 = e.val := by
    show min (I (d.siIdx (ix5 h a q b k) ⟨1, by decide⟩)).toInt.toNat 30 = e.val
    rw [s1, he]; clear he; revert e; decide
  funext x
  refine Fin.ext ?_
  show d.start (ix5 h a q b k) I x + d.batchCoord (ix5 h a q b k) x + d.offCoord (ix5 h a q b k) x = (ix3 h n e x).val
  fin_cases x
  · show d.start _ I 0 + 0 + h.val = h.val
    rw [t0]; omega
  · show d.start _ I 1 + 0 + 0 = n.val
    rw [t1]; rfl
  · show d.start _ I 2 + 0 + 0 = e.val
    rw [t2]; rfl

/-- The first row that a query's row reaches. -/
def firstRow (q : ℕ) : ℕ := min 24 (q - 4)

/-- A key's row is within reach of a query's. -/
def RowOk (q k : ℕ) : Prop := firstRow q ≤ k ∧ k < firstRow q + 8

instance (q k : ℕ) : Decidable (RowOk q k) := by unfold RowOk; infer_instance

/-- The word that says so. -/
def rowWord (q k : ℕ) : BitVec 1 :=
  IntOp.andi
    (IntOp.cmpi CmpIPredicate.sge (BitVec.ofNat 32 k)
      (IntOp.minsi 24#32 (IntOp.maxsi 0#32 (IntOp.subi (BitVec.ofNat 32 q) 4#32))))
    (IntOp.cmpi CmpIPredicate.slt (BitVec.ofNat 32 k)
      (IntOp.addi (IntOp.minsi 24#32 (IntOp.maxsi 0#32 (IntOp.subi (BitVec.ofNat 32 q) 4#32))) 8#32))

theorem rowWord_eq : ∀ q k : Fin 32, rowWord q.val k.val = if RowOk q.val k.val then 1#1 else 0#1 := by
  decide +kernel

/-- The word of a row of the bias table: a distance clamped into it. -/
def rowOffWord (q k : ℕ) : BitVec 32 :=
  Scalar.select (IntOp.cmpi CmpIPredicate.slt (IntOp.minsi 14#32 (IntOp.maxsi 0#32 (IntOp.addi (IntOp.subi (BitVec.ofNat 32 k) (BitVec.ofNat 32 q)) 7#32))) 0#32)
    (IntOp.addi (IntOp.minsi 14#32 (IntOp.maxsi 0#32 (IntOp.addi (IntOp.subi (BitVec.ofNat 32 k) (BitVec.ofNat 32 q)) 7#32))) 15#32)
    (IntOp.minsi 14#32 (IntOp.maxsi 0#32 (IntOp.addi (IntOp.subi (BitVec.ofNat 32 k) (BitVec.ofNat 32 q)) 7#32)))

theorem rowOffWord_eq : ∀ q k : Fin 32, ∀ n : Fin 15, n.val + q.val = k.val + 7 →
    rowOffWord q.val k.val = BitVec.ofNat 32 n.val := by
  decide +kernel

/-- The word of a column of it. -/
def colOffWord (q k : ℕ) : BitVec 32 :=
  Scalar.select (IntOp.cmpi CmpIPredicate.slt (IntOp.minsi 30#32 (IntOp.maxsi 0#32 (IntOp.addi (IntOp.subi (BitVec.ofNat 32 k) (BitVec.ofNat 32 q)) 15#32))) 0#32)
    (IntOp.addi (IntOp.minsi 30#32 (IntOp.maxsi 0#32 (IntOp.addi (IntOp.subi (BitVec.ofNat 32 k) (BitVec.ofNat 32 q)) 15#32))) 31#32)
    (IntOp.minsi 30#32 (IntOp.maxsi 0#32 (IntOp.addi (IntOp.subi (BitVec.ofNat 32 k) (BitVec.ofNat 32 q)) 15#32)))

theorem colOffWord_near : ∀ q k : Fin 64, k.val + 15 < q.val + 31 → q.val ≤ k.val + 15 →
    colOffWord q.val k.val = BitVec.ofNat 32 (k.val + 15 - q.val) := by
  decide +kernel

theorem colOffWord_eq (q k : Fin 64) (e : Fin 31) (h : e.val + q.val = k.val + 15) :
    colOffWord q.val k.val = BitVec.ofNat 32 e.val := by
  rw [colOffWord_near q k (by omega) (by omega)]; congr 1; omega

theorem rowOff_at (a : Fin 32) (q : Fin 64) (b : Fin 32) (k : Fin 64) :
    rowOff (ix4 a q b k) = rowOffWord a.val b.val := by
  pointwise [rowOff]; rfl

theorem colOff_at (a : Fin 32) (q : Fin 64) (b : Fin 32) (k : Fin 64) :
    colOff (ix4 a q b k) = colOffWord q.val k.val := by
  pointwise [colOff]; rfl

/-- The bias of a query and a key within the table. -/
theorem bias_at (T : FVec Ideal S8x15x31 .f32) (h : Fin 8) (q k : Fin 2048) (n : Fin 15) (e : Fin 31)
    (hn : n.val + q.val / 64 = k.val / 64 + 7) (he : e.val + q.val % 64 = k.val % 64 + 15) :
    bias T (ix3 h q k) = T (ix3 h n e) := by
  pointwise [bias]
  refine gather_at T _ h ⟨q.val / 64, by omega⟩ ⟨q.val % 64, by omega⟩ ⟨k.val / 64, by omega⟩ ⟨k.val % 64, by omega⟩ n e ?_ ?_
  · pointwise [rowOff]
    exact rowOffWord_eq ⟨q.val / 64, by omega⟩ ⟨k.val / 64, by omega⟩ n hn
  · pointwise [colOff]
    exact colOffWord_eq ⟨q.val % 64, by omega⟩ ⟨k.val % 64, by omega⟩ e he

theorem inWin_at (q k : Fin 2048) :
    inWin (ix2 q k) = if RowOk (q.val / 64) (k.val / 64) ∧ ColOk (q.val % 64) (k.val % 64) then 1#1 else 0#1 := by
  have e : inWin (ix2 q k) = IntOp.andi (rowWord (q.val / 64) (k.val / 64)) (colWord (q.val % 64) (k.val % 64)) := by
    have assoc : ∀ x y z w : BitVec 1, IntOp.andi (IntOp.andi (IntOp.andi x y) z) w = IntOp.andi (IntOp.andi x y) (IntOp.andi z w) := by decide
    pointwise [inWin]
    exact assoc _ _ _ _
  rw [e, rowWord_eq ⟨q.val / 64, by omega⟩ ⟨k.val / 64, by omega⟩, colWord_eq ⟨q.val % 64, by omega⟩ ⟨k.val % 64, by omega⟩]
  by_cases h1 : RowOk (q.val / 64) (k.val / 64) <;> by_cases h2 : ColOk (q.val % 64) (k.val % 64) <;> simp [h1, h2, IntOp.andi]

end Cert.ReferenceIdeal.Parts
end
-- ==== Proof.Attn.lean ====
/- Softmax attention of one query over a finite set of keys, in the extended reals. -/
module

public import Idealize.ShloMosaic.Lib.Pointwise

@[expose] public section

noncomputable section

namespace Cert.Attn

open Idealize.ShloMosaic

variable {ι κ : Type} [Fintype ι] [Fintype κ]

/-- The largest score. -/
def top (s : ι → EReal) : EReal := Finset.univ.sup s

/-- The sum of the exponentials of the scores, each less the largest. -/
def mass (s : ι → EReal) : EReal := ∑ i, Ideal.exp (s i - top s)

/-- The attention of a query with the scores `s` over keys with the values `v`. -/
def attn (s v : ι → EReal) : EReal := Ideal.div (∑ i, Ideal.exp (s i - top s) * v i) (mass s)

theorem le_top (s : ι → EReal) (i : ι) : s i ≤ top s := Finset.le_sup (f := s) (Finset.mem_univ i)

theorem top_le {s : ι → EReal} {b : EReal} (h : ∀ i, s i ≤ b) : top s ≤ b := Finset.sup_le fun i _ => h i

/-- A running maximum from minus infinity is the largest score. -/
theorem fold_eq (s : ι → EReal) : Finset.univ.fold max ⊥ s = top s := rfl

/-- A masked key's exponential is zero whatever is subtracted. -/
theorem exp_masked (x : EReal) : Ideal.exp (⊥ - x) = 0 := by
  rw [sub_eq_add_neg, EReal.bot_add, Ideal.exp_bot]

theorem exp_nonneg (x : EReal) : 0 ≤ Ideal.exp x := by
  induction x with
  | bot => exact le_refl _
  | top => exact EReal.zero_lt_top.le
  | coe r => exact EReal.coe_nonneg.mpr (Real.exp_pos r).le

/-- Keys outside the range of `f` with score minus infinity leave the largest score. -/
theorem top_extend {f : ι → κ} (s : κ → EReal) (h : ∀ k, k ∉ Set.range f → s k = ⊥) :
    top (fun i => s (f i)) = top s := by
  refine le_antisymm (top_le fun i => le_top s (f i)) (top_le fun k => ?_)
  by_cases hk : k ∈ Set.range f
  · obtain ⟨i, rfl⟩ := hk
    exact le_top (fun i => s (f i)) i
  · rw [h k hk]; exact bot_le

/-- They leave the attention too. -/
theorem attn_extend {f : ι → κ} (hf : Function.Injective f) (s v : κ → EReal)
    (h : ∀ k, k ∉ Set.range f → s k = ⊥) : attn (fun i => s (f i)) (fun i => v (f i)) = attn s v := by
  unfold attn mass
  rw [top_extend s h]
  congr 1
  · exact Fintype.sum_of_injective f hf _ _ (fun k hk => by rw [h k hk, exp_masked, zero_mul]) fun _ => rfl
  · exact Fintype.sum_of_injective f hf _ _ (fun k hk => by rw [h k hk, exp_masked]) fun _ => rfl

theorem inv_ne_top (x : EReal) : x⁻¹ ≠ ⊤ := by
  induction x with
  | bot => simp
  | top => simp
  | coe r => rw [← EReal.coe_inv]; exact EReal.coe_ne_top _

/-- A sum scaled by a number from zero up to but not infinity. -/
theorem sum_scale (g : ι → EReal) {c : EReal} (h0 : 0 ≤ c) (h1 : c ≠ ⊤) : (∑ i, g i) * c = ∑ i, g i * c := by
  classical
  induction (Finset.univ : Finset ι) using Finset.induction_on with
  | empty => simp
  | insert a t ha ih =>
    rw [Finset.sum_insert ha, Finset.sum_insert ha, EReal.right_distrib_of_nonneg_of_ne_top h0 h1, ih]

theorem mass_nonneg (s : ι → EReal) : 0 ≤ mass s := Finset.sum_nonneg fun _ _ => exp_nonneg _

/-- Where the sum of the exponentials is not zero, weighting the values by the normalized exponentials is the attention. -/
theorem sum_weights (s v : ι → EReal) (h : mass s ≠ 0) :
    ∑ i, v i * Ideal.div (Ideal.exp (s i - top s)) (mass s) = attn s v := by
  unfold attn Ideal.div
  rw [if_neg h, sum_scale _ (EReal.inv_nonneg_of_nonneg (mass_nonneg s)) (inv_ne_top _)]
  refine Finset.sum_congr rfl fun i _ => ?_
  rw [if_neg h, ← mul_assoc, mul_comm (v i)]

/-- Where no score is plus infinity and some score is not minus infinity, the sum of the exponentials is not zero. -/
theorem mass_ne_zero (s : ι → EReal) (i : ι) (hi : s i ≠ ⊥) (ht : ∀ j, s j ≠ ⊤) : mass s ≠ 0 := by
  obtain ⟨j, -, hj⟩ := Finset.exists_mem_eq_sup (Finset.univ : Finset ι) ⟨i, Finset.mem_univ i⟩ s
  have hb : s j ≠ ⊥ := fun e => hi (le_bot_iff.mp ((le_top s i).trans (by rw [top, hj, e])))
  have h1 : Ideal.exp (s j - top s) = 1 := by
    rw [top, hj, EReal.sub_self (ht j) hb]
    show ((Real.exp 0 : ℝ) : EReal) = 1
    rw [Real.exp_zero]; rfl
  have h2 : Ideal.exp (s j - top s) ≤ mass s :=
    Finset.single_le_sum (f := fun k => Ideal.exp (s k - top s)) (fun k _ => exp_nonneg _) (Finset.mem_univ j)
  intro h0
  rw [h1, h0] at h2
  exact absurd h2 (not_le.mpr zero_lt_one)

/-- The keys of a query: a context of `n` keys, then three blocks of `n` keys. -/
abbrev Keys (n : ℕ) : Type := Fin n ⊕ Fin 3 × Fin n

/-- The largest score, taken block after block. -/
theorem top_blocks {n : ℕ} (s : Keys n → EReal) :
    top s = max (max (max (top fun j => s (.inl j)) (top fun j => s (.inr (0, j)))) (top fun j => s (.inr (1, j))))
      (top fun j => s (.inr (2, j))) := by
  refine le_antisymm (top_le fun k => ?_) ?_
  · rcases k with j | ⟨e, j⟩
    · exact (le_top (fun j => s (.inl j)) j).trans (by simp)
    · fin_cases e
      · exact (le_top (fun j => s (.inr (0, j))) j).trans (by simp)
      · exact (le_top (fun j => s (.inr (1, j))) j).trans (by simp)
      · exact (le_top (fun j => s (.inr (2, j))) j).trans (by simp)
  · exact max_le (max_le (max_le (top_le fun _ => le_top s _) (top_le fun _ => le_top s _)) (top_le fun _ => le_top s _))
      (top_le fun _ => le_top s _)

/-- A sum over the keys, taken block after block. -/
theorem sum_blocks {n : ℕ} (g : Keys n → EReal) :
    ∑ k, g k = ((∑ j, g (.inl j) + ∑ j, g (.inr (0, j))) + ∑ j, g (.inr (1, j))) + ∑ j, g (.inr (2, j)) := by
  rw [Fintype.sum_sum_type, Fintype.sum_prod_type, Fin.sum_univ_three, ← add_assoc, ← add_assoc]

end Cert.Attn

end
-- ==== Proof.Head.lean ====
module

/-
What the kernel's body leaves at one grid point: each of its four heads writes, at a query's row, the
softmax of the scores of the keys before it, applied to their values.
-/

public import proofs.«01_k».proof.Proof.Run
public import proofs.«01_k».proof.Proof.Attn
public import Idealize.ShloMosaic.Lib.Pipeline.ValueKit
public import Idealize.ShloMosaic.Lib.Pointwise

@[expose] public section
set_option maxRecDepth 16384
noncomputable section
namespace Cert.KernelIdeal.Head

open Cert.KernelIdeal Cert.KernelIdeal.Gen Cert.KernelIdeal.Run Cert.Attn
open Idealize.ShloMosaic Idealize.ShloMosaic.TcCoe Idealize.ShloMosaic.Tactic

/-- The word the maxima begin with is the least value. -/
theorem lowest : Ideal.ofBits .f32 0xFF800000#32 = ⊥ := by
  simp [Ideal.ofBits, Ideal.ieee]

/-- The factor the scores are multiplied with. -/
def scale : EReal := Ideal.ofBits .f32 0x3DB504F3#32

/-- A query's row against a key's row, scaled. -/
def dot (q k : Vec Ideal S256x128 .bf16) (i j : Fin 256) : EReal := (∑ x : Fin 128, q (ix2 i x) * k (ix2 j x)) * scale

theorem pay2_at (q k : Vec Ideal S256x128 .bf16) (i j : Fin 256) : k0_pay2 q k (ix2 i j) = dot q k i j := by
  pointwise [k0_pay2]
  rfl

theorem pay3_at (q k : Vec Ideal S256x128 .bf16) (t) (i j : Fin 256) :
    k0_pay3 q k t (ix2 i j) = dot q k i j + t (ix4 0 0 i j) := by
  pointwise [k0_pay3]
  rfl

theorem pay4_at (q k : Vec Ideal S256x128 .bf16) (t) (i j : Fin 256) :
    k0_pay4 q k t (ix2 i j) = dot q k i j + t (ix4 0 0 i j) := by
  pointwise [k0_pay4]
  rfl

theorem pay7_at (q k : Vec Ideal S256x128 .bf16) (t) (i j : Fin 256) :
    k0_pay7 (k0_pay6 q k) t (ix2 i j) = dot q k i j + t (ix4 0 0 i j) := by
  pointwise [k0_pay7, k0_pay6]
  rfl

/-- The largest score of the context's keys and the first two blocks'. -/
theorem pay5_at (q k k0 k1 : Vec Ideal S256x128 .bf16) (t0 t1) (i : Fin 256) :
    k0_pay5 q q k k0 t0 k1 t1 (ix2 i (0 : Fin 1)) =
      max (max (top fun j => dot q k i j) (top fun j => dot q k0 i j + t0 (ix4 0 0 i j)))
        (top fun j => dot q k1 i j + t1 (ix4 0 0 i j)) := by
  pointwise [k0_pay5]
  simp only [pay2_at, pay3_at, pay4_at, lowest, fold_eq]

/-- The largest score of all of them. -/
theorem pay8_at (m : FVec Ideal S256x1 .f32) (q k : Vec Ideal S256x128 .bf16) (t) (i : Fin 256) :
    k0_pay8 m (k0_pay6 q k) t (ix2 i (0 : Fin 1)) =
      max (m (ix2 i (0 : Fin 1))) (top fun j => dot q k i j + t (ix4 0 0 i j)) := by
  pointwise [k0_pay8]
  simp only [pay7_at, lowest, fold_eq]

/-- What one head writes for image tokens: `q` the queries, `kc`, `k0`, `k1`, `k2` the keys of the context and of
    three blocks, `vc`, `v0`, `v1`, `v2` their values, `t0`, `t1`, `t2` what is added to the blocks' scores. -/
def headLat (q kc k0 k1 k2 vc v0 v1 v2 : Vec Ideal S256x128 .bf16) (t0 t1 t2 : Vec Ideal S1x1x256x256 .f32) :
    FVec Ideal S256x128 .bf16 :=
  k0_pay16 (k0_pay12 (k0_pay2 q kc) (k0_pay3 q k0 t0) (k0_pay4 q k1 t1) (k0_pay5 q q kc k0 t0 k1 t1) (k0_pay6 q k2) t2)
    (k0_pay13 (k0_pay2 q kc) (k0_pay3 q k0 t0) (k0_pay4 q k1 t1) (k0_pay5 q q kc k0 t0 k1 t1) (k0_pay6 q k2) t2 vc v0 v1)
    (k0_pay14 (k0_pay5 q q kc k0 t0 k1 t1) (k0_pay6 q k2) t2) (k0_pay15 (k0_pay5 q q kc k0 t0 k1 t1) (k0_pay6 q k2) t2) v2

/-- The scores of a query's keys. -/
def latScore (q kc : Vec Ideal S256x128 .bf16) (k : Fin 3 → Vec Ideal S256x128 .bf16)
    (t : Fin 3 → Vec Ideal S1x1x256x256 .f32) (i : Fin 256) : Keys 256 → EReal :=
  Sum.elim (fun j => dot q kc i j) fun p => dot q (k p.1) i p.2 + t p.1 (ix4 0 0 i p.2)

/-- The values of a query's keys. -/
def latValue (vc : Vec Ideal S256x128 .bf16) (v : Fin 3 → Vec Ideal S256x128 .bf16) (d : Fin 128) : Keys 256 → EReal :=
  Sum.elim (fun j => vc (ix2 j d)) fun p => v p.1 (ix2 p.2 d)

theorem top_lat (q kc : Vec Ideal S256x128 .bf16) (k : Fin 3 → Vec Ideal S256x128 .bf16)
    (t : Fin 3 → Vec Ideal S1x1x256x256 .f32) (i : Fin 256) :
    k0_pay8 (k0_pay5 q q kc (k 0) (t 0) (k 1) (t 1)) (k0_pay6 q (k 2)) (t 2) (ix2 i (0 : Fin 1)) =
      top (latScore q kc k t i) := by
  rw [pay8_at, pay5_at, top_blocks]
  rfl

/-- A head's entry: the softmax of the scores, applied to the values. -/
theorem headLat_at (q kc : Vec Ideal S256x128 .bf16) (k : Fin 3 → Vec Ideal S256x128 .bf16) (vc : Vec Ideal S256x128 .bf16)
    (v : Fin 3 → Vec Ideal S256x128 .bf16) (t : Fin 3 → Vec Ideal S1x1x256x256 .f32) (i : Fin 256) (d : Fin 128) :
    headLat q kc (k 0) (k 1) (k 2) vc (v 0) (v 1) (v 2) (t 0) (t 1) (t 2) (ix2 i d) =
      attn (latScore q kc k t i) (latValue vc v d) := by
  unfold headLat attn mass
  rw [sum_blocks, sum_blocks]
  pointwise [k0_pay16, k0_pay12, k0_pay13, k0_pay14, k0_pay15, k0_pay9, k0_pay10, k0_pay11]
  simp only [top_lat, pay2_at, pay3_at, pay4_at, pay7_at]
  rfl

theorem inb_col (g : Fin 4) (a : Fin 2) : (![0, g.val * 128] : Fin 2 → ℕ) a + (![256, 128] : Fin 2 → ℕ) a ≤ S256x512.size a := by
  revert g a; decide

theorem inb_tcol (g : Fin 4) (e : Fin 3) (a : Fin 4) :
    (![g.val, 0, 0, e.val * 256] : Fin 4 → ℕ) a + (![1, 1, 256, 256] : Fin 4 → ℕ) a ≤ S4x1x256x768.size a := by
  revert g e a; decide

/-- The columns of head `g`. -/
def col (x : Vec Ideal S256x512 .bf16) (g : Fin 4) : Vec Ideal S256x128 .bf16 :=
  View.ld x (Rect.unit ![0, g.val * 128] ![256, 128] (inb_col g))

/-- What is added to the scores of head `g` at the keys of block `e`. -/
def tcol (x : Vec Ideal S4x1x256x768 .f32) (g : Fin 4) (e : Fin 3) : Vec Ideal S1x1x256x256 .f32 :=
  View.ld x (Rect.unit ![g.val, 0, 0, e.val * 256] ![1, 1, 256, 256] (inb_tcol g e))

theorem col_at (x : Vec Ideal S256x512 .bf16) (g : Fin 4) (r : Fin 256) (d : Fin 128) :
    col x g (ix2 r d) = x (ix2 r ⟨g.val * 128 + d.val, by omega⟩) := by
  unfold col
  refine congrArg x ?_
  funext a
  match a with
  | 0 => exact Fin.ext (by show 0 + 1 * r.val = r.val; omega)
  | 1 => exact Fin.ext (by show g.val * 128 + 1 * d.val = g.val * 128 + d.val; omega)

theorem tcol_at (x : Vec Ideal S4x1x256x768 .f32) (g : Fin 4) (e : Fin 3) (r : Fin 256) (d : Fin 256) :
    tcol x g e (ix4 0 0 r d) = x (ix4 g 0 r ⟨e.val * 256 + d.val, by omega⟩) := by
  unfold tcol
  refine congrArg x ?_
  funext a
  match a with
  | 0 => exact Fin.ext (by show g.val + 1 * 0 = g.val; omega)
  | 1 => rfl
  | 2 => exact Fin.ext (by show 0 + 1 * r.val = r.val; omega)
  | 3 => exact Fin.ext (by show e.val * 256 + 1 * d.val = e.val * 256 + d.val; omega)

variable (m : (ℓ : Loc nD τ sig) → Buf (Elt Ideal) ℓ)

set_option maxHeartbeats 4000000 in
/-- What the body leaves for image tokens, at the columns of head `g`. -/
theorem leftLat_head (c : Dev nD) (t : Fin cfg0.N) (h : t.val / 8 % 9 ≤ 7) (y : S256x512.Idx) (g : Fin 4) (r : Fin 256)
    (d : Fin 128) (hy0 : (y 0).val = r.val) (hy1 : (y 1).val = g.val * 128 + d.val) :
    leftLat m c t h y = headLat (col (iblk m c 0 t) g) (col (iblk m c 7 t) g) (col (iblk m c 1 t) g)
      (col (iblk m c 2 t) g) (col (iblk m c 3 t) g) (col (iblk m c 8 t) g) (col (iblk m c 4 t) g)
      (col (iblk m c 5 t) g) (col (iblk m c 6 t) g) (tcol (iblk m c 9 t) g 0) (tcol (iblk m c 9 t) g 1)
      (tcol (iblk m c 9 t) g 2) (ix2 r d) := by
  unfold leftLat runLat
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  canon_tiles y hh
  · obtain rfl : g = 3 := Fin.ext (by show g.val = 3; omega)
    have : ix2 r d = y := by
      funext a; match a with
      | 0 => exact Fin.ext (by show r.val = (y 0).val; omega)
      | 1 => exact Fin.ext (by show d.val = (y 1).val; omega)
    rw [this]
    rfl
  · obtain rfl : g = 2 := Fin.ext (by show g.val = 2; omega)
    have : ix2 r d = y := by
      funext a; match a with
      | 0 => exact Fin.ext (by show r.val = (y 0).val; omega)
      | 1 => exact Fin.ext (by show d.val = (y 1).val; omega)
    rw [this]
    rfl
  · obtain rfl : g = 1 := Fin.ext (by show g.val = 1; omega)
    have : ix2 r d = y := by
      funext a; match a with
      | 0 => exact Fin.ext (by show r.val = (y 0).val; omega)
      | 1 => exact Fin.ext (by show d.val = (y 1).val; omega)
    rw [this]
    rfl
  · obtain rfl : g = 0 := Fin.ext (by show g.val = 0; omega)
    have : ix2 r d = y := by
      funext a; match a with
      | 0 => exact Fin.ext (by show r.val = (y 0).val; omega)
      | 1 => exact Fin.ext (by show d.val = (y 1).val; omega)
    rw [this]
    rfl

/-- What one head writes for the context's tokens. -/
def headCtx (q kc vc : Vec Ideal S256x128 .bf16) : FVec Ideal S256x128 .bf16 := k0_pay50 q kc vc

/-- A head's entry: the softmax of the context's scores, applied to the context's values. -/
theorem headCtx_at (q kc vc : Vec Ideal S256x128 .bf16) (i : Fin 256) (d : Fin 128) :
    headCtx q kc vc (ix2 i d) = attn (fun j => dot q kc i j) fun j => vc (ix2 j d) := by
  unfold headCtx attn mass
  pointwise [k0_pay50]
  simp only [lowest, fold_eq]
  rfl

set_option maxHeartbeats 4000000 in
/-- What the body leaves for the context, at the columns of head `g`. -/
theorem leftCtx_head (c : Dev nD) (t : Fin cfg0.N) (h : ¬ t.val / 8 % 9 ≤ 7) (y : S256x512.Idx) (g : Fin 4) (r : Fin 256)
    (d : Fin 128) (hy0 : (y 0).val = r.val) (hy1 : (y 1).val = g.val * 128 + d.val) :
    leftCtx m c t h y = headCtx (col (iblk m c 0 t) g) (col (iblk m c 7 t) g) (col (iblk m c 8 t) g) (ix2 r d) := by
  unfold leftCtx runCtx
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  canon_tiles y hh
  · obtain rfl : g = 3 := Fin.ext (by show g.val = 3; omega)
    have : ix2 r d = y := by
      funext a; match a with
      | 0 => exact Fin.ext (by show r.val = (y 0).val; omega)
      | 1 => exact Fin.ext (by show d.val = (y 1).val; omega)
    rw [this]
    rfl
  · obtain rfl : g = 2 := Fin.ext (by show g.val = 2; omega)
    have : ix2 r d = y := by
      funext a; match a with
      | 0 => exact Fin.ext (by show r.val = (y 0).val; omega)
      | 1 => exact Fin.ext (by show d.val = (y 1).val; omega)
    rw [this]
    rfl
  · obtain rfl : g = 1 := Fin.ext (by show g.val = 1; omega)
    have : ix2 r d = y := by
      funext a; match a with
      | 0 => exact Fin.ext (by show r.val = (y 0).val; omega)
      | 1 => exact Fin.ext (by show d.val = (y 1).val; omega)
    rw [this]
    rfl
  · obtain rfl : g = 0 := Fin.ext (by show g.val = 0; omega)
    have : ix2 r d = y := by
      funext a; match a with
      | 0 => exact Fin.ext (by show r.val = (y 0).val; omega)
      | 1 => exact Fin.ext (by show d.val = (y 1).val; omega)
    rw [this]
    rfl

end Cert.KernelIdeal.Head

end
-- ==== Proof.RefAt.lean ====
module

/-
The reference at an element of its result: the attention of the element's query, in the element's head and lane.
-/

public import proofs.«01_k».proof.Proof.RefWin
public import proofs.«01_k».proof.Proof.Head

@[expose] public section
set_option maxRecDepth 16384
noncomputable section
namespace Cert.ReferenceIdeal.Parts

open Cert.ReferenceIdeal Cert.ReferenceIdeal.Gen Cert.Attn
open Cert.KernelIdeal.Table (firstCol ColOk)
open Cert.KernelIdeal.Head (scale lowest)
open Idealize.ShloMosaic Idealize.ShloMosaic.TcCoe Idealize.ShloMosaic.Tactic

/-- The row of a latent token. -/
def latRow (b : Fin 8) (n : Fin 2048) : Fin 18432 := ⟨b.val * 2048 + n.val, by omega⟩

/-- The row of a context token. -/
def ctxRow (b : Fin 8) (n : Fin 256) : Fin 18432 := ⟨16384 + (b.val * 256 + n.val), by omega⟩

/-- The scaled product of the query in the row `R` with the key in the row `K`. -/
def prod (A : FVec Ideal S18432x3072 .bf16) (h : Fin 8) (R K : Fin 18432) : EReal :=
  (∑ x : Fin 128, A (ix2 R ⟨h.val * 128 + x.val, by omega⟩) * A (ix2 K ⟨1024 + (h.val * 128 + x.val), by omega⟩)) * scale

/-- The value in the row `K`. -/
def val (A : FVec Ideal S18432x3072 .bf16) (h : Fin 8) (d : Fin 128) (K : Fin 18432) : EReal :=
  A (ix2 K ⟨2048 + (h.val * 128 + d.val), by omega⟩)

variable (A : FVec Ideal S18432x3072 .bf16) (T : FVec Ideal S8x15x31 .f32)

theorem latQ_at (b : Fin 8) (n : Fin 2048) (h : Fin 8) (d : Fin 128) :
    latQ A (ix4 b n h d) = A (ix2 (latRow b n) ⟨h.val * 128 + d.val, by omega⟩) := by
  pointwise [latQ]
  refine congrArg A (congrArg₂ ix2 (Fin.ext ?_) (Fin.ext ?_)) <;> (try simp only [latRow]) <;> (try omega)

theorem latK_at (b : Fin 8) (n : Fin 2048) (h : Fin 8) (d : Fin 128) :
    latK A (ix4 b n h d) = A (ix2 (latRow b n) ⟨1024 + (h.val * 128 + d.val), by omega⟩) := by
  pointwise [latK]
  refine congrArg A (congrArg₂ ix2 (Fin.ext ?_) (Fin.ext ?_)) <;> (try simp only [latRow]) <;> (try omega)

theorem latV_at (b : Fin 8) (n : Fin 2048) (h : Fin 8) (d : Fin 128) : latV A (ix4 b n h d) = val A h d (latRow b n) := by
  pointwise [latV]
  refine congrArg A (congrArg₂ ix2 (Fin.ext ?_) (Fin.ext ?_)) <;> (try simp only [latRow]) <;> (try omega)

theorem ctxQ_at (b : Fin 8) (n : Fin 256) (h : Fin 8) (d : Fin 128) :
    ctxQ A (ix4 b n h d) = A (ix2 (ctxRow b n) ⟨h.val * 128 + d.val, by omega⟩) := by
  pointwise [ctxQ]
  refine congrArg A (congrArg₂ ix2 (Fin.ext ?_) (Fin.ext ?_)) <;> (try simp only [ctxRow]) <;> (try omega)

theorem ctxK_at (b : Fin 8) (n : Fin 256) (h : Fin 8) (d : Fin 128) :
    ctxK A (ix4 b n h d) = A (ix2 (ctxRow b n) ⟨1024 + (h.val * 128 + d.val), by omega⟩) := by
  pointwise [ctxK]
  refine congrArg A (congrArg₂ ix2 (Fin.ext ?_) (Fin.ext ?_)) <;> (try simp only [ctxRow]) <;> (try omega)

theorem ctxV_at (b : Fin 8) (n : Fin 256) (h : Fin 8) (d : Fin 128) : ctxV A (ix4 b n h d) = val A h d (ctxRow b n) := by
  pointwise [ctxV]
  refine congrArg A (congrArg₂ ix2 (Fin.ext ?_) (Fin.ext ?_)) <;> (try simp only [ctxRow]) <;> (try omega)

theorem preScore_at (b h : Fin 8) (q : Fin 2048) (k : Fin 256) :
    preScore A (ix4 b h q k) = prod A h (latRow b q) (ctxRow b k) := by
  pointwise [preScore]
  simp only [latQ_at, ctxK_at]; rfl

theorem winScore_at (b h : Fin 8) (q k : Fin 2048) :
    winScore A T (ix4 b h q k) = if RowOk (q.val / 64) (k.val / 64) ∧ ColOk (q.val % 64) (k.val % 64)
      then prod A h (latRow b q) (latRow b k) + bias T (ix3 h q k) else ⊥ := by
  pointwise [winScore]
  simp only [latQ_at, latK_at, inWin_at]
  by_cases g : RowOk (q.val / 64) (k.val / 64) ∧ ColOk (q.val % 64) (k.val % 64)
  · simp only [if_pos g, Scalar.select]; rfl
  · rw [if_neg g, if_neg g, ← lowest]; rfl

/-- The scores of a latent query: the context keys first, then the latent keys. -/
def score (b h : Fin 8) (q : Fin 2048) : Fin 2304 → EReal := fun k => allScore A T (ix4 b h q k)

/-- The values of those keys. -/
def values (b h : Fin 8) (d : Fin 128) : Fin 2304 → EReal := fun k =>
  if e : k.val < 256 then val A h d (ctxRow b ⟨k.val, e⟩) else val A h d (latRow b ⟨k.val - 256, by omega⟩)

theorem score_ctx (b h : Fin 8) (q : Fin 2048) (k : Fin 2304) (j : Fin 256) (e : k.val = j.val) :
    score A T b h q k = prod A h (latRow b q) (ctxRow b j) := by
  rw [← preScore_at]
  rw [show k = ⟨j.val, by omega⟩ from Fin.ext e]
  unfold score
  pointwise [allScore]

theorem score_lat (b h : Fin 8) (q : Fin 2048) (k : Fin 2304) (j : Fin 2048) (e : k.val = 256 + j.val) :
    score A T b h q k = winScore A T (ix4 b h q j) := by
  rw [show k = ⟨256 + j.val, by omega⟩ from Fin.ext e]
  unfold score
  pointwise [allScore]

theorem max_at (X : FVec Ideal S8x8x2048x2304 .f32) (b h : Fin 8) (q : Fin 2048) :
    Host.reduce FloatOps.maximumf X (constant S_ .f32 0xFF800000#32) reducesTo_S8x8x2048x2304_S8x8x2048_d3 h_S_ (ix3 b h q) =
      top fun k : Fin 2304 => X (ix4 b h q k) := by
  pointwise
  rw [lowest]; rfl

theorem larger_at {t : Shape} (X Y : FVec Ideal t .f32) (i : t.Idx) : maximumf X Y i = max (X i) (Y i) := rfl

theorem floor_at {t : Shape} (f : Fin 0 → Fin t.rank) (hf : S_.BroadcastsInDim t f) (i : t.Idx) :
    broadcastInDim t f hf (constant (F := Ideal) S_ .f32 0xFF800000#32) i = ⊥ := lowest

theorem rowMax_at (b h : Fin 8) (q : Fin 2048) : rowMax A T (ix3 b h q) = top (score A T b h q) := by
  unfold rowMax
  rw [larger_at, floor_at, max_at, max_eq_right bot_le]; rfl

theorem expo_at (b h : Fin 8) (q : Fin 2048) (k : Fin 2304) :
    expo A T (ix4 b h q k) = Ideal.exp (score A T b h q k - top (score A T b h q)) := by
  rw [← rowMax_at]
  pointwise [expo]
  rfl

theorem sum_at (X : FVec Ideal S8x8x2048x2304 .f32) (b h : Fin 8) (q : Fin 2048) :
    Host.reduceAdd X (constant S_ .f32 0x00000000#32) reducesTo_S8x8x2048x2304_S8x8x2048_d3 h_S_ (ix3 b h q) =
      ∑ k : Fin 2304, X (ix4 b h q k) := by
  pointwise

theorem rowSum_at (b h : Fin 8) (q : Fin 2048) : rowSum A T (ix3 b h q) = mass (score A T b h q) := by
  unfold rowSum
  rw [sum_at]
  exact Finset.sum_congr rfl fun k _ => expo_at A T b h q k

theorem probs_at (b h : Fin 8) (q : Fin 2048) (k : Fin 2304) :
    probs A T (ix4 b h q k) =
      Ideal.div (Ideal.exp (score A T b h q k - top (score A T b h q))) (mass (score A T b h q)) := by
  rw [← expo_at, ← rowSum_at]
  pointwise [probs]

theorem latOut_at (b : Fin 8) (q : Fin 2048) (h : Fin 8) (d : Fin 128) (hm : mass (score A T b h q) ≠ 0) :
    latOut A T (ix4 b q h d) = attn (score A T b h q) (values A b h d) := by
  rw [← sum_weights _ _ hm]
  refine Eq.trans ?_ (Fin.sum_univ_add (a := 256) (b := 2048) fun i =>
    values A b h d i * Ideal.div (Ideal.exp (score A T b h q i - top (score A T b h q))) (mass (score A T b h q))).symm
  pointwise [latOut]
  refine congrArg₂ (· + ·) (Finset.sum_congr rfl fun x _ => ?_) (Finset.sum_congr rfl fun x _ => ?_)
  · rw [ctxV_at, ← probs_at]
    refine congrArg₂ (· * ·) ?_ (congrArg (fun k => probs A T (ix4 b h q k)) (Fin.ext (by simp)))
    unfold values
    rw [dif_pos (by simp)]; rfl
  · rw [latV_at, ← probs_at]
    refine congrArg₂ (· * ·) ?_ (congrArg (fun k => probs A T (ix4 b h q k)) (Fin.ext (by simp)))
    unfold values
    rw [dif_neg (by simp)]
    exact congrArg (fun k => val A h d (latRow b k)) (Fin.ext (by simp))

/-- The scores of a context query. -/
def cscore (b h : Fin 8) (q : Fin 256) : Fin 256 → EReal := fun k => prod A h (ctxRow b q) (ctxRow b k)

theorem cScore_at (b h : Fin 8) (q k : Fin 256) : cScore A (ix4 b h q k) = cscore A b h q k := by
  pointwise [cScore]
  simp only [ctxQ_at, ctxK_at]; rfl

theorem cMax_at' (X : FVec Ideal S8x8x256x256 .f32) (b h : Fin 8) (q : Fin 256) :
    Host.reduce FloatOps.maximumf X (constant S_ .f32 0xFF800000#32) reducesTo_S8x8x256x256_S8x8x256_d3 h_S_ (ix3 b h q) =
      top fun k : Fin 256 => X (ix4 b h q k) := by
  pointwise
  rw [lowest]; rfl

theorem cMax_at (b h : Fin 8) (q : Fin 256) : cMax A (ix3 b h q) = top (cscore A b h q) := by
  unfold cMax
  rw [larger_at, floor_at, cMax_at', max_eq_right bot_le]
  exact congrArg top (funext fun k => cScore_at A b h q k)

theorem cExpo_at (b h : Fin 8) (q k : Fin 256) :
    cExpo A (ix4 b h q k) = Ideal.exp (cscore A b h q k - top (cscore A b h q)) := by
  rw [← cMax_at, ← cScore_at]
  pointwise [cExpo]

theorem cSum_at' (X : FVec Ideal S8x8x256x256 .f32) (b h : Fin 8) (q : Fin 256) :
    Host.reduceAdd X (constant S_ .f32 0x00000000#32) reducesTo_S8x8x256x256_S8x8x256_d3 h_S_ (ix3 b h q) =
      ∑ k : Fin 256, X (ix4 b h q k) := by
  pointwise

theorem cSum_at (b h : Fin 8) (q : Fin 256) : cSum A (ix3 b h q) = mass (cscore A b h q) := by
  unfold cSum
  rw [cSum_at']
  exact Finset.sum_congr rfl fun k _ => cExpo_at A b h q k

theorem cProbs_at (b h : Fin 8) (q k : Fin 256) :
    cProbs A (ix4 b h q k) = Ideal.div (Ideal.exp (cscore A b h q k - top (cscore A b h q))) (mass (cscore A b h q)) := by
  rw [← cExpo_at, ← cSum_at]
  pointwise [cProbs]

theorem ctxOut_at (b : Fin 8) (q : Fin 256) (h : Fin 8) (d : Fin 128) (hm : mass (cscore A b h q) ≠ 0) :
    ctxOut A (ix4 b q h d) = attn (cscore A b h q) fun k => val A h d (ctxRow b k) := by
  rw [← sum_weights _ _ hm]
  pointwise [ctxOut]
  refine Finset.sum_congr rfl fun x _ => ?_
  rw [ctxV_at, cProbs_at]

end Cert.ReferenceIdeal.Parts
end
-- ==== Proof.Blocks.lean ====
module

/-
Where the blocks of one grid point lie in their arrays: the grid runs over two groups of four heads, nine places
(eight blocks of queries, then the context) and eight images.
-/

public import proofs.«01_k».proof.Proof.Head

@[expose] public section
set_option maxRecDepth 16384
noncomputable section
namespace Cert.KernelIdeal.Blocks

open Cert.KernelIdeal Cert.KernelIdeal.Gen Cert.KernelIdeal.Run
open Idealize.ShloMosaic Idealize.ShloMosaic.TcCoe Idealize.ShloMosaic.Tactic

/-- The group of heads of a grid point. -/
def blkH (t : Fin 144) : ℕ := t.val / 72
/-- Its block of queries, 8 standing for the context. -/
def place (t : Fin 144) : ℕ := t.val / 8 % 9
/-- Its image. -/
def img (t : Fin 144) : ℕ := t.val % 8
/-- The first of the three blocks of keys that its queries look at. -/
def start (i : ℕ) : ℕ := min 5 (i - 1)
/-- The block of rows its queries are. -/
def rowQ (t : Fin 144) : ℕ := if place t < 8 then img t * 8 + place t else 64 + img t
/-- The block of rows the first of its keys are. -/
def rowK (t : Fin 144) : ℕ := img t * 8 + start (place t)
/-- Which of the three added tables its queries take. -/
def pattern (t : Fin 144) : ℕ := if place t = 0 then 0 else if place t < 7 then 1 else 2

theorem index_0 : ∀ t : Fin 144, win0_0.index t (0 : Fin 2) = rowQ t ∧ win0_0.index t (1 : Fin 2) = blkH t := by decide +kernel
theorem index_1 : ∀ t : Fin 144, win0_1.index t (0 : Fin 2) = rowK t + 0 ∧ win0_1.index t (1 : Fin 2) = 2 + blkH t := by decide +kernel
theorem index_2 : ∀ t : Fin 144, win0_2.index t (0 : Fin 2) = rowK t + 1 ∧ win0_2.index t (1 : Fin 2) = 2 + blkH t := by decide +kernel
theorem index_3 : ∀ t : Fin 144, win0_3.index t (0 : Fin 2) = rowK t + 2 ∧ win0_3.index t (1 : Fin 2) = 2 + blkH t := by decide +kernel
theorem index_4 : ∀ t : Fin 144, win0_4.index t (0 : Fin 2) = rowK t + 0 ∧ win0_4.index t (1 : Fin 2) = 4 + blkH t := by decide +kernel
theorem index_5 : ∀ t : Fin 144, win0_5.index t (0 : Fin 2) = rowK t + 1 ∧ win0_5.index t (1 : Fin 2) = 4 + blkH t := by decide +kernel
theorem index_6 : ∀ t : Fin 144, win0_6.index t (0 : Fin 2) = rowK t + 2 ∧ win0_6.index t (1 : Fin 2) = 4 + blkH t := by decide +kernel
theorem index_7 : ∀ t : Fin 144, win0_7.index t (0 : Fin 2) = 64 + img t ∧ win0_7.index t (1 : Fin 2) = 2 + blkH t := by decide +kernel
theorem index_8 : ∀ t : Fin 144, win0_8.index t (0 : Fin 2) = 64 + img t ∧ win0_8.index t (1 : Fin 2) = 4 + blkH t := by decide +kernel
theorem index_9 : ∀ t : Fin 144, win0_9.index t (0 : Fin 4) = blkH t ∧ win0_9.index t (1 : Fin 4) = pattern t ∧
    win0_9.index t (2 : Fin 4) = 0 ∧ win0_9.index t (3 : Fin 4) = 0 := by decide +kernel
theorem index_10 : ∀ t : Fin 144, win0_10.index t (0 : Fin 2) = rowQ t ∧ win0_10.index t (1 : Fin 2) = blkH t := by decide +kernel

theorem lt_72 : ∀ t : Fin 144, rowQ t < 72 ∧ rowK t + 2 < 72 ∧ 64 + img t < 72 ∧ blkH t < 2 ∧ pattern t < 3 := by
  decide +kernel

variable (m : (ℓ : Loc nD τ sig) → Buf (Elt Ideal) ℓ)

/-- The queries, at an index. -/
theorem blk_0 (c : Dev nD) (t : Fin 144) (r : Fin 256) (x : Fin 512) (R : Fin 18432) (X : Fin 3072)
    (hR : R.val = (rowQ t) * 256 + r.val) (hX : X.val = (blkH t) * 512 + x.val) :
    iblk m c 0 t (ix2 r x) = m (c.tc.loc main_arg0) (ix2 R X) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]
    exact hX.symm

/-- The keys of the first block, at an index. -/
theorem blk_1 (c : Dev nD) (t : Fin 144) (r : Fin 256) (x : Fin 512) (R : Fin 18432) (X : Fin 3072)
    (hR : R.val = (rowK t + 0) * 256 + r.val) (hX : X.val = (2 + blkH t) * 512 + x.val) :
    iblk m c 1 t (ix2 r x) = m (c.tc.loc main_arg0) (ix2 R X) := by
  blk_simp [iblk]
  refine congrArg (m (c.tc.loc main_arg0)) ?_
  obtain ⟨e0, e1⟩ := index_1 t
  funext a
  match a with
  | 0 =>
    refine Fin.ext ?_
    blk_simp [e0]
    exact hR.symm
  | 1 =>
    refine Fin.ext ?_
    blk_simp [e1]
    exact hX.symm

/-- The keys of the second block, at an index. -/
theorem blk_2 (c : Dev nD) (t : Fin 144) (r : Fin 256) (x : Fin 512) (R : Fin 18432) (X : Fin 3072)
    (hR : R.val = (rowK t + 1) * 256 + r.val) (hX : X.val = (2 + blkH t) * 512 + x.val) :
    iblk m c 2 t (ix2 r x) = m (c.tc.loc main_arg0) (ix2 R X) := by
  blk_simp [iblk]
  refine congrArg (m (c.tc.loc main_arg0)) ?_
  obtain ⟨e0, e1⟩ := index_2 t
  funext a
  match a with
  | 0 =>
    refine Fin.ext ?_
    blk_simp [e0]
    exact hR.symm
  | 1 =>
    refine Fin.ext ?_
    blk_simp [e1]
    exact hX.symm

/-- The keys of the third block, at an index. -/
theorem blk_3 (c : Dev nD) (t : Fin 144) (r : Fin 256) (x : Fin 512) (R : Fin 18432) (X : Fin 3072)
    (hR : R.val = (rowK t + 2) * 256 + r.val) (hX : X.val = (2 + blkH t) * 512 + x.val) :
    iblk m c 3 t (ix2 r x) = m (c.tc.loc main_arg0) (ix2 R X) := by
  blk_simp [iblk]
  refine congrArg (m (c.tc.loc main_arg0)) ?_
  obtain ⟨e0, e1⟩ := index_3 t
  funext a
  match a with
  | 0 =>
    refine Fin.ext ?_
    blk_simp [e0]
    exact hR.symm
  | 1 =>
    refine Fin.ext ?_
    blk_simp [e1]
    exact hX.symm

/-- The values of the first block, at an index. -/
theorem blk_4 (c : Dev nD) (t : Fin 144) (r : Fin 256) (x : Fin 512) (R : Fin 18432) (X : Fin 3072)
    (hR : R.val = (rowK t + 0) * 256 + r.val) (hX : X.val = (4 + blkH t) * 512 + x.val) :
    iblk m c 4 t (ix2 r x) = m (c.tc.loc main_arg0) (ix2 R X) := by
  blk_simp [iblk]
  refine congrArg (m (c.tc.loc main_arg0)) ?_
  obtain ⟨e0, e1⟩ := index_4 t
  funext a
  match a with
  | 0 =>
    refine Fin.ext ?_
    blk_simp [e0]
    exact hR.symm
  | 1 =>
    refine Fin.ext ?_
    blk_simp [e1]
    exact hX.symm

/-- The values of the second block, at an index. -/
theorem blk_5 (c : Dev nD) (t : Fin 144) (r : Fin 256) (x : Fin 512) (R : Fin 18432) (X : Fin 3072)
    (hR : R.val = (rowK t + 1) * 256 + r.val) (hX : X.val = (4 + blkH t) * 512 + x.val) :
    iblk m c 5 t (ix2 r x) = m (c.tc.loc main_arg0) (ix2 R X) := by
  blk_simp [iblk]
  refine congrArg (m (c.tc.loc main_arg0)) ?_
  obtain ⟨e0, e1⟩ := index_5 t
  funext a
  match a with
  | 0 =>
    refine Fin.ext ?_
    blk_simp [e0]
    exact hR.symm
  | 1 =>
    refine Fin.ext ?_
    blk_simp [e1]
    exact hX.symm

/-- The values of the third block, at an index. -/
theorem blk_6 (c : Dev nD) (t : Fin 144) (r : Fin 256) (x : Fin 512) (R : Fin 18432) (X : Fin 3072)
    (hR : R.val = (rowK t + 2) * 256 + r.val) (hX : X.val = (4 + blkH t) * 512 + x.val) :
    iblk m c 6 t (ix2 r x) = m (c.tc.loc main_arg0) (ix2 R X) := by
  blk_simp [iblk]
  refine congrArg (m (c.tc.loc main_arg0)) ?_
  obtain ⟨e0, e1⟩ := index_6 t
  funext a
  match a with
  | 0 =>
    refine Fin.ext ?_
    blk_simp [e0]
    exact hR.symm
  | 1 =>
    refine Fin.ext ?_
    blk_simp [e1]
    exact hX.symm

/-- The keys of the context, at an index. -/
theorem blk_7 (c : Dev nD) (t : Fin 144) (r : Fin 256) (x : Fin 512) (R : Fin 18432) (X : Fin 3072)
    (hR : R.val = (64 + img t) * 256 + r.val) (hX : X.val = (2 + blkH t) * 512 + x.val) :
    iblk m c 7 t (ix2 r x) = m (c.tc.loc main_arg0) (ix2 R X) := by
  blk_simp [iblk]
  refine congrArg (m (c.tc.loc main_arg0)) ?_
  obtain ⟨e0, e1⟩ := index_7 t
  funext a
  match a with
  | 0 =>
    refine Fin.ext ?_
    blk_simp [e0]
    exact hR.symm
  | 1 =>
    refine Fin.ext ?_
    blk_simp [e1]
    exact hX.symm

/-- The values of the context, at an index. -/
theorem blk_8 (c : Dev nD) (t : Fin 144) (r : Fin 256) (x : Fin 512) (R : Fin 18432) (X : Fin 3072)
    (hR : R.val = (64 + img t) * 256 + r.val) (hX : X.val = (4 + blkH t) * 512 + x.val) :
    iblk m c 8 t (ix2 r x) = m (c.tc.loc main_arg0) (ix2 R X) := by
  blk_simp [iblk]
  refine congrArg (m (c.tc.loc main_arg0)) ?_
  obtain ⟨e0, e1⟩ := index_8 t
  funext a
  match a with
  | 0 =>
    refine Fin.ext ?_
    blk_simp [e0]
    exact hR.symm
  | 1 =>
    refine Fin.ext ?_
    blk_simp [e1]
    exact hX.symm

/-- What is added to the scores, at an index. -/
theorem blk_9 (c : Dev nD) (t : Fin 144) (g : Fin 4) (r : Fin 256) (x : Fin 768) (G : Fin 8) (P : Fin 3)
    (hG : G.val = blkH t * 4 + g.val) (hP : P.val = pattern t) :
    iblk m c 9 t (ix4 g 0 r x) = V m c main_v248 (ix4 G P r x) := by
  blk_simp [iblk]
  refine congrArg (V m c main_v248) ?_
  obtain ⟨e0, e1, e2, e3⟩ := index_9 t
  funext a
  match a with
  | 0 =>
    refine Fin.ext ?_
    blk_simp [e0]
    exact hG.symm
  | 1 =>
    refine Fin.ext ?_
    blk_simp [e1]
    exact hP.symm
  | 2 =>
    refine Fin.ext ?_
    blk_simp [e2]
  | 3 =>
    refine Fin.ext ?_
    blk_simp [e3]

end Cert.KernelIdeal.Blocks

end
-- ==== Proof.Table.lean ====
module

/-
The table that the host code builds from the relative biases: for each of its three patterns and each of a block's
four rows of queries, twelve pieces side by side, each a row of the biases spread over the columns or all masked.
-/

public import proofs.«01_k».proof.Proof.Run
public import Idealize.ShloMosaic.Lib.StableHlo.ReadAt
public import Idealize.ShloMosaic.Lib.Pointwise

@[expose] public section
set_option maxRecDepth 16384
noncomputable section
namespace Cert.KernelIdeal.Table

open Cert.KernelIdeal Cert.KernelIdeal.Gen
open Idealize.ShloMosaic Idealize.ShloMosaic.TcCoe Idealize.ShloMosaic.Tactic

/-- Twelve pieces side by side. -/
def wide (x0 x1 x2 x3 x4 x5 x6 x7 x8 x9 x10 x11 : FVec Ideal S8x64x64 .f32) : FVec Ideal S8x64x768 .f32 :=
  concatenate S8x64x768 2 [⟨S8x64x64, x0⟩, ⟨S8x64x64, x1⟩, ⟨S8x64x64, x2⟩, ⟨S8x64x64, x3⟩, ⟨S8x64x64, x4⟩, ⟨S8x64x64, x5⟩, ⟨S8x64x64, x6⟩, ⟨S8x64x64, x7⟩, ⟨S8x64x64, x8⟩, ⟨S8x64x64, x9⟩, ⟨S8x64x64, x10⟩, ⟨S8x64x64, x11⟩]
    concatenates_S8x64x64_S8x64x64_S8x64x64_S8x64x64_S8x64x64_S8x64x64_S8x64x64_S8x64x64_S8x64x64_S8x64x64_S8x64x64_S8x64x64_S8x64x768_d2

/-- Four rows, one under the other. -/
def tall (x0 x1 x2 x3 : FVec Ideal S8x64x768 .f32) : FVec Ideal S8x256x768 .f32 :=
  concatenate S8x256x768 1 [⟨S8x64x768, x0⟩, ⟨S8x64x768, x1⟩, ⟨S8x64x768, x2⟩, ⟨S8x64x768, x3⟩]
    concatenates_S8x64x768_S8x64x768_S8x64x768_S8x64x768_S8x256x768_d1

/-- The three patterns. -/
def stack (x0 x1 x2 : FVec Ideal S8x256x768 .f32) : FVec Ideal S8x3x256x768 .f32 :=
  concatenate S8x3x256x768 1 [⟨S8x1x256x768, broadcastInDim S8x1x256x768 ![0, 2, 3] bcast_S8x256x768_S8x1x256x768_0_2_3 x0⟩,
    ⟨S8x1x256x768, broadcastInDim S8x1x256x768 ![0, 2, 3] bcast_S8x256x768_S8x1x256x768_0_2_3 x1⟩,
    ⟨S8x1x256x768, broadcastInDim S8x1x256x768 ![0, 2, 3] bcast_S8x256x768_S8x1x256x768_0_2_3 x2⟩]
    concatenates_S8x1x256x768_S8x1x256x768_S8x1x256x768_S8x3x256x768_d1

/-- The biases spread over the columns, with the mask of the columns added. -/
def spread (x : FVec Ideal S8x15x64x64 .f32) (k : FVec Ideal S64x64 .f32) : FVec Ideal S8x15x64x64 .f32 :=
  addf x (broadcastInDim S8x15x64x64 ![0, 1, 2, 3] bcast_S1x1x64x64_S8x15x64x64_0_1_2_3
    (broadcastInDim S1x1x64x64 ![2, 3] bcast_S64x64_S1x1x64x64_2_3 k))

/-- A piece that is all masked. -/
def masked : FVec Ideal S8x64x64 .f32 := broadcastInDim S8x64x64 ![] bcast_S_S8x64x64 (constant S_ .f32 0xFF800000#32)

/-- Row 0 of the biases. -/
def piece0 (x : FVec Ideal S8x15x64x64 .f32) : FVec Ideal S8x64x64 .f32 :=
  shapeCast S8x64x64 (extractStridedSlice S8x1x64x64 ![0, 0, 0, 0] x slices_S8x15x64x64_S8x1x64x64_0_0_0_0)
    shapeCasts_S8x1x64x64_S8x64x64
/-- Row 1 of the biases. -/
def piece1 (x : FVec Ideal S8x15x64x64 .f32) : FVec Ideal S8x64x64 .f32 :=
  shapeCast S8x64x64 (extractStridedSlice S8x1x64x64 ![0, 1, 0, 0] x slices_S8x15x64x64_S8x1x64x64_0_1_0_0)
    shapeCasts_S8x1x64x64_S8x64x64
/-- Row 2 of the biases. -/
def piece2 (x : FVec Ideal S8x15x64x64 .f32) : FVec Ideal S8x64x64 .f32 :=
  shapeCast S8x64x64 (extractStridedSlice S8x1x64x64 ![0, 2, 0, 0] x slices_S8x15x64x64_S8x1x64x64_0_2_0_0)
    shapeCasts_S8x1x64x64_S8x64x64
/-- Row 3 of the biases. -/
def piece3 (x : FVec Ideal S8x15x64x64 .f32) : FVec Ideal S8x64x64 .f32 :=
  shapeCast S8x64x64 (extractStridedSlice S8x1x64x64 ![0, 3, 0, 0] x slices_S8x15x64x64_S8x1x64x64_0_3_0_0)
    shapeCasts_S8x1x64x64_S8x64x64
/-- Row 4 of the biases. -/
def piece4 (x : FVec Ideal S8x15x64x64 .f32) : FVec Ideal S8x64x64 .f32 :=
  shapeCast S8x64x64 (extractStridedSlice S8x1x64x64 ![0, 4, 0, 0] x slices_S8x15x64x64_S8x1x64x64_0_4_0_0)
    shapeCasts_S8x1x64x64_S8x64x64
/-- Row 5 of the biases. -/
def piece5 (x : FVec Ideal S8x15x64x64 .f32) : FVec Ideal S8x64x64 .f32 :=
  shapeCast S8x64x64 (extractStridedSlice S8x1x64x64 ![0, 5, 0, 0] x slices_S8x15x64x64_S8x1x64x64_0_5_0_0)
    shapeCasts_S8x1x64x64_S8x64x64
/-- Row 6 of the biases. -/
def piece6 (x : FVec Ideal S8x15x64x64 .f32) : FVec Ideal S8x64x64 .f32 :=
  shapeCast S8x64x64 (extractStridedSlice S8x1x64x64 ![0, 6, 0, 0] x slices_S8x15x64x64_S8x1x64x64_0_6_0_0)
    shapeCasts_S8x1x64x64_S8x64x64
/-- Row 7 of the biases. -/
def piece7 (x : FVec Ideal S8x15x64x64 .f32) : FVec Ideal S8x64x64 .f32 :=
  shapeCast S8x64x64 (extractStridedSlice S8x1x64x64 ![0, 7, 0, 0] x slices_S8x15x64x64_S8x1x64x64_0_7_0_0)
    shapeCasts_S8x1x64x64_S8x64x64
/-- Row 8 of the biases. -/
def piece8 (x : FVec Ideal S8x15x64x64 .f32) : FVec Ideal S8x64x64 .f32 :=
  shapeCast S8x64x64 (extractStridedSlice S8x1x64x64 ![0, 8, 0, 0] x slices_S8x15x64x64_S8x1x64x64_0_8_0_0)
    shapeCasts_S8x1x64x64_S8x64x64
/-- Row 9 of the biases. -/
def piece9 (x : FVec Ideal S8x15x64x64 .f32) : FVec Ideal S8x64x64 .f32 :=
  shapeCast S8x64x64 (extractStridedSlice S8x1x64x64 ![0, 9, 0, 0] x slices_S8x15x64x64_S8x1x64x64_0_9_0_0)
    shapeCasts_S8x1x64x64_S8x64x64
/-- Row 10 of the biases. -/
def piece10 (x : FVec Ideal S8x15x64x64 .f32) : FVec Ideal S8x64x64 .f32 :=
  shapeCast S8x64x64 (extractStridedSlice S8x1x64x64 ![0, 10, 0, 0] x slices_S8x15x64x64_S8x1x64x64_0_10_0_0)
    shapeCasts_S8x1x64x64_S8x64x64
/-- Row 11 of the biases. -/
def piece11 (x : FVec Ideal S8x15x64x64 .f32) : FVec Ideal S8x64x64 .f32 :=
  shapeCast S8x64x64 (extractStridedSlice S8x1x64x64 ![0, 11, 0, 0] x slices_S8x15x64x64_S8x1x64x64_0_11_0_0)
    shapeCasts_S8x1x64x64_S8x64x64
/-- Row 12 of the biases. -/
def piece12 (x : FVec Ideal S8x15x64x64 .f32) : FVec Ideal S8x64x64 .f32 :=
  shapeCast S8x64x64 (extractStridedSlice S8x1x64x64 ![0, 12, 0, 0] x slices_S8x15x64x64_S8x1x64x64_0_12_0_0)
    shapeCasts_S8x1x64x64_S8x64x64
/-- Row 13 of the biases. -/
def piece13 (x : FVec Ideal S8x15x64x64 .f32) : FVec Ideal S8x64x64 .f32 :=
  shapeCast S8x64x64 (extractStridedSlice S8x1x64x64 ![0, 13, 0, 0] x slices_S8x15x64x64_S8x1x64x64_0_13_0_0)
    shapeCasts_S8x1x64x64_S8x64x64
/-- Row 14 of the biases. -/
def piece14 (x : FVec Ideal S8x15x64x64 .f32) : FVec Ideal S8x64x64 .f32 :=
  shapeCast S8x64x64 (extractStridedSlice S8x1x64x64 ![0, 14, 0, 0] x slices_S8x15x64x64_S8x1x64x64_0_14_0_0)
    shapeCasts_S8x1x64x64_S8x64x64
/-- The whole table, from the spread biases. -/
def table (x : FVec Ideal S8x15x64x64 .f32) : FVec Ideal S8x3x256x768 .f32 :=
  stack
    (tall
      (wide (piece7 x) (piece8 x) (piece9 x) (piece10 x) (piece11 x) (piece12 x) (piece13 x) (piece14 x) masked masked masked masked)
      (wide (piece6 x) (piece7 x) (piece8 x) (piece9 x) (piece10 x) (piece11 x) (piece12 x) (piece13 x) masked masked masked masked)
      (wide (piece5 x) (piece6 x) (piece7 x) (piece8 x) (piece9 x) (piece10 x) (piece11 x) (piece12 x) masked masked masked masked)
      (wide (piece4 x) (piece5 x) (piece6 x) (piece7 x) (piece8 x) (piece9 x) (piece10 x) (piece11 x) masked masked masked masked))
    (tall
      (wide (piece3 x) (piece4 x) (piece5 x) (piece6 x) (piece7 x) (piece8 x) (piece9 x) (piece10 x) masked masked masked masked)
      (wide masked (piece3 x) (piece4 x) (piece5 x) (piece6 x) (piece7 x) (piece8 x) (piece9 x) (piece10 x) masked masked masked)
      (wide masked masked (piece3 x) (piece4 x) (piece5 x) (piece6 x) (piece7 x) (piece8 x) (piece9 x) (piece10 x) masked masked)
      (wide masked masked masked (piece3 x) (piece4 x) (piece5 x) (piece6 x) (piece7 x) (piece8 x) (piece9 x) (piece10 x) masked))
    (tall
      (wide masked masked masked masked (piece3 x) (piece4 x) (piece5 x) (piece6 x) (piece7 x) (piece8 x) (piece9 x) (piece10 x))
      (wide masked masked masked masked (piece2 x) (piece3 x) (piece4 x) (piece5 x) (piece6 x) (piece7 x) (piece8 x) (piece9 x))
      (wide masked masked masked masked (piece1 x) (piece2 x) (piece3 x) (piece4 x) (piece5 x) (piece6 x) (piece7 x) (piece8 x))
      (wide masked masked masked masked (piece0 x) (piece1 x) (piece2 x) (piece3 x) (piece4 x) (piece5 x) (piece6 x) (piece7 x)))

end Cert.KernelIdeal.Table

end
-- ==== Proof.TableRead.lean ====
module

/-
The last stretch of the host code leaves the table.
-/

public import proofs.«01_k».proof.Proof.Table
public import Idealize.ShloMosaic.Lib.StableHlo.ReadAt
public import Idealize.ShloMosaic.Lib.Pointwise

@[expose] public section
set_option maxRecDepth 16384
noncomputable section
namespace Cert.KernelIdeal.Table

open Cert.KernelIdeal Cert.KernelIdeal.Gen
open Idealize.ShloMosaic Idealize.ShloMosaic.TcCoe Idealize.ShloMosaic.Tactic

set_option maxHeartbeats 40000000 in
theorem table_read (W) :
    StableHlo.after (hostOps0_4 (F := Ideal)) W (Proc.devRef .tc main_v248) =
      table (spread (W (Proc.devRef .tc main_v31)) (W (Proc.devRef .tc main_v32))) := by
  after_reads_simp
  rfl

end Cert.KernelIdeal.Table

end
-- ==== Proof.TableAt.lean ====
module

/-
The table at an index: a key's row within reach of a query's row finds the biases of their distance, any other is
masked.
-/

public import proofs.«01_k».proof.Proof.Table
public import Idealize.ShloMosaic.Lib.StableHlo.ReadAt
public import Idealize.ShloMosaic.Lib.Pointwise
public import Idealize.ShloMosaic.Lib.Pipeline.ValueKit

@[expose] public section
set_option maxRecDepth 16384
noncomputable section
namespace Cert.KernelIdeal.Table

open Cert.KernelIdeal Cert.KernelIdeal.Gen
open Idealize.ShloMosaic Idealize.ShloMosaic.TcCoe Idealize.ShloMosaic.Tactic

theorem wide_at (x0 x1 x2 x3 x4 x5 x6 x7 x8 x9 x10 x11 : FVec Ideal S8x64x64 .f32) (h : Fin 8) (q k : Fin 64) (j : Fin 12) :
    wide x0 x1 x2 x3 x4 x5 x6 x7 x8 x9 x10 x11 (ix3 h q ⟨j.val * 64 + k.val, by omega⟩) = (![x0, x1, x2, x3, x4, x5, x6, x7, x8, x9, x10, x11] j) (ix3 h q k) := by
  exact concatenate_ofFn_apply (t := S8x64x768) (s₁ := S8x64x64) 2 (N := 12) ![x0, x1, x2, x3, x4, x5, x6, x7, x8, x9, x10, x11] concatenates_S8x64x64_S8x64x64_S8x64x64_S8x64x64_S8x64x64_S8x64x64_S8x64x64_S8x64x64_S8x64x64_S8x64x64_S8x64x64_S8x64x64_S8x64x768_d2 rfl 64 rfl
    (ix3 h q ⟨j.val * 64 + k.val, by omega⟩) j (by show (j.val * 64 + k.val) / 64 = j.val; omega) (ix3 h q k)
    (by show k.val = (j.val * 64 + k.val) % 64; omega) (fun b hb => by
      match b with
      | 0 => rfl
      | 1 => rfl
      | 2 => exact absurd rfl hb)

theorem tall_at (x0 x1 x2 x3 : FVec Ideal S8x64x768 .f32) (h : Fin 8) (a : Fin 4) (q : Fin 64) (k : Fin 768) :
    tall x0 x1 x2 x3 (ix3 h ⟨a.val * 64 + q.val, by omega⟩ k) = (![x0, x1, x2, x3] a) (ix3 h q k) := by
  exact concatenate_ofFn_apply (t := S8x256x768) (s₁ := S8x64x768) 1 (N := 4) ![x0, x1, x2, x3]
    concatenates_S8x64x768_S8x64x768_S8x64x768_S8x64x768_S8x256x768_d1 rfl 64 rfl
    (ix3 h ⟨a.val * 64 + q.val, by omega⟩ k) a (by show (a.val * 64 + q.val) / 64 = a.val; omega) (ix3 h q k)
    (by show q.val = (a.val * 64 + q.val) % 64; omega) (fun b hb => by
      match b with
      | 0 => rfl
      | 1 => exact absurd rfl hb
      | 2 => rfl)

theorem stack_at (x0 x1 x2 : FVec Ideal S8x256x768 .f32) (h : Fin 8) (p : Fin 3) (q : Fin 256) (k : Fin 768) :
    stack x0 x1 x2 (ix4 h p q k) = (![x0, x1, x2] p) (ix3 h q k) := by
  fin_cases p
  all_goals pointwise [stack]

/-- The rows of the biases. -/
def pieces (x : FVec Ideal S8x15x64x64 .f32) : Fin 15 → FVec Ideal S8x64x64 .f32 :=
  ![piece0 x, piece1 x, piece2 x, piece3 x, piece4 x, piece5 x, piece6 x, piece7 x, piece8 x, piece9 x, piece10 x, piece11 x, piece12 x, piece13 x, piece14 x]

theorem pieces_at (x : FVec Ideal S8x15x64x64 .f32) (n : Fin 15) (h : Fin 8) (q k : Fin 64) :
    pieces x n (ix3 h q k) = x (ix4 h n q k) := by
  fin_cases n
  · show piece0 x (ix3 h q k) = _
    pointwise [piece0]
  · show piece1 x (ix3 h q k) = _
    pointwise [piece1]
  · show piece2 x (ix3 h q k) = _
    pointwise [piece2]
  · show piece3 x (ix3 h q k) = _
    pointwise [piece3]
  · show piece4 x (ix3 h q k) = _
    pointwise [piece4]
  · show piece5 x (ix3 h q k) = _
    pointwise [piece5]
  · show piece6 x (ix3 h q k) = _
    pointwise [piece6]
  · show piece7 x (ix3 h q k) = _
    pointwise [piece7]
  · show piece8 x (ix3 h q k) = _
    pointwise [piece8]
  · show piece9 x (ix3 h q k) = _
    pointwise [piece9]
  · show piece10 x (ix3 h q k) = _
    pointwise [piece10]
  · show piece11 x (ix3 h q k) = _
    pointwise [piece11]
  · show piece12 x (ix3 h q k) = _
    pointwise [piece12]
  · show piece13 x (ix3 h q k) = _
    pointwise [piece13]
  · show piece14 x (ix3 h q k) = _
    pointwise [piece14]

theorem masked_at (h : Fin 8) (q k : Fin 64) : masked (ix3 h q k) = ⊥ := by
  pointwise [masked]
  simp [Ideal.ofBits, Ideal.ieee]

theorem spread_at (x : FVec Ideal S8x15x64x64 .f32) (y) (h : Fin 8) (n : Fin 15) (q k : Fin 64) :
    spread x y (ix4 h n q k) = x (ix4 h n q k) + y (ix2 q k) := by
  pointwise [spread]

/-- The pieces of the table, by pattern, row of queries and row of keys. -/
def cells (x : FVec Ideal S8x15x64x64 .f32) : Fin 3 → Fin 4 → Fin 12 → FVec Ideal S8x64x64 .f32 :=
  ![![![piece7 x, piece8 x, piece9 x, piece10 x, piece11 x, piece12 x, piece13 x, piece14 x, masked, masked, masked, masked],
      ![piece6 x, piece7 x, piece8 x, piece9 x, piece10 x, piece11 x, piece12 x, piece13 x, masked, masked, masked, masked],
      ![piece5 x, piece6 x, piece7 x, piece8 x, piece9 x, piece10 x, piece11 x, piece12 x, masked, masked, masked, masked],
      ![piece4 x, piece5 x, piece6 x, piece7 x, piece8 x, piece9 x, piece10 x, piece11 x, masked, masked, masked, masked]],
    ![![piece3 x, piece4 x, piece5 x, piece6 x, piece7 x, piece8 x, piece9 x, piece10 x, masked, masked, masked, masked],
      ![masked, piece3 x, piece4 x, piece5 x, piece6 x, piece7 x, piece8 x, piece9 x, piece10 x, masked, masked, masked],
      ![masked, masked, piece3 x, piece4 x, piece5 x, piece6 x, piece7 x, piece8 x, piece9 x, piece10 x, masked, masked],
      ![masked, masked, masked, piece3 x, piece4 x, piece5 x, piece6 x, piece7 x, piece8 x, piece9 x, piece10 x, masked]],
    ![![masked, masked, masked, masked, piece3 x, piece4 x, piece5 x, piece6 x, piece7 x, piece8 x, piece9 x, piece10 x],
      ![masked, masked, masked, masked, piece2 x, piece3 x, piece4 x, piece5 x, piece6 x, piece7 x, piece8 x, piece9 x],
      ![masked, masked, masked, masked, piece1 x, piece2 x, piece3 x, piece4 x, piece5 x, piece6 x, piece7 x, piece8 x],
      ![masked, masked, masked, masked, piece0 x, piece1 x, piece2 x, piece3 x, piece4 x, piece5 x, piece6 x, piece7 x]]]

theorem table_cell (x : FVec Ideal S8x15x64x64 .f32) (h : Fin 8) (p : Fin 3) (a : Fin 4) (q : Fin 64) (j : Fin 12)
    (k : Fin 64) :
    table x (ix4 h p ⟨a.val * 64 + q.val, by omega⟩ ⟨j.val * 64 + k.val, by omega⟩) = cells x p a j (ix3 h q k) := by
  unfold table
  rw [stack_at]
  fin_cases p
  · refine (tall_at _ _ _ _ h a q _).trans ?_
    fin_cases a
    all_goals exact wide_at _ _ _ _ _ _ _ _ _ _ _ _ h q k j
  · refine (tall_at _ _ _ _ h a q _).trans ?_
    fin_cases a
    all_goals exact wide_at _ _ _ _ _ _ _ _ _ _ _ _ h q k j
  · refine (tall_at _ _ _ _ h a q _).trans ?_
    fin_cases a
    all_goals exact wide_at _ _ _ _ _ _ _ _ _ _ _ _ h q k j

/-- The first row of keys that a row of queries reaches, counted from the block of keys. -/
def low (p : Fin 3) (a : Fin 4) : ℕ := ![0, a.val, 4] p

/-- What the distance of the two rows is counted from. -/
def shift (p : Fin 3) : ℕ := ![11, 7, 3] p

/-- A row of keys within reach. -/
theorem table_in (x : FVec Ideal S8x15x64x64 .f32) (h : Fin 8) (p : Fin 3) (a : Fin 4) (q : Fin 64) (j : Fin 12)
    (k : Fin 64) (n : Fin 15) (hj : low p a ≤ j.val ∧ j.val < low p a + 8) (hn : n.val + a.val + 4 = j.val + shift p) :
    table x (ix4 h p ⟨a.val * 64 + q.val, by omega⟩ ⟨j.val * 64 + k.val, by omega⟩) = x (ix4 h n q k) := by
  rw [table_cell, ← pieces_at x n h q k]
  have e : n.val = j.val + shift p - a.val - 4 := by omega
  have hN : j.val + shift p - a.val - 4 < 15 := e ▸ n.isLt
  rw [show n = ⟨j.val + shift p - a.val - 4, hN⟩ from Fin.ext e]
  revert hj
  clear hn e
  intro hj
  fin_cases p <;> fin_cases a <;> fin_cases j <;> first
    | rfl
    | exact absurd hj (by decide)

/-- A row of keys out of reach. -/
theorem table_out (x : FVec Ideal S8x15x64x64 .f32) (h : Fin 8) (p : Fin 3) (a : Fin 4) (q : Fin 64) (j : Fin 12)
    (k : Fin 64) (hj : ¬ (low p a ≤ j.val ∧ j.val < low p a + 8)) :
    table x (ix4 h p ⟨a.val * 64 + q.val, by omega⟩ ⟨j.val * 64 + k.val, by omega⟩) = ⊥ := by
  rw [table_cell, ← masked_at h q k]
  fin_cases p <;> fin_cases a <;> fin_cases j <;> first
    | rfl
    | exact absurd (by decide) hj

end Cert.KernelIdeal.Table

end
-- ==== Proof.TableVal.lean ====
module

/-
What the kernel adds to a score, from the relative biases: the bias of the two distances where the key is within
reach of the query, the lowest value where it isn't.
-/

public import proofs.«01_k».proof.Proof.TableRead
public import proofs.«01_k».proof.Proof.TableAt
public import proofs.«01_k».proof.Proof.Spread

@[expose] public section
set_option maxRecDepth 16384
noncomputable section
namespace Cert.KernelIdeal.Table

open Cert.KernelIdeal Cert.KernelIdeal.Gen
open Idealize.ShloMosaic Idealize.ShloMosaic.TcCoe Idealize.ShloMosaic.Tactic

variable (m : (ℓ : Loc nD τ sig) → Buf (Elt Ideal) ℓ)

theorem after_two (l k : List (HloOp τ sig (Elt Ideal))) (W : Valuation τ sig (Elt Ideal)) :
    StableHlo.after (l ++ k) W = StableHlo.after k (StableHlo.after l W) := by
  induction l generalizing W with
  | nil => rfl
  | cons o l ih => exact ih _

/-- The biases spread over the columns. -/
abbrev spreadOf (c : Dev nD) : FVec Ideal S8x15x64x64 .f32 :=
  spread (early m c (Proc.devRef .tc main_v31)) (early m c (Proc.devRef .tc main_v32))

/-- What is added to the scores. -/
def added (c : Dev nD) : FVec Ideal S8x3x256x768 .f32 := V m c main_v248

theorem table_eq (c : Dev nD) : added m c = table (spreadOf m c) := by
  show StableHlo.after (List.flatten [hostOps0 (F := Ideal), hostOps0_1, hostOps0_2, hostOps0_3, hostOps0_4])
    (fun b => m (c, b)) (Proc.devRef .tc main_v248) = _
  rw [show List.flatten [hostOps0 (F := Ideal), hostOps0_1, hostOps0_2, hostOps0_3, hostOps0_4] =
    List.flatten [hostOps0 (F := Ideal), hostOps0_1, hostOps0_2, hostOps0_3] ++ hostOps0_4 by
      simp only [List.flatten_cons, List.flatten_nil, List.append_nil, List.append_assoc]]
  rw [after_two]
  exact table_read _

theorem spread_in (c : Dev nD) (h : Fin 8) (n : Fin 15) (q k : Fin 64) (e : Fin 31) (hc : ColOk q.val k.val)
    (he : k.val + 15 = q.val + e.val) : spreadOf m c (ix4 h n q k) = biases m c (ix3 h n e) := by
  unfold spreadOf
  rw [spread_at, onehot_at, mask_at, if_pos hc, add_zero, Finset.sum_eq_single e]
  · rw [if_pos ⟨he, hc⟩, mul_one]
  · intro x _ hx
    rw [if_neg fun g => hx (Fin.ext (by omega)), mul_zero]
  · exact fun g => absurd (Finset.mem_univ e) g

theorem spread_out (c : Dev nD) (h : Fin 8) (n : Fin 15) (q k : Fin 64) (hc : ¬ ColOk q.val k.val) :
    spreadOf m c (ix4 h n q k) = ⊥ := by
  unfold spreadOf
  rw [spread_at, mask_at, if_neg hc, EReal.add_bot]

/-- A key within reach. -/
theorem added_in (c : Dev nD) (h : Fin 8) (p : Fin 3) (a : Fin 4) (q : Fin 64) (j : Fin 12) (k : Fin 64) (n : Fin 15)
    (e : Fin 31) (hj : low p a ≤ j.val ∧ j.val < low p a + 8) (hn : n.val + a.val + 4 = j.val + shift p)
    (hc : ColOk q.val k.val) (he : k.val + 15 = q.val + e.val) :
    added m c (ix4 h p ⟨a.val * 64 + q.val, by omega⟩ ⟨j.val * 64 + k.val, by omega⟩) = biases m c (ix3 h n e) := by
  rw [table_eq]
  exact (table_in _ h p a q j k n hj hn).trans (spread_in m c h n q k e hc he)

/-- A key out of reach. -/
theorem added_out (c : Dev nD) (h : Fin 8) (p : Fin 3) (a : Fin 4) (q : Fin 64) (j : Fin 12) (k : Fin 64)
    (hj : ¬ ((low p a ≤ j.val ∧ j.val < low p a + 8) ∧ ColOk q.val k.val)) :
    added m c (ix4 h p ⟨a.val * 64 + q.val, by omega⟩ ⟨j.val * 64 + k.val, by omega⟩) = ⊥ := by
  rw [table_eq]
  by_cases h1 : low p a ≤ j.val ∧ j.val < low p a + 8
  · have hN : j.val + shift p - a.val - 4 < 15 := by
      obtain ⟨h2, h3⟩ := h1
      revert h2 h3
      fin_cases p <;> simp only [low, shift] <;> intro h2 h3 <;> simp at h2 h3 ⊢ <;> omega
    have hn : j.val + shift p - a.val - 4 + a.val + 4 = j.val + shift p := by
      have : a.val + 4 ≤ j.val + shift p := by
        obtain ⟨h2, h3⟩ := h1
        revert h2 h3
        fin_cases p <;> simp only [low, shift] <;> intro h2 h3 <;> simp at h2 h3 ⊢ <;> omega
      omega
    exact (table_in _ h p a q j k ⟨_, hN⟩ h1 hn).trans (spread_out m c h _ q k fun hc => hj ⟨h1, hc⟩)
  · exact table_out _ h p a q j k h1

end Cert.KernelIdeal.Table

end
-- ==== Proof.Equation.lean ====
module

/-
The keys a query looks at in the kernel are among the reference's keys, with the reference's scores, and every other
key of the reference is masked: so the two attentions agree.
-/

public import proofs.«01_k».proof.Proof.RefAt
public import proofs.«01_k».proof.Proof.Blocks
public import proofs.«01_k».proof.Proof.TableVal

@[expose] public section
set_option maxRecDepth 16384
noncomputable section
namespace Cert.Equation

open Cert.Attn Cert.ReferenceIdeal.Parts Cert.KernelIdeal Cert.KernelIdeal.Gen
open Cert.KernelIdeal.Table Cert.KernelIdeal.Blocks
open Cert.KernelIdeal.Head (scale lowest dot latScore latValue col tcol col_at tcol_at)
open Idealize.ShloMosaic Idealize.ShloMosaic.TcCoe

/-- The added table that the queries of block `i` take. -/
def tableOf (i : ℕ) : ℕ := if i = 0 then 0 else if i < 7 then 1 else 2

/-- Where the reference has a key of the kernel. -/
def keyAt (i : Fin 8) : Keys 256 → Fin 2304 :=
  Sum.elim (fun j => ⟨j.val, by omega⟩) fun p => ⟨256 + ((start i.val + p.1.val) * 256 + p.2.val), by
    have : start i.val ≤ 5 := Nat.min_le_left _ _
    omega⟩

theorem keyAt_inj (i : Fin 8) : Function.Injective (keyAt i) := by
  rintro (j | ⟨e, j⟩) (j' | ⟨e', j'⟩) h <;> have h := congrArg Fin.val h <;> simp only [keyAt, Sum.elim_inl, Sum.elim_inr] at h
  · rw [show j = j' from Fin.ext h]
  · omega
  · omega
  · obtain rfl : e = e' := Fin.ext (by omega)
    rw [show j = j' from Fin.ext (by omega)]

/-- The rows that the table of block `i` leaves are the ones within reach. -/
theorem low_iff : ∀ (i : Fin 8) (p : Fin 3) (a : Fin 4) (j : Fin 12), p.val = tableOf i.val →
    ((low p a ≤ j.val ∧ j.val < low p a + 8) ↔ RowOk (i.val * 4 + a.val) (start i.val * 4 + j.val)) := by
  decide +kernel

/-- And its bias is of the two rows' distance. -/
theorem shift_eq : ∀ (i : Fin 8) (p : Fin 3), p.val = tableOf i.val →
    start i.val * 4 + 7 + 4 = i.val * 4 + shift p := by
  decide +kernel

theorem row_near (i : Fin 8) (a : Fin 4) (j : ℕ) (h : RowOk (i.val * 4 + a.val) (start i.val * 4 + j)) :
    i.val * 4 + a.val ≤ start i.val * 4 + j + 7 ∧ start i.val * 4 + j + 7 < i.val * 4 + a.val + 15 := by
  unfold RowOk firstRow at h
  unfold start at *
  omega

theorem col_near (q k : Fin 64) (h : ColOk q.val k.val) : q.val ≤ k.val + 15 ∧ k.val + 15 < q.val + 31 := by
  unfold ColOk firstCol at h
  omega

/-- A key that the kernel doesn't look at is out of reach. -/
theorem out_of_reach (i : Fin 8) (r : Fin 256) (k : ℕ) (h : k < start i.val * 256 ∨ start i.val * 256 + 768 ≤ k) :
    ¬ RowOk ((i.val * 256 + r.val) / 64) (k / 64) := by
  unfold RowOk firstRow
  unfold start at h
  omega

variable (m : (ℓ : Loc nD τ sig) → Buf (Elt Ideal) ℓ)

/-- What the kernel adds to a score is what the reference does to it: with the rows and columns of the query and the key. -/
theorem plus_added_at (A : FVec Ideal S18432x3072 .bf16) (c : Dev nD) (b h : Fin 8) (i : Fin 8) (p : Fin 3)
    (hp : p.val = tableOf i.val) (a : Fin 4) (s : Fin 64) (j : Fin 12) (u : Fin 64) (q k : Fin 2048)
    (hq : q.val = i.val * 256 + (a.val * 64 + s.val)) (hk : k.val = start i.val * 256 + (j.val * 64 + u.val)) :
    prod A h (latRow b q) (latRow b k) + added m c (ix4 h p ⟨a.val * 64 + s.val, by omega⟩ ⟨j.val * 64 + u.val, by omega⟩) =
      winScore A (biases m c) (ix4 b h q k) := by
  have e1 : q.val / 64 = i.val * 4 + a.val := by omega
  have e2 : k.val / 64 = start i.val * 4 + j.val := by omega
  have e3 : q.val % 64 = s.val := by omega
  have e4 : k.val % 64 = u.val := by omega
  have hl := low_iff i p a j hp
  rw [winScore_at, e1, e2, e3, e4]
  by_cases g : RowOk (i.val * 4 + a.val) (start i.val * 4 + j.val) ∧ ColOk s.val u.val
  · rw [if_pos g]
    have n1 := row_near i a j.val g.1
    have n2 := col_near s u g.2
    have hs := shift_eq i p hp
    obtain ⟨n, hn⟩ : ∃ n : Fin 15, n.val + (i.val * 4 + a.val) = start i.val * 4 + j.val + 7 :=
      ⟨⟨start i.val * 4 + j.val + 7 - (i.val * 4 + a.val), by omega⟩, by dsimp only; omega⟩
    obtain ⟨e, he⟩ : ∃ e : Fin 31, e.val + s.val = u.val + 15 := ⟨⟨u.val + 15 - s.val, by omega⟩, by dsimp only; omega⟩
    have hb : bias (biases m c) (ix3 h q k) = biases m c (ix3 h n e) :=
      bias_at (biases m c) h q k n e (by omega) (by omega)
    rw [added_in m c h p a s j u n e (hl.mpr g.1) (by omega) g.2 (by omega), hb]
  · rw [if_neg g, added_out m c h p a s j u fun g' => g ⟨hl.mp g'.1, g'.2⟩, EReal.add_bot]

theorem plus_added (A : FVec Ideal S18432x3072 .bf16) (c : Dev nD) (b h : Fin 8) (i : Fin 8) (p : Fin 3) (hp : p.val = tableOf i.val)
    (q k : Fin 2048) (r : Fin 256) (x : Fin 768) (hq : q.val = i.val * 256 + r.val) (hk : k.val = start i.val * 256 + x.val) :
    prod A h (latRow b q) (latRow b k) + added m c (ix4 h p r x) = winScore A (biases m c) (ix4 b h q k) := by
  obtain ⟨a, s, hr⟩ : ∃ (a : Fin 4) (s : Fin 64), r.val = a.val * 64 + s.val :=
    ⟨⟨r.val / 64, by omega⟩, ⟨r.val % 64, by omega⟩, by dsimp only; omega⟩
  obtain ⟨j, u, hx⟩ : ∃ (j : Fin 12) (u : Fin 64), x.val = j.val * 64 + u.val :=
    ⟨⟨x.val / 64, by omega⟩, ⟨x.val % 64, by omega⟩, by dsimp only; omega⟩
  rw [show r = ⟨a.val * 64 + s.val, by omega⟩ from Fin.ext hr, show x = ⟨j.val * 64 + u.val, by omega⟩ from Fin.ext hx]
  exact plus_added_at m A c b h i p hp a s j u q k (by omega) (by omega)

/-- A context key's score. -/
theorem dot_eq (A : FVec Ideal S18432x3072 .bf16) (q k : Vec Ideal S256x128 .bf16) (h : Fin 8) (R K : Fin 18432) (r j : Fin 256)
    (hq : ∀ x : Fin 128, q (ix2 r x) = A (ix2 R ⟨h.val * 128 + x.val, by omega⟩))
    (hk : ∀ x : Fin 128, k (ix2 j x) = A (ix2 K ⟨1024 + (h.val * 128 + x.val), by omega⟩)) :
    dot q k r j = prod A h R K := by
  unfold dot prod
  simp only [hq, hk]

end Cert.Equation
end
-- ==== Proof.RefReal.lean ====
module

/-
Where no element of the arguments is infinite, the exponentials of a query's scores don't sum to zero.
-/

public import proofs.«01_k».proof.Proof.RefAt

@[expose] public section
set_option maxRecDepth 16384
noncomputable section
namespace Cert.ReferenceIdeal.Parts

open Cert.ReferenceIdeal Cert.ReferenceIdeal.Gen Cert.Attn
open Cert.KernelIdeal.Table (ColOk)
open Cert.KernelIdeal.Head (scale)
open Idealize.ShloMosaic Idealize.ShloMosaic.TcCoe

/-- Not infinite. -/
def IsReal (x : EReal) : Prop := x ≠ ⊤ ∧ x ≠ ⊥

theorem real_coe {x : EReal} (h : IsReal x) : ∃ r : ℝ, x = r := ⟨x.toReal, (EReal.coe_toReal h.1 h.2).symm⟩

theorem coe_real (r : ℝ) : IsReal (r : EReal) := ⟨EReal.coe_ne_top r, EReal.coe_ne_bot r⟩

theorem real_add {x y : EReal} (hx : IsReal x) (hy : IsReal y) : IsReal (x + y) := by
  obtain ⟨a, rfl⟩ := real_coe hx
  obtain ⟨b, rfl⟩ := real_coe hy
  exact coe_real (a + b)

theorem real_mul {x y : EReal} (hx : IsReal x) (hy : IsReal y) : IsReal (x * y) := by
  obtain ⟨a, rfl⟩ := real_coe hx
  obtain ⟨b, rfl⟩ := real_coe hy
  rw [← EReal.coe_mul]
  exact coe_real (a * b)

theorem real_sum {ι : Type} (s : Finset ι) (f : ι → EReal) (h : ∀ i, IsReal (f i)) : IsReal (∑ i ∈ s, f i) := by
  classical
  induction s using Finset.induction_on with
  | empty => exact coe_real 0
  | insert a s ha ih => rw [Finset.sum_insert ha]; exact real_add (h a) ih

theorem real_scale : IsReal scale := by
  unfold IsReal scale
  simp [Ideal.ofBits, Ideal.ieee]
  exact real_mul (coe_real _) (coe_real _)

variable (A : FVec Ideal S18432x3072 .bf16) (T : FVec Ideal S8x15x31 .f32)

theorem real_prod (hA : ∀ i, IsReal (A i)) (h : Fin 8) (R K : Fin 18432) : IsReal (prod A h R K) :=
  real_mul (real_sum _ _ fun _ => real_mul (hA _) (hA _)) real_scale

theorem bias_mem (h : Fin 8) (q k : Fin 2048) : ∃ i, bias T (ix3 h q k) = T i := ⟨_, rfl⟩

theorem score_ne_top (hA : ∀ i, IsReal (A i)) (hT : ∀ i, IsReal (T i)) (b h : Fin 8) (q : Fin 2048) (k : Fin 2304) :
    score A T b h q k ≠ ⊤ := by
  by_cases e : k.val < 256
  · rw [score_ctx A T b h q k ⟨k.val, e⟩ rfl]
    exact (real_prod A hA h _ _).1
  · rw [score_lat A T b h q k ⟨k.val - 256, by omega⟩ (by dsimp only; omega), winScore_at]
    split
    · obtain ⟨i, hi⟩ := bias_mem T h q ⟨k.val - 256, by omega⟩
      rw [hi]
      exact (real_add (real_prod A hA h _ _) (hT i)).1
    · exact bot_ne_top

theorem mass_lat (hA : ∀ i, IsReal (A i)) (hT : ∀ i, IsReal (T i)) (b h : Fin 8) (q : Fin 2048) :
    mass (score A T b h q) ≠ 0 :=
  mass_ne_zero _ ⟨0, by decide⟩ (by rw [score_ctx A T b h q _ 0 rfl]; exact (real_prod A hA h _ _).2)
    (score_ne_top A T hA hT b h q)

theorem mass_ctx (hA : ∀ i, IsReal (A i)) (b h : Fin 8) (q : Fin 256) : mass (cscore A b h q) ≠ 0 :=
  mass_ne_zero _ 0 (real_prod A hA h _ _).2 fun _ => (real_prod A hA h _ _).1

end Cert.ReferenceIdeal.Parts
end
-- ==== Proof.RefOut.lean ====
module

/-
The reference's result in its two groups of rows.
-/

public import proofs.«01_k».proof.Proof.RefParts
public import Idealize.ShloMosaic.Lib.Pipeline.ValueKit

@[expose] public section
set_option maxRecDepth 16384
noncomputable section
namespace Cert.ReferenceIdeal.Parts

open Cert.ReferenceIdeal Cert.ReferenceIdeal.Gen
open Idealize.ShloMosaic Idealize.ShloMosaic.TcCoe Idealize.ShloMosaic.Tactic

variable (A : FVec Ideal S18432x3072 .bf16) (T : FVec Ideal S8x15x31 .f32)

/-- An index of rank four is determined by its coordinates. -/
theorem ix4_eq {a b c d : ℕ} {i i' : Fin a} {j j' : Fin b} {k k' : Fin c} {l l' : Fin d} (h1 : i.val = i'.val)
    (h2 : j.val = j'.val) (h3 : k.val = k'.val) (h4 : l.val = l'.val) : ix4 i j k l = ix4 i' j' k' l' := by
  rw [Fin.ext h1, Fin.ext h2, Fin.ext h3, Fin.ext h4]

/-- The result in the row of a latent token. -/
theorem out_lat (b : Fin 8) (q : Fin 2048) (h : Fin 8) (d : Fin 128) (n : Fin 18432) (j : Fin 1024)
    (hn : n.val = b.val * 2048 + q.val) (hj : j.val = h.val * 128 + d.val) :
    out A T (ix2 n j) = latOut A T (ix4 b q h d) := by
  pointwise [out]
  rw [dif_pos (by omega)]
  refine congrArg (latOut A T) ?_
  exact ix4_eq (by dsimp only; omega) (by dsimp only; omega) (by dsimp only; omega) (by dsimp only; omega)

/-- The result in the row of a context token. -/
theorem out_ctx (b : Fin 8) (q : Fin 256) (h : Fin 8) (d : Fin 128) (n : Fin 18432) (j : Fin 1024)
    (hn : n.val = 16384 + (b.val * 256 + q.val)) (hj : j.val = h.val * 128 + d.val) :
    out A T (ix2 n j) = ctxOut A (ix4 b q h d) := by
  pointwise [out]
  rw [dif_neg (by omega)]
  refine congrArg (ctxOut A) ?_
  exact ix4_eq (by dsimp only; omega) (by dsimp only; omega) (by dsimp only; omega) (by dsimp only; omega)

end Cert.ReferenceIdeal.Parts
end
-- ==== Proof.Element.lean ====
module

/-
What the body leaves at a grid point is the reference at the rows and the columns that the point writes.
-/

public import proofs.«01_k».proof.Proof.Equation
public import proofs.«01_k».proof.Proof.RefReal
public import proofs.«01_k».proof.Proof.RefOut

@[expose] public section
set_option maxRecDepth 16384
noncomputable section
namespace Cert.Equation

open Cert.Attn Cert.ReferenceIdeal.Parts Cert.KernelIdeal Cert.KernelIdeal.Gen
open Cert.KernelIdeal.Table Cert.KernelIdeal.Blocks
open Cert.KernelIdeal.Head (scale lowest dot latScore latValue headLat headCtx headLat_at headCtx_at col tcol col_at tcol_at)
open Idealize.ShloMosaic Idealize.ShloMosaic.TcCoe

variable (m : (ℓ : Loc nD τ sig) → Buf (Elt Ideal) ℓ)

/-- The queries, keys and values. -/
def tokens (c : Dev nD) : FVec Ideal S18432x3072 .bf16 := m (c.tc.loc main_arg0)

/-- The three blocks of keys of a point, in the head `g` of its half. -/
def keysOf (c : Dev nD) (t : Fin 144) (g : Fin 4) : Fin 3 → Vec Ideal S256x128 .bf16 :=
  ![col (iblk m c 1 t) g, col (iblk m c 2 t) g, col (iblk m c 3 t) g]

/-- Their values. -/
def valsOf (c : Dev nD) (t : Fin 144) (g : Fin 4) : Fin 3 → Vec Ideal S256x128 .bf16 :=
  ![col (iblk m c 4 t) g, col (iblk m c 5 t) g, col (iblk m c 6 t) g]

/-- What is added to their scores. -/
def addsOf (c : Dev nD) (t : Fin 144) (g : Fin 4) : Fin 3 → Vec Ideal S1x1x256x256 .f32 :=
  ![tcol (iblk m c 9 t) g 0, tcol (iblk m c 9 t) g 1, tcol (iblk m c 9 t) g 2]

variable (c : Dev nD) (t : Fin 144) (g : Fin 4)

theorem keysOf_0 : keysOf m c t g 0 = col (iblk m c 1 t) g := rfl
theorem keysOf_1 : keysOf m c t g 1 = col (iblk m c 2 t) g := rfl
theorem keysOf_2 : keysOf m c t g 2 = col (iblk m c 3 t) g := rfl

theorem valsOf_0 : valsOf m c t g 0 = col (iblk m c 4 t) g := rfl
theorem valsOf_1 : valsOf m c t g 1 = col (iblk m c 5 t) g := rfl
theorem valsOf_2 : valsOf m c t g 2 = col (iblk m c 6 t) g := rfl

theorem addsOf_0 : addsOf m c t g 0 = tcol (iblk m c 9 t) g 0 := rfl
theorem addsOf_1 : addsOf m c t g 1 = tcol (iblk m c 9 t) g 1 := rfl
theorem addsOf_2 : addsOf m c t g 2 = tcol (iblk m c 9 t) g 2 := rfl

/-- The head among the eight. -/
def headOf : Fin 8 := ⟨blkH t * 4 + g.val, by have := (lt_72 t).2.2.2.1; omega⟩

theorem keys_at (e : Fin 3) (j : Fin 256) (x : Fin 128) (K : Fin 18432) (hK : K.val = (rowK t + e.val) * 256 + j.val) :
    keysOf m c t g e (ix2 j x) = tokens m c (ix2 K ⟨1024 + ((headOf t g).val * 128 + x.val), by omega⟩) := by
  match e with
  | 0 =>
    rw [keysOf_0, col_at]
    exact blk_1 m c t j _ K _ hK (by simp only [headOf]; omega)
  | 1 =>
    rw [keysOf_1, col_at]
    exact blk_2 m c t j _ K _ hK (by simp only [headOf]; omega)
  | 2 =>
    rw [keysOf_2, col_at]
    exact blk_3 m c t j _ K _ hK (by simp only [headOf]; omega)

theorem vals_at (e : Fin 3) (j : Fin 256) (d : Fin 128) (K : Fin 18432) (hK : K.val = (rowK t + e.val) * 256 + j.val) :
    valsOf m c t g e (ix2 j d) = val (tokens m c) (headOf t g) d K := by
  match e with
  | 0 =>
    rw [valsOf_0, col_at]
    exact blk_4 m c t j _ K _ hK (by simp only [headOf]; omega)
  | 1 =>
    rw [valsOf_1, col_at]
    exact blk_5 m c t j _ K _ hK (by simp only [headOf]; omega)
  | 2 =>
    rw [valsOf_2, col_at]
    exact blk_6 m c t j _ K _ hK (by simp only [headOf]; omega)

theorem adds_at (e : Fin 3) (r j : Fin 256) (P : Fin 3) (hP : P.val = pattern t) :
    addsOf m c t g e (ix4 0 0 r j) = added m c (ix4 (headOf t g) P r ⟨e.val * 256 + j.val, by omega⟩) := by
  match e with
  | 0 =>
    rw [addsOf_0, tcol_at]
    exact blk_9 m c t g r _ (headOf t g) P rfl hP
  | 1 =>
    rw [addsOf_1, tcol_at]
    exact blk_9 m c t g r _ (headOf t g) P rfl hP
  | 2 =>
    rw [addsOf_2, tcol_at]
    exact blk_9 m c t g r _ (headOf t g) P rfl hP

theorem query_at (r : Fin 256) (x : Fin 128) (R : Fin 18432) (hR : R.val = rowQ t * 256 + r.val) :
    col (iblk m c 0 t) g (ix2 r x) = tokens m c (ix2 R ⟨(headOf t g).val * 128 + x.val, by omega⟩) :=
  (col_at _ g r x).trans (blk_0 m c t r _ R _ hR (by simp only [headOf]; omega))

theorem ctxKey_at (j : Fin 256) (x : Fin 128) (K : Fin 18432) (hK : K.val = (64 + img t) * 256 + j.val) :
    col (iblk m c 7 t) g (ix2 j x) = tokens m c (ix2 K ⟨1024 + ((headOf t g).val * 128 + x.val), by omega⟩) :=
  (col_at _ g j x).trans (blk_7 m c t j _ K _ hK (by simp only [headOf]; omega))

theorem ctxVal_at (j : Fin 256) (d : Fin 128) (K : Fin 18432) (hK : K.val = (64 + img t) * 256 + j.val) :
    col (iblk m c 8 t) g (ix2 j d) = val (tokens m c) (headOf t g) d K :=
  (col_at _ g j d).trans (blk_8 m c t j _ K _ hK (by simp only [headOf]; omega))

/-- The image, as an index. -/
def image : Fin 8 := ⟨img t, Nat.mod_lt _ (by decide)⟩

/-- A latent query's scores in the kernel are the reference's at the same keys. -/
theorem scores_eq (i : Fin 8) (hi : i.val = place t) (q : Fin 2048) (r : Fin 256) (hq : q.val = i.val * 256 + r.val)
    (k : Keys 256) :
    latScore (col (iblk m c 0 t) g) (col (iblk m c 7 t) g) (keysOf m c t g) (addsOf m c t g) r k =
      score (tokens m c) (biases m c) (image t) (headOf t g) q (keyAt i k) := by
  have h8 : place t < 8 := hi ▸ i.isLt
  have hR : (latRow (image t) q).val = rowQ t * 256 + r.val := by
    simp only [latRow, image, rowQ, if_pos h8]; omega
  match k with
  | .inl j =>
    rw [score_ctx _ _ _ _ _ _ j rfl]
    exact dot_eq (tokens m c) _ _ _ _ _ r j (fun x => query_at m c t g r x _ hR)
      fun x => ctxKey_at m c t g j x _ (by simp only [ctxRow, image]; omega)
  | .inr (e, j) =>
    have hs : start i.val ≤ 5 := Nat.min_le_left _ _
    obtain ⟨K, hK⟩ : ∃ K : Fin 2048, K.val = (start i.val + e.val) * 256 + j.val := ⟨⟨_, by omega⟩, rfl⟩
    have hK' : (latRow (image t) K).val = (rowK t + e.val) * 256 + j.val := by
      simp only [latRow, image, rowK, ← hi]; omega
    rw [score_lat _ _ _ _ _ _ K (by rw [hK]; rfl),
      ← plus_added m (tokens m c) c (image t) (headOf t g) i ⟨pattern t, (lt_72 t).2.2.2.2⟩ (by simp only [hi, pattern, tableOf])
        q K r ⟨e.val * 256 + j.val, by omega⟩ hq (by dsimp only; omega),
      ← adds_at m c t g e r j _ rfl]
    exact congrArg (· + addsOf m c t g e (ix4 0 0 r j)) (dot_eq (tokens m c) _ _ _ _ _ r j (fun x => query_at m c t g r x _ hR)
      fun x => keys_at m c t g e j x _ hK')

/-- And so are their values. -/
theorem values_eq (i : Fin 8) (hi : i.val = place t) (d : Fin 128) (k : Keys 256) :
    latValue (col (iblk m c 8 t) g) (valsOf m c t g) d k = values (tokens m c) (image t) (headOf t g) d (keyAt i k) := by
  unfold values
  match k with
  | .inl j =>
    rw [dif_pos (show (keyAt i (.inl j)).val < 256 from j.isLt)]
    exact ctxVal_at m c t g j d _ (by simp only [ctxRow, image, keyAt, Sum.elim_inl]; omega)
  | .inr (e, j) =>
    rw [dif_neg (by simp only [keyAt, Sum.elim_inr]; omega)]
    exact vals_at m c t g e j d _ (by simp only [latRow, image, rowK, keyAt, Sum.elim_inr, ← hi]; omega)

/-- A key outside the kernel's is masked. -/
theorem masked (A : FVec Ideal S18432x3072 .bf16) (T : FVec Ideal S8x15x31 .f32) (b h : Fin 8) (i : Fin 8) (q : Fin 2048)
    (r : Fin 256) (hq : q.val = i.val * 256 + r.val) (k : Fin 2304) (hk : k ∉ Set.range (keyAt i)) : score A T b h q k = ⊥ := by
  have h0 : ¬ k.val < 256 := fun h0 => hk ⟨.inl ⟨k.val, h0⟩, Fin.ext rfl⟩
  have h1 : k.val - 256 < start i.val * 256 ∨ start i.val * 256 + 768 ≤ k.val - 256 := by
    by_contra h1
    refine hk ⟨.inr (⟨(k.val - 256 - start i.val * 256) / 256, by omega⟩, ⟨(k.val - 256 - start i.val * 256) % 256, by omega⟩), Fin.ext ?_⟩
    simp only [keyAt, Sum.elim_inr]
    omega
  rw [score_lat A T b h q k ⟨k.val - 256, by omega⟩ (by dsimp only; omega), winScore_at, hq]
  exact if_neg fun g => out_of_reach i r _ h1 g.1

/-- A head's three blocks of keys, values and added tables, one by one. -/
theorem headLat_three (q kc k0 k1 k2 vc v0 v1 v2 : Vec Ideal S256x128 .bf16) (t0 t1 t2 : Vec Ideal S1x1x256x256 .f32)
    (i : Fin 256) (d : Fin 128) : headLat q kc k0 k1 k2 vc v0 v1 v2 t0 t1 t2 (ix2 i d) =
      attn (latScore q kc ![k0, k1, k2] ![t0, t1, t2] i) (latValue vc ![v0, v1, v2] d) :=
  headLat_at q kc ![k0, k1, k2] vc ![v0, v1, v2] ![t0, t1, t2] i d

/-- An element of a block of latent queries. -/
theorem lat_eq (hA : ∀ i, IsReal (tokens m c i)) (hT : ∀ i, IsReal (biases m c i)) (h : place t ≤ 7) (r : Fin 256)
    (d : Fin 128) (n : Fin 18432) (j : Fin 1024) (hn : n.val = rowQ t * 256 + r.val) (hj : j.val = blkH t * 512 + (g.val * 128 + d.val)) :
    attn (latScore (col (iblk m c 0 t) g) (col (iblk m c 7 t) g) (keysOf m c t g) (addsOf m c t g) r)
      (latValue (col (iblk m c 8 t) g) (valsOf m c t g) d) = out (tokens m c) (biases m c) (ix2 n j) := by
  obtain ⟨i, hi⟩ : ∃ i : Fin 8, i.val = place t := ⟨⟨place t, by omega⟩, rfl⟩
  obtain ⟨q, hq⟩ : ∃ q : Fin 2048, q.val = i.val * 256 + r.val := ⟨⟨_, by omega⟩, rfl⟩
  rw [out_lat _ _ (image t) q (headOf t g) d n j
      (by simp only [rowQ, if_pos (show place t < 8 by omega)] at hn; simp only [image]; omega) (by simp only [headOf]; omega),
    latOut_at _ _ _ _ _ _ (mass_lat _ _ hA hT _ _ _),
    ← attn_extend (keyAt_inj i) _ _ (masked (tokens m c) (biases m c) (image t) (headOf t g) i q r hq)]
  congr 1
  · funext k; exact scores_eq m c t g i hi q r hq k
  · funext k; exact values_eq m c t g i hi d k

/-- An element of a block of context queries. -/
theorem ctx_eq (hA : ∀ i, IsReal (tokens m c i)) (h : ¬ place t ≤ 7) (r : Fin 256)
    (d : Fin 128) (n : Fin 18432) (j : Fin 1024) (hn : n.val = rowQ t * 256 + r.val) (hj : j.val = blkH t * 512 + (g.val * 128 + d.val)) :
    headCtx (col (iblk m c 0 t) g) (col (iblk m c 7 t) g) (col (iblk m c 8 t) g) (ix2 r d) =
      out (tokens m c) (biases m c) (ix2 n j) := by
  have hr : (ctxRow (image t) r).val = rowQ t * 256 + r.val := by
    simp only [ctxRow, image, rowQ, if_neg (show ¬ place t < 8 by omega)]; omega
  rw [headCtx_at, out_ctx _ _ (image t) r (headOf t g) d n j (by rw [hn, ← hr]; rfl) (by simp only [headOf]; omega),
    ctxOut_at _ _ _ _ _ (mass_ctx _ hA _ _ _)]
  refine congrArg₂ attn (funext fun k => ?_) (funext fun k => ?_)
  · exact dot_eq (tokens m c) _ _ _ _ _ r k (fun x => query_at m c t g r x _ hr)
      fun x => ctxKey_at m c t g k x _ (by simp only [ctxRow, image]; omega)
  · exact ctxVal_at m c t g k d _ (by simp only [ctxRow, image]; omega)

end Cert.Equation
end
-- ==== Proof.Assembly.lean ====
module

/-
The kernel's result is the reference's.
-/

public import proofs.«01_k».proof.Proof.Element
public import Idealize.ShloMosaic.Lib.Pipeline.ValueKit

@[expose] public section
set_option maxRecDepth 16384
noncomputable section
namespace Cert.Equation

open Cert.Attn Cert.ReferenceIdeal.Parts Cert.KernelIdeal Cert.KernelIdeal.Gen Cert.KernelIdeal.Run
open Cert.KernelIdeal.Table Cert.KernelIdeal.Blocks Cert.KernelIdeal.Head
open Idealize.ShloMosaic Idealize.ShloMosaic.TcCoe Idealize.ShloMosaic.Tactic

variable (m : (ℓ : Loc nD τ sig) → Buf (Elt Ideal) ℓ)

/-- What the body leaves at an index of its block. -/
theorem left_at (c : Dev nD) (hA : ∀ i, IsReal (tokens m c i)) (hT : ∀ i, IsReal (biases m c i)) (t : Fin 144)
    (y : S256x512.Idx) (n : Fin 18432) (j : Fin 1024) (hn : n.val = rowQ t * 256 + (y 0).val) (hj : j.val = blkH t * 512 + (y 1).val) :
    left m c t y = out (tokens m c) (biases m c) (ix2 n j) := by
  have h1 : (y 1).val < 512 := (y 1).isLt
  obtain ⟨r, hr⟩ : ∃ r : Fin 256, (y 0).val = r.val := ⟨y 0, rfl⟩
  obtain ⟨g, d, hd⟩ : ∃ (g : Fin 4) (d : Fin 128), (y 1).val = g.val * 128 + d.val :=
    ⟨⟨(y 1).val / 128, by omega⟩, ⟨(y 1).val % 128, by omega⟩, by dsimp only; omega⟩
  unfold left
  by_cases h : t.val / 8 % 9 ≤ 7
  · rw [dif_pos h, leftLat_head m c t h y g r d hr hd, headLat_three]
    exact lat_eq m c t g hA hT h r d n j (by omega) (by omega)
  · rw [dif_neg h, leftCtx_head m c t h y g r d hr hd]
    exact ctx_eq m c t g hA h r d n j (by omega) (by omega)

/-- The result array at the end. -/
theorem result_eq (c : Dev nD) (hA : ∀ i, IsReal (tokens m c i)) (hT : ∀ i, IsReal (biases m c i)) :
    (dats m 0 c).arrAt 10 cfg0.N = out (tokens m c) (biases m c) := by
  refine (dats m 0 c).arrAt_eq_of_covers 10 _ (by decide +kernel) fun t hf y => ?_
  blk_simp
  rw [after_out]
  obtain ⟨e0, e1⟩ := index_10 t
  have h0 : (y (0 : Fin 2)).val < 256 := (y (0 : Fin 2)).isLt
  have h1 : (y (1 : Fin 2)).val < 512 := (y (1 : Fin 2)).isLt
  obtain ⟨n, hn⟩ : ∃ n : Fin 18432, n.val = rowQ t * 256 + (y (0 : Fin 2)).val :=
    ⟨⟨_, by have := (lt_72 t).1; omega⟩, rfl⟩
  obtain ⟨j, hj⟩ : ∃ j : Fin 1024, j.val = blkH t * 512 + (y (1 : Fin 2)).val :=
    ⟨⟨_, by have := (lt_72 t).2.2.2.1; omega⟩, rfl⟩
  refine (left_at m c hA hT t y n j hn hj).trans (congrArg (out (tokens m c) (biases m c)) ?_)
  funext a
  match a with
  | 0 =>
    refine Fin.ext ?_
    blk_simp [e0]
    exact hn
  | 1 =>
    refine Fin.ext ?_
    blk_simp [e1]
    exact hj

end Cert.Equation
end
-- ==== Proof.MlpRef.lean ====
module

/-
The reference of the feed-forward part's first product, at an element of its results.
-/

public import proofs.«01_k».proof.Proof.Gen.Reference2Ideal.Run
public import Idealize.ShloMosaic.Lib.Pointwise

@[expose] public section
set_option maxRecDepth 16384
noncomputable section
namespace Cert.Reference2Ideal.Mlp

open Cert.Reference2Ideal Cert.Reference2Ideal.Gen
open Idealize.ShloMosaic Idealize.ShloMosaic.TcCoe Idealize.ShloMosaic.Tactic

/-- The product of the tokens with the first layer's weight. -/
def product (h : FVec Ideal S18432x2048 .bf16) (w : FVec Ideal S2x2048x8192 .f32) : FVec Ideal S18432x8192 .f32 :=
  Host.dotGeneral dot_S18432x2048_S2048x8192_S18432x8192_1_0_0_1_n_n none (extf .f32 h bitsLt_bf16_f32)
    (shapeCast _ (extractStridedSlice S1x2048x8192 ![0, 0, 0] w slices_S2x2048x8192_S1x2048x8192_0_0_0) shapeCasts_S1x2048x8192_S2048x8192)

/-- Its positive part. -/
def positive (h : FVec Ideal S18432x2048 .bf16) (w : FVec Ideal S2x2048x8192 .f32) : FVec Ideal S18432x8192 .f32 :=
  maximumf (product h w) (broadcastInDim S18432x8192 ![] bcast_S_S18432x8192 (constant S_ .f32 0x00000000#32))

/-- The square of that: the hidden layer. -/
def hidden (h : FVec Ideal S18432x2048 .bf16) (w : FVec Ideal S2x2048x8192 .f32) : FVec Ideal S18432x8192 .bf16 :=
  truncf .bf16 (mulf (positive h w) (positive h w)) bitsLt_bf16_f32

/-- The second weight, as the other half of the feed-forward part takes it. -/
def second (w : FVec Ideal S2x8192x2048 .f32) : FVec Ideal S1x8192x2048 .bf16 :=
  truncf .bf16 (extractStridedSlice S1x8192x2048 ![0, 0, 0] w slices_S2x8192x2048_S1x8192x2048_0_0_0) bitsLt_bf16_f32

/-- The square of the positive part. -/
def squareRelu (x : EReal) : EReal := max x 0 * max x 0

theorem product_at (h : FVec Ideal S18432x2048 .bf16) (w : FVec Ideal S2x2048x8192 .f32) (R : Fin 18432) (X : Fin 8192) :
    product h w (ix2 R X) = ∑ k : Fin 2048, h (ix2 R k) * w (ix3 0 k X) := by
  pointwise [product]

/-- The hidden layer at an index. -/
theorem hidden_at (h : FVec Ideal S18432x2048 .bf16) (w : FVec Ideal S2x2048x8192 .f32) (R : Fin 18432) (X : Fin 8192) :
    hidden h w (ix2 R X) = squareRelu (∑ k : Fin 2048, h (ix2 R k) * w (ix3 0 k X)) := by
  rw [← product_at]
  pointwise [hidden, positive]
  rfl

theorem second_at (w : FVec Ideal S2x8192x2048 .f32) (R : Fin 8192) (X : Fin 2048) :
    second w (ix3 0 R X) = w (ix3 0 R X) := by
  pointwise [second]

end Cert.Reference2Ideal.Mlp

end
-- ==== Proof.MlpBody.lean ====
module

/-
What the body of the feed-forward part's first product leaves at one grid point: the grid runs over eight blocks of
columns and, inside each, over nine blocks of rows; the weight's block is cast at the first of the nine and kept.
-/

public import proofs.«01_k».proof.Proof.Gen.Kernel2Ideal.Value
public import proofs.«01_k».proof.Proof.MlpRef
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Kernel2Ideal.Mlp

open Cert.Kernel2Ideal Cert.Kernel2Ideal.Gen
open Cert.Reference2Ideal.Mlp (squareRelu)
open Idealize.ShloMosaic Idealize.ShloMosaic.TcCoe Idealize.ShloMosaic.Tactic

theorem cast_at (w : Vec Ideal S1x2048x1024 .f32) (k : Fin 2048) (x : Fin 1024) : k0_pay2 w (ix2 k x) = w (ix3 0 k x) := by
  pointwise [k0_pay2]

theorem second_at (w : Vec Ideal S1x128x2048 .f32) (r : Fin 128) (x : Fin 2048) : k0_pay1 w (ix3 0 r x) = w (ix3 0 r x) := by
  pointwise [k0_pay1]

theorem hidden_at (h : Vec Ideal S2048x2048 .bf16) (w : Vec Ideal S2048x1024 .bf16) (r : Fin 2048) (x : Fin 1024) :
    k0_pay3 h w (ix2 r x) = squareRelu (∑ k : Fin 2048, h (ix2 r k) * w (ix2 k x)) := by
  pointwise [k0_pay3]
  rfl

variable (m : (ℓ : Loc nD τ sig) → Buf (Elt Ideal) ℓ)

/-- At the first row block of a column block: the weight's block is cast and used. -/
theorem first_point (c : Dev nD) (t : Fin cfg0.N) (h0 : t.val % 9 = 0) :
    outsAt0 m c t.val t.isLt = (k0_pay3 (iblk m c 0 t) (k0_pay2 (iblk m c 1 t)), k0_pay1 (iblk m c 2 t), k0_pay2 (iblk m c 1 t)) := by
  rw [outsAt0_A m c t h0]
  refine congrArg₂ Prod.mk ?_ (congrArg₂ Prod.mk ?_ ?_)
  · unfold out0_A_3
    frame_out
  · unfold out0_A_4
    frame_out
  · unfold sout0_A_0
    frame_out

/-- At the later ones: the kept block is used and stays. -/
theorem later_point (c : Dev nD) (t : Fin cfg0.N) (h0 : ¬ t.val % 9 = 0) (w : Vec Ideal S2048x1024 .bf16)
    (hw : (outsAt0 m c (t.val - 1) (Nat.lt_of_le_of_lt (Nat.sub_le _ _) t.isLt)).2.2 = w) :
    outsAt0 m c t.val t.isLt = (k0_pay3 (iblk m c 0 t) w, k0_pay1 (iblk m c 2 t), w) := by
  rw [outsAt0_B m c t h0, hw]
  refine congrArg₂ Prod.mk ?_ (congrArg₂ Prod.mk ?_ ?_)
  · unfold out0_B_3
    frame_out
    simp only [read_unread_whole]
  · unfold out0_B_4
    frame_out
  · rfl

end Cert.Kernel2Ideal.Mlp

end
-- ==== Proof.MlpEq.lean ====
module

/-
The feed-forward part's first product: the kernel's two results are the reference's.
-/

public import proofs.«01_k».proof.Proof.MlpBody

@[expose] public section
set_option maxRecDepth 16384
noncomputable section
namespace Cert.Kernel2Ideal.Mlp

open Cert.Kernel2Ideal Cert.Kernel2Ideal.Gen
open Cert.Reference2Ideal.Mlp (squareRelu hidden second)
open Idealize.ShloMosaic Idealize.ShloMosaic.TcCoe Idealize.ShloMosaic.Tactic

theorem index_0 : ∀ t : Fin 72, win0_0.index t (0 : Fin 2) = t.val % 9 ∧ win0_0.index t (1 : Fin 2) = 0 := by decide +kernel
theorem index_1 : ∀ t : Fin 72, win0_1.index t (0 : Fin 3) = 0 ∧ win0_1.index t (1 : Fin 3) = 0 ∧
    win0_1.index t (2 : Fin 3) = t.val / 9 := by decide +kernel
theorem index_2 : ∀ t : Fin 72, win0_2.index t (0 : Fin 3) = 0 ∧ win0_2.index t (1 : Fin 3) = min t.val 63 ∧
    win0_2.index t (2 : Fin 3) = 0 := by decide +kernel
theorem index_3 : ∀ t : Fin 72, win0_3.index t (0 : Fin 2) = t.val % 9 ∧ win0_3.index t (1 : Fin 2) = t.val / 9 := by
  decide +kernel
theorem index_4 : ∀ t : Fin 72, win0_4.index t (0 : Fin 3) = 0 ∧ win0_4.index t (1 : Fin 3) = min t.val 63 ∧
    win0_4.index t (2 : Fin 3) = 0 := by decide +kernel

variable (m : (ℓ : Loc nD τ sig) → Buf (Elt Ideal) ℓ)

/-- The tokens. -/
abbrev tokens (c : Dev nD) : Vec Ideal S18432x2048 .bf16 := m (c.tc.loc main_arg0)
/-- The first weights of both layers. -/
abbrev firsts (c : Dev nD) : Vec Ideal S2x2048x8192 .f32 := m (c.tc.loc main_arg1)
/-- The second weights of both layers. -/
abbrev seconds (c : Dev nD) : Vec Ideal S2x8192x2048 .f32 := m (c.tc.loc main_arg2)

/-- The tokens of a grid point. -/
theorem blk_0 (c : Dev nD) (t : Fin 72) (r k : Fin 2048) (R : Fin 18432) (hR : R.val = t.val % 9 * 2048 + r.val) :
    iblk m c 0 t (ix2 r k) = tokens m c (ix2 R k) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]

/-- The first weight's columns of a grid point. -/
theorem blk_1 (c : Dev nD) (t : Fin 72) (k : Fin 2048) (x : Fin 1024) (X : Fin 8192) (hX : X.val = t.val / 9 * 1024 + x.val) :
    iblk m c 1 t (ix3 0 k x) = firsts m c (ix3 0 k X) := by
  blk_simp [iblk]
  refine congrArg (m (c.tc.loc main_arg1)) ?_
  obtain ⟨e0, e1, e2⟩ := index_1 t
  funext a
  match a with
  | 0 =>
    refine Fin.ext ?_
    blk_simp [e0]
    rfl
  | 1 =>
    refine Fin.ext ?_
    blk_simp [e1]
  | 2 =>
    refine Fin.ext ?_
    blk_simp [e2]
    exact hX.symm

/-- The second weight's rows of a grid point. -/
theorem blk_2 (c : Dev nD) (t : Fin 72) (r : Fin 128) (x : Fin 2048) (R : Fin 8192) (hR : R.val = min t.val 63 * 128 + r.val) :
    iblk m c 2 t (ix3 0 r x) = seconds m c (ix3 0 R x) := by
  blk_simp [iblk]
  refine congrArg (m (c.tc.loc main_arg2)) ?_
  obtain ⟨e0, e1, e2⟩ := index_2 t
  funext a
  match a with
  | 0 =>
    refine Fin.ext ?_
    blk_simp [e0]
    rfl
  | 1 =>
    refine Fin.ext ?_
    blk_simp [e1]
    exact hR.symm
  | 2 =>
    refine Fin.ext ?_
    blk_simp [e2]

/-- The columns of the first weight that a grid point uses, as the cast leaves them. -/
def columns (c : Dev nD) (j : ℕ) (hj : j < 8) : Vec Ideal S2048x1024 .bf16 :=
  fun y => firsts m c (ix3 0 (y 0) ⟨j * 1024 + (y 1).val, by have : (y 1).val < 1024 := (y 1).isLt; omega⟩)

theorem cast_eq (c : Dev nD) (t : Fin cfg0.N) (j : ℕ) (hj : j < 8) (h : t.val / 9 = j) :
    k0_pay2 (iblk m c 1 t) = columns m c j hj := by
  funext y
  obtain ⟨k, x, rfl⟩ : ∃ (k : Fin 2048) (x : Fin 1024), y = ix2 k x := ⟨y 0, y 1, by
    funext a
    match a with
    | 0 => rfl
    | 1 => rfl⟩
  rw [cast_at]
  exact blk_1 m c t k x _ (by rw [h]; rfl)

/-- What the body leaves at any point. -/
theorem point (c : Dev nD) : ∀ (n : ℕ) (hn : n < cfg0.N) (j : ℕ) (hj : j < 8), n / 9 = j →
    outsAt0 m c n hn = (k0_pay3 (iblk m c 0 ⟨n, hn⟩) (columns m c j hj), k0_pay1 (iblk m c 2 ⟨n, hn⟩), columns m c j hj) := by
  intro n
  induction n with
  | zero =>
    intro hn j hj h
    refine (first_point m c ⟨0, hn⟩ rfl).trans ?_
    rw [cast_eq m c ⟨0, hn⟩ j hj h]
  | succ n ih =>
    intro hn j hj h
    by_cases h0 : (n + 1) % 9 = 0
    · refine (first_point m c ⟨n + 1, hn⟩ h0).trans ?_
      rw [cast_eq m c ⟨n + 1, hn⟩ j hj h]
    · exact later_point m c ⟨n + 1, hn⟩ h0 (columns m c j hj)
        (congrArg (fun p => p.2.2) (ih (Nat.lt_of_succ_lt hn) j hj (by omega)))

theorem lt_8 (t : Fin 72) : t.val / 9 < 8 := by omega

/-- The first result at the end: the hidden layer. -/
theorem hidden_eq (c : Dev nD) : (dats m 0 c).arrAt 3 cfg0.N = hidden (tokens m c) (firsts m c) := by
  refine (dats m 0 c).arrAt_eq_of_covers 3 _ (by decide +kernel) fun t hf y => ?_
  blk_simp
  rw [after0_3, point m c t.val t.isLt _ (lt_8 t) rfl]
  obtain ⟨e0, e1⟩ := index_3 t
  obtain ⟨r, x, rfl⟩ : ∃ (r : Fin 2048) (x : Fin 1024), y = ix2 r x := ⟨y 0, y 1, by
    funext a
    match a with
    | 0 => rfl
    | 1 => rfl⟩
  have ht : t.val < 72 := t.isLt
  obtain ⟨R, hR⟩ : ∃ R : Fin 18432, R.val = t.val % 9 * 2048 + r.val := ⟨⟨_, by omega⟩, rfl⟩
  obtain ⟨X, hX⟩ : ∃ X : Fin 8192, X.val = t.val / 9 * 1024 + x.val := ⟨⟨_, by omega⟩, rfl⟩
  refine (hidden_at _ _ r x).trans (Eq.trans ?_ ((Cert.Reference2Ideal.Mlp.hidden_at (tokens m c) (firsts m c) R X).symm.trans
    (congrArg (hidden (tokens m c) (firsts m c)) ?_)))
  · refine congrArg squareRelu (Finset.sum_congr rfl fun k _ => congrArg₂ (· * ·) (blk_0 m c t r k R hR) ?_)
    exact congrArg (firsts m c) (congrArg (ix3 0 k) (Fin.ext hX.symm))
  · funext a
    match a with
    | 0 =>
      refine Fin.ext ?_
      blk_simp [e0]
      exact hR
    | 1 =>
      refine Fin.ext ?_
      blk_simp [e1]
      exact hX

/-- The second result at the end: the second weight of the first layer. -/
theorem second_eq (c : Dev nD) : (dats m 0 c).arrAt 4 cfg0.N = second (seconds m c) := by
  refine (dats m 0 c).arrAt_eq_of_covers 4 _ (by decide +kernel) fun t hf y => ?_
  blk_simp
  rw [after0_4, point m c t.val t.isLt _ (lt_8 t) rfl]
  obtain ⟨e0, e1, e2⟩ := index_4 t
  obtain ⟨r, x, rfl⟩ : ∃ (r : Fin 128) (x : Fin 2048), y = ix3 0 r x := ⟨y 1, y 2, by
    funext a
    match a with
    | 0 => exact Fin.ext (by have : (y 0).val < 1 := (y 0).isLt; show (y 0).val = 0; omega)
    | 1 => rfl
    | 2 => rfl⟩
  obtain ⟨R, hR⟩ : ∃ R : Fin 8192, R.val = min t.val 63 * 128 + r.val := ⟨⟨_, by omega⟩, rfl⟩
  have e := (second_at (iblk m c 2 t) r x).trans ((blk_2 m c t r x R hR).trans ((Cert.Reference2Ideal.Mlp.second_at (seconds m c) R x).symm))
  dsimp only
  refine Eq.trans e (congrArg (second (seconds m c)) ?_)
  funext a
  match a with
  | 0 =>
    refine Fin.ext ?_
    blk_simp [e0]
  | 1 =>
    refine Fin.ext ?_
    blk_simp [e1]
    exact hR
  | 2 =>
    refine Fin.ext ?_
    blk_simp [e2]

end Cert.Kernel2Ideal.Mlp

end
-- ==== Proof.MlpClaim.lean ====
/- The claims about the feed-forward part's first product. -/
module

public import proofs.«01_k».proof.Proof.MlpEq
public import proofs.«01_k».proof.Defs
public import proofs.«01_k».proof.Proof.Gen.Kernel2
public import Idealize.ShloMosaic.Adequacy
public import Idealize.ShloMosaic.Init

@[expose] public section

set_option maxRecDepth 16384

noncomputable section

namespace Cert.Proof.Mlp

open Idealize.ShloMosaic Idealize.SL.Sem

/-- The frame, said of the text that is read at the ideal instance, over words. -/
def Quiet : Prop :=
  ∀ (m : (ℓ : Loc Cert.Kernel2Ideal.nD Cert.Kernel2Ideal.τ Cert.Kernel2Ideal.sig) → Buf (Elt Bits) ℓ)
    (ρ : Dev Cert.Kernel2Ideal.nD → PrngReg), True →
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem (c.tc.loc Cert.Kernel2Ideal.main_arg0) = m (c.tc.loc Cert.Kernel2Ideal.main_arg0)
      ∧ r.2.mem (c.tc.loc Cert.Kernel2Ideal.main_arg1) = m (c.tc.loc Cert.Kernel2Ideal.main_arg1)
      ∧ r.2.mem (c.tc.loc Cert.Kernel2Ideal.main_arg2) = m (c.tc.loc Cert.Kernel2Ideal.main_arg2))
      ∧ r.2.sem = fun _ => 0)

/-- The two texts are one. -/
theorem same : Quiet = Cert.quiescent_Kernel2 (hKernel2 := Cert.Kernel2.Gen.facts) := by
  sl_kernel_rfl

/-- The kernel over words ends with its arguments unchanged and every counter at zero. -/
theorem frame_kernel : Cert.quiescent_Kernel2 (hKernel2 := Cert.Kernel2.Gen.facts) :=
  same ▸ fun m ρ _ => Cert.Kernel2Ideal.Gen.frame (F := Bits) m ρ

/-- The idealized kernel ends with its arguments unchanged and every counter at zero. -/
theorem frame_ideal : Cert.quiescent_Kernel2Ideal (hKernel2Ideal := Cert.Kernel2Ideal.Gen.facts) :=
  fun m ρ _ => Cert.Kernel2Ideal.Gen.frame m ρ

/-- The reference ends with its arguments unchanged; it has no counter. -/
theorem frame_reference : Cert.quiescent_Reference2Ideal (hReference2Ideal := Cert.Reference2Ideal.Gen.facts) :=
  fun m ρ _ => (θ_run Cert.Reference2Ideal.defs _ _).mono
    (fun r h => ⟨fun c => (h c).2.2, sem_eq_zero_of_no_sems (by decide) r.2⟩) (Cert.Reference2Ideal.Value.run m ρ)

/-- The kernel's results are the reference's. -/
theorem equal : Cert.algebraic_Kernel2Ideal_Reference2Ideal (hKernel2Ideal := Cert.Kernel2Ideal.Gen.facts)
    (hReference2Ideal := Cert.Reference2Ideal.Gen.facts) := by
  intro m g m' g' _ he
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N,
    Cert.Kernel2Ideal.Value.run_blocks m g,
    (θ_run Cert.Reference2Ideal.defs _ _).mono (fun r h c => ?_) (Cert.Reference2Ideal.Value.run m' g')⟩
  obtain ⟨h0, h1, hk⟩ := h c
  refine ⟨h0.trans ?_, h1.trans ?_, hk⟩
  · rw [(he c).1, (he c).2.1]
    exact (Cert.Kernel2Ideal.Mlp.hidden_eq m c).symm
  · rw [(he c).2.2]
    exact (Cert.Kernel2Ideal.Mlp.second_eq m c).symm

end Cert.Proof.Mlp

end
-- ==== Proof.TailBody.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Kernel3Ideal.Tail

open Cert.Kernel3Ideal Cert.Kernel3Ideal.Gen
open Idealize.ShloMosaic Idealize.ShloMosaic.TcCoe Idealize.ShloMosaic.Tactic

/-- One block of the product, gated and added to what the rows held. -/
def step (h : Vec Ideal S512x2048 .bf16) (w : Vec Ideal S1x2048x2048 .bf16) (g : Vec Ideal S1x1x2048 .f32)
    (x : Vec Ideal S512x2048 .f32) : Vec Ideal S512x2048 .f32 :=
  fun y => x y + g (ix3 0 0 (y 1)) * ∑ k : Fin 2048, h (ix2 (y 0) k) * w (ix3 0 k (y 1))

/-- A block of the rows' columns, from the columns of the weight and of the gate. -/
theorem column_at (h : Vec Ideal S512x2048 .bf16) (w : Vec Ideal S1x2048x512 .bf16) (g : Vec Ideal S1x1x512 .f32)
    (x : Vec Ideal S512x512 .f32) (r a : Fin 512) :
    k0_pay4 h w g x (ix2 r a) = x (ix2 r a) + g (ix3 0 0 a) * ∑ k : Fin 2048, h (ix2 r k) * w (ix3 0 k a) := by
  pointwise [k0_pay4]

/-- The same where the columns start at `J`. -/
theorem column (J : ℕ) (hw : ∀ a, (![0, 0, J] : Fin 3 → ℕ) a + (![1, 2048, 512] : Fin 3 → ℕ) a ≤ S1x2048x2048.size a)
    (hg : ∀ a, (![0, 0, J] : Fin 3 → ℕ) a + (![1, 1, 512] : Fin 3 → ℕ) a ≤ S1x1x2048.size a)
    (hx : ∀ a, (![0, J] : Fin 2 → ℕ) a + (![512, 512] : Fin 2 → ℕ) a ≤ S512x2048.size a)
    (h : Vec Ideal S512x2048 .bf16) (w : Vec Ideal S1x2048x2048 .bf16) (g : Vec Ideal S1x1x2048 .f32)
    (x : Vec Ideal S512x2048 .f32) (z : S512x512.Idx) :
    k0_pay4 h (View.ld w (Rect.unit ![0, 0, J] ![1, 2048, 512] hw)) (View.ld g (Rect.unit ![0, 0, J] ![1, 1, 512] hg))
      (View.ld x (Rect.unit ![0, J] ![512, 512] hx)) z = step h w g x ((Rect.unit (s := S512x2048) ![0, J] ![512, 512] hx).emb z) := by
  obtain ⟨r, a, rfl⟩ : ∃ (r : Fin 512) (a : Fin 512), z = ix2 r a := ⟨z 0, z 1, by
    funext a
    match a with
    | 0 => rfl
    | 1 => rfl⟩
  rw [column_at]
  unfold step
  refine congrArg₂ (· + ·) rfl (congrArg₂ (· * ·) (congrArg g ?_) (Finset.sum_congr rfl fun k _ =>
    congrArg₂ (· * ·) (congrArg h ?_) (congrArg w ?_)))
  · funext b
    match b with
    | 0 => rfl
    | 1 => rfl
    | 2 => rfl
  · funext b
    match b with
    | 0 => exact Fin.ext (by show r.val = 0 + 1 * r.val; omega)
    | 1 => rfl
  · funext b
    match b with
    | 0 => rfl
    | 1 => exact Fin.ext (by show 0 + 1 * k.val = k.val; omega)
    | 2 => rfl

/-- What the body's four stores leave, over whatever was stored before. -/
theorem columns_eq (h : Vec Ideal S512x2048 .bf16) (w : Vec Ideal S1x2048x2048 .bf16) (g : Vec Ideal S1x1x2048 .f32)
    (x : Vec Ideal S512x2048 .f32) (L : List (View.Piece (Elt Ideal) S512x2048 .f32)) :
    View.canon (⟨Rect.unit ![0, 1536] ![512, 512] inb_S512x2048_S512x512_0_1536,
        k0_pay2 h (View.ld w (Rect.unit ![0, 0, 1536] ![1, 2048, 512] inb_S1x2048x2048_S1x2048x512_0_0_1536))
          (View.ld g (Rect.unit ![0, 0, 1536] ![1, 1, 512] inb_S1x1x2048_S1x1x512_0_0_1536))
          (View.ld x (Rect.unit ![0, 1536] ![512, 512] inb_S512x2048_S512x512_0_1536))⟩ ::
      ⟨Rect.unit ![0, 1024] ![512, 512] inb_S512x2048_S512x512_0_1024,
        k0_pay1 h (View.ld w (Rect.unit ![0, 0, 1024] ![1, 2048, 512] inb_S1x2048x2048_S1x2048x512_0_0_1024))
          (View.ld g (Rect.unit ![0, 0, 1024] ![1, 1, 512] inb_S1x1x2048_S1x1x512_0_0_1024))
          (View.ld x (Rect.unit ![0, 1024] ![512, 512] inb_S512x2048_S512x512_0_1024))⟩ ::
      ⟨Rect.unit ![0, 512] ![512, 512] inb_S512x2048_S512x512_0_512,
        k0_pay5 h (View.ld w (Rect.unit ![0, 0, 512] ![1, 2048, 512] inb_S1x2048x2048_S1x2048x512_0_0_512))
          (View.ld g (Rect.unit ![0, 0, 512] ![1, 1, 512] inb_S1x1x2048_S1x1x512_0_0_512))
          (View.ld x (Rect.unit ![0, 512] ![512, 512] inb_S512x2048_S512x512_0_512))⟩ ::
      ⟨Rect.unit ![0, 0] ![512, 512] inb_S512x2048_S512x512_0_0,
        k0_pay4 h (View.ld w (Rect.unit ![0, 0, 0] ![1, 2048, 512] inb_S1x2048x2048_S1x2048x512_0_0_0))
          (View.ld g (Rect.unit ![0, 0, 0] ![1, 1, 512] inb_S1x1x2048_S1x1x512_0_0_0))
          (View.ld x (Rect.unit ![0, 0] ![512, 512] inb_S512x2048_S512x512_0_0))⟩ :: L) = step h w g x := by
  funext y
  refine View.canon_append_of_piecesOf (step h w g x) L [_, _, _, _]
    ⟨fun z => column 1536 _ _ _ h w g x z, fun z => column 1024 _ _ _ h w g x z, fun z => column 512 _ _ _ h w g x z,
      fun z => column 0 _ _ _ h w g x z, trivial⟩ y ?_
  exact View.cover_of_tiledBy _ ![512, 512] (by sl_kernel_rfl) y

variable (m : (ℓ : Loc nD τ sig) → Buf (Elt Ideal) ℓ)

/-- In the middle of the accumulation: one more block. -/
theorem middle_point (c : Dev nD) (t : Fin cfg0.N) (h0 : ¬ t.val % 4 = 0) (h1 : ¬ t.val % 4 = 3) (x : Vec Ideal S512x2048 .f32)
    (hx : outsAt0 m c (t.val - 1) (Nat.lt_of_le_of_lt (Nat.sub_le _ _) t.isLt) = x) :
    outsAt0 m c t.val t.isLt = step (iblk m c 0 t) (iblk m c 1 t) (iblk m c 3 t) x := by
  rw [outsAt0_B m c t h0 h1, hx]
  unfold out0_B_5
  frame_out
  exact columns_eq _ _ _ x _

/-- At its start: the first block, over the residual. -/
theorem first_point (c : Dev nD) (t : Fin cfg0.N) (h0 : t.val % 4 = 0) (h1 : ¬ t.val % 4 = 3) :
    outsAt0 m c t.val t.isLt = step (iblk m c 0 t) (iblk m c 1 t) (iblk m c 3 t) (iblk m c 2 t) := by
  rw [outsAt0_A m c t h0 h1]
  unfold out0_A_5
  frame_out
  simp (disch := decide) only [↓ View.readCov_skip, ↓ View.readCov_fill]
  exact columns_eq _ _ _ _ _

/-- At its end: the last block, and the rows normed. -/
theorem last_point (c : Dev nD) (t : Fin cfg0.N) (h0 : ¬ t.val % 4 = 0) (h1 : t.val % 4 = 3) (x : Vec Ideal S512x2048 .f32)
    (hx : outsAt0 m c (t.val - 1) (Nat.lt_of_le_of_lt (Nat.sub_le _ _) t.isLt) = x) :
    outsAt0 m c t.val t.isLt = k0_pay3 (step (iblk m c 0 t) (iblk m c 1 t) (iblk m c 3 t) x) (iblk m c 4 t) := by
  rw [outsAt0_C m c t h0 h1, hx]
  unfold out0_C_5
  frame_out
  refine congrArg (fun z => k0_pay3 z (iblk m c 4 t)) ?_
  rw [View.readCov_eq_canon', columns_eq]
  funext y
  refine congrArg (step _ _ _ x) ?_
  funext b
  match b with
  | 0 => exact Fin.ext (by show 0 + 1 * (y 0).val = (y 0).val; omega)
  | 1 => exact Fin.ext (by show 0 + 1 * (y 1).val = (y 1).val; omega)

end Cert.Kernel3Ideal.Tail

end
-- ==== Proof.TailRef.lean ====
module

/-
The reference of the last feed-forward part's second product, at an element of its result.
-/

public import proofs.«01_k».proof.Proof.Gen.Reference3Ideal.Run
public import Idealize.ShloMosaic.Lib.Pointwise

@[expose] public section
set_option maxRecDepth 16384
noncomputable section
namespace Cert.Reference3Ideal.Tail

open Cert.Reference3Ideal Cert.Reference3Ideal.Gen
open Idealize.ShloMosaic Idealize.ShloMosaic.TcCoe Idealize.ShloMosaic.Tactic

/-- The product of the hidden layer with the second weight. -/
def product (h : FVec Ideal S16384x8192 .bf16) (w : FVec Ideal S1x8192x2048 .bf16) : FVec Ideal S16384x2048 .f32 :=
  Host.dotGeneral dot_S16384x8192_S8192x2048_S16384x2048_1_0_0_1_n_n none (extf .f32 h bitsLt_bf16_f32)
    (extf .f32 (shapeCast _ w shapeCasts_S1x8192x2048_S8192x2048) bitsLt_bf16_f32)

/-- The residual and the gated product. -/
def summed (h : FVec Ideal S16384x8192 .bf16) (w : FVec Ideal S1x8192x2048 .bf16) (x : FVec Ideal S16384x2048 .f32)
    (mod : FVec Ideal S16x1x12288 .f32) : FVec Ideal S8x2048x2048 .f32 :=
  addf (shapeCast _ x shapeCasts_S16384x2048_S8x2048x2048)
    (mulf (broadcastInDim S8x2048x2048 ![0, 1, 2] bcast_S8x1x2048_S8x2048x2048_0_1_2
      (extractStridedSlice S8x1x2048 ![0, 0, 10240] mod slices_S16x1x12288_S8x1x2048_0_0_10240))
      (shapeCast _ (product h w) shapeCasts_S16384x2048_S8x2048x2048))

theorem product_at (h : FVec Ideal S16384x8192 .bf16) (w : FVec Ideal S1x8192x2048 .bf16) (R : Fin 16384) (X : Fin 2048) :
    product h w (ix2 R X) = ∑ k : Fin 8192, h (ix2 R k) * w (ix3 0 k X) := by
  pointwise [product]

theorem summed_at (h : FVec Ideal S16384x8192 .bf16) (w : FVec Ideal S1x8192x2048 .bf16) (x : FVec Ideal S16384x2048 .f32)
    (mod : FVec Ideal S16x1x12288 .f32) (b : Fin 8) (s X : Fin 2048) (R : Fin 16384) (hR : b.val * 2048 + s.val = R.val) :
    summed h w x mod (ix3 b s X) = x (ix2 R X) + mod (ix3 ⟨b.val, by omega⟩ 0 ⟨10240 + X.val, by omega⟩) * product h w (ix2 R X) := by
  have e : (⟨b.val * 2048 + s.val, by omega⟩ : Fin 16384) = R := Fin.ext hR
  pointwise [summed]
  rw [e]

/-- What every row is scaled by: one over the root of the mean of its squares. -/
def scale (y : FVec Ideal S8x2048x2048 .f32) : FVec Ideal S8x2048x1 .f32 :=
  Host.rsqrt (addf (Host.divf (broadcastInDim S8x2048x1 ![0, 1] bcast_S8x2048_S8x2048x1_0_1
    (Host.reduceAdd (mulf y y) (constant S_ .f32 0x00000000#32) reducesTo_S8x2048x2048_S8x2048_d2 h_S_))
    (broadcastInDim S8x2048x1 ![] bcast_S_S8x2048x1 (constant S_ .f32 0x45000000#32)))
    (broadcastInDim S8x2048x1 ![] bcast_S_S8x2048x1 (constant S_ .f32 0x358637BD#32)))

/-- The closing norm. -/
def closed (y : FVec Ideal S8x2048x2048 .f32) (g : FVec Ideal S2048 .f32) : FVec Ideal S16384x2048 .f32 :=
  shapeCast _ (mulf (mulf y (broadcastInDim S8x2048x2048 ![0, 1, 2] bcast_S8x2048x1_S8x2048x2048_0_1_2 (scale y)))
    (broadcastInDim S8x2048x2048 ![0, 1, 2] bcast_S1x1x2048_S8x2048x2048_0_1_2
      (broadcastInDim S1x1x2048 ![2] bcast_S2048_S1x1x2048_2 g))) shapeCasts_S8x2048x2048_S16384x2048

/-- One over the root of the mean of the squares of `y`. -/
def inverseRoot (y : Fin 2048 → EReal) : EReal :=
  Ideal.rsqrt (Ideal.div (∑ k : Fin 2048, y k * y k) (Ideal.ofBits .f32 0x45000000#32) + Ideal.ofBits .f32 0x358637BD#32)

theorem scale_at (y : FVec Ideal S8x2048x2048 .f32) (b : Fin 8) (s : Fin 2048) :
    scale y (ix3 b s 0) = inverseRoot fun k => y (ix3 b s k) := by
  pointwise [scale]
  rfl

theorem closed_at (y : FVec Ideal S8x2048x2048 .f32) (g : FVec Ideal S2048 .f32) (R : Fin 16384) (X : Fin 2048) :
    closed y g (ix2 R X) = y (ix3 ⟨R.val / 2048, by omega⟩ ⟨R.val % 2048, by omega⟩ X) *
      inverseRoot (fun k => y (ix3 ⟨R.val / 2048, by omega⟩ ⟨R.val % 2048, by omega⟩ k)) * g (ix1 X) := by
  rw [← scale_at]
  pointwise [closed]

/-- The result. -/
def out (h : FVec Ideal S16384x8192 .bf16) (w : FVec Ideal S1x8192x2048 .bf16) (x : FVec Ideal S16384x2048 .f32)
    (mod : FVec Ideal S16x1x12288 .f32) (g : FVec Ideal S2048 .f32) : FVec Ideal S16384x2048 .f32 := closed (summed h w x mod) g

/-- A token's row before the closing norm. -/
def row (h : FVec Ideal S16384x8192 .bf16) (w : FVec Ideal S1x8192x2048 .bf16) (x : FVec Ideal S16384x2048 .f32)
    (mod : FVec Ideal S16x1x12288 .f32) (R : Fin 16384) (X : Fin 2048) : EReal :=
  x (ix2 R X) + mod (ix3 ⟨R.val / 2048, by omega⟩ 0 ⟨10240 + X.val, by omega⟩) * ∑ k : Fin 8192, h (ix2 R k) * w (ix3 0 k X)

/-- The result at an index. -/
theorem out_at (h : FVec Ideal S16384x8192 .bf16) (w : FVec Ideal S1x8192x2048 .bf16) (x : FVec Ideal S16384x2048 .f32)
    (mod : FVec Ideal S16x1x12288 .f32) (g : FVec Ideal S2048 .f32) (R : Fin 16384) (X : Fin 2048) :
    out h w x mod g (ix2 R X) = row h w x mod R X * inverseRoot (row h w x mod R) * g (ix1 X) := by
  have e (k : Fin 2048) : summed h w x mod (ix3 ⟨R.val / 2048, by omega⟩ ⟨R.val % 2048, by omega⟩ k) = row h w x mod R k :=
    (summed_at h w x mod _ _ k R (by show R.val / 2048 * 2048 + R.val % 2048 = R.val; omega)).trans (by rw [product_at]; rfl)
  unfold out
  rw [closed_at, e, funext e]

end Cert.Reference3Ideal.Tail

end
-- ==== Proof.TailSum.lean ====
module

/-
A gate times a sum over four blocks, and the same block by block, at real values.
-/

public import Idealize.ShloMosaic.PureOps.Ideal

@[expose] public section
noncomputable section
namespace Cert.TailSum

/-- A sum of products of reals is a real. -/
theorem real_sum {n : ℕ} (f g : Fin n → EReal) (hf : ∀ i, f i ≠ ⊤ ∧ f i ≠ ⊥) (hg : ∀ i, g i ≠ ⊤ ∧ g i ≠ ⊥) :
    ∃ r : ℝ, ∑ i, f i * g i = (r : EReal) := by
  have h : ∀ s : Finset (Fin n), ∃ r : ℝ, ∑ i ∈ s, f i * g i = (r : EReal) := by
    intro s
    induction s using Finset.induction_on with
    | empty => exact ⟨0, by simp⟩
    | insert a s ha ih =>
      obtain ⟨r, hr⟩ := ih
      refine ⟨(f a).toReal * (g a).toReal + r, ?_⟩
      rw [Finset.sum_insert ha, hr, EReal.coe_add, EReal.coe_mul, EReal.coe_toReal (hf a).1 (hf a).2,
        EReal.coe_toReal (hg a).1 (hg a).2]
  exact h Finset.univ

/-- A sum over 8192 as four sums over 2048. -/
theorem sum_blocks (F : Fin 8192 → EReal) :
    ∑ k, F k = (∑ k : Fin 2048, F ⟨0 * 2048 + k.val, by omega⟩) + (∑ k : Fin 2048, F ⟨1 * 2048 + k.val, by omega⟩)
      + (∑ k : Fin 2048, F ⟨2 * 2048 + k.val, by omega⟩) + ∑ k : Fin 2048, F ⟨3 * 2048 + k.val, by omega⟩ := by
  rw [← Equiv.sum_comp (finProdFinEquiv (m := 4) (n := 2048)) F, Fintype.sum_prod_type, Fin.sum_univ_four]
  refine congrArg₂ (· + ·) (congrArg₂ (· + ·) (congrArg₂ (· + ·) ?_ ?_) ?_) ?_ <;>
    exact Finset.sum_congr rfl fun k _ => congrArg F (Fin.ext (by simp [finProdFinEquiv] <;> omega))

/-- The gate goes into the sum. -/
theorem gated (x g a b c d : EReal) (hg : g ≠ ⊤ ∧ g ≠ ⊥) (ha : ∃ r : ℝ, a = r) (hb : ∃ r : ℝ, b = r) (hc : ∃ r : ℝ, c = r)
    (hd : ∃ r : ℝ, d = r) : x + g * a + g * b + g * c + g * d = x + g * (a + b + c + d) := by
  obtain ⟨a, rfl⟩ := ha
  obtain ⟨b, rfl⟩ := hb
  obtain ⟨c, rfl⟩ := hc
  obtain ⟨d, rfl⟩ := hd
  obtain ⟨q, rfl⟩ : ∃ q : ℝ, g = q := ⟨g.toReal, (EReal.coe_toReal hg.1 hg.2).symm⟩
  simp only [← EReal.coe_mul, ← EReal.coe_add, add_assoc]
  congr 2
  ring

end Cert.TailSum
end
-- ==== Proof.TailEq.lean ====
module

/-
The last feed-forward part's second product: the kernel's result is the reference's, where the hidden layer, the weight
and the modulation are real. The grid runs over 32 blocks of rows and, inside each, over the four blocks of the
contraction; the rows hold the residual and the gated blocks, and are normed after the fourth.
-/

public import proofs.«01_k».proof.Proof.TailBody
public import proofs.«01_k».proof.Proof.TailRef
public import proofs.«01_k».proof.Proof.TailSum

@[expose] public section
set_option maxRecDepth 16384
noncomputable section
namespace Cert.Kernel3Ideal.Tail

open Cert.Kernel3Ideal Cert.Kernel3Ideal.Gen
open Cert.Reference3Ideal.Tail (row out inverseRoot out_at)
open Idealize.ShloMosaic Idealize.ShloMosaic.TcCoe Idealize.ShloMosaic.Tactic

theorem index_0 : ∀ t : Fin 128, win0_0.index t (0 : Fin 2) = t.val / 4 ∧ win0_0.index t (1 : Fin 2) = t.val % 4 := by decide +kernel
theorem index_1 : ∀ t : Fin 128, win0_1.index t (0 : Fin 3) = 0 ∧ win0_1.index t (1 : Fin 3) = t.val % 4 ∧
    win0_1.index t (2 : Fin 3) = 0 := by decide +kernel
theorem index_2 : ∀ t : Fin 128, win0_2.index t (0 : Fin 2) = t.val / 4 ∧ win0_2.index t (1 : Fin 2) = 0 := by decide +kernel
theorem index_3 : ∀ t : Fin 128, win0_3.index t (0 : Fin 3) = t.val / 16 ∧ win0_3.index t (1 : Fin 3) = 0 ∧
    win0_3.index t (2 : Fin 3) = 5 := by decide +kernel
theorem index_4 : ∀ t : Fin 128, win0_4.index t (0 : Fin 2) = 0 ∧ win0_4.index t (1 : Fin 2) = 0 := by decide +kernel
theorem index_5 : ∀ t : Fin 128, win0_5.index t (0 : Fin 2) = t.val / 4 ∧ win0_5.index t (1 : Fin 2) = 0 := by decide +kernel

variable (m : (ℓ : Loc nD τ sig) → Buf (Elt Ideal) ℓ)

/-- The hidden layer. -/
abbrev hid (c : Dev nD) : Vec Ideal S16384x8192 .bf16 := m (c.tc.loc main_arg0)
/-- The second weight. -/
abbrev weight (c : Dev nD) : Vec Ideal S1x8192x2048 .bf16 := m (c.tc.loc main_arg1)
/-- The residual. -/
abbrev residual (c : Dev nD) : Vec Ideal S16384x2048 .f32 := m (c.tc.loc main_arg2)
/-- The modulation. -/
abbrev modulation (c : Dev nD) : Vec Ideal S16x1x12288 .f32 := m (c.tc.loc main_arg3)
/-- The closing norm's gain. -/
abbrev gain (c : Dev nD) : Vec Ideal S2048 .f32 := m (c.tc.loc main_arg4)

theorem blk_0 (c : Dev nD) (t : Fin 128) (r : Fin 512) (k : Fin 2048) (R : Fin 16384) (K : Fin 8192)
    (hR : R.val = t.val / 4 * 512 + r.val) (hK : K.val = t.val % 4 * 2048 + k.val) :
    iblk m c 0 t (ix2 r k) = hid m c (ix2 R K) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]
    exact hK.symm

theorem blk_1 (c : Dev nD) (t : Fin 128) (k : Fin 2048) (X : Fin 2048) (K : Fin 8192) (hK : K.val = t.val % 4 * 2048 + k.val) :
    iblk m c 1 t (ix3 0 k X) = weight m c (ix3 0 K X) := by
  blk_simp [iblk]
  refine congrArg (m (c.tc.loc main_arg1)) ?_
  obtain ⟨e0, e1, e2⟩ := index_1 t
  funext a
  match a with
  | 0 =>
    refine Fin.ext ?_
    blk_simp [e0]
  | 1 =>
    refine Fin.ext ?_
    blk_simp [e1]
    exact hK.symm
  | 2 =>
    refine Fin.ext ?_
    blk_simp [e2]

theorem blk_2 (c : Dev nD) (t : Fin 128) (r : Fin 512) (X : Fin 2048) (R : Fin 16384) (hR : R.val = t.val / 4 * 512 + r.val) :
    iblk m c 2 t (ix2 r X) = residual m c (ix2 R X) := by
  blk_simp [iblk]
  refine congrArg (m (c.tc.loc main_arg2)) ?_
  obtain ⟨e0, e1⟩ := index_2 t
  funext a
  match a with
  | 0 =>
    refine Fin.ext ?_
    blk_simp [e0]
    exact hR.symm
  | 1 =>
    refine Fin.ext ?_
    blk_simp [e1]

theorem blk_3 (c : Dev nD) (t : Fin 128) (X : Fin 2048) (B : Fin 16) (G : Fin 12288) (hB : B.val = t.val / 16)
    (hG : G.val = 10240 + X.val) : iblk m c 3 t (ix3 0 0 X) = modulation m c (ix3 B 0 G) := by
  blk_simp [iblk]
  refine congrArg (m (c.tc.loc main_arg3)) ?_
  obtain ⟨e0, e1, e2⟩ := index_3 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

/-- The gain as the launch's host line leaves it. -/
theorem gain_row (c : Dev nD) : V m c main_v0 = shapeCast S1x2048 (gain m c) shapeCasts_S2048_S1x2048 := by
  unfold_abbrev_sides
  after_results
  rfl

theorem blk_4 (c : Dev nD) (t : Fin 128) (X : Fin 2048) : iblk m c 4 t (ix2 0 X) = gain m c (ix1 X) := by
  have e : iblk m c 4 t (ix2 0 X) = V m c main_v0 (ix2 0 X) := by
    unfold iblk
    refine congrArg (V m c main_v0) ?_
    obtain ⟨e0, e1⟩ := index_4 t
    funext a
    match a with
    | 0 =>
      refine Fin.ext ?_
      blk_simp [e0]
    | 1 =>
      refine Fin.ext ?_
      blk_simp [e1]
  rw [e, gain_row]
  pointwise []

theorem normed_at (y : Vec Ideal S512x2048 .f32) (g : Vec Ideal S1x2048 .f32) (r : Fin 512) (X : Fin 2048) :
    k0_pay3 y g (ix2 r X) = y (ix2 r X) * inverseRoot (fun k => y (ix2 r k)) * g (ix2 0 X) := by
  pointwise [k0_pay3]
  rfl

/-- One step at an index. -/
theorem step_at (c : Dev nD) (t : Fin 128) (x : Vec Ideal S512x2048 .f32) (r : Fin 512) (X : Fin 2048) (R : Fin 16384)
    (hR : R.val = t.val / 4 * 512 + r.val) (e : ℕ) (he : t.val % 4 = e) (h4 : e < 4) :
    step (iblk m c 0 t) (iblk m c 1 t) (iblk m c 3 t) x (ix2 r X) =
      x (ix2 r X) + modulation m c (ix3 ⟨R.val / 2048, by omega⟩ 0 ⟨10240 + X.val, by omega⟩) *
        ∑ k : Fin 2048, hid m c (ix2 R ⟨e * 2048 + k.val, by omega⟩) * weight m c (ix3 0 ⟨e * 2048 + k.val, by omega⟩ X) := by
  unfold step
  refine congrArg₂ (· + ·) rfl (congrArg₂ (· * ·) (blk_3 m c t X _ _ (by show R.val / 2048 = t.val / 16; omega) rfl)
    (Finset.sum_congr rfl fun k _ => congrArg₂ (· * ·) (blk_0 m c t r k R _ hR (by rw [he])) (blk_1 m c t k X _ (by rw [he]))))

/-- A row block after its four steps. -/
theorem held (c : Dev nD) (q : ℕ) (hq : q < 32) :
    outsAt0 m c (4 * q + 3) (show 4 * q + 3 < 128 by omega) =
      k0_pay3 (step (iblk m c 0 (⟨4 * q + 3, by omega⟩ : Fin 128)) (iblk m c 1 (⟨4 * q + 3, by omega⟩ : Fin 128))
          (iblk m c 3 (⟨4 * q + 3, by omega⟩ : Fin 128))
        (step (iblk m c 0 (⟨4 * q + 2, by omega⟩ : Fin 128)) (iblk m c 1 (⟨4 * q + 2, by omega⟩ : Fin 128))
            (iblk m c 3 (⟨4 * q + 2, by omega⟩ : Fin 128))
          (step (iblk m c 0 (⟨4 * q + 1, by omega⟩ : Fin 128)) (iblk m c 1 (⟨4 * q + 1, by omega⟩ : Fin 128))
              (iblk m c 3 (⟨4 * q + 1, by omega⟩ : Fin 128))
            (step (iblk m c 0 (⟨4 * q, by omega⟩ : Fin 128)) (iblk m c 1 (⟨4 * q, by omega⟩ : Fin 128))
              (iblk m c 3 (⟨4 * q, by omega⟩ : Fin 128)) (iblk m c 2 (⟨4 * q, by omega⟩ : Fin 128))))))
        (iblk m c 4 (⟨4 * q + 3, by omega⟩ : Fin 128)) := by
  have p0 := first_point m c (⟨4 * q, by omega⟩ : Fin 128) (by dsimp only; omega) (by dsimp only; omega)
  have p1 := middle_point m c (⟨4 * q + 1, by omega⟩ : Fin 128) (by dsimp only; omega) (by dsimp only; omega) _ p0
  have p2 := middle_point m c (⟨4 * q + 2, by omega⟩ : Fin 128) (by dsimp only; omega) (by dsimp only; omega) _ p1
  exact last_point m c (⟨4 * q + 3, by omega⟩ : Fin 128) (by dsimp only; omega) (by dsimp only; omega) _ p2

/-- A row block's rows before the closing norm. -/
theorem rows_at (c : Dev nD) (hh : ∀ i, hid m c i ≠ ⊤ ∧ hid m c i ≠ ⊥) (hw : ∀ i, weight m c i ≠ ⊤ ∧ weight m c i ≠ ⊥)
    (hm : ∀ i, modulation m c i ≠ ⊤ ∧ modulation m c i ≠ ⊥) (q : ℕ) (hq : q < 32) (r : Fin 512) (X : Fin 2048) (R : Fin 16384)
    (hR : R.val = q * 512 + r.val) :
    step (iblk m c 0 (⟨4 * q + 3, by omega⟩ : Fin 128)) (iblk m c 1 (⟨4 * q + 3, by omega⟩ : Fin 128))
          (iblk m c 3 (⟨4 * q + 3, by omega⟩ : Fin 128))
        (step (iblk m c 0 (⟨4 * q + 2, by omega⟩ : Fin 128)) (iblk m c 1 (⟨4 * q + 2, by omega⟩ : Fin 128))
            (iblk m c 3 (⟨4 * q + 2, by omega⟩ : Fin 128))
          (step (iblk m c 0 (⟨4 * q + 1, by omega⟩ : Fin 128)) (iblk m c 1 (⟨4 * q + 1, by omega⟩ : Fin 128))
              (iblk m c 3 (⟨4 * q + 1, by omega⟩ : Fin 128))
            (step (iblk m c 0 (⟨4 * q, by omega⟩ : Fin 128)) (iblk m c 1 (⟨4 * q, by omega⟩ : Fin 128))
              (iblk m c 3 (⟨4 * q, by omega⟩ : Fin 128)) (iblk m c 2 (⟨4 * q, by omega⟩ : Fin 128))))) (ix2 r X) =
      row (hid m c) (weight m c) (residual m c) (modulation m c) R X := by
  rw [step_at m c _ _ r X R (by dsimp only; omega) 3 (by dsimp only; omega) (by omega),
    step_at m c _ _ r X R (by dsimp only; omega) 2 (by dsimp only; omega) (by omega),
    step_at m c _ _ r X R (by dsimp only; omega) 1 (by dsimp only; omega) (by omega),
    step_at m c _ _ r X R (by dsimp only; omega) 0 (by dsimp only; omega) (by omega),
    blk_2 m c _ r X R (by dsimp only; omega)]
  rw [Cert.TailSum.gated _ _ _ _ _ _ (hm _) (Cert.TailSum.real_sum _ _ (fun _ => hh _) (fun _ => hw _))
    (Cert.TailSum.real_sum _ _ (fun _ => hh _) (fun _ => hw _)) (Cert.TailSum.real_sum _ _ (fun _ => hh _) (fun _ => hw _))
    (Cert.TailSum.real_sum _ _ (fun _ => hh _) (fun _ => hw _))]
  unfold row
  rw [Cert.TailSum.sum_blocks]

/-- The result at the end. -/
theorem result_eq (c : Dev nD) (hh : ∀ i, hid m c i ≠ ⊤ ∧ hid m c i ≠ ⊥) (hw : ∀ i, weight m c i ≠ ⊤ ∧ weight m c i ≠ ⊥)
    (hm : ∀ i, modulation m c i ≠ ⊤ ∧ modulation m c i ≠ ⊥) : (dats m 0 c).arrAt 5 cfg0.N =
      out (hid m c) (weight m c) (residual m c) (modulation m c) (gain m c) := by
  refine (dats m 0 c).arrAt_eq_of_covers 5 _ (by decide +kernel) fun t hf y => ?_
  have h3 : t.val % 4 = 3 := (flush0_5 t).mp hf
  have ht : t.val < 128 := t.isLt
  obtain ⟨q, hq, hb, rfl⟩ : ∃ (q : ℕ) (_ : q < 32) (hb : 4 * q + 3 < 128), t = (⟨4 * q + 3, hb⟩ : Fin cfg0.N) :=
    ⟨t.val / 4, by omega, by omega, Fin.ext (by dsimp only; omega)⟩
  blk_simp
  rw [after0_5, held m c q hq]
  obtain ⟨e0, e1⟩ := index_5 (⟨4 * q + 3, by omega⟩ : Fin 128)
  obtain ⟨r, X, rfl⟩ : ∃ (r : Fin 512) (X : Fin 2048), y = ix2 r X := ⟨y 0, y 1, by
    funext a
    match a with
    | 0 => rfl
    | 1 => rfl⟩
  obtain ⟨R, hR⟩ : ∃ R : Fin 16384, R.val = q * 512 + r.val := ⟨⟨_, by omega⟩, rfl⟩
  refine (normed_at _ _ r X).trans (Eq.trans ?_ ((out_at (hid m c) (weight m c) (residual m c) (modulation m c) (gain m c) R X).symm.trans
    (congrArg (out (hid m c) (weight m c) (residual m c) (modulation m c) (gain m c)) ?_)))
  · rw [rows_at m c hh hw hm q hq r X R hR, blk_4, funext fun k => rows_at m c hh hw hm q hq r k R hR]
  · funext a
    match a with
    | 0 =>
      refine Fin.ext ?_
      blk_simp
      exact hR.trans (congrArg (· * 512 + r.val) ((show q = (4 * q + 3) / 4 by omega).trans e0.symm))
    | 1 =>
      refine Fin.ext ?_
      blk_simp
      exact (Nat.zero_add _).symm.trans (congrArg (· * 2048 + X.val) e1.symm)

end Cert.Kernel3Ideal.Tail
end
-- ==== Proof.TailFinite.lean ====
module

/-
What the precondition of the last product says: no element of the hidden layer, the weight and the modulation is infinite.
-/

public import proofs.«01_k».proof.Pre_finite3
public import proofs.«01_k».proof.Proof.Finite

@[expose] public section
noncomputable section
namespace Cert.Pre_finite3

open Cert.Pre_finite3
open Idealize.ShloMosaic Idealize.ShloMosaic.Tactic
open Cert.Pre_finite (real_of_lt)

/-- The facts that the precondition's operations stand on. -/
theorem facts : Facts := ⟨by decide, by decide, by decide, by decide, by decide, by decide, by decide, by decide⟩

/-- No element of the three arguments is infinite. -/
theorem real_of [hf : Facts] (h : FVec Ideal S16384x8192 .bf16) (w : FVec Ideal S1x8192x2048 .bf16) (x : FVec Ideal S16384x2048 .f32)
    (mod : FVec Ideal S16x1x12288 .f32) (g : FVec Ideal S2048 .f32) (hp : fn (F := Ideal) h w x mod g = fun _ => 1#1) :
    (∀ i, h i ≠ ⊤ ∧ h i ≠ ⊥) ∧ (∀ i, w i ≠ ⊤ ∧ w i ≠ ⊥) ∧ ∀ i, mod i ≠ ⊤ ∧ mod i ≠ ⊥ := by
  haveI : Subsingleton S_.Idx := ⟨fun a b => funext fun x => x.elim0⟩
  have h0 := congrFun hp fun x => x.elim0
  obtain ⟨h1, h2⟩ := IntOp.andi_eq_one.1 h0
  obtain ⟨h3, h4⟩ := IntOp.andi_eq_one.1 h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

end Cert.Pre_finite3
end
-- ==== Proof.TailClaim.lean ====
/- The claims about the last feed-forward part's second product. -/
module

public import proofs.«01_k».proof.Proof.TailEq
public import proofs.«01_k».proof.Proof.TailFinite
public import proofs.«01_k».proof.Defs
public import proofs.«01_k».proof.Proof.Gen.Kernel3
public import Idealize.ShloMosaic.Adequacy
public import Idealize.ShloMosaic.Init

@[expose] public section

set_option maxRecDepth 16384

noncomputable section

namespace Cert.Proof.Tail

open Idealize.ShloMosaic Idealize.SL.Sem

/-- The frame, said of the text that is read at the ideal instance, over words. -/
def Quiet : Prop :=
  ∀ (m : (ℓ : Loc Cert.Kernel3Ideal.nD Cert.Kernel3Ideal.τ Cert.Kernel3Ideal.sig) → Buf (Elt Bits) ℓ)
    (ρ : Dev Cert.Kernel3Ideal.nD → PrngReg), True →
    θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem (c.tc.loc Cert.Kernel3Ideal.main_arg0) = m (c.tc.loc Cert.Kernel3Ideal.main_arg0)
      ∧ r.2.mem (c.tc.loc Cert.Kernel3Ideal.main_arg1) = m (c.tc.loc Cert.Kernel3Ideal.main_arg1)
      ∧ r.2.mem (c.tc.loc Cert.Kernel3Ideal.main_arg2) = m (c.tc.loc Cert.Kernel3Ideal.main_arg2)
      ∧ r.2.mem (c.tc.loc Cert.Kernel3Ideal.main_arg3) = m (c.tc.loc Cert.Kernel3Ideal.main_arg3)
      ∧ r.2.mem (c.tc.loc Cert.Kernel3Ideal.main_arg4) = m (c.tc.loc Cert.Kernel3Ideal.main_arg4))
      ∧ r.2.sem = fun _ => 0)

/-- The two texts are one. -/
theorem same : Quiet = Cert.quiescent_Kernel3 (hKernel3 := Cert.Kernel3.Gen.facts) := by
  sl_kernel_rfl

/-- The kernel over words ends with its arguments unchanged and every counter at zero. -/
theorem frame_kernel : Cert.quiescent_Kernel3 (hKernel3 := Cert.Kernel3.Gen.facts) :=
  same ▸ fun m ρ _ => Cert.Kernel3Ideal.Gen.frame (F := Bits) m ρ

/-- The idealized kernel ends with its arguments unchanged and every counter at zero. -/
theorem frame_ideal : Cert.quiescent_Kernel3Ideal (hKernel3Ideal := Cert.Kernel3Ideal.Gen.facts) :=
  fun m ρ _ => Cert.Kernel3Ideal.Gen.frame m ρ

/-- The reference ends with its arguments unchanged; it has no counter. -/
theorem reference_quiet (m : (ℓ : Loc Cert.Reference3Ideal.nD Cert.Reference3Ideal.τ Cert.Reference3Ideal.sig) → Buf (Elt Ideal) ℓ)
    (ρ : Dev Cert.Reference3Ideal.nD → PrngReg) :
    θ_run Cert.Reference3Ideal.defs (onTc (τ := Cert.Reference3Ideal.τ) (Cert.Reference3Ideal.main (F := Ideal))) ⟨m, fun _ => 0, ρ⟩ (fun r => (∀ c : Dev Cert.Reference3Ideal.nD,
      r.2.mem (c.tc.loc Cert.Reference3Ideal.main_arg0) = m (c.tc.loc Cert.Reference3Ideal.main_arg0)
      ∧ r.2.mem (c.tc.loc Cert.Reference3Ideal.main_arg1) = m (c.tc.loc Cert.Reference3Ideal.main_arg1)
      ∧ r.2.mem (c.tc.loc Cert.Reference3Ideal.main_arg2) = m (c.tc.loc Cert.Reference3Ideal.main_arg2)
      ∧ r.2.mem (c.tc.loc Cert.Reference3Ideal.main_arg3) = m (c.tc.loc Cert.Reference3Ideal.main_arg3)
      ∧ r.2.mem (c.tc.loc Cert.Reference3Ideal.main_arg4) = m (c.tc.loc Cert.Reference3Ideal.main_arg4))
      ∧ r.2.sem = fun _ => 0) :=
  (θ_run Cert.Reference3Ideal.defs _ _).mono (fun r h => ⟨fun c => (h c).2, sem_eq_zero_of_no_sems (by decide) r.2⟩)
    (Cert.Reference3Ideal.Value.run m ρ)

/-- The kernel's result is the reference's, at finite arguments. -/
theorem equal : Cert.algebraic_Kernel3Ideal_Reference3Ideal_pre_finite3 (hKernel3Ideal := Cert.Kernel3Ideal.Gen.facts)
    (hReference3Ideal := Cert.Reference3Ideal.Gen.facts) (hPre_finite3 := Cert.Pre_finite3.facts) := by
  intro m g m' g' hp he
  refine ⟨fun c => (Cert.Kernel3Ideal.Gen.dats m 0 c).arrAt 5 Cert.Kernel3Ideal.cfg0.N,
    Cert.Kernel3Ideal.Value.run_blocks m g,
    (θ_run Cert.Reference3Ideal.defs _ _).mono (fun r h c => ?_) (Cert.Reference3Ideal.Value.run m' g')⟩
  obtain ⟨h0, hk⟩ := h c
  refine ⟨h0.trans ?_, hk⟩
  obtain ⟨hh, hw, hm⟩ := Cert.Pre_finite3.real_of (hf := Cert.Pre_finite3.facts) _ _ _ _ _ (hp c)
  rw [(he c).1, (he c).2.1, (he c).2.2.1, (he c).2.2.2.1, (he c).2.2.2.2]
  exact (Cert.Kernel3Ideal.Tail.result_eq m c hh hw hm).symm

end Cert.Proof.Tail

end
-- ==== Proof.NextBody.lean ====
module

/-
What the body of the first feed-forward part's second product leaves at one grid point. The steps over the blocks of the
contraction are those of the last feed-forward part: the two bodies store the same columns.
-/

public import proofs.«01_k».proof.Proof.Gen.Kernel4Ideal.Value
public import proofs.«01_k».proof.Proof.TailBody

@[expose] public section
set_option maxRecDepth 16384
noncomputable section
namespace Cert.Kernel4Ideal.Next

open Cert.Kernel4Ideal Cert.Kernel4Ideal.Gen
open Cert.Kernel3Ideal.Tail (step columns_eq)
open Idealize.ShloMosaic Idealize.ShloMosaic.TcCoe Idealize.ShloMosaic.Tactic

variable (m : (ℓ : Loc nD τ sig) → Buf (Elt Ideal) ℓ)

/-- In the middle of the accumulation: one more block. -/
theorem middle_point (c : Dev nD) (t : Fin cfg0.N) (h0 : ¬ t.val % 4 = 0) (h1 : ¬ t.val % 4 = 3) (x : Vec Ideal S512x2048 .f32)
    (hx : (outsAt0 m c (t.val - 1) (Nat.lt_of_le_of_lt (Nat.sub_le _ _) t.isLt)).1 = x) :
    (outsAt0 m c t.val t.isLt).1 = step (iblk m c 0 t) (iblk m c 1 t) (iblk m c 3 t) x := by
  rw [outsAt0_B m c t h0 h1, hx]
  unfold out0_B_7
  frame_out
  exact columns_eq _ _ _ x _

/-- At its start: the first block, over the residual. -/
theorem first_point (c : Dev nD) (t : Fin cfg0.N) (h0 : t.val % 4 = 0) (h1 : ¬ t.val % 4 = 3) :
    (outsAt0 m c t.val t.isLt).1 = step (iblk m c 0 t) (iblk m c 1 t) (iblk m c 3 t) (iblk m c 2 t) := by
  rw [outsAt0_A m c t h0 h1]
  unfold out0_A_7
  frame_out
  simp (disch := decide) only [↓ View.readCov_skip, ↓ View.readCov_fill]
  exact columns_eq _ _ _ _ _

/-- At its end: the last block. -/
theorem last_point (c : Dev nD) (t : Fin cfg0.N) (h0 : ¬ t.val % 4 = 0) (h1 : t.val % 4 = 3) (x : Vec Ideal S512x2048 .f32)
    (hx : (outsAt0 m c (t.val - 1) (Nat.lt_of_le_of_lt (Nat.sub_le _ _) t.isLt)).1 = x) :
    (outsAt0 m c t.val t.isLt).1 = step (iblk m c 0 t) (iblk m c 1 t) (iblk m c 3 t) x := by
  rw [outsAt0_C m c t h0 h1, hx]
  unfold out0_C_7
  frame_out
  exact columns_eq _ _ _ x _

/-- And there: the rows' norm and modulation. -/
theorem last_norm (c : Dev nD) (t : Fin cfg0.N) (h0 : ¬ t.val % 4 = 0) (h1 : t.val % 4 = 3) (x : Vec Ideal S512x2048 .f32)
    (hx : (outsAt0 m c (t.val - 1) (Nat.lt_of_le_of_lt (Nat.sub_le _ _) t.isLt)).1 = x) :
    (outsAt0 m c t.val t.isLt).2 = k0_pay3 (iblk m c 6 t) (iblk m c 5 t)
      (step (iblk m c 0 t) (iblk m c 1 t) (iblk m c 3 t) x) (iblk m c 4 t) := by
  rw [outsAt0_C m c t h0 h1, hx]
  unfold out0_C_8
  frame_out
  refine congrArg (fun z => k0_pay3 (iblk m c 6 t) (iblk m c 5 t) z (iblk m c 4 t)) ?_
  rw [View.readCov_eq_canon']
  funext y
  refine (congrFun (columns_eq (iblk m c 0 t) (iblk m c 1 t) (iblk m c 3 t) x []) _).trans ?_
  refine congrArg (step _ _ _ x) ?_
  funext b
  match b with
  | 0 => exact Fin.ext (by show 0 + 1 * (y 0).val = (y 0).val; omega)
  | 1 => exact Fin.ext (by show 0 + 1 * (y 1).val = (y 1).val; omega)

end Cert.Kernel4Ideal.Next

end
-- ==== Proof.NextRef.lean ====
module

/-
The reference of the first feed-forward part's second product and of the norm that follows it, at an element of its two
results: the tokens of the eight latents' rows and those of the context are one formula, whose modulation row is the
token's.
-/

public import proofs.«01_k».proof.Proof.Gen.Reference4Ideal.Run
public import proofs.«01_k».proof.Proof.TailRef

@[expose] public section
set_option maxRecDepth 16384
noncomputable section
namespace Cert.Reference4Ideal.Next

open Cert.Reference4Ideal Cert.Reference4Ideal.Gen
open Cert.Reference3Ideal.Tail (inverseRoot)
open Idealize.ShloMosaic Idealize.ShloMosaic.TcCoe Idealize.ShloMosaic.Tactic

/-- The product of the hidden layer with the second weight. -/
def product (h : FVec Ideal S18432x8192 .bf16) (w : FVec Ideal S1x8192x2048 .bf16) : FVec Ideal S18432x2048 .f32 :=
  Host.dotGeneral dot_S18432x8192_S8192x2048_S18432x2048_1_0_0_1_n_n none (extf .f32 h bitsLt_bf16_f32)
    (extf .f32 (shapeCast _ w shapeCasts_S1x8192x2048_S8192x2048) bitsLt_bf16_f32)

/-- The latents' modulation. -/
def modLat (mod : FVec Ideal S16x1x12288 .f32) : FVec Ideal S8x1x12288 .f32 :=
  extractStridedSlice S8x1x12288 ![0, 0, 0] mod slices_S16x1x12288_S8x1x12288_0_0_0

/-- The context's. -/
def modCtx (mod : FVec Ideal S16x1x12288 .f32) : FVec Ideal S1x1x12288 .f32 :=
  extractStridedSlice S1x1x12288 ![8, 0, 0] mod slices_S16x1x12288_S1x1x12288_8_0_0

/-- The latents' residual and gated product. -/
def sumLat (p x : FVec Ideal S18432x2048 .f32) (mod : FVec Ideal S16x1x12288 .f32) : FVec Ideal S8x2048x2048 .f32 :=
  addf (shapeCast _ (extractStridedSlice S16384x2048 ![0, 0] x slices_S18432x2048_S16384x2048_0_0) shapeCasts_S16384x2048_S8x2048x2048)
    (mulf (broadcastInDim S8x2048x2048 ![0, 1, 2] bcast_S8x1x2048_S8x2048x2048_0_1_2
      (extractStridedSlice S8x1x2048 ![0, 0, 10240] (modLat mod) slices_S8x1x12288_S8x1x2048_0_0_10240))
      (shapeCast _ (extractStridedSlice S16384x2048 ![0, 0] p slices_S18432x2048_S16384x2048_0_0) shapeCasts_S16384x2048_S8x2048x2048))

/-- The context's residual and gated product. -/
def sumCtx (p x : FVec Ideal S18432x2048 .f32) (mod : FVec Ideal S16x1x12288 .f32) : FVec Ideal S8x256x2048 .f32 :=
  addf (shapeCast _ (extractStridedSlice S2048x2048 ![16384, 0] x slices_S18432x2048_S2048x2048_16384_0) shapeCasts_S2048x2048_S8x256x2048)
    (mulf (broadcastInDim S8x256x2048 ![0, 1, 2] bcast_S1x1x2048_S8x256x2048_0_1_2
      (extractStridedSlice S1x1x2048 ![0, 0, 10240] (modCtx mod) slices_S1x1x12288_S1x1x2048_0_0_10240))
      (shapeCast _ (extractStridedSlice S2048x2048 ![16384, 0] p slices_S18432x2048_S2048x2048_16384_0) shapeCasts_S2048x2048_S8x256x2048))

/-- What every latent row is scaled by. -/
def scaleLat (y : FVec Ideal S8x2048x2048 .f32) : FVec Ideal S8x2048x1 .f32 :=
  Host.rsqrt (addf (Host.divf (broadcastInDim S8x2048x1 ![0, 1] bcast_S8x2048_S8x2048x1_0_1
    (Host.reduceAdd (mulf y y) (constant S_ .f32 0x00000000#32) reducesTo_S8x2048x2048_S8x2048_d2 h_S_))
    (broadcastInDim S8x2048x1 ![] bcast_S_S8x2048x1 (constant S_ .f32 0x45000000#32)))
    (broadcastInDim S8x2048x1 ![] bcast_S_S8x2048x1 (constant S_ .f32 0x358637BD#32)))

/-- What every context row is scaled by. -/
def scaleCtx (y : FVec Ideal S8x256x2048 .f32) : FVec Ideal S8x256x1 .f32 :=
  Host.rsqrt (addf (Host.divf (broadcastInDim S8x256x1 ![0, 1] bcast_S8x256_S8x256x1_0_1
    (Host.reduceAdd (mulf y y) (constant S_ .f32 0x00000000#32) reducesTo_S8x256x2048_S8x256_d2 h_S_))
    (broadcastInDim S8x256x1 ![] bcast_S_S8x256x1 (constant S_ .f32 0x45000000#32)))
    (broadcastInDim S8x256x1 ![] bcast_S_S8x256x1 (constant S_ .f32 0x358637BD#32)))

/-- The latents' next norm and modulation. -/
def normLat (y : FVec Ideal S8x2048x2048 .f32) (mod : FVec Ideal S16x1x12288 .f32) (g : FVec Ideal S2048 .f32) :
    FVec Ideal S8x2048x2048 .f32 :=
  addf (mulf (mulf (mulf y (broadcastInDim S8x2048x2048 ![0, 1, 2] bcast_S8x2048x1_S8x2048x2048_0_1_2 (scaleLat y)))
    (broadcastInDim S8x2048x2048 ![0, 1, 2] bcast_S1x1x2048_S8x2048x2048_0_1_2
      (broadcastInDim S1x1x2048 ![2] bcast_S2048_S1x1x2048_2 g)))
    (broadcastInDim S8x2048x2048 ![0, 1, 2] bcast_S8x1x2048_S8x2048x2048_0_1_2
      (addf (broadcastInDim S8x1x2048 ![] bcast_S_S8x1x2048 (constant S_ .f32 0x3F800000#32))
        (extractStridedSlice S8x1x2048 ![0, 0, 2048] (modLat mod) slices_S8x1x12288_S8x1x2048_0_0_2048))))
    (broadcastInDim S8x2048x2048 ![0, 1, 2] bcast_S8x1x2048_S8x2048x2048_0_1_2
      (extractStridedSlice S8x1x2048 ![0, 0, 0] (modLat mod) slices_S8x1x12288_S8x1x2048_0_0_0))

/-- The context's. -/
def normCtx (y : FVec Ideal S8x256x2048 .f32) (mod : FVec Ideal S16x1x12288 .f32) (g : FVec Ideal S2048 .f32) :
    FVec Ideal S8x256x2048 .f32 :=
  addf (mulf (mulf (mulf y (broadcastInDim S8x256x2048 ![0, 1, 2] bcast_S8x256x1_S8x256x2048_0_1_2 (scaleCtx y)))
    (broadcastInDim S8x256x2048 ![0, 1, 2] bcast_S1x1x2048_S8x256x2048_0_1_2
      (broadcastInDim S1x1x2048 ![2] bcast_S2048_S1x1x2048_2 g)))
    (broadcastInDim S8x256x2048 ![0, 1, 2] bcast_S1x1x2048_S8x256x2048_0_1_2
      (addf (broadcastInDim S1x1x2048 ![] bcast_S_S1x1x2048 (constant S_ .f32 0x3F800000#32))
        (extractStridedSlice S1x1x2048 ![0, 0, 2048] (modCtx mod) slices_S1x1x12288_S1x1x2048_0_0_2048))))
    (broadcastInDim S8x256x2048 ![0, 1, 2] bcast_S1x1x2048_S8x256x2048_0_1_2
      (extractStridedSlice S1x1x2048 ![0, 0, 0] (modCtx mod) slices_S1x1x12288_S1x1x2048_0_0_0))

/-- The first result: the tokens. -/
def tokens (h : FVec Ideal S18432x8192 .bf16) (w : FVec Ideal S1x8192x2048 .bf16) (x : FVec Ideal S18432x2048 .f32)
    (mod : FVec Ideal S16x1x12288 .f32) : FVec Ideal S18432x2048 .f32 :=
  concatenate S18432x2048 0 [⟨S16384x2048, shapeCast _ (sumLat (product h w) x mod) shapeCasts_S8x2048x2048_S16384x2048⟩,
    ⟨S2048x2048, shapeCast _ (sumCtx (product h w) x mod) shapeCasts_S8x256x2048_S2048x2048⟩]
    concatenates_S16384x2048_S2048x2048_S18432x2048_d0

/-- The second: the tokens that the next layer takes. -/
def nextIn (h : FVec Ideal S18432x8192 .bf16) (w : FVec Ideal S1x8192x2048 .bf16) (x : FVec Ideal S18432x2048 .f32)
    (mod modNext : FVec Ideal S16x1x12288 .f32) (g : FVec Ideal S2048 .f32) : FVec Ideal S18432x2048 .bf16 :=
  concatenate S18432x2048 0
    [⟨S16384x2048, truncf .bf16 (shapeCast _ (normLat (sumLat (product h w) x mod) modNext g) shapeCasts_S8x2048x2048_S16384x2048) bitsLt_bf16_f32⟩,
    ⟨S2048x2048, truncf .bf16 (shapeCast _ (normCtx (sumCtx (product h w) x mod) modNext g) shapeCasts_S8x256x2048_S2048x2048) bitsLt_bf16_f32⟩]
    concatenates_S16384x2048_S2048x2048_S18432x2048_d0

/-- A token's row of the modulation. -/
def batch (R : Fin 18432) : Fin 16 := ⟨min (R.val / 2048) 8, by omega⟩

/-- A token's residual and gated product. -/
def row (h : FVec Ideal S18432x8192 .bf16) (w : FVec Ideal S1x8192x2048 .bf16) (x : FVec Ideal S18432x2048 .f32)
    (mod : FVec Ideal S16x1x12288 .f32) (R : Fin 18432) (X : Fin 2048) : EReal :=
  x (ix2 R X) + mod (ix3 (batch R) 0 ⟨10240 + X.val, by omega⟩) * ∑ k : Fin 8192, h (ix2 R k) * w (ix3 0 k X)

/-- A token's next norm and modulation. -/
def normed (y : Fin 2048 → EReal) (mod : FVec Ideal S16x1x12288 .f32) (g : FVec Ideal S2048 .f32) (R : Fin 18432)
    (X : Fin 2048) : EReal :=
  y X * inverseRoot y * g (ix1 X) * (Ideal.ofBits .f32 0x3F800000#32 + mod (ix3 (batch R) 0 ⟨2048 + X.val, by omega⟩))
    + mod (ix3 (batch R) 0 ⟨X.val, by omega⟩)

theorem product_at (h : FVec Ideal S18432x8192 .bf16) (w : FVec Ideal S1x8192x2048 .bf16) (R : Fin 18432) (X : Fin 2048) :
    product h w (ix2 R X) = ∑ k : Fin 8192, h (ix2 R k) * w (ix3 0 k X) := by
  pointwise [product]

theorem modLat_at (mod : FVec Ideal S16x1x12288 .f32) (b : Fin 8) (X : Fin 12288) (B : Fin 16) (hB : B.val = b.val) :
    modLat mod (ix3 b 0 X) = mod (ix3 B 0 X) := by
  have e : (⟨b.val, by omega⟩ : Fin 16) = B := Fin.ext hB.symm
  pointwise [modLat]
  rw [e]

theorem modCtx_at (mod : FVec Ideal S16x1x12288 .f32) (X : Fin 12288) : modCtx mod (ix3 0 0 X) = mod (ix3 8 0 X) := by
  pointwise [modCtx]

theorem sumLat_at (h : FVec Ideal S18432x8192 .bf16) (w : FVec Ideal S1x8192x2048 .bf16) (x : FVec Ideal S18432x2048 .f32)
    (mod : FVec Ideal S16x1x12288 .f32) (b : Fin 8) (s X : Fin 2048) (R : Fin 18432) (hR : b.val * 2048 + s.val = R.val) :
    sumLat (product h w) x mod (ix3 b s X) = row h w x mod R X := by
  have e : (⟨b.val * 2048 + s.val, by omega⟩ : Fin 18432) = R := Fin.ext hR
  unfold row
  rw [← product_at, ← modLat_at mod b _ (batch R) (by show min (R.val / 2048) 8 = b.val; omega)]
  pointwise [sumLat]
  rw [e]

theorem sumCtx_at (h : FVec Ideal S18432x8192 .bf16) (w : FVec Ideal S1x8192x2048 .bf16) (x : FVec Ideal S18432x2048 .f32)
    (mod : FVec Ideal S16x1x12288 .f32) (b : Fin 8) (s : Fin 256) (X : Fin 2048) (R : Fin 18432)
    (hR : 16384 + (b.val * 256 + s.val) = R.val) :
    sumCtx (product h w) x mod (ix3 b s X) = row h w x mod R X := by
  have e : (⟨16384 + (b.val * 256 + s.val), by omega⟩ : Fin 18432) = R := Fin.ext hR
  have eb : batch R = 8 := Fin.ext (by show min (R.val / 2048) 8 = 8; omega)
  unfold row
  rw [← product_at, eb, ← modCtx_at mod]
  pointwise [sumCtx]
  rw [e]

theorem scaleLat_at (y : FVec Ideal S8x2048x2048 .f32) (b : Fin 8) (s : Fin 2048) :
    scaleLat y (ix3 b s 0) = inverseRoot fun k => y (ix3 b s k) := by
  pointwise [scaleLat]
  rfl

theorem scaleCtx_at (y : FVec Ideal S8x256x2048 .f32) (b : Fin 8) (s : Fin 256) :
    scaleCtx y (ix3 b s 0) = inverseRoot fun k => y (ix3 b s k) := by
  pointwise [scaleCtx]
  rfl

theorem normLat_at (y : FVec Ideal S8x2048x2048 .f32) (mod : FVec Ideal S16x1x12288 .f32) (g : FVec Ideal S2048 .f32)
    (b : Fin 8) (s X : Fin 2048) (R : Fin 18432) (hR : b.val * 2048 + s.val = R.val) :
    normLat y mod g (ix3 b s X) = normed (fun k => y (ix3 b s k)) mod g R X := by
  have hb : (batch R).val = b.val := by show min (R.val / 2048) 8 = b.val; omega
  unfold normed
  rw [← scaleLat_at, ← modLat_at mod b _ (batch R) hb, ← modLat_at mod b _ (batch R) hb]
  pointwise [normLat]

theorem normCtx_at (y : FVec Ideal S8x256x2048 .f32) (mod : FVec Ideal S16x1x12288 .f32) (g : FVec Ideal S2048 .f32)
    (b : Fin 8) (s : Fin 256) (X : Fin 2048) (R : Fin 18432) (hR : 16384 + (b.val * 256 + s.val) = R.val) :
    normCtx y mod g (ix3 b s X) = normed (fun k => y (ix3 b s k)) mod g R X := by
  have eb : batch R = 8 := Fin.ext (by show min (R.val / 2048) 8 = 8; omega)
  unfold normed
  rw [← scaleCtx_at, eb, ← modCtx_at mod, ← modCtx_at mod]
  pointwise [normCtx]

/-- Rows of latents, then rows of the context: at an element. -/
theorem parts_at {F : FTy} (y : FVec Ideal S8x2048x2048 F) (z : FVec Ideal S8x256x2048 F) (R : Fin 18432) (X : Fin 2048) (v : EReal)
    (hl : ∀ (b : Fin 8) (s : Fin 2048), b.val * 2048 + s.val = R.val → y (ix3 b s X) = v)
    (hc : ∀ (b : Fin 8) (s : Fin 256), 16384 + (b.val * 256 + s.val) = R.val → z (ix3 b s X) = v) :
    concatenate S18432x2048 0 [⟨S16384x2048, shapeCast _ y shapeCasts_S8x2048x2048_S16384x2048⟩,
      ⟨S2048x2048, shapeCast _ z shapeCasts_S8x256x2048_S2048x2048⟩] concatenates_S16384x2048_S2048x2048_S18432x2048_d0 (ix2 R X) = v := by
  by_cases h : R.val < 16384
  · rw [← hl ⟨R.val / 2048, by omega⟩ ⟨R.val % 2048, by omega⟩ (by show R.val / 2048 * 2048 + R.val % 2048 = R.val; omega)]
    rw [concatenate_pair_apply_left (s₁ := S16384x2048) (s₂ := S2048x2048) 0 _ _ concatenates_S16384x2048_S2048x2048_S18432x2048_d0
      (ix2 R X) rfl (ix2 ⟨R.val, h⟩ X) fun b => by
        match b with
        | 0 => rfl
        | 1 => rfl]
    pointwise []
  · rw [← hc ⟨(R.val - 16384) / 256, by omega⟩ ⟨(R.val - 16384) % 256, by omega⟩
      (by show 16384 + ((R.val - 16384) / 256 * 256 + (R.val - 16384) % 256) = R.val; omega)]
    rw [concatenate_pair_apply_right (s₁ := S16384x2048) (s₂ := S2048x2048) 0 _ _ concatenates_S16384x2048_S2048x2048_S18432x2048_d0
      (ix2 R X) rfl rfl (ix2 ⟨R.val - 16384, by omega⟩ X) (fun b hb => by
        match b with
        | 0 => exact absurd rfl hb
        | 1 => rfl) (by show R.val - 16384 + 16384 = R.val; omega)]
    pointwise []

/-- The first result at an index. -/
theorem tokens_at (h : FVec Ideal S18432x8192 .bf16) (w : FVec Ideal S1x8192x2048 .bf16) (x : FVec Ideal S18432x2048 .f32)
    (mod : FVec Ideal S16x1x12288 .f32) (R : Fin 18432) (X : Fin 2048) : tokens h w x mod (ix2 R X) = row h w x mod R X :=
  parts_at _ _ R X _ (fun b s e => sumLat_at h w x mod b s X R e) fun b s e => sumCtx_at h w x mod b s X R e

/-- The second. -/
theorem nextIn_at (h : FVec Ideal S18432x8192 .bf16) (w : FVec Ideal S1x8192x2048 .bf16) (x : FVec Ideal S18432x2048 .f32)
    (mod modNext : FVec Ideal S16x1x12288 .f32) (g : FVec Ideal S2048 .f32) (R : Fin 18432) (X : Fin 2048) :
    nextIn h w x mod modNext g (ix2 R X) = normed (row h w x mod R) modNext g R X :=
  parts_at (normLat (sumLat (product h w) x mod) modNext g) (normCtx (sumCtx (product h w) x mod) modNext g) R X _
    (fun b s e => by rw [normLat_at _ _ _ b s X R e, funext fun k => sumLat_at h w x mod b s k R e])
    fun b s e => by rw [normCtx_at _ _ _ b s X R e, funext fun k => sumCtx_at h w x mod b s k R e]

end Cert.Reference4Ideal.Next

end
-- ==== Proof.NextEq.lean ====
module

/-
The first feed-forward part's second product: the kernel's two results are the reference's, where the hidden layer, the
weight and the modulation are real. The grid runs over 36 blocks of rows and, inside each, over the four blocks of the
contraction; the rows hold the residual and the gated blocks, and their norm is taken after the fourth.
-/

public import proofs.«01_k».proof.Proof.NextBody
public import proofs.«01_k».proof.Proof.NextRef
public import proofs.«01_k».proof.Proof.TailSum

@[expose] public section
set_option maxRecDepth 16384
noncomputable section
namespace Cert.Kernel4Ideal.Next

open Cert.Kernel4Ideal Cert.Kernel4Ideal.Gen
open Cert.Kernel3Ideal.Tail (step)
open Cert.Reference3Ideal.Tail (inverseRoot)
open Cert.Reference4Ideal.Next (row batch normed tokens nextIn tokens_at nextIn_at)
open Idealize.ShloMosaic Idealize.ShloMosaic.TcCoe Idealize.ShloMosaic.Tactic

theorem index_0 : ∀ t : Fin 144, win0_0.index t (0 : Fin 2) = t.val / 4 ∧ win0_0.index t (1 : Fin 2) = t.val % 4 := by decide +kernel
theorem index_1 : ∀ t : Fin 144, win0_1.index t (0 : Fin 3) = 0 ∧ win0_1.index t (1 : Fin 3) = t.val % 4 ∧
    win0_1.index t (2 : Fin 3) = 0 := by decide +kernel
theorem index_2 : ∀ t : Fin 144, win0_2.index t (0 : Fin 2) = t.val / 4 ∧ win0_2.index t (1 : Fin 2) = 0 := by decide +kernel
theorem index_3 : ∀ t : Fin 144, win0_3.index t (0 : Fin 3) = min (t.val / 16) 8 ∧ win0_3.index t (1 : Fin 3) = 0 ∧
    win0_3.index t (2 : Fin 3) = 5 := by decide +kernel
theorem index_4 : ∀ t : Fin 144, win0_4.index t (0 : Fin 3) = min (t.val / 16) 8 ∧ win0_4.index t (1 : Fin 3) = 0 ∧
    win0_4.index t (2 : Fin 3) = 0 := by decide +kernel
theorem index_5 : ∀ t : Fin 144, win0_5.index t (0 : Fin 3) = min (t.val / 16) 8 ∧ win0_5.index t (1 : Fin 3) = 0 ∧
    win0_5.index t (2 : Fin 3) = 1 := by decide +kernel
theorem index_6 : ∀ t : Fin 144, win0_6.index t (0 : Fin 2) = 0 ∧ win0_6.index t (1 : Fin 2) = 0 := by decide +kernel
theorem index_7 : ∀ t : Fin 144, win0_7.index t (0 : Fin 2) = t.val / 4 ∧ win0_7.index t (1 : Fin 2) = 0 := by decide +kernel
theorem index_8 : ∀ t : Fin 144, win0_8.index t (0 : Fin 2) = t.val / 4 ∧ win0_8.index t (1 : Fin 2) = 0 := by decide +kernel

variable (m : (ℓ : Loc nD τ sig) → Buf (Elt Ideal) ℓ)

/-- The hidden layer. -/
abbrev hid (c : Dev nD) : Vec Ideal S18432x8192 .bf16 := m (c.tc.loc main_arg0)
/-- The second weight. -/
abbrev weight (c : Dev nD) : Vec Ideal S1x8192x2048 .bf16 := m (c.tc.loc main_arg1)
/-- The residual. -/
abbrev residual (c : Dev nD) : Vec Ideal S18432x2048 .f32 := m (c.tc.loc main_arg2)
/-- The modulation. -/
abbrev modulation (c : Dev nD) : Vec Ideal S16x1x12288 .f32 := m (c.tc.loc main_arg3)
/-- The next layer's modulation. -/
abbrev modNext (c : Dev nD) : Vec Ideal S16x1x12288 .f32 := m (c.tc.loc main_arg4)
/-- The norm's gain. -/
abbrev gain (c : Dev nD) : Vec Ideal S2048 .f32 := m (c.tc.loc main_arg5)

theorem blk_0 (c : Dev nD) (t : Fin 144) (r : Fin 512) (k : Fin 2048) (R : Fin 18432) (K : Fin 8192)
    (hR : R.val = t.val / 4 * 512 + r.val) (hK : K.val = t.val % 4 * 2048 + k.val) :
    iblk m c 0 t (ix2 r k) = hid m c (ix2 R K) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]
    exact hK.symm

theorem blk_1 (c : Dev nD) (t : Fin 144) (k : Fin 2048) (X : Fin 2048) (K : Fin 8192) (hK : K.val = t.val % 4 * 2048 + k.val) :
    iblk m c 1 t (ix3 0 k X) = weight m c (ix3 0 K X) := by
  blk_simp [iblk]
  refine congrArg (m (c.tc.loc main_arg1)) ?_
  obtain ⟨e0, e1, e2⟩ := index_1 t
  funext a
  match a with
  | 0 =>
    refine Fin.ext ?_
    blk_simp [e0]
  | 1 =>
    refine Fin.ext ?_
    blk_simp [e1]
    exact hK.symm
  | 2 =>
    refine Fin.ext ?_
    blk_simp [e2]

theorem blk_2 (c : Dev nD) (t : Fin 144) (r : Fin 512) (X : Fin 2048) (R : Fin 18432) (hR : R.val = t.val / 4 * 512 + r.val) :
    iblk m c 2 t (ix2 r X) = residual m c (ix2 R X) := by
  blk_simp [iblk]
  refine congrArg (m (c.tc.loc main_arg2)) ?_
  obtain ⟨e0, e1⟩ := index_2 t
  funext a
  match a with
  | 0 =>
    refine Fin.ext ?_
    blk_simp [e0]
    exact hR.symm
  | 1 =>
    refine Fin.ext ?_
    blk_simp [e1]

theorem blk_3 (c : Dev nD) (t : Fin 144) (X : Fin 2048) (B : Fin 16) (G : Fin 12288) (hB : B.val = min (t.val / 16) 8)
    (hG : G.val = 10240 + X.val) : iblk m c 3 t (ix3 0 0 X) = modulation m c (ix3 B 0 G) := by
  blk_simp [iblk]
  refine congrArg (m (c.tc.loc main_arg3)) ?_
  obtain ⟨e0, e1, e2⟩ := index_3 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_4 (c : Dev nD) (t : Fin 144) (X : Fin 2048) (B : Fin 16) (G : Fin 12288) (hB : B.val = min (t.val / 16) 8)
    (hG : G.val = X.val) : iblk m c 4 t (ix3 0 0 X) = modNext m c (ix3 B 0 G) := by
  blk_simp [iblk]
  refine congrArg (m (c.tc.loc main_arg4)) ?_
  obtain ⟨e0, e1, e2⟩ := index_4 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_5 (c : Dev nD) (t : Fin 144) (X : Fin 2048) (B : Fin 16) (G : Fin 12288) (hB : B.val = min (t.val / 16) 8)
    (hG : G.val = 2048 + X.val) : iblk m c 5 t (ix3 0 0 X) = modNext m c (ix3 B 0 G) := by
  blk_simp [iblk]
  refine congrArg (m (c.tc.loc main_arg4)) ?_
  obtain ⟨e0, e1, e2⟩ := index_5 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

/-- The gain as the launch's host line leaves it. -/
theorem gain_row (c : Dev nD) : V m c main_v0 = shapeCast S1x2048 (gain m c) shapeCasts_S2048_S1x2048 := by
  unfold_abbrev_sides
  after_results
  rfl

theorem blk_6 (c : Dev nD) (t : Fin 144) (X : Fin 2048) : iblk m c 6 t (ix2 0 X) = gain m c (ix1 X) := by
  have e : iblk m c 6 t (ix2 0 X) = V m c main_v0 (ix2 0 X) := by
    unfold iblk
    refine congrArg (V m c main_v0) ?_
    obtain ⟨e0, e1⟩ := index_6 t
    funext a
    match a with
    | 0 =>
      refine Fin.ext ?_
      blk_simp [e0]
    | 1 =>
      refine Fin.ext ?_
      blk_simp [e1]
  rw [e, gain_row]
  pointwise []

/-- One step at an index. -/
theorem step_at (c : Dev nD) (t : Fin 144) (x : Vec Ideal S512x2048 .f32) (r : Fin 512) (X : Fin 2048) (R : Fin 18432)
    (hR : R.val = t.val / 4 * 512 + r.val) (e : ℕ) (he : t.val % 4 = e) (h4 : e < 4) :
    step (iblk m c 0 t) (iblk m c 1 t) (iblk m c 3 t) x (ix2 r X) =
      x (ix2 r X) + modulation m c (ix3 (batch R) 0 ⟨10240 + X.val, by omega⟩) *
        ∑ k : Fin 2048, hid m c (ix2 R ⟨e * 2048 + k.val, by omega⟩) * weight m c (ix3 0 ⟨e * 2048 + k.val, by omega⟩ X) := by
  unfold step
  refine congrArg₂ (· + ·) rfl (congrArg₂ (· * ·) (blk_3 m c t X _ _ (by show min (R.val / 2048) 8 = min (t.val / 16) 8; omega) rfl)
    (Finset.sum_congr rfl fun k _ => congrArg₂ (· * ·) (blk_0 m c t r k R _ hR (by rw [he])) (blk_1 m c t k X _ (by rw [he]))))

theorem normed_of (y : Vec Ideal S512x2048 .f32) (g : Vec Ideal S1x2048 .f32) (s a : Vec Ideal S1x1x2048 .f32) (r : Fin 512)
    (X : Fin 2048) : k0_pay3 g s y a (ix2 r X) = y (ix2 r X) * inverseRoot (fun k => y (ix2 r k)) *
      (g (ix2 0 X) * (Ideal.ofBits .f32 0x3F800000#32 + s (ix3 0 0 X))) + a (ix3 0 0 X) := by
  pointwise [k0_pay3]
  rfl

/-- Grid point `e` of row block `q`. -/
def pointOf (q e : ℕ) (hq : q < 36) (he : e < 4) : Fin 144 := ⟨4 * q + e, by omega⟩

/-- A row block's step `e`. -/
def stepOf (c : Dev nD) (q e : ℕ) (hq : q < 36) (he : e < 4) (x : Vec Ideal S512x2048 .f32) : Vec Ideal S512x2048 .f32 :=
  step (iblk m c 0 (pointOf q e hq he)) (iblk m c 1 (pointOf q e hq he)) (iblk m c 3 (pointOf q e hq he)) x

/-- A row block's rows before its last step. -/
def three (c : Dev nD) (q : ℕ) (hq : q < 36) : Vec Ideal S512x2048 .f32 :=
  stepOf m c q 2 hq (by omega) (stepOf m c q 1 hq (by omega) (stepOf m c q 0 hq (by omega) (iblk m c 2 (pointOf q 0 hq (by omega)))))

theorem held_three (c : Dev nD) (q : ℕ) (hq : q < 36) :
    (outsAt0 m c (4 * q + 2) (show 4 * q + 2 < 144 by omega)).1 = three m c q hq := by
  have p0 := first_point m c (pointOf q 0 hq (by omega)) (by unfold pointOf; dsimp only; omega) (by unfold pointOf; dsimp only; omega)
  have p1 := middle_point m c (pointOf q 1 hq (by omega)) (by unfold pointOf; dsimp only; omega) (by unfold pointOf; dsimp only; omega) _ p0
  exact middle_point m c (pointOf q 2 hq (by omega)) (by unfold pointOf; dsimp only; omega) (by unfold pointOf; dsimp only; omega) _ p1

/-- A row block after its four steps: its rows. -/
theorem held (c : Dev nD) (q : ℕ) (hq : q < 36) :
    (outsAt0 m c (4 * q + 3) (show 4 * q + 3 < 144 by omega)).1 = stepOf m c q 3 hq (by omega) (three m c q hq) :=
  last_point m c (pointOf q 3 hq (by omega)) (by unfold pointOf; dsimp only; omega) (by unfold pointOf; dsimp only; omega) _ (held_three m c q hq)

/-- And their norm. -/
theorem held_norm (c : Dev nD) (q : ℕ) (hq : q < 36) :
    (outsAt0 m c (4 * q + 3) (show 4 * q + 3 < 144 by omega)).2 = k0_pay3 (iblk m c 6 (pointOf q 3 hq (by omega)))
      (iblk m c 5 (pointOf q 3 hq (by omega))) (stepOf m c q 3 hq (by omega) (three m c q hq)) (iblk m c 4 (pointOf q 3 hq (by omega))) :=
  last_norm m c (pointOf q 3 hq (by omega)) (by unfold pointOf; dsimp only; omega) (by unfold pointOf; dsimp only; omega) _ (held_three m c q hq)

theorem stepOf_at (c : Dev nD) (q e : ℕ) (hq : q < 36) (he : e < 4) (x : Vec Ideal S512x2048 .f32) (r : Fin 512) (X : Fin 2048)
    (R : Fin 18432) (hR : R.val = q * 512 + r.val) : stepOf m c q e hq he x (ix2 r X) =
      x (ix2 r X) + modulation m c (ix3 (batch R) 0 ⟨10240 + X.val, by omega⟩) *
        ∑ k : Fin 2048, hid m c (ix2 R ⟨e * 2048 + k.val, by omega⟩) * weight m c (ix3 0 ⟨e * 2048 + k.val, by omega⟩ X) :=
  step_at m c (pointOf q e hq he) x r X R (by unfold pointOf; dsimp only; omega) e (by unfold pointOf; dsimp only; omega) he

/-- A row block's rows, at an index. -/
theorem rows_at (c : Dev nD) (hh : ∀ i, hid m c i ≠ ⊤ ∧ hid m c i ≠ ⊥) (hw : ∀ i, weight m c i ≠ ⊤ ∧ weight m c i ≠ ⊥)
    (hm : ∀ i, modulation m c i ≠ ⊤ ∧ modulation m c i ≠ ⊥) (q : ℕ) (hq : q < 36) (r : Fin 512) (X : Fin 2048) (R : Fin 18432)
    (hR : R.val = q * 512 + r.val) : stepOf m c q 3 hq (by omega) (three m c q hq) (ix2 r X) =
      row (hid m c) (weight m c) (residual m c) (modulation m c) R X := by
  unfold three
  rw [stepOf_at m c q 3 hq _ _ r X R hR, stepOf_at m c q 2 hq _ _ r X R hR, stepOf_at m c q 1 hq _ _ r X R hR,
    stepOf_at m c q 0 hq _ _ r X R hR, blk_2 m c _ r X R (by unfold pointOf; dsimp only; omega)]
  rw [Cert.TailSum.gated _ _ _ _ _ _ (hm _) (Cert.TailSum.real_sum _ _ (fun _ => hh _) (fun _ => hw _))
    (Cert.TailSum.real_sum _ _ (fun _ => hh _) (fun _ => hw _)) (Cert.TailSum.real_sum _ _ (fun _ => hh _) (fun _ => hw _))
    (Cert.TailSum.real_sum _ _ (fun _ => hh _) (fun _ => hw _))]
  unfold row
  rw [Cert.TailSum.sum_blocks]

/-- The row and the column of a row block's element. -/
theorem split (y : S512x2048.Idx) : ∃ (r : Fin 512) (X : Fin 2048), y = ix2 r X := ⟨y 0, y 1, by
  funext a
  match a with
  | 0 => rfl
  | 1 => rfl⟩

/-- The point at which a row block is written back. -/
theorem last_of (t : Fin cfg0.N) (h3 : t.val % 4 = 3) :
    ∃ (q : ℕ) (_ : q < 36) (hb : 4 * q + 3 < 144), t = (⟨4 * q + 3, hb⟩ : Fin cfg0.N) := by
  have ht : t.val < 144 := t.isLt
  exact ⟨t.val / 4, by omega, by omega, Fin.ext (by dsimp only; omega)⟩

/-- The first result at the end. -/
theorem tokens_eq (c : Dev nD) (hh : ∀ i, hid m c i ≠ ⊤ ∧ hid m c i ≠ ⊥) (hw : ∀ i, weight m c i ≠ ⊤ ∧ weight m c i ≠ ⊥)
    (hm : ∀ i, modulation m c i ≠ ⊤ ∧ modulation m c i ≠ ⊥) : (dats m 0 c).arrAt 7 cfg0.N =
      tokens (hid m c) (weight m c) (residual m c) (modulation m c) := by
  refine (dats m 0 c).arrAt_eq_of_covers 7 _ (by decide +kernel) fun t hf y => ?_
  obtain ⟨q, hq, hb, rfl⟩ := last_of t ((flush0_7 t).mp hf)
  blk_simp
  rw [after0_7, held m c q hq]
  obtain ⟨e0, e1⟩ := index_7 (⟨4 * q + 3, by omega⟩ : Fin 144)
  obtain ⟨r, X, rfl⟩ := split y
  obtain ⟨R, hR⟩ : ∃ R : Fin 18432, R.val = q * 512 + r.val := ⟨⟨_, by omega⟩, rfl⟩
  refine (rows_at m c hh hw hm q hq r X R hR).trans ((tokens_at (hid m c) (weight m c) (residual m c) (modulation m c) R X).symm.trans
    (congrArg (tokens (hid m c) (weight m c) (residual m c) (modulation m c)) ?_))
  funext a
  match a with
  | 0 =>
    refine Fin.ext ?_
    blk_simp
    exact hR.trans (congrArg (· * 512 + r.val) ((show q = (4 * q + 3) / 4 by omega).trans e0.symm))
  | 1 =>
    refine Fin.ext ?_
    blk_simp
    exact (Nat.zero_add _).symm.trans (congrArg (· * 2048 + X.val) e1.symm)

/-- The second result at the end. -/
theorem next_eq (c : Dev nD) (hh : ∀ i, hid m c i ≠ ⊤ ∧ hid m c i ≠ ⊥) (hw : ∀ i, weight m c i ≠ ⊤ ∧ weight m c i ≠ ⊥)
    (hm : ∀ i, modulation m c i ≠ ⊤ ∧ modulation m c i ≠ ⊥) : (dats m 0 c).arrAt 8 cfg0.N =
      nextIn (hid m c) (weight m c) (residual m c) (modulation m c) (modNext m c) (gain m c) := by
  refine (dats m 0 c).arrAt_eq_of_covers 8 _ (by decide +kernel) fun t hf y => ?_
  obtain ⟨q, hq, hb, rfl⟩ := last_of t ((flush0_8 t).mp hf)
  blk_simp
  rw [after0_8, held_norm m c q hq]
  obtain ⟨e0, e1⟩ := index_8 (⟨4 * q + 3, by omega⟩ : Fin 144)
  obtain ⟨r, X, rfl⟩ := split y
  obtain ⟨R, hR⟩ : ∃ R : Fin 18432, R.val = q * 512 + r.val := ⟨⟨_, by omega⟩, rfl⟩
  have hB : (batch R).val = min ((pointOf q 3 hq (by omega)).val / 16) 8 := by
    show min (R.val / 2048) 8 = min ((4 * q + 3) / 16) 8
    omega
  refine (normed_of _ _ _ _ r X).trans (Eq.trans ?_ ((nextIn_at (hid m c) (weight m c) (residual m c) (modulation m c)
    (modNext m c) (gain m c) R X).symm.trans
    (congrArg (nextIn (hid m c) (weight m c) (residual m c) (modulation m c) (modNext m c) (gain m c)) ?_)))
  · rw [rows_at m c hh hw hm q hq r X R hR, funext fun k => rows_at m c hh hw hm q hq r k R hR, blk_6,
      blk_5 m c _ X (batch R) ⟨2048 + X.val, by omega⟩ hB rfl, blk_4 m c _ X (batch R) ⟨X.val, by omega⟩ hB rfl, ← mul_assoc]
    rfl
  · funext a
    match a with
    | 0 =>
      refine Fin.ext ?_
      blk_simp
      exact hR.trans (congrArg (· * 512 + r.val) ((show q = (4 * q + 3) / 4 by omega).trans e0.symm))
    | 1 =>
      refine Fin.ext ?_
      blk_simp
      exact (Nat.zero_add _).symm.trans (congrArg (· * 2048 + X.val) e1.symm)

end Cert.Kernel4Ideal.Next
end
-- ==== Proof.NextFinite.lean ====
module

/-
What the precondition of the first feed-forward part's second product says: no element of the hidden layer, the weight and the modulation is infinite.
-/

public import proofs.«01_k».proof.Pre_finite4
public import proofs.«01_k».proof.Proof.Finite

@[expose] public section
noncomputable section
namespace Cert.Pre_finite4

open Cert.Pre_finite4
open Idealize.ShloMosaic Idealize.ShloMosaic.Tactic
open Cert.Pre_finite (real_of_lt)

/-- The facts that the precondition's operations stand on. -/
theorem facts : Facts := ⟨by decide, by decide, by decide, by decide, by decide, by decide, by decide, by decide⟩

/-- No element of the three arguments is infinite. -/
theorem real_of [hf : Facts] (h : FVec Ideal S18432x8192 .bf16) (w : FVec Ideal S1x8192x2048 .bf16) (x : FVec Ideal S18432x2048 .f32)
    (mod modNext : FVec Ideal S16x1x12288 .f32) (g : FVec Ideal S2048 .f32) (hp : fn (F := Ideal) h w x mod modNext g = fun _ => 1#1) :
    (∀ i, h i ≠ ⊤ ∧ h i ≠ ⊥) ∧ (∀ i, w i ≠ ⊤ ∧ w i ≠ ⊥) ∧ ∀ i, mod i ≠ ⊤ ∧ mod i ≠ ⊥ := by
  haveI : Subsingleton S_.Idx := ⟨fun a b => funext fun x => x.elim0⟩
  have h0 := congrFun hp fun x => x.elim0
  obtain ⟨h1, h2⟩ := IntOp.andi_eq_one.1 h0
  obtain ⟨h3, h4⟩ := IntOp.andi_eq_one.1 h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

end Cert.Pre_finite4
end
-- ==== Proof.NextClaim.lean ====
/- The claims about the first feed-forward part's second product. -/
module

public import proofs.«01_k».proof.Proof.NextEq
public import proofs.«01_k».proof.Proof.NextFinite
public import proofs.«01_k».proof.Defs
public import proofs.«01_k».proof.Proof.Gen.Kernel4
public import Idealize.ShloMosaic.Adequacy
public import Idealize.ShloMosaic.Init

@[expose] public section

set_option maxRecDepth 16384

noncomputable section

namespace Cert.Proof.Next

open Idealize.ShloMosaic Idealize.SL.Sem

/-- The frame, said of the text that is read at the ideal instance, over words. -/
def Quiet : Prop :=
  ∀ (m : (ℓ : Loc Cert.Kernel4Ideal.nD Cert.Kernel4Ideal.τ Cert.Kernel4Ideal.sig) → Buf (Elt Bits) ℓ)
    (ρ : Dev Cert.Kernel4Ideal.nD → PrngReg), True →
    θ_run (Cert.Kernel4Ideal.defs (F := Bits)) (onTc (τ := Cert.Kernel4Ideal.τ) (Cert.Kernel4Ideal.main (F := Bits))) ⟨m, fun _ => 0, ρ⟩ (fun r => (∀ c : Dev Cert.Kernel4Ideal.nD,
      r.2.mem (c.tc.loc Cert.Kernel4Ideal.main_arg0) = m (c.tc.loc Cert.Kernel4Ideal.main_arg0)
      ∧ r.2.mem (c.tc.loc Cert.Kernel4Ideal.main_arg1) = m (c.tc.loc Cert.Kernel4Ideal.main_arg1)
      ∧ r.2.mem (c.tc.loc Cert.Kernel4Ideal.main_arg2) = m (c.tc.loc Cert.Kernel4Ideal.main_arg2)
      ∧ r.2.mem (c.tc.loc Cert.Kernel4Ideal.main_arg3) = m (c.tc.loc Cert.Kernel4Ideal.main_arg3)
      ∧ r.2.mem (c.tc.loc Cert.Kernel4Ideal.main_arg4) = m (c.tc.loc Cert.Kernel4Ideal.main_arg4)
      ∧ r.2.mem (c.tc.loc Cert.Kernel4Ideal.main_arg5) = m (c.tc.loc Cert.Kernel4Ideal.main_arg5))
      ∧ r.2.sem = fun _ => 0)

/-- The two texts are one. -/
theorem same : Quiet = Cert.quiescent_Kernel4 (hKernel4 := Cert.Kernel4.Gen.facts) := by
  sl_kernel_rfl

/-- The kernel over words ends with its arguments unchanged and every counter at zero. -/
theorem frame_kernel : Cert.quiescent_Kernel4 (hKernel4 := Cert.Kernel4.Gen.facts) :=
  same ▸ fun m ρ _ => Cert.Kernel4Ideal.Gen.frame (F := Bits) m ρ

/-- The idealized kernel ends with its arguments unchanged and every counter at zero. -/
theorem frame_ideal : Cert.quiescent_Kernel4Ideal (hKernel4Ideal := Cert.Kernel4Ideal.Gen.facts) :=
  fun m ρ _ => Cert.Kernel4Ideal.Gen.frame m ρ

/-- The reference ends with its arguments unchanged; it has no counter. -/
theorem reference_quiet (m : (ℓ : Loc Cert.Reference4Ideal.nD Cert.Reference4Ideal.τ Cert.Reference4Ideal.sig) → Buf (Elt Ideal) ℓ)
    (ρ : Dev Cert.Reference4Ideal.nD → PrngReg) :
    θ_run Cert.Reference4Ideal.defs (onTc (τ := Cert.Reference4Ideal.τ) (Cert.Reference4Ideal.main (F := Ideal))) ⟨m, fun _ => 0, ρ⟩ (fun r => (∀ c : Dev Cert.Reference4Ideal.nD,
      r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1)
      ∧ r.2.mem (c.tc.loc Cert.Reference4Ideal.main_arg2) = m (c.tc.loc Cert.Reference4Ideal.main_arg2)
      ∧ r.2.mem (c.tc.loc Cert.Reference4Ideal.main_arg3) = m (c.tc.loc Cert.Reference4Ideal.main_arg3)
      ∧ r.2.mem (c.tc.loc Cert.Reference4Ideal.main_arg4) = m (c.tc.loc Cert.Reference4Ideal.main_arg4)
      ∧ r.2.mem (c.tc.loc Cert.Reference4Ideal.main_arg5) = m (c.tc.loc Cert.Reference4Ideal.main_arg5))
      ∧ r.2.sem = fun _ => 0) :=
  (θ_run Cert.Reference4Ideal.defs _ _).mono (fun r h => ⟨fun c => (h c).2.2, sem_eq_zero_of_no_sems (by decide) r.2⟩)
    (Cert.Reference4Ideal.Value.run m ρ)

/-- The kernel's results are the reference's, at finite arguments. -/
theorem equal : Cert.algebraic_Kernel4Ideal_Reference4Ideal_pre_finite4 (hKernel4Ideal := Cert.Kernel4Ideal.Gen.facts)
    (hReference4Ideal := Cert.Reference4Ideal.Gen.facts) (hPre_finite4 := Cert.Pre_finite4.facts) := by
  intro m g m' g' hp he
  refine ⟨fun c => (Cert.Kernel4Ideal.Gen.dats m 0 c).arrAt 7 Cert.Kernel4Ideal.cfg0.N,
    fun c => (Cert.Kernel4Ideal.Gen.dats m 0 c).arrAt 8 Cert.Kernel4Ideal.cfg0.N,
    Cert.Kernel4Ideal.Value.run_blocks m g,
    (θ_run Cert.Reference4Ideal.defs _ _).mono (fun r h c => ?_) (Cert.Reference4Ideal.Value.run m' g')⟩
  obtain ⟨h0, h1, hk⟩ := h c
  obtain ⟨hh, hw, hm⟩ := Cert.Pre_finite4.real_of (hf := Cert.Pre_finite4.facts) _ _ _ _ _ _ (hp c)
  refine ⟨h0.trans ?_, h1.trans ?_, hk⟩
  · rw [(he c).1, (he c).2.1, (he c).2.2.1, (he c).2.2.2.1]
    exact (Cert.Kernel4Ideal.Next.tokens_eq m c hh hw hm).symm
  · unfold Cert.Reference4Ideal.Value.res_main_v73
    rw [(he c).1, (he c).2.1, (he c).2.2.1, (he c).2.2.2.1, (he c).2.2.2.2.1, (he c).2.2.2.2.2]
    exact (Cert.Kernel4Ideal.Next.next_eq m c hh hw hm).symm

end Cert.Proof.Next

end
-- ==== Proof.InBody.lean ====
module

/-
The values that the body of the two mixers' input products computes, at an element: the two programs' bodies are one text.
-/

public import proofs.«01_k».proof.Proof.Gen.Kernel5Ideal.Value
public import proofs.«01_k».proof.Proof.Gen.Kernel6Ideal.Value
public import Idealize.ShloMosaic.Lib.Pointwise

@[expose] public section
set_option maxRecDepth 16384
noncomputable section
namespace Cert.InBody

open Cert.Kernel5Ideal Cert.Kernel5Ideal.Gen
open Idealize.ShloMosaic Idealize.ShloMosaic.TcCoe Idealize.ShloMosaic.Tactic

/-- The product with the weight's block that was cast. -/
theorem product_at (h : Vec Ideal S2048x2048 .bf16) (w : Vec Ideal S1x2048x1024 .f32) (r : Fin 2048) (x : Fin 1024) :
    k0_pay3 h (k0_pay2 w) (ix2 r x) = ∑ k : Fin 2048, h (ix2 r k) * w (ix3 0 k x) := by
  pointwise [k0_pay3, k0_pay2]

theorem second_at (w : Vec Ideal S1x128x2048 .f32) (r : Fin 128) (x : Fin 2048) : k0_pay1 w (ix3 0 r x) = w (ix3 0 r x) := by
  pointwise [k0_pay1]

/-- The cast, at equal blocks. -/
theorem cast_congr (v w : Vec Ideal S1x2048x1024 .f32) (h : ∀ (k : Fin 2048) (x : Fin 1024), v (ix3 0 k x) = w (ix3 0 k x)) :
    k0_pay2 v = k0_pay2 w := by
  refine congrArg k0_pay2 (funext fun y => ?_)
  have e : y = ix3 0 (y 1) (y 2) := by
    funext a
    match a with
    | 0 => exact Fin.ext (by have : (y 0).val < 1 := (y 0).isLt; show (y 0).val = 0; omega)
    | 1 => rfl
    | 2 => rfl
  rw [e]
  exact h _ _

/-- A value made at the first of every nine points and kept for the others is at every point the one that would be made
there. -/
theorem kept {α β γ : Type} {N : ℕ} (o : (n : ℕ) → n < N → α × β × γ) (a : (n : ℕ) → n < N → γ → α) (b : (n : ℕ) → n < N → β)
    (w : (n : ℕ) → n < N → γ)
    (first : ∀ n hn, n % 9 = 0 → o n hn = (a n hn (w n hn), b n hn, w n hn))
    (later : ∀ n hn, ¬ n % 9 = 0 → ∀ z, (o (n - 1) (Nat.lt_of_le_of_lt (Nat.sub_le _ _) hn)).2.2 = z → o n hn = (a n hn z, b n hn, z))
    (same : ∀ n hn, ¬ n % 9 = 0 → w (n - 1) (Nat.lt_of_le_of_lt (Nat.sub_le _ _) hn) = w n hn) :
    ∀ n hn, o n hn = (a n hn (w n hn), b n hn, w n hn) := by
  intro n
  induction n with
  | zero => exact fun hn => first 0 hn rfl
  | succ n ih =>
    intro hn
    by_cases h : (n + 1) % 9 = 0
    · exact first _ hn h
    · exact later _ hn h _ ((congrArg (fun p => p.2.2) (ih (Nat.lt_of_succ_lt hn))).trans (same _ hn h))

end Cert.InBody

end
-- ==== Proof.GlaInRef.lean ====
module

/-
The reference of the gated linear attention's input product, at an element of its results.
-/

public import proofs.«01_k».proof.Proof.Gen.Reference5Ideal.Run
public import Idealize.ShloMosaic.Lib.Pointwise

@[expose] public section
set_option maxRecDepth 16384
noncomputable section
namespace Cert.Reference5Ideal.GlaIn

open Cert.Reference5Ideal Cert.Reference5Ideal.Gen
open Idealize.ShloMosaic Idealize.ShloMosaic.TcCoe Idealize.ShloMosaic.Tactic

/-- The product of the tokens with the layer's input weight. -/
def product (h : FVec Ideal S18432x2048 .bf16) (w : FVec Ideal S1x2048x6176 .f32) : FVec Ideal S18432x6176 .f32 :=
  Host.dotGeneral dot_S18432x2048_S2048x6176_S18432x6176_1_0_0_1_n_n none (extf .f32 h bitsLt_bf16_f32)
    (shapeCast _ w shapeCasts_S1x2048x6176_S2048x6176)

/-- Its queries, keys, values and gates. -/
def leading (h : FVec Ideal S18432x2048 .bf16) (w : FVec Ideal S1x2048x6176 .f32) : FVec Ideal S18432x6144 .bf16 :=
  truncf .bf16 (extractStridedSlice S18432x6144 ![0, 0] (product h w) slices_S18432x6176_S18432x6144_0_0) bitsLt_bf16_f32

/-- The output's weight, as the mixer's last product takes it. -/
def second (w : FVec Ideal S1x2048x2048 .f32) : FVec Ideal S1x2048x2048 .bf16 := truncf .bf16 w bitsLt_bf16_f32

theorem product_at (h : FVec Ideal S18432x2048 .bf16) (w : FVec Ideal S1x2048x6176 .f32) (R : Fin 18432) (X : Fin 6176) :
    product h w (ix2 R X) = ∑ k : Fin 2048, h (ix2 R k) * w (ix3 0 k X) := by
  pointwise [product]

theorem leading_at (h : FVec Ideal S18432x2048 .bf16) (w : FVec Ideal S1x2048x6176 .f32) (R : Fin 18432) (X : Fin 6144) :
    leading h w (ix2 R X) = ∑ k : Fin 2048, h (ix2 R k) * w (ix3 0 k ⟨X.val, by omega⟩) := by
  rw [← product_at]
  pointwise [leading]

theorem second_at (w : FVec Ideal S1x2048x2048 .f32) (R X : Fin 2048) : second w (ix3 0 R X) = w (ix3 0 R X) := by
  pointwise [second]

end Cert.Reference5Ideal.GlaIn

end
-- ==== Proof.GlaInEq.lean ====
module

/-
The gated linear attention's input product: the kernel's two results are the reference's. The grid runs over six blocks
of columns and, inside each, over nine blocks of rows; the weight's block is cast at the first of the nine and kept.
-/

public import proofs.«01_k».proof.Proof.InBody
public import proofs.«01_k».proof.Proof.GlaInRef
public import Idealize.ShloMosaic.Lib.Pipeline.ValueKit
public import Idealize.ShloMosaic.Lib.Pipeline.ReadBack

@[expose] public section
set_option maxRecDepth 16384
noncomputable section
namespace Cert.Kernel5Ideal.GlaIn

open Cert.Kernel5Ideal Cert.Kernel5Ideal.Gen Cert.InBody
open Cert.Reference5Ideal.GlaIn (leading second)
open Idealize.ShloMosaic Idealize.ShloMosaic.TcCoe Idealize.ShloMosaic.Tactic

theorem index_0 : ∀ t : Fin 54, win0_0.index t (0 : Fin 2) = t.val % 9 ∧ win0_0.index t (1 : Fin 2) = 0 := by decide +kernel
theorem index_1 : ∀ t : Fin 54, win0_1.index t (0 : Fin 3) = 0 ∧ win0_1.index t (1 : Fin 3) = 0 ∧
    win0_1.index t (2 : Fin 3) = t.val / 9 := by decide +kernel
theorem index_2 : ∀ t : Fin 54, win0_2.index t (0 : Fin 3) = 0 ∧ win0_2.index t (1 : Fin 3) = min t.val 15 ∧
    win0_2.index t (2 : Fin 3) = 0 := by decide +kernel
theorem index_3 : ∀ t : Fin 54, win0_3.index t (0 : Fin 2) = t.val % 9 ∧ win0_3.index t (1 : Fin 2) = t.val / 9 := by
  decide +kernel
theorem index_4 : ∀ t : Fin 54, win0_4.index t (0 : Fin 3) = 0 ∧ win0_4.index t (1 : Fin 3) = min t.val 15 ∧
    win0_4.index t (2 : Fin 3) = 0 := by decide +kernel

variable (m : (ℓ : Loc nD τ sig) → Buf (Elt Ideal) ℓ)

/-- At the first row block of a column block: the weight's block is cast and used. -/
theorem first_point (c : Dev nD) (t : Fin cfg0.N) (h0 : t.val % 9 = 0) :
    outsAt0 m c t.val t.isLt = (k0_pay3 (iblk m c 0 t) (k0_pay2 (X0_1 m c t)), k0_pay1 (iblk m c 2 t), k0_pay2 (X0_1 m c t)) := by
  rw [outsAt0_A m c t h0]
  refine congrArg₂ Prod.mk ?_ (congrArg₂ Prod.mk ?_ ?_)
  · unfold out0_A_3
    frame_out
  · unfold out0_A_4
    frame_out
  · unfold sout0_A_0
    frame_out

/-- At the later ones: the kept block is used and stays. -/
theorem later_point (c : Dev nD) (t : Fin cfg0.N) (h0 : ¬ t.val % 9 = 0) (w : Vec Ideal S2048x1024 .bf16)
    (hw : (outsAt0 m c (t.val - 1) (Nat.lt_of_le_of_lt (Nat.sub_le _ _) t.isLt)).2.2 = w) :
    outsAt0 m c t.val t.isLt = (k0_pay3 (iblk m c 0 t) w, k0_pay1 (iblk m c 2 t), w) := by
  rw [outsAt0_B m c t h0, hw]
  refine congrArg₂ Prod.mk ?_ (congrArg₂ Prod.mk ?_ ?_)
  · unfold out0_B_3
    frame_out
    simp only [read_unread_whole]
  · unfold out0_B_4
    frame_out
  · rfl

/-- The tokens. -/
abbrev tokens (c : Dev nD) : Vec Ideal S18432x2048 .bf16 := m (c.tc.loc main_arg0)
/-- The input weight. -/
abbrev inputs (c : Dev nD) : Vec Ideal S1x2048x6176 .f32 := m (c.tc.loc main_arg1)
/-- The output weight. -/
abbrev outputs (c : Dev nD) : Vec Ideal S1x2048x2048 .f32 := m (c.tc.loc main_arg2)

/-- The tokens of a grid point. -/
theorem blk_0 (c : Dev nD) (t : Fin 54) (r k : Fin 2048) (R : Fin 18432) (hR : R.val = t.val % 9 * 2048 + r.val) :
    iblk m c 0 t (ix2 r k) = tokens m c (ix2 R k) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]

/-- The input weight's columns of a grid point. -/
theorem blk_1 (c : Dev nD) (t : Fin 54) (k : Fin 2048) (x : Fin 1024) (X : Fin 6176) (hX : X.val = t.val / 9 * 1024 + x.val) :
    X0_1 m c t (ix3 0 k x) = inputs m c (ix3 0 k X) := by
  unfold X0_1 Pipeline.Window.fill
  rw [dif_pos (moved0_1 t _)]
  unfold iblk
  refine congrArg (m (c.tc.loc main_arg1)) ?_
  obtain ⟨e0, e1, e2⟩ := index_1 t
  funext a
  match a with
  | 0 => exact Fin.ext (by show win0_1.index t 0 * 1 + 1 * 0 = 0; rw [e0])
  | 1 => exact Fin.ext (by show win0_1.index t 1 * 2048 + 1 * k.val = k.val; rw [e1]; omega)
  | 2 => exact Fin.ext (by show win0_1.index t 2 * 1024 + 1 * x.val = X.val; rw [e2, hX]; omega)

/-- The output weight's rows of a grid point. -/
theorem blk_2 (c : Dev nD) (t : Fin 54) (r : Fin 128) (x : Fin 2048) (R : Fin 2048) (hR : R.val = min t.val 15 * 128 + r.val) :
    iblk m c 2 t (ix3 0 r x) = outputs m c (ix3 0 R x) := by
  blk_simp [iblk]
  refine congrArg (m (c.tc.loc main_arg2)) ?_
  obtain ⟨e0, e1, e2⟩ := index_2 t
  funext a
  match a with
  | 0 =>
    refine Fin.ext ?_
    blk_simp [e0]
  | 1 =>
    refine Fin.ext ?_
    blk_simp [e1]
    exact hR.symm
  | 2 =>
    refine Fin.ext ?_
    blk_simp [e2]

/-- What the body leaves at any point. -/
theorem point (c : Dev nD) (t : Fin cfg0.N) : outsAt0 m c t.val t.isLt =
    (k0_pay3 (iblk m c 0 t) (k0_pay2 (X0_1 m c t)), k0_pay1 (iblk m c 2 t), k0_pay2 (X0_1 m c t)) :=
  kept (outsAt0 m c) (fun n hn z => k0_pay3 (iblk m c 0 ⟨n, hn⟩) z) (fun n hn => k0_pay1 (iblk m c 2 ⟨n, hn⟩))
    (fun n hn => k0_pay2 (X0_1 m c ⟨n, hn⟩)) (fun n hn h => first_point m c ⟨n, hn⟩ h)
    (fun n hn h z hz => later_point m c ⟨n, hn⟩ h z hz)
    (fun n hn h => cast_congr _ _ fun k x => by
      have hN : n < 54 := hn
      exact (blk_1 m c ⟨n - 1, _⟩ k x ⟨n / 9 * 1024 + x.val, by omega⟩ (by dsimp only; omega)).trans
        (blk_1 m c ⟨n, hn⟩ k x ⟨n / 9 * 1024 + x.val, by omega⟩ rfl).symm)
    t.val t.isLt

/-- The first result at the end: queries, keys, values and gates. -/
theorem leading_eq (c : Dev nD) : (dats m 0 c).arrAt 3 cfg0.N = leading (tokens m c) (inputs m c) := by
  refine (dats m 0 c).arrAt_eq_of_covers 3 _ (by decide +kernel) fun t hf y => ?_
  blk_simp
  rw [after0_3, point m c t]
  obtain ⟨e0, e1⟩ := index_3 t
  obtain ⟨r, x, rfl⟩ : ∃ (r : Fin 2048) (x : Fin 1024), y = ix2 r x := ⟨y 0, y 1, by
    funext a
    match a with
    | 0 => rfl
    | 1 => rfl⟩
  have ht : t.val < 54 := t.isLt
  obtain ⟨R, hR⟩ : ∃ R : Fin 18432, R.val = t.val % 9 * 2048 + r.val := ⟨⟨_, by omega⟩, rfl⟩
  obtain ⟨X, hX⟩ : ∃ X : Fin 6144, X.val = t.val / 9 * 1024 + x.val := ⟨⟨_, by omega⟩, rfl⟩
  refine (product_at _ _ r x).trans (Eq.trans ?_ ((Cert.Reference5Ideal.GlaIn.leading_at (tokens m c) (inputs m c) R X).symm.trans
    (congrArg (leading (tokens m c) (inputs m c)) ?_)))
  · refine Finset.sum_congr rfl fun k _ => congrArg₂ (· * ·) (blk_0 m c t r k R hR)
      (blk_1 m c t k x ⟨X.val, by omega⟩ hX)
  · funext a
    match a with
    | 0 =>
      refine Fin.ext ?_
      blk_simp [e0]
      exact hR
    | 1 =>
      refine Fin.ext ?_
      blk_simp [e1]
      exact hX

/-- The second result at the end: the output weight. -/
theorem second_eq (c : Dev nD) : (dats m 0 c).arrAt 4 cfg0.N = second (outputs m c) := by
  refine (dats m 0 c).arrAt_eq_of_covers 4 _ (by decide +kernel) fun t hf y => ?_
  blk_simp
  rw [after0_4, point m c t]
  obtain ⟨e0, e1, e2⟩ := index_4 t
  obtain ⟨r, x, rfl⟩ : ∃ (r : Fin 128) (x : Fin 2048), y = ix3 0 r x := ⟨y 1, y 2, by
    funext a
    match a with
    | 0 => exact Fin.ext (by have : (y 0).val < 1 := (y 0).isLt; show (y 0).val = 0; omega)
    | 1 => rfl
    | 2 => rfl⟩
  obtain ⟨R, hR⟩ : ∃ R : Fin 2048, R.val = min t.val 15 * 128 + r.val := ⟨⟨_, by omega⟩, rfl⟩
  have e := (second_at (iblk m c 2 t) r x).trans ((blk_2 m c t r x R hR).trans ((Cert.Reference5Ideal.GlaIn.second_at (outputs m c) R x).symm))
  dsimp only
  refine Eq.trans e (congrArg (second (outputs m c)) ?_)
  funext a
  match a with
  | 0 =>
    refine Fin.ext ?_
    blk_simp [e0]
  | 1 =>
    refine Fin.ext ?_
    blk_simp [e1]
    exact hR
  | 2 =>
    refine Fin.ext ?_
    blk_simp [e2]

end Cert.Kernel5Ideal.GlaIn

end
-- ==== Proof.GlaInClaim.lean ====
/- The claims about the gated linear attention's input product. -/
module

public import proofs.«01_k».proof.Proof.GlaInEq
public import proofs.«01_k».proof.Defs
public import proofs.«01_k».proof.Proof.Gen.Kernel5
public import Idealize.ShloMosaic.Adequacy
public import Idealize.ShloMosaic.Init

@[expose] public section

set_option maxRecDepth 16384

noncomputable section

namespace Cert.Proof.GlaIn

open Idealize.ShloMosaic Idealize.SL.Sem

/-- The frame, said of the text that is read at the ideal instance, over words. -/
def Quiet : Prop :=
  ∀ (m : (ℓ : Loc Cert.Kernel5Ideal.nD Cert.Kernel5Ideal.τ Cert.Kernel5Ideal.sig) → Buf (Elt Bits) ℓ)
    (ρ : Dev Cert.Kernel5Ideal.nD → PrngReg), True →
    θ_run (Cert.Kernel5Ideal.defs (F := Bits)) (onTc (τ := Cert.Kernel5Ideal.τ) (Cert.Kernel5Ideal.main (F := Bits))) ⟨m, fun _ => 0, ρ⟩ (fun r => (∀ c : Dev Cert.Kernel5Ideal.nD,
      r.2.mem (c.tc.loc Cert.Kernel5Ideal.main_arg0) = m (c.tc.loc Cert.Kernel5Ideal.main_arg0)
      ∧ r.2.mem (c.tc.loc Cert.Kernel5Ideal.main_arg1) = m (c.tc.loc Cert.Kernel5Ideal.main_arg1)
      ∧ r.2.mem (c.tc.loc Cert.Kernel5Ideal.main_arg2) = m (c.tc.loc Cert.Kernel5Ideal.main_arg2))
      ∧ r.2.sem = fun _ => 0)

/-- The two texts are one. -/
theorem same : Quiet = Cert.quiescent_Kernel5 (hKernel5 := Cert.Kernel5.Gen.facts) := by
  sl_kernel_rfl

/-- The kernel over words ends with its arguments unchanged and every counter at zero. -/
theorem frame_kernel : Cert.quiescent_Kernel5 (hKernel5 := Cert.Kernel5.Gen.facts) :=
  same ▸ fun m ρ _ => Cert.Kernel5Ideal.Gen.frame (F := Bits) m ρ

/-- The idealized kernel ends with its arguments unchanged and every counter at zero. -/
theorem frame_ideal : Cert.quiescent_Kernel5Ideal (hKernel5Ideal := Cert.Kernel5Ideal.Gen.facts) :=
  fun m ρ _ => Cert.Kernel5Ideal.Gen.frame m ρ

/-- The reference ends with its arguments unchanged; it has no counter. -/
theorem frame_reference : Cert.quiescent_Reference5Ideal (hReference5Ideal := Cert.Reference5Ideal.Gen.facts) :=
  fun m ρ _ => (θ_run Cert.Reference5Ideal.defs _ _).mono
    (fun r h => ⟨fun c => (h c).2.2, sem_eq_zero_of_no_sems (by decide) r.2⟩) (Cert.Reference5Ideal.Value.run m ρ)

/-- The kernel's results are the reference's. -/
theorem equal : Cert.algebraic_Kernel5Ideal_Reference5Ideal (hKernel5Ideal := Cert.Kernel5Ideal.Gen.facts)
    (hReference5Ideal := Cert.Reference5Ideal.Gen.facts) := by
  intro m g m' g' _ he
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N,
    Cert.Kernel5Ideal.Value.run_blocks m g,
    (θ_run Cert.Reference5Ideal.defs _ _).mono (fun r h c => ?_) (Cert.Reference5Ideal.Value.run m' g')⟩
  obtain ⟨h0, h1, hk⟩ := h c
  refine ⟨h0.trans ?_, h1.trans ?_, hk⟩
  · rw [(he c).1, (he c).2.1]
    exact (Cert.Kernel5Ideal.GlaIn.leading_eq m c).symm
  · rw [(he c).2.2]
    exact (Cert.Kernel5Ideal.GlaIn.second_eq m c).symm

end Cert.Proof.GlaIn

end
-- ==== Proof.NaInRef.lean ====
module

/-
The reference of the neighbourhood attention's input product, at an element of its results.
-/

public import proofs.«01_k».proof.Proof.Gen.Reference6Ideal.Run
public import Idealize.ShloMosaic.Lib.Pointwise

@[expose] public section
set_option maxRecDepth 16384
noncomputable section
namespace Cert.Reference6Ideal.NaIn

open Cert.Reference6Ideal Cert.Reference6Ideal.Gen
open Idealize.ShloMosaic Idealize.ShloMosaic.TcCoe Idealize.ShloMosaic.Tactic

/-- The product of the tokens with the layer's input weight. -/
def product (h : FVec Ideal S18432x2048 .bf16) (w : FVec Ideal S1x2048x4096 .f32) : FVec Ideal S18432x4096 .f32 :=
  Host.dotGeneral dot_S18432x2048_S2048x4096_S18432x4096_1_0_0_1_n_n none (extf .f32 h bitsLt_bf16_f32)
    (shapeCast _ w shapeCasts_S1x2048x4096_S2048x4096)

/-- Its queries, keys and values. -/
def leading (h : FVec Ideal S18432x2048 .bf16) (w : FVec Ideal S1x2048x4096 .f32) : FVec Ideal S18432x3072 .bf16 :=
  truncf .bf16 (extractStridedSlice S18432x3072 ![0, 0] (product h w) slices_S18432x4096_S18432x3072_0_0) bitsLt_bf16_f32

/-- The output's weight, as the mixer's last product takes it. -/
def second (w : FVec Ideal S1x2048x2048 .f32) : FVec Ideal S1x2048x2048 .bf16 := truncf .bf16 w bitsLt_bf16_f32

theorem product_at (h : FVec Ideal S18432x2048 .bf16) (w : FVec Ideal S1x2048x4096 .f32) (R : Fin 18432) (X : Fin 4096) :
    product h w (ix2 R X) = ∑ k : Fin 2048, h (ix2 R k) * w (ix3 0 k X) := by
  pointwise [product]

theorem leading_at (h : FVec Ideal S18432x2048 .bf16) (w : FVec Ideal S1x2048x4096 .f32) (R : Fin 18432) (X : Fin 3072) :
    leading h w (ix2 R X) = ∑ k : Fin 2048, h (ix2 R k) * w (ix3 0 k ⟨X.val, by omega⟩) := by
  rw [← product_at]
  pointwise [leading]

theorem second_at (w : FVec Ideal S1x2048x2048 .f32) (R X : Fin 2048) : second w (ix3 0 R X) = w (ix3 0 R X) := by
  pointwise [second]

end Cert.Reference6Ideal.NaIn

end
-- ==== Proof.NaInEq.lean ====
module

/-
The neighbourhood attention's input product: the kernel's two results are the reference's. The grid runs over three blocks
of columns and, inside each, over nine blocks of rows; the weight's block is cast at the first of the nine and kept.
-/

public import proofs.«01_k».proof.Proof.InBody
public import proofs.«01_k».proof.Proof.NaInRef
public import Idealize.ShloMosaic.Lib.Pipeline.ValueKit
public import Idealize.ShloMosaic.Lib.Pipeline.ReadBack

@[expose] public section
set_option maxRecDepth 16384
noncomputable section
namespace Cert.Kernel6Ideal.NaIn

open Cert.Kernel6Ideal Cert.Kernel6Ideal.Gen Cert.InBody
open Cert.Reference6Ideal.NaIn (leading second)
open Idealize.ShloMosaic Idealize.ShloMosaic.TcCoe Idealize.ShloMosaic.Tactic

theorem index_0 : ∀ t : Fin 27, win0_0.index t (0 : Fin 2) = t.val % 9 ∧ win0_0.index t (1 : Fin 2) = 0 := by decide +kernel
theorem index_1 : ∀ t : Fin 27, win0_1.index t (0 : Fin 3) = 0 ∧ win0_1.index t (1 : Fin 3) = 0 ∧
    win0_1.index t (2 : Fin 3) = t.val / 9 := by decide +kernel
theorem index_2 : ∀ t : Fin 27, win0_2.index t (0 : Fin 3) = 0 ∧ win0_2.index t (1 : Fin 3) = min t.val 15 ∧
    win0_2.index t (2 : Fin 3) = 0 := by decide +kernel
theorem index_3 : ∀ t : Fin 27, win0_3.index t (0 : Fin 2) = t.val % 9 ∧ win0_3.index t (1 : Fin 2) = t.val / 9 := by
  decide +kernel
theorem index_4 : ∀ t : Fin 27, win0_4.index t (0 : Fin 3) = 0 ∧ win0_4.index t (1 : Fin 3) = min t.val 15 ∧
    win0_4.index t (2 : Fin 3) = 0 := by decide +kernel

variable (m : (ℓ : Loc nD τ sig) → Buf (Elt Ideal) ℓ)

/-- At the first row block of a column block: the weight's block is cast and used. -/
theorem first_point (c : Dev nD) (t : Fin cfg0.N) (h0 : t.val % 9 = 0) :
    outsAt0 m c t.val t.isLt = (k0_pay3 (iblk m c 0 t) (k0_pay2 (iblk m c 1 t)), k0_pay1 (iblk m c 2 t), k0_pay2 (iblk m c 1 t)) := by
  rw [outsAt0_A m c t h0]
  refine congrArg₂ Prod.mk ?_ (congrArg₂ Prod.mk ?_ ?_)
  · unfold out0_A_3
    frame_out
  · unfold out0_A_4
    frame_out
  · unfold sout0_A_0
    frame_out

/-- At the later ones: the kept block is used and stays. -/
theorem later_point (c : Dev nD) (t : Fin cfg0.N) (h0 : ¬ t.val % 9 = 0) (w : Vec Ideal S2048x1024 .bf16)
    (hw : (outsAt0 m c (t.val - 1) (Nat.lt_of_le_of_lt (Nat.sub_le _ _) t.isLt)).2.2 = w) :
    outsAt0 m c t.val t.isLt = (k0_pay3 (iblk m c 0 t) w, k0_pay1 (iblk m c 2 t), w) := by
  rw [outsAt0_B m c t h0, hw]
  refine congrArg₂ Prod.mk ?_ (congrArg₂ Prod.mk ?_ ?_)
  · unfold out0_B_3
    frame_out
    simp only [read_unread_whole]
  · unfold out0_B_4
    frame_out
  · rfl

/-- The tokens. -/
abbrev tokens (c : Dev nD) : Vec Ideal S18432x2048 .bf16 := m (c.tc.loc main_arg0)
/-- The input weight. -/
abbrev inputs (c : Dev nD) : Vec Ideal S1x2048x4096 .f32 := m (c.tc.loc main_arg1)
/-- The output weight. -/
abbrev outputs (c : Dev nD) : Vec Ideal S1x2048x2048 .f32 := m (c.tc.loc main_arg2)

/-- The tokens of a grid point. -/
theorem blk_0 (c : Dev nD) (t : Fin 27) (r k : Fin 2048) (R : Fin 18432) (hR : R.val = t.val % 9 * 2048 + r.val) :
    iblk m c 0 t (ix2 r k) = tokens m c (ix2 R k) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]

/-- The input weight's columns of a grid point. -/
theorem blk_1 (c : Dev nD) (t : Fin 27) (k : Fin 2048) (x : Fin 1024) (X : Fin 4096) (hX : X.val = t.val / 9 * 1024 + x.val) :
    iblk m c 1 t (ix3 0 k x) = inputs m c (ix3 0 k X) := by
  unfold iblk
  refine congrArg (m (c.tc.loc main_arg1)) ?_
  obtain ⟨e0, e1, e2⟩ := index_1 t
  funext a
  match a with
  | 0 => exact Fin.ext (by show win0_1.index t 0 * 1 + 1 * 0 = 0; rw [e0])
  | 1 => exact Fin.ext (by show win0_1.index t 1 * 2048 + 1 * k.val = k.val; rw [e1]; omega)
  | 2 => exact Fin.ext (by show win0_1.index t 2 * 1024 + 1 * x.val = X.val; rw [e2, hX]; omega)

/-- The output weight's rows of a grid point. -/
theorem blk_2 (c : Dev nD) (t : Fin 27) (r : Fin 128) (x : Fin 2048) (R : Fin 2048) (hR : R.val = min t.val 15 * 128 + r.val) :
    iblk m c 2 t (ix3 0 r x) = outputs m c (ix3 0 R x) := by
  blk_simp [iblk]
  refine congrArg (m (c.tc.loc main_arg2)) ?_
  obtain ⟨e0, e1, e2⟩ := index_2 t
  funext a
  match a with
  | 0 =>
    refine Fin.ext ?_
    blk_simp [e0]
  | 1 =>
    refine Fin.ext ?_
    blk_simp [e1]
    exact hR.symm
  | 2 =>
    refine Fin.ext ?_
    blk_simp [e2]

/-- What the body leaves at any point. -/
theorem point (c : Dev nD) (t : Fin cfg0.N) : outsAt0 m c t.val t.isLt =
    (k0_pay3 (iblk m c 0 t) (k0_pay2 (iblk m c 1 t)), k0_pay1 (iblk m c 2 t), k0_pay2 (iblk m c 1 t)) :=
  kept (outsAt0 m c) (fun n hn z => k0_pay3 (iblk m c 0 ⟨n, hn⟩) z) (fun n hn => k0_pay1 (iblk m c 2 ⟨n, hn⟩))
    (fun n hn => k0_pay2 (iblk m c 1 ⟨n, hn⟩)) (fun n hn h => first_point m c ⟨n, hn⟩ h)
    (fun n hn h z hz => later_point m c ⟨n, hn⟩ h z hz)
    (fun n hn h => cast_congr _ _ fun k x => by
      have hN : n < 27 := hn
      exact (blk_1 m c ⟨n - 1, _⟩ k x ⟨n / 9 * 1024 + x.val, by omega⟩ (by dsimp only; omega)).trans
        (blk_1 m c ⟨n, hn⟩ k x ⟨n / 9 * 1024 + x.val, by omega⟩ rfl).symm)
    t.val t.isLt

/-- The first result at the end: queries, keys and values. -/
theorem leading_eq (c : Dev nD) : (dats m 0 c).arrAt 3 cfg0.N = leading (tokens m c) (inputs m c) := by
  refine (dats m 0 c).arrAt_eq_of_covers 3 _ (by decide +kernel) fun t hf y => ?_
  blk_simp
  rw [after0_3, point m c t]
  obtain ⟨e0, e1⟩ := index_3 t
  obtain ⟨r, x, rfl⟩ : ∃ (r : Fin 2048) (x : Fin 1024), y = ix2 r x := ⟨y 0, y 1, by
    funext a
    match a with
    | 0 => rfl
    | 1 => rfl⟩
  have ht : t.val < 27 := t.isLt
  obtain ⟨R, hR⟩ : ∃ R : Fin 18432, R.val = t.val % 9 * 2048 + r.val := ⟨⟨_, by omega⟩, rfl⟩
  obtain ⟨X, hX⟩ : ∃ X : Fin 3072, X.val = t.val / 9 * 1024 + x.val := ⟨⟨_, by omega⟩, rfl⟩
  refine (product_at _ _ r x).trans (Eq.trans ?_ ((Cert.Reference6Ideal.NaIn.leading_at (tokens m c) (inputs m c) R X).symm.trans
    (congrArg (leading (tokens m c) (inputs m c)) ?_)))
  · refine Finset.sum_congr rfl fun k _ => congrArg₂ (· * ·) (blk_0 m c t r k R hR)
      (blk_1 m c t k x ⟨X.val, by omega⟩ hX)
  · funext a
    match a with
    | 0 =>
      refine Fin.ext ?_
      blk_simp [e0]
      exact hR
    | 1 =>
      refine Fin.ext ?_
      blk_simp [e1]
      exact hX

/-- The second result at the end: the output weight. -/
theorem second_eq (c : Dev nD) : (dats m 0 c).arrAt 4 cfg0.N = second (outputs m c) := by
  refine (dats m 0 c).arrAt_eq_of_covers 4 _ (by decide +kernel) fun t hf y => ?_
  blk_simp
  rw [after0_4, point m c t]
  obtain ⟨e0, e1, e2⟩ := index_4 t
  obtain ⟨r, x, rfl⟩ : ∃ (r : Fin 128) (x : Fin 2048), y = ix3 0 r x := ⟨y 1, y 2, by
    funext a
    match a with
    | 0 => exact Fin.ext (by have : (y 0).val < 1 := (y 0).isLt; show (y 0).val = 0; omega)
    | 1 => rfl
    | 2 => rfl⟩
  obtain ⟨R, hR⟩ : ∃ R : Fin 2048, R.val = min t.val 15 * 128 + r.val := ⟨⟨_, by omega⟩, rfl⟩
  have e := (second_at (iblk m c 2 t) r x).trans ((blk_2 m c t r x R hR).trans ((Cert.Reference6Ideal.NaIn.second_at (outputs m c) R x).symm))
  dsimp only
  refine Eq.trans e (congrArg (second (outputs m c)) ?_)
  funext a
  match a with
  | 0 =>
    refine Fin.ext ?_
    blk_simp [e0]
  | 1 =>
    refine Fin.ext ?_
    blk_simp [e1]
    exact hR
  | 2 =>
    refine Fin.ext ?_
    blk_simp [e2]

end Cert.Kernel6Ideal.NaIn

end
-- ==== Proof.NaInClaim.lean ====
/- The claims about the neighbourhood attention's input product. -/
module

public import proofs.«01_k».proof.Proof.NaInEq
public import proofs.«01_k».proof.Defs
public import proofs.«01_k».proof.Proof.Gen.Kernel6
public import Idealize.ShloMosaic.Adequacy
public import Idealize.ShloMosaic.Init

@[expose] public section

set_option maxRecDepth 16384

noncomputable section

namespace Cert.Proof.NaIn

open Idealize.ShloMosaic Idealize.SL.Sem

/-- The frame, said of the text that is read at the ideal instance, over words. -/
def Quiet : Prop :=
  ∀ (m : (ℓ : Loc Cert.Kernel6Ideal.nD Cert.Kernel6Ideal.τ Cert.Kernel6Ideal.sig) → Buf (Elt Bits) ℓ)
    (ρ : Dev Cert.Kernel6Ideal.nD → PrngReg), True →
    θ_run (Cert.Kernel6Ideal.defs (F := Bits)) (onTc (τ := Cert.Kernel6Ideal.τ) (Cert.Kernel6Ideal.main (F := Bits))) ⟨m, fun _ => 0, ρ⟩ (fun r => (∀ c : Dev Cert.Kernel6Ideal.nD,
      r.2.mem (c.tc.loc Cert.Kernel6Ideal.main_arg0) = m (c.tc.loc Cert.Kernel6Ideal.main_arg0)
      ∧ r.2.mem (c.tc.loc Cert.Kernel6Ideal.main_arg1) = m (c.tc.loc Cert.Kernel6Ideal.main_arg1)
      ∧ r.2.mem (c.tc.loc Cert.Kernel6Ideal.main_arg2) = m (c.tc.loc Cert.Kernel6Ideal.main_arg2))
      ∧ r.2.sem = fun _ => 0)

/-- The two texts are one. -/
theorem same : Quiet = Cert.quiescent_Kernel6 (hKernel6 := Cert.Kernel6.Gen.facts) := by
  sl_kernel_rfl

/-- The kernel over words ends with its arguments unchanged and every counter at zero. -/
theorem frame_kernel : Cert.quiescent_Kernel6 (hKernel6 := Cert.Kernel6.Gen.facts) :=
  same ▸ fun m ρ _ => Cert.Kernel6Ideal.Gen.frame (F := Bits) m ρ

/-- The idealized kernel ends with its arguments unchanged and every counter at zero. -/
theorem frame_ideal : Cert.quiescent_Kernel6Ideal (hKernel6Ideal := Cert.Kernel6Ideal.Gen.facts) :=
  fun m ρ _ => Cert.Kernel6Ideal.Gen.frame m ρ

/-- The reference ends with its arguments unchanged; it has no counter. -/
theorem frame_reference : Cert.quiescent_Reference6Ideal (hReference6Ideal := Cert.Reference6Ideal.Gen.facts) :=
  fun m ρ _ => (θ_run Cert.Reference6Ideal.defs _ _).mono
    (fun r h => ⟨fun c => (h c).2.2, sem_eq_zero_of_no_sems (by decide) r.2⟩) (Cert.Reference6Ideal.Value.run m ρ)

/-- The kernel's results are the reference's. -/
theorem equal : Cert.algebraic_Kernel6Ideal_Reference6Ideal (hKernel6Ideal := Cert.Kernel6Ideal.Gen.facts)
    (hReference6Ideal := Cert.Reference6Ideal.Gen.facts) := by
  intro m g m' g' _ he
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    Cert.Kernel6Ideal.Value.run_blocks m g,
    (θ_run Cert.Reference6Ideal.defs _ _).mono (fun r h c => ?_) (Cert.Reference6Ideal.Value.run m' g')⟩
  obtain ⟨h0, h1, hk⟩ := h c
  refine ⟨h0.trans ?_, h1.trans ?_, hk⟩
  · rw [(he c).1, (he c).2.1]
    exact (Cert.Kernel6Ideal.NaIn.leading_eq m c).symm
  · rw [(he c).2.2]
    exact (Cert.Kernel6Ideal.NaIn.second_eq m c).symm

end Cert.Proof.NaIn

end
-- ==== Proof.OutBody.lean ====
module

/-
What the body of the gated linear attention's output product leaves at one grid point: the two halves of the block's rows
are done one after the other, each in four blocks of columns, and normed when its four blocks are there.
-/

public import proofs.«01_k».proof.Proof.Gen.Kernel7Ideal.Value
public import proofs.«01_k».proof.Proof.TailBody
public import proofs.«01_k».proof.Proof.TailRef

@[expose] public section
set_option maxRecDepth 16384
noncomputable section
namespace Cert.Kernel7Ideal.Out

open Cert.Kernel7Ideal Cert.Kernel7Ideal.Gen
open Cert.Kernel3Ideal.Tail (step)
open Cert.Reference3Ideal.Tail (inverseRoot)
open Idealize.ShloMosaic Idealize.ShloMosaic.TcCoe Idealize.ShloMosaic.Tactic

/-- The rows' norm and modulation. -/
def normRows (g : Vec Ideal S1x2048 .f32) (s : Vec Ideal S1x1x2048 .f32) (y : Vec Ideal S512x2048 .f32)
    (a : Vec Ideal S1x1x2048 .f32) : Vec Ideal S512x2048 .bf16 :=
  fun z => y z * inverseRoot (fun k => y (ix2 (z 0) k)) * (g (ix2 0 (z 1)) * (Ideal.ofBits .f32 0x3F800000#32 + s (ix3 0 0 (z 1))))
    + a (ix3 0 0 (z 1))

theorem normRows_at (g : Vec Ideal S1x2048 .f32) (s : Vec Ideal S1x1x2048 .f32) (y : Vec Ideal S512x2048 .f32)
    (a : Vec Ideal S1x1x2048 .f32) (r : Fin 512) (X : Fin 2048) : normRows g s y a (ix2 r X) = y (ix2 r X) *
      inverseRoot (fun k => y (ix2 r k)) * (g (ix2 0 X) * (Ideal.ofBits .f32 0x3F800000#32 + s (ix3 0 0 X))) + a (ix3 0 0 X) := rfl

/-- A block of the rows and columns, from the rows of the left factor and the columns of the weight and of the gate. -/
theorem chunk_at (h : Vec Ideal S256x2048 .bf16) (w : Vec Ideal S1x2048x512 .bf16) (g : Vec Ideal S1x1x512 .f32)
    (x : Vec Ideal S256x512 .f32) (r : Fin 256) (a : Fin 512) :
    k0_pay3 h w g x (ix2 r a) = x (ix2 r a) + g (ix3 0 0 a) * ∑ k : Fin 2048, h (ix2 r k) * w (ix3 0 k a) := by
  pointwise [k0_pay3]

/-- The same where the rows start at `I` and the columns at `J`. -/
theorem chunk (I J : ℕ) (hh : ∀ a, (![I, 0] : Fin 2 → ℕ) a + (![256, 2048] : Fin 2 → ℕ) a ≤ S512x2048.size a)
    (hw : ∀ a, (![0, 0, J] : Fin 3 → ℕ) a + (![1, 2048, 512] : Fin 3 → ℕ) a ≤ S1x2048x2048.size a)
    (hg : ∀ a, (![0, 0, J] : Fin 3 → ℕ) a + (![1, 1, 512] : Fin 3 → ℕ) a ≤ S1x1x2048.size a)
    (hx : ∀ a, (![I, J] : Fin 2 → ℕ) a + (![256, 512] : Fin 2 → ℕ) a ≤ S512x2048.size a)
    (h : Vec Ideal S512x2048 .bf16) (w : Vec Ideal S1x2048x2048 .bf16) (g : Vec Ideal S1x1x2048 .f32)
    (x : Vec Ideal S512x2048 .f32) (z : S256x512.Idx) :
    k0_pay3 (View.ld h (Rect.unit ![I, 0] ![256, 2048] hh)) (View.ld w (Rect.unit ![0, 0, J] ![1, 2048, 512] hw))
      (View.ld g (Rect.unit ![0, 0, J] ![1, 1, 512] hg)) (View.ld x (Rect.unit ![I, J] ![256, 512] hx)) z =
      step h w g x ((Rect.unit (s := S512x2048) ![I, J] ![256, 512] hx).emb z) := by
  obtain ⟨r, a, rfl⟩ : ∃ (r : Fin 256) (a : Fin 512), z = ix2 r a := ⟨z 0, z 1, by
    funext a
    match a with
    | 0 => rfl
    | 1 => rfl⟩
  rw [chunk_at]
  unfold step
  refine congrArg₂ (· + ·) rfl (congrArg₂ (· * ·) (congrArg g ?_) (Finset.sum_congr rfl fun k _ =>
    congrArg₂ (· * ·) (congrArg h ?_) (congrArg w ?_)))
  · funext b
    match b with
    | 0 => rfl
    | 1 => rfl
    | 2 => rfl
  · funext b
    match b with
    | 0 => rfl
    | 1 => exact Fin.ext (by show 0 + 1 * k.val = k.val; omega)
  · funext b
    match b with
    | 0 => rfl
    | 1 => exact Fin.ext (by show 0 + 1 * k.val = k.val; omega)
    | 2 => rfl

/-- The four blocks of a half's columns leave the half, whatever was stored before. -/
theorem half_eq (G : Vec Ideal S512x2048 .f32) (I : ℕ)
    (i0 : ∀ a, (![I, 0] : Fin 2 → ℕ) a + (![256, 512] : Fin 2 → ℕ) a ≤ S512x2048.size a)
    (i1 : ∀ a, (![I, 512] : Fin 2 → ℕ) a + (![256, 512] : Fin 2 → ℕ) a ≤ S512x2048.size a)
    (i2 : ∀ a, (![I, 1024] : Fin 2 → ℕ) a + (![256, 512] : Fin 2 → ℕ) a ≤ S512x2048.size a)
    (i3 : ∀ a, (![I, 1536] : Fin 2 → ℕ) a + (![256, 512] : Fin 2 → ℕ) a ≤ S512x2048.size a)
    (p0 p1 p2 p3 : Vec Ideal S256x512 .f32)
    (h0 : ∀ z, p0 z = G ((Rect.unit (s := S512x2048) ![I, 0] ![256, 512] i0).emb z))
    (h1 : ∀ z, p1 z = G ((Rect.unit (s := S512x2048) ![I, 512] ![256, 512] i1).emb z))
    (h2 : ∀ z, p2 z = G ((Rect.unit (s := S512x2048) ![I, 1024] ![256, 512] i2).emb z))
    (h3 : ∀ z, p3 z = G ((Rect.unit (s := S512x2048) ![I, 1536] ![256, 512] i3).emb z))
    (L : List (View.Piece (Elt Ideal) S512x2048 .f32)) (y : S512x2048.Idx) (hl : I ≤ (y 0).val) (hu : (y 0).val < I + 256) :
    View.canon (⟨Rect.unit ![I, 1536] ![256, 512] i3, p3⟩ :: ⟨Rect.unit ![I, 1024] ![256, 512] i2, p2⟩ ::
      ⟨Rect.unit ![I, 512] ![256, 512] i1, p1⟩ :: ⟨Rect.unit ![I, 0] ![256, 512] i0, p0⟩ :: L) y = G y := by
  refine View.canon_append_of_piecesOf G L [_, _, _, _] ⟨h3, h2, h1, h0, trivial⟩ y ?_
  have hb : (y 1).val < 2048 := (y 1).isLt
  have inside (J : ℕ) (i : ∀ a, (![I, J] : Fin 2 → ℕ) a + (![256, 512] : Fin 2 → ℕ) a ≤ S512x2048.size a)
      (l : J ≤ (y 1).val) (u : (y 1).val < J + 512) : y ∈ (Rect.unit (s := S512x2048) ![I, J] ![256, 512] i).set :=
    Rect.mem_set_unit.mpr fun a => by
      match a with
      | 0 => exact ⟨hl, hu⟩
      | 1 => exact ⟨l, u⟩
  by_cases c3 : 1536 ≤ (y 1).val
  · exact ⟨_, .head _, inside 1536 i3 c3 (by omega)⟩
  by_cases c2 : 1024 ≤ (y 1).val
  · exact ⟨_, .tail _ (.head _), inside 1024 i2 c2 (by omega)⟩
  by_cases c1 : 512 ≤ (y 1).val
  · exact ⟨_, .tail _ (.tail _ (.head _)), inside 512 i1 c1 (by omega)⟩
  · exact ⟨_, .tail _ (.tail _ (.tail _ (.head _))), inside 0 i0 (by omega) (by omega)⟩

/-- A half's norm. -/
theorem norm_at (g : Vec Ideal S1x2048 .f32) (s a : Vec Ideal S1x1x2048 .f32) (y : Vec Ideal S256x2048 .f32) (r : Fin 256)
    (X : Fin 2048) : k0_pay2 g s y a (ix2 r X) = y (ix2 r X) * inverseRoot (fun k => y (ix2 r k)) *
      (g (ix2 0 X) * (Ideal.ofBits .f32 0x3F800000#32 + s (ix3 0 0 X))) + a (ix3 0 0 X) := by
  pointwise [k0_pay2]
  rfl

/-- The same where the half starts at row `I` of the block. -/
theorem norm_half (I : ℕ) (hy : ∀ a, (![I, 0] : Fin 2 → ℕ) a + (![256, 2048] : Fin 2 → ℕ) a ≤ S512x2048.size a)
    (g : Vec Ideal S1x2048 .f32) (s a : Vec Ideal S1x1x2048 .f32) (Y : Vec Ideal S512x2048 .f32) (y : Vec Ideal S256x2048 .f32)
    (e : ∀ z, y z = Y ((Rect.unit (s := S512x2048) ![I, 0] ![256, 2048] hy).emb z)) (z : S256x2048.Idx) :
    k0_pay2 g s y a z = normRows g s Y a ((Rect.unit (s := S512x2048) ![I, 0] ![256, 2048] hy).emb z) := by
  obtain ⟨r, X, rfl⟩ : ∃ (r : Fin 256) (X : Fin 2048), z = ix2 r X := ⟨z 0, z 1, by
    funext a
    match a with
    | 0 => rfl
    | 1 => rfl⟩
  have c : (Rect.unit (s := S512x2048) ![I, 0] ![256, 2048] hy).emb (ix2 r X) 1 = X :=
    Fin.ext (by show 0 + 1 * X.val = X.val; omega)
  rw [norm_at]
  unfold normRows
  rw [c, e, funext fun k => e (ix2 r k)]
  refine congrArg (fun f => _ * inverseRoot f * _ + _) (funext fun k => congrArg Y ?_)
  funext b
  match b with
  | 0 => rfl
  | 1 => exact Fin.ext (by show 0 + 1 * k.val = k.val; omega)

variable (m : (ℓ : Loc nD τ sig) → Buf (Elt Ideal) ℓ)

/-- A block's rows: the residual and the gated product. -/
abbrev rowsOf (c : Dev nD) (t : Fin cfg0.N) : Vec Ideal S512x2048 .f32 :=
  step (iblk m c 0 t) (iblk m c 1 t) (iblk m c 3 t) (iblk m c 2 t)

theorem point (c : Dev nD) (t : Fin cfg0.N) : (outsAt0 m c t).1 = rowsOf m c t := by
  unfold outsAt0 out0_A_7
  frame_out
  funext y
  refine View.canon_append_of_piecesOf (rowsOf m c t) [] [_, _, _, _, _, _, _, _]
    ⟨fun z => chunk 256 1536 _ _ _ _ _ _ _ _ z, fun z => chunk 256 1024 _ _ _ _ _ _ _ _ z, fun z => chunk 256 512 _ _ _ _ _ _ _ _ z,
      fun z => chunk 256 0 _ _ _ _ _ _ _ _ z, fun z => chunk 0 1536 _ _ _ _ _ _ _ _ z, fun z => chunk 0 1024 _ _ _ _ _ _ _ _ z,
      fun z => chunk 0 512 _ _ _ _ _ _ _ _ z, fun z => chunk 0 0 _ _ _ _ _ _ _ _ z, trivial⟩ y ?_
  exact View.cover_of_tiledBy _ ![256, 512] (by sl_kernel_rfl) y

theorem point_norm (c : Dev nD) (t : Fin cfg0.N) : (outsAt0 m c t).2 =
    normRows (iblk m c 6 t) (iblk m c 5 t) (rowsOf m c t) (iblk m c 4 t) := by
  unfold outsAt0 out0_A_8
  frame_out
  funext y
  refine View.canon_append_of_piecesOf (normRows (iblk m c 6 t) (iblk m c 5 t) (rowsOf m c t) (iblk m c 4 t)) [] [_, _]
    ⟨fun z => norm_half 256 inb_S512x2048_S256x2048_256_0 _ _ _ (rowsOf m c t) _ (fun z => ?_) z,
      fun z => norm_half 0 inb_S512x2048_S256x2048_0_0 _ _ _ (rowsOf m c t) _ (fun z => ?_) z, trivial⟩ y ?_
  · rw [View.readCov_eq_canon']
    exact half_eq (rowsOf m c t) 256 _ _ _ _ _ _ _ _ (fun z => chunk 256 0 _ _ _ _ _ _ _ _ z) (fun z => chunk 256 512 _ _ _ _ _ _ _ _ z)
      (fun z => chunk 256 1024 _ _ _ _ _ _ _ _ z) (fun z => chunk 256 1536 _ _ _ _ _ _ _ _ z) _ _
      (by show 256 ≤ 256 + 1 * (z 0).val; omega) (by have : (z 0).val < 256 := (z 0).isLt; show 256 + 1 * (z 0).val < 256 + 256; omega)
  · rw [View.readCov_eq_canon']
    exact half_eq (rowsOf m c t) 0 _ _ _ _ _ _ _ _ (fun z => chunk 0 0 _ _ _ _ _ _ _ _ z) (fun z => chunk 0 512 _ _ _ _ _ _ _ _ z)
      (fun z => chunk 0 1024 _ _ _ _ _ _ _ _ z) (fun z => chunk 0 1536 _ _ _ _ _ _ _ _ z) _ _
      (by show 0 ≤ 0 + 1 * (z 0).val; omega) (by have : (z 0).val < 256 := (z 0).isLt; show 0 + 1 * (z 0).val < 0 + 256; omega)
  · exact View.cover_of_tiledBy _ ![256, 2048] (by sl_kernel_rfl) y

end Cert.Kernel7Ideal.Out

end
-- ==== Proof.OutRef.lean ====
module

/-
The reference of the gated linear attention's output product and of the norm that follows it, at an element of its two
results.
-/

public import proofs.«01_k».proof.Proof.Gen.Reference7Ideal.Run
public import proofs.«01_k».proof.Proof.TailRef

@[expose] public section
set_option maxRecDepth 16384
noncomputable section
namespace Cert.Reference7Ideal.Out

open Cert.Reference7Ideal Cert.Reference7Ideal.Gen
open Cert.Reference3Ideal.Tail (inverseRoot)
open Idealize.ShloMosaic Idealize.ShloMosaic.TcCoe Idealize.ShloMosaic.Tactic

/-- The product of the attention's rows with the output weight. -/
def product (h : FVec Ideal S16384x2048 .bf16) (w : FVec Ideal S1x2048x2048 .bf16) : FVec Ideal S16384x2048 .f32 :=
  Host.dotGeneral dot_S16384x2048_S2048x2048_S16384x2048_1_0_0_1_n_n none (extf .f32 h bitsLt_bf16_f32)
    (extf .f32 (shapeCast _ w shapeCasts_S1x2048x2048_S2048x2048) bitsLt_bf16_f32)

/-- The residual and the gated product. -/
def sum (p : FVec Ideal S16384x2048 .f32) (x : FVec Ideal S18432x2048 .f32) (mod : FVec Ideal S16x1x12288 .f32) :
    FVec Ideal S8x2048x2048 .f32 :=
  addf (shapeCast _ (extractStridedSlice S16384x2048 ![0, 0] x slices_S18432x2048_S16384x2048_0_0) shapeCasts_S16384x2048_S8x2048x2048)
    (mulf (broadcastInDim S8x2048x2048 ![0, 1, 2] bcast_S8x1x2048_S8x2048x2048_0_1_2
      (extractStridedSlice S8x1x2048 ![0, 0, 4096] mod slices_S16x1x12288_S8x1x2048_0_0_4096))
      (shapeCast _ p shapeCasts_S16384x2048_S8x2048x2048))

/-- What every row is scaled by. -/
def scale (y : FVec Ideal S8x2048x2048 .f32) : FVec Ideal S8x2048x1 .f32 :=
  Host.rsqrt (addf (Host.divf (broadcastInDim S8x2048x1 ![0, 1] bcast_S8x2048_S8x2048x1_0_1
    (Host.reduceAdd (mulf y y) (constant S_ .f32 0x00000000#32) reducesTo_S8x2048x2048_S8x2048_d2 h_S_))
    (broadcastInDim S8x2048x1 ![] bcast_S_S8x2048x1 (constant S_ .f32 0x45000000#32)))
    (broadcastInDim S8x2048x1 ![] bcast_S_S8x2048x1 (constant S_ .f32 0x358637BD#32)))

/-- The norm and its modulation. -/
def norm (y : FVec Ideal S8x2048x2048 .f32) (mod : FVec Ideal S16x1x12288 .f32) (g : FVec Ideal S2048 .f32) :
    FVec Ideal S8x2048x2048 .f32 :=
  addf (mulf (mulf (mulf y (broadcastInDim S8x2048x2048 ![0, 1, 2] bcast_S8x2048x1_S8x2048x2048_0_1_2 (scale y)))
    (broadcastInDim S8x2048x2048 ![0, 1, 2] bcast_S1x1x2048_S8x2048x2048_0_1_2
      (broadcastInDim S1x1x2048 ![2] bcast_S2048_S1x1x2048_2 g)))
    (broadcastInDim S8x2048x2048 ![0, 1, 2] bcast_S8x1x2048_S8x2048x2048_0_1_2
      (addf (broadcastInDim S8x1x2048 ![] bcast_S_S8x1x2048 (constant S_ .f32 0x3F800000#32))
        (extractStridedSlice S8x1x2048 ![0, 0, 8192] mod slices_S16x1x12288_S8x1x2048_0_0_8192))))
    (broadcastInDim S8x2048x2048 ![0, 1, 2] bcast_S8x1x2048_S8x2048x2048_0_1_2
      (extractStridedSlice S8x1x2048 ![0, 0, 6144] mod slices_S16x1x12288_S8x1x2048_0_0_6144))

/-- The first result: the tokens. -/
def tokens (h : FVec Ideal S16384x2048 .bf16) (w : FVec Ideal S1x2048x2048 .bf16) (x : FVec Ideal S18432x2048 .f32)
    (mod : FVec Ideal S16x1x12288 .f32) : FVec Ideal S16384x2048 .f32 :=
  shapeCast _ (sum (product h w) x mod) shapeCasts_S8x2048x2048_S16384x2048

/-- The second: the tokens that the feed-forward part takes. -/
def nextIn (h : FVec Ideal S16384x2048 .bf16) (w : FVec Ideal S1x2048x2048 .bf16) (x : FVec Ideal S18432x2048 .f32)
    (mod : FVec Ideal S16x1x12288 .f32) (g : FVec Ideal S2048 .f32) : FVec Ideal S16384x2048 .bf16 :=
  truncf .bf16 (shapeCast _ (norm (sum (product h w) x mod) mod g) shapeCasts_S8x2048x2048_S16384x2048) bitsLt_bf16_f32

/-- A token's row of the modulation. -/
def batch (R : Fin 16384) : Fin 16 := ⟨R.val / 2048, by omega⟩

/-- A token's residual and gated product. -/
def row (h : FVec Ideal S16384x2048 .bf16) (w : FVec Ideal S1x2048x2048 .bf16) (x : FVec Ideal S18432x2048 .f32)
    (mod : FVec Ideal S16x1x12288 .f32) (R : Fin 16384) (X : Fin 2048) : EReal :=
  x (ix2 ⟨R.val, by omega⟩ X) + mod (ix3 (batch R) 0 ⟨4096 + X.val, by omega⟩) * ∑ k : Fin 2048, h (ix2 R k) * w (ix3 0 k X)

/-- A token's norm and modulation. -/
def normed (y : Fin 2048 → EReal) (mod : FVec Ideal S16x1x12288 .f32) (g : FVec Ideal S2048 .f32) (R : Fin 16384)
    (X : Fin 2048) : EReal :=
  y X * inverseRoot y * g (ix1 X) * (Ideal.ofBits .f32 0x3F800000#32 + mod (ix3 (batch R) 0 ⟨8192 + X.val, by omega⟩))
    + mod (ix3 (batch R) 0 ⟨6144 + X.val, by omega⟩)

theorem product_at (h : FVec Ideal S16384x2048 .bf16) (w : FVec Ideal S1x2048x2048 .bf16) (R : Fin 16384) (X : Fin 2048) :
    product h w (ix2 R X) = ∑ k : Fin 2048, h (ix2 R k) * w (ix3 0 k X) := by
  pointwise [product]

theorem sum_at (h : FVec Ideal S16384x2048 .bf16) (w : FVec Ideal S1x2048x2048 .bf16) (x : FVec Ideal S18432x2048 .f32)
    (mod : FVec Ideal S16x1x12288 .f32) (b : Fin 8) (s X : Fin 2048) (R : Fin 16384) (hR : b.val * 2048 + s.val = R.val) :
    sum (product h w) x mod (ix3 b s X) = row h w x mod R X := by
  have e : (⟨b.val * 2048 + s.val, by omega⟩ : Fin 16384) = R := Fin.ext hR
  have ex : (⟨b.val * 2048 + s.val, by omega⟩ : Fin 18432) = ⟨R.val, by omega⟩ := Fin.ext hR
  have eb : batch R = ⟨b.val, by omega⟩ := Fin.ext (by show R.val / 2048 = b.val; omega)
  unfold row
  rw [← product_at, eb]
  pointwise [sum]
  exact congrArg₂ (fun u v => x (ix2 u X) + _ * product h w (ix2 v X)) ex e

theorem scale_at (y : FVec Ideal S8x2048x2048 .f32) (b : Fin 8) (s : Fin 2048) :
    scale y (ix3 b s 0) = inverseRoot fun k => y (ix3 b s k) := by
  pointwise [scale]
  rfl

theorem norm_at (y : FVec Ideal S8x2048x2048 .f32) (mod : FVec Ideal S16x1x12288 .f32) (g : FVec Ideal S2048 .f32)
    (b : Fin 8) (s X : Fin 2048) (R : Fin 16384) (hR : b.val * 2048 + s.val = R.val) :
    norm y mod g (ix3 b s X) = normed (fun k => y (ix3 b s k)) mod g R X := by
  have eb : batch R = ⟨b.val, by omega⟩ := Fin.ext (by show R.val / 2048 = b.val; omega)
  unfold normed
  rw [← scale_at, eb]
  pointwise [norm]

/-- Rows of the eight latents, at an element. -/
theorem rows_at (y : FVec Ideal S8x2048x2048 .f32) (R : Fin 16384) (X : Fin 2048) (v : EReal)
    (hl : ∀ (b : Fin 8) (s : Fin 2048), b.val * 2048 + s.val = R.val → y (ix3 b s X) = v) :
    shapeCast S16384x2048 y shapeCasts_S8x2048x2048_S16384x2048 (ix2 R X) = v := by
  rw [← hl ⟨R.val / 2048, by omega⟩ ⟨R.val % 2048, by omega⟩ (by show R.val / 2048 * 2048 + R.val % 2048 = R.val; omega)]
  pointwise []

/-- The first result at an index. -/
theorem tokens_at (h : FVec Ideal S16384x2048 .bf16) (w : FVec Ideal S1x2048x2048 .bf16) (x : FVec Ideal S18432x2048 .f32)
    (mod : FVec Ideal S16x1x12288 .f32) (R : Fin 16384) (X : Fin 2048) : tokens h w x mod (ix2 R X) = row h w x mod R X :=
  rows_at _ R X _ fun b s e => sum_at h w x mod b s X R e

/-- The second. -/
theorem nextIn_at (h : FVec Ideal S16384x2048 .bf16) (w : FVec Ideal S1x2048x2048 .bf16) (x : FVec Ideal S18432x2048 .f32)
    (mod : FVec Ideal S16x1x12288 .f32) (g : FVec Ideal S2048 .f32) (R : Fin 16384) (X : Fin 2048) :
    nextIn h w x mod g (ix2 R X) = normed (row h w x mod R) mod g R X :=
  rows_at (norm (sum (product h w) x mod) mod g) R X _ fun b s e => by
    rw [norm_at _ _ _ b s X R e, funext fun k => sum_at h w x mod b s k R e]

end Cert.Reference7Ideal.Out

end
-- ==== Proof.OutEq.lean ====
module

/-
The gated linear attention's output product: the kernel's two results are the reference's. The grid runs over 32 blocks of
rows.
-/

public import proofs.«01_k».proof.Proof.OutBody
public import proofs.«01_k».proof.Proof.OutRef

@[expose] public section
set_option maxRecDepth 16384
noncomputable section
namespace Cert.Kernel7Ideal.Out

open Cert.Kernel7Ideal Cert.Kernel7Ideal.Gen
open Cert.Reference7Ideal.Out (row batch normed tokens nextIn tokens_at nextIn_at)
open Idealize.ShloMosaic Idealize.ShloMosaic.TcCoe Idealize.ShloMosaic.Tactic

theorem index_0 : ∀ t : Fin 32, win0_0.index t (0 : Fin 2) = t.val ∧ win0_0.index t (1 : Fin 2) = 0 := by decide +kernel
theorem index_1 : ∀ t : Fin 32, win0_1.index t (0 : Fin 3) = 0 ∧ win0_1.index t (1 : Fin 3) = 0 ∧
    win0_1.index t (2 : Fin 3) = 0 := by decide +kernel
theorem index_2 : ∀ t : Fin 32, win0_2.index t (0 : Fin 2) = t.val ∧ win0_2.index t (1 : Fin 2) = 0 := by decide +kernel
theorem index_3 : ∀ t : Fin 32, win0_3.index t (0 : Fin 3) = t.val / 4 ∧ win0_3.index t (1 : Fin 3) = 0 ∧
    win0_3.index t (2 : Fin 3) = 2 := by decide +kernel
theorem index_4 : ∀ t : Fin 32, win0_4.index t (0 : Fin 3) = t.val / 4 ∧ win0_4.index t (1 : Fin 3) = 0 ∧
    win0_4.index t (2 : Fin 3) = 3 := by decide +kernel
theorem index_5 : ∀ t : Fin 32, win0_5.index t (0 : Fin 3) = t.val / 4 ∧ win0_5.index t (1 : Fin 3) = 0 ∧
    win0_5.index t (2 : Fin 3) = 4 := by decide +kernel
theorem index_6 : ∀ t : Fin 32, win0_6.index t (0 : Fin 2) = 0 ∧ win0_6.index t (1 : Fin 2) = 0 := by decide +kernel
theorem index_7 : ∀ t : Fin 32, win0_7.index t (0 : Fin 2) = t.val ∧ win0_7.index t (1 : Fin 2) = 0 := by decide +kernel
theorem index_8 : ∀ t : Fin 32, win0_8.index t (0 : Fin 2) = t.val ∧ win0_8.index t (1 : Fin 2) = 0 := by decide +kernel

variable (m : (ℓ : Loc nD τ sig) → Buf (Elt Ideal) ℓ)

/-- The attention's gated rows. -/
abbrev left (c : Dev nD) : Vec Ideal S16384x2048 .bf16 := m (c.tc.loc main_arg0)
/-- The output weight. -/
abbrev weight (c : Dev nD) : Vec Ideal S1x2048x2048 .bf16 := m (c.tc.loc main_arg1)
/-- The residual. -/
abbrev residual (c : Dev nD) : Vec Ideal S18432x2048 .f32 := m (c.tc.loc main_arg2)
/-- The modulation. -/
abbrev modulation (c : Dev nD) : Vec Ideal S16x1x12288 .f32 := m (c.tc.loc main_arg3)
/-- The norm's gain. -/
abbrev gain (c : Dev nD) : Vec Ideal S2048 .f32 := m (c.tc.loc main_arg4)

theorem blk_0 (c : Dev nD) (t : Fin 32) (r : Fin 512) (k : Fin 2048) (R : Fin 16384) (hR : R.val = t.val * 512 + r.val) :
    iblk m c 0 t (ix2 r k) = left m c (ix2 R k) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]

theorem blk_1 (c : Dev nD) (t : Fin 32) (k : Fin 2048) (X : Fin 2048) : iblk m c 1 t (ix3 0 k X) = weight m c (ix3 0 k X) := by
  blk_simp [iblk]
  refine congrArg (m (c.tc.loc main_arg1)) ?_
  obtain ⟨e0, e1, e2⟩ := index_1 t
  funext a
  match a with
  | 0 =>
    refine Fin.ext ?_
    blk_simp [e0]
  | 1 =>
    refine Fin.ext ?_
    blk_simp [e1]
  | 2 =>
    refine Fin.ext ?_
    blk_simp [e2]

theorem blk_2 (c : Dev nD) (t : Fin 32) (r : Fin 512) (X : Fin 2048) (R : Fin 18432) (hR : R.val = t.val * 512 + r.val) :
    iblk m c 2 t (ix2 r X) = residual m c (ix2 R X) := by
  blk_simp [iblk]
  refine congrArg (m (c.tc.loc main_arg2)) ?_
  obtain ⟨e0, e1⟩ := index_2 t
  funext a
  match a with
  | 0 =>
    refine Fin.ext ?_
    blk_simp [e0]
    exact hR.symm
  | 1 =>
    refine Fin.ext ?_
    blk_simp [e1]

theorem blk_3 (c : Dev nD) (t : Fin 32) (X : Fin 2048) (B : Fin 16) (G : Fin 12288) (hB : B.val = t.val / 4)
    (hG : G.val = 4096 + X.val) : iblk m c 3 t (ix3 0 0 X) = modulation m c (ix3 B 0 G) := by
  blk_simp [iblk]
  refine congrArg (m (c.tc.loc main_arg3)) ?_
  obtain ⟨e0, e1, e2⟩ := index_3 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_4 (c : Dev nD) (t : Fin 32) (X : Fin 2048) (B : Fin 16) (G : Fin 12288) (hB : B.val = t.val / 4)
    (hG : G.val = 6144 + X.val) : iblk m c 4 t (ix3 0 0 X) = modulation m c (ix3 B 0 G) := by
  blk_simp [iblk]
  refine congrArg (m (c.tc.loc main_arg3)) ?_
  obtain ⟨e0, e1, e2⟩ := index_4 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_5 (c : Dev nD) (t : Fin 32) (X : Fin 2048) (B : Fin 16) (G : Fin 12288) (hB : B.val = t.val / 4)
    (hG : G.val = 8192 + X.val) : iblk m c 5 t (ix3 0 0 X) = modulation m c (ix3 B 0 G) := by
  blk_simp [iblk]
  refine congrArg (m (c.tc.loc main_arg3)) ?_
  obtain ⟨e0, e1, e2⟩ := index_5 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

/-- The gain as the launch's host line leaves it. -/
theorem gain_row (c : Dev nD) : V m c main_v0 = shapeCast S1x2048 (gain m c) shapeCasts_S2048_S1x2048 := by
  unfold_abbrev_sides
  after_results
  rfl

theorem blk_6 (c : Dev nD) (t : Fin 32) (X : Fin 2048) : iblk m c 6 t (ix2 0 X) = gain m c (ix1 X) := by
  have e : iblk m c 6 t (ix2 0 X) = V m c main_v0 (ix2 0 X) := by
    unfold iblk
    refine congrArg (V m c main_v0) ?_
    obtain ⟨e0, e1⟩ := index_6 t
    funext a
    match a with
    | 0 =>
      refine Fin.ext ?_
      blk_simp [e0]
    | 1 =>
      refine Fin.ext ?_
      blk_simp [e1]
  rw [e, gain_row]
  pointwise []

/-- A block's rows, at an index. -/
theorem rows_at (c : Dev nD) (t : Fin 32) (r : Fin 512) (X : Fin 2048) (R : Fin 16384) (hR : R.val = t.val * 512 + r.val) :
    rowsOf m c t (ix2 r X) = row (left m c) (weight m c) (residual m c) (modulation m c) R X :=
  congrArg₂ (· + ·) (blk_2 m c t r X _ hR) (congrArg₂ (· * ·)
    (blk_3 m c t X _ _ (by show R.val / 2048 = t.val / 4; omega) rfl)
    (Finset.sum_congr rfl fun k _ => congrArg₂ (· * ·) (blk_0 m c t r k R hR) (blk_1 m c t k X)))

/-- The row and the column of a row block's element. -/
theorem split (y : S512x2048.Idx) : ∃ (r : Fin 512) (X : Fin 2048), y = ix2 r X := ⟨y 0, y 1, by
  funext a
  match a with
  | 0 => rfl
  | 1 => rfl⟩

/-- The first result at the end. -/
theorem tokens_eq (c : Dev nD) : (dats m 0 c).arrAt 7 cfg0.N =
    tokens (left m c) (weight m c) (residual m c) (modulation m c) := by
  refine (dats m 0 c).arrAt_eq_of_covers 7 _ (by decide +kernel) fun t hf y => ?_
  have ht : t.val < 32 := t.isLt
  blk_simp
  rw [after0_7, point m c t]
  obtain ⟨e0, e1⟩ := index_7 t
  obtain ⟨r, X, rfl⟩ := split y
  obtain ⟨R, hR⟩ : ∃ R : Fin 16384, R.val = t.val * 512 + r.val := ⟨⟨_, by omega⟩, rfl⟩
  refine (rows_at m c t r X R hR).trans ((tokens_at (left m c) (weight m c) (residual m c) (modulation m c) R X).symm.trans
    (congrArg (tokens (left m c) (weight m c) (residual m c) (modulation m c)) ?_))
  funext a
  match a with
  | 0 =>
    refine Fin.ext ?_
    blk_simp
    exact hR.trans (congrArg (· * 512 + r.val) e0.symm)
  | 1 =>
    refine Fin.ext ?_
    blk_simp
    exact (Nat.zero_add _).symm.trans (congrArg (· * 2048 + X.val) e1.symm)

/-- The second result at the end. -/
theorem next_eq (c : Dev nD) : (dats m 0 c).arrAt 8 cfg0.N =
    nextIn (left m c) (weight m c) (residual m c) (modulation m c) (gain m c) := by
  refine (dats m 0 c).arrAt_eq_of_covers 8 _ (by decide +kernel) fun t hf y => ?_
  have ht : t.val < 32 := t.isLt
  blk_simp
  rw [after0_8, point_norm m c t]
  obtain ⟨e0, e1⟩ := index_8 t
  obtain ⟨r, X, rfl⟩ := split y
  obtain ⟨R, hR⟩ : ∃ R : Fin 16384, R.val = t.val * 512 + r.val := ⟨⟨_, by omega⟩, rfl⟩
  have hB : (batch R).val = t.val / 4 := by show R.val / 2048 = t.val / 4; omega
  refine (normRows_at _ _ _ _ r X).trans (Eq.trans ?_ ((nextIn_at (left m c) (weight m c) (residual m c) (modulation m c)
    (gain m c) R X).symm.trans (congrArg (nextIn (left m c) (weight m c) (residual m c) (modulation m c) (gain m c)) ?_)))
  · have e6 : iblk m c 6 t (ix2 0 X) = gain m c (ix1 X) := blk_6 m c t X
    have e5 : iblk m c 5 t (ix3 0 0 X) = _ := blk_5 m c t X (batch R) ⟨8192 + X.val, by omega⟩ hB rfl
    have e4 : iblk m c 4 t (ix3 0 0 X) = _ := blk_4 m c t X (batch R) ⟨6144 + X.val, by omega⟩ hB rfl
    rw [rows_at m c t r X R hR, funext fun k => rows_at m c t r k R hR, e6, e5, e4, ← mul_assoc]
    rfl
  · funext a
    match a with
    | 0 =>
      refine Fin.ext ?_
      blk_simp
      exact hR.trans (congrArg (· * 512 + r.val) e0.symm)
    | 1 =>
      refine Fin.ext ?_
      blk_simp
      exact (Nat.zero_add _).symm.trans (congrArg (· * 2048 + X.val) e1.symm)

end Cert.Kernel7Ideal.Out
end
-- ==== Proof.OutClaim.lean ====
/- The claims about the gated linear attention's output product. -/
module

public import proofs.«01_k».proof.Proof.OutEq
public import proofs.«01_k».proof.Defs
public import proofs.«01_k».proof.Proof.Gen.Kernel7
public import Idealize.ShloMosaic.Adequacy
public import Idealize.ShloMosaic.Init

@[expose] public section

set_option maxRecDepth 16384

noncomputable section

namespace Cert.Proof.Out

open Idealize.ShloMosaic Idealize.SL.Sem

/-- The frame, said of the text that is read at the ideal instance, over words. -/
def Quiet : Prop :=
  ∀ (m : (ℓ : Loc Cert.Kernel7Ideal.nD Cert.Kernel7Ideal.τ Cert.Kernel7Ideal.sig) → Buf (Elt Bits) ℓ)
    (ρ : Dev Cert.Kernel7Ideal.nD → PrngReg), True →
    θ_run (Cert.Kernel7Ideal.defs (F := Bits)) (onTc (τ := Cert.Kernel7Ideal.τ) (Cert.Kernel7Ideal.main (F := Bits))) ⟨m, fun _ => 0, ρ⟩ (fun r => (∀ c : Dev Cert.Kernel7Ideal.nD,
      r.2.mem (c.tc.loc Cert.Kernel7Ideal.main_arg0) = m (c.tc.loc Cert.Kernel7Ideal.main_arg0)
      ∧ r.2.mem (c.tc.loc Cert.Kernel7Ideal.main_arg1) = m (c.tc.loc Cert.Kernel7Ideal.main_arg1)
      ∧ r.2.mem (c.tc.loc Cert.Kernel7Ideal.main_arg2) = m (c.tc.loc Cert.Kernel7Ideal.main_arg2)
      ∧ r.2.mem (c.tc.loc Cert.Kernel7Ideal.main_arg3) = m (c.tc.loc Cert.Kernel7Ideal.main_arg3)
      ∧ r.2.mem (c.tc.loc Cert.Kernel7Ideal.main_arg4) = m (c.tc.loc Cert.Kernel7Ideal.main_arg4))
      ∧ r.2.sem = fun _ => 0)

/-- The two texts are one. -/
theorem same : Quiet = Cert.quiescent_Kernel7 (hKernel7 := Cert.Kernel7.Gen.facts) := by
  sl_kernel_rfl

/-- The kernel over words ends with its arguments unchanged and every counter at zero. -/
theorem frame_kernel : Cert.quiescent_Kernel7 (hKernel7 := Cert.Kernel7.Gen.facts) :=
  same ▸ fun m ρ _ => Cert.Kernel7Ideal.Gen.frame (F := Bits) m ρ

/-- The idealized kernel ends with its arguments unchanged and every counter at zero. -/
theorem frame_ideal : Cert.quiescent_Kernel7Ideal (hKernel7Ideal := Cert.Kernel7Ideal.Gen.facts) :=
  fun m ρ _ => Cert.Kernel7Ideal.Gen.frame m ρ

/-- The reference ends with its arguments unchanged; it has no counter. -/
theorem reference_quiet (m : (ℓ : Loc Cert.Reference7Ideal.nD Cert.Reference7Ideal.τ Cert.Reference7Ideal.sig) → Buf (Elt Ideal) ℓ)
    (ρ : Dev Cert.Reference7Ideal.nD → PrngReg) :
    θ_run Cert.Reference7Ideal.defs (onTc (τ := Cert.Reference7Ideal.τ) (Cert.Reference7Ideal.main (F := Ideal))) ⟨m, fun _ => 0, ρ⟩ (fun r => (∀ c : Dev Cert.Reference7Ideal.nD,
      r.2.mem (c.tc.loc Cert.Reference7Ideal.main_arg0) = m (c.tc.loc Cert.Reference7Ideal.main_arg0)
      ∧ r.2.mem (c.tc.loc Cert.Reference7Ideal.main_arg1) = m (c.tc.loc Cert.Reference7Ideal.main_arg1)
      ∧ r.2.mem (c.tc.loc Cert.Reference7Ideal.main_arg2) = m (c.tc.loc Cert.Reference7Ideal.main_arg2)
      ∧ r.2.mem (c.tc.loc Cert.Reference7Ideal.main_arg3) = m (c.tc.loc Cert.Reference7Ideal.main_arg3)
      ∧ r.2.mem (c.tc.loc Cert.Reference7Ideal.main_arg4) = m (c.tc.loc Cert.Reference7Ideal.main_arg4))
      ∧ r.2.sem = fun _ => 0) :=
  (θ_run Cert.Reference7Ideal.defs _ _).mono (fun r h => ⟨fun c => (h c).2.2, sem_eq_zero_of_no_sems (by decide) r.2⟩)
    (Cert.Reference7Ideal.Value.run m ρ)

/-- The kernel's results are the reference's, at any arguments. -/
theorem equal : Cert.algebraic_Kernel7Ideal_Reference7Ideal (hKernel7Ideal := Cert.Kernel7Ideal.Gen.facts)
    (hReference7Ideal := Cert.Reference7Ideal.Gen.facts) := by
  intro m g m' g' hp he
  refine ⟨fun c => (Cert.Kernel7Ideal.Gen.dats m 0 c).arrAt 7 Cert.Kernel7Ideal.cfg0.N,
    fun c => (Cert.Kernel7Ideal.Gen.dats m 0 c).arrAt 8 Cert.Kernel7Ideal.cfg0.N,
    Cert.Kernel7Ideal.Value.run_blocks m g,
    (θ_run Cert.Reference7Ideal.defs _ _).mono (fun r h c => ?_) (Cert.Reference7Ideal.Value.run m' g')⟩
  obtain ⟨h0, h1, hk⟩ := h c
  refine ⟨h0.trans ?_, h1.trans ?_, hk⟩
  · rw [(he c).1, (he c).2.1, (he c).2.2.1, (he c).2.2.2.1]
    exact (Cert.Kernel7Ideal.Out.tokens_eq m c).symm
  · rw [(he c).1, (he c).2.1, (he c).2.2.1, (he c).2.2.2.1, (he c).2.2.2.2]
    exact (Cert.Kernel7Ideal.Out.next_eq m c).symm

end Cert.Proof.Out

end
-- ==== Proof.ScanInRef.lean ====
module

/-
The reference of the S5's input product, at an element of its result.
-/

public import proofs.«01_k».proof.Proof.Gen.Reference8Ideal.Run
public import Idealize.ShloMosaic.Lib.Pointwise

@[expose] public section
set_option maxRecDepth 16384
noncomputable section
namespace Cert.Reference8Ideal.ScanIn

open Cert.Reference8Ideal Cert.Reference8Ideal.Gen
open Idealize.ShloMosaic Idealize.ShloMosaic.TcCoe Idealize.ShloMosaic.Tactic

/-- The product of the tokens with the S5's columns of the layer's input weight. -/
def product (h : FVec Ideal S16x1152x2048 .bf16) (w : FVec Ideal S1x2048x4096 .f32) : FVec Ideal S16x1152x1024 .f32 :=
  Host.dotGeneral dot_S16x1152x2048_S2048x1024_S16x1152x1024_2_0_01_1_n_n none (extf .f32 h bitsLt_bf16_f32)
    (shapeCast _ (extractStridedSlice S1x2048x1024 ![0, 0, 3072] w slices_S1x2048x4096_S1x2048x1024_0_0_3072) shapeCasts_S1x2048x1024_S2048x1024)

/-- Its channels in groups, before the tokens. -/
def grouped (h : FVec Ideal S16x1152x2048 .bf16) (w : FVec Ideal S1x2048x4096 .f32) : FVec Ideal S64x16x16x1152 .bf16 :=
  truncf .bf16 (transpose S64x16x16x1152 [2, 0, 3, 1] (shapeCast _ (product h w) shapeCasts_S16x1152x1024_S16x1152x64x16)
    transposes_S16x1152x64x16_S64x16x16x1152_2_0_3_1) bitsLt_bf16_f32

theorem product_at (h : FVec Ideal S16x1152x2048 .bf16) (w : FVec Ideal S1x2048x4096 .f32) (t : Fin 16) (n : Fin 1152) (X : Fin 1024) :
    product h w (ix3 t n X) = ∑ k : Fin 2048, h (ix3 t n k) * w (ix3 0 k ⟨3072 + X.val, by omega⟩) := by
  pointwise [product]

theorem grouped_at (h : FVec Ideal S16x1152x2048 .bf16) (w : FVec Ideal S1x2048x4096 .f32) (g : Fin 64) (t r : Fin 16) (n : Fin 1152)
    (X : Fin 1024) (hX : g.val * 16 + r.val = X.val) :
    grouped h w (ix4 g t r n) = ∑ k : Fin 2048, h (ix3 t n k) * w (ix3 0 k ⟨3072 + X.val, by omega⟩) := by
  have e : (⟨g.val * 16 + r.val, by omega⟩ : Fin 1024) = X := Fin.ext hX
  rw [← product_at]
  pointwise [grouped]
  rw [e]

end Cert.Reference8Ideal.ScanIn

end
-- ==== Proof.ScanInEq.lean ====
module

/-
The S5's input product: the kernel's result is the reference's. The grid runs over the 16 places in a chunk; the weight is
transposed and cast at the first and kept for the others.
-/

public import proofs.«01_k».proof.Proof.Gen.Kernel8Ideal.Value
public import proofs.«01_k».proof.Proof.ScanInRef
public import Idealize.ShloMosaic.Lib.Pipeline.ValueKit
public import Idealize.ShloMosaic.Lib.Pipeline.ReadBack

@[expose] public section
set_option maxRecDepth 16384
noncomputable section
namespace Cert.Kernel8Ideal.ScanIn

open Cert.Kernel8Ideal Cert.Kernel8Ideal.Gen
open Cert.Reference8Ideal.ScanIn (grouped grouped_at)
open Idealize.ShloMosaic Idealize.ShloMosaic.TcCoe Idealize.ShloMosaic.Tactic

theorem index_0 : ∀ t : Fin 16, win0_0.index t (0 : Fin 3) = 0 ∧ win0_0.index t (1 : Fin 3) = 0 ∧
    win0_0.index t (2 : Fin 3) = 3 := by decide +kernel
theorem index_1 : ∀ t : Fin 16, win0_1.index t (0 : Fin 3) = t.val ∧ win0_1.index t (1 : Fin 3) = 0 ∧
    win0_1.index t (2 : Fin 3) = 0 := by decide +kernel
theorem index_2 : ∀ t : Fin 16, win0_2.index t (0 : Fin 4) = 0 ∧ win0_2.index t (1 : Fin 4) = t.val ∧
    win0_2.index t (2 : Fin 4) = 0 ∧ win0_2.index t (3 : Fin 4) = 0 := by decide +kernel

variable (m : (ℓ : Loc nD τ sig) → Buf (Elt Ideal) ℓ)

/-- The tokens, those of one place in their chunk together. -/
abbrev tokens (c : Dev nD) : Vec Ideal S16x1152x2048 .bf16 := m (c.tc.loc main_arg0)
/-- The layer's input weight. -/
abbrev weight (c : Dev nD) : Vec Ideal S1x2048x4096 .f32 := m (c.tc.loc main_arg1)

theorem blk_0 (c : Dev nD) (t : Fin 16) (k : Fin 2048) (x : Fin 1024) :
    iblk m c 0 t (ix3 0 k x) = weight m c (ix3 0 k ⟨3072 + x.val, by omega⟩) := by
  blk_simp [iblk]
  refine congrArg (m (c.tc.loc main_arg1)) ?_
  obtain ⟨e0, e1, e2⟩ := index_0 t
  funext a
  match a with
  | 0 =>
    refine Fin.ext ?_
    blk_simp [e0]
  | 1 =>
    refine Fin.ext ?_
    blk_simp [e1]
  | 2 =>
    refine Fin.ext ?_
    blk_simp [e2]

theorem blk_1 (c : Dev nD) (t : Fin 16) (n : Fin 1152) (k : Fin 2048) : iblk m c 1 t (ix3 0 n k) = tokens m c (ix3 t n k) := by
  blk_simp [iblk]
  refine congrArg (m (c.tc.loc main_arg0)) ?_
  obtain ⟨e0, e1, e2⟩ := index_1 t
  funext a
  match a with
  | 0 =>
    refine Fin.ext ?_
    blk_simp [e0]
    rfl
  | 1 =>
    refine Fin.ext ?_
    blk_simp [e1]
  | 2 =>
    refine Fin.ext ?_
    blk_simp [e2]

/-- The S5's columns of the weight, transposed. -/
def columns (c : Dev nD) : Vec Ideal S1024x2048 .bf16 :=
  fun y => weight m c (ix3 0 (y 1) ⟨3072 + (y 0).val, by have : (y 0).val < 1024 := (y 0).isLt; omega⟩)

theorem cast_at (w : Vec Ideal S1x2048x1024 .f32) (x : Fin 1024) (k : Fin 2048) : k0_pay1 w (ix2 x k) = w (ix3 0 k x) := by
  pointwise [k0_pay1]

theorem product_at (w : Vec Ideal S1024x2048 .bf16) (h : Vec Ideal S1x1152x2048 .bf16) (g : Fin 64) (r : Fin 16) (n : Fin 1152)
    (X : Fin 1024) (hX : g.val * 16 + r.val = X.val) :
    k0_pay2 w h (ix4 g 0 r n) = ∑ k : Fin 2048, w (ix2 X k) * h (ix3 0 n k) := by
  obtain ⟨X, b⟩ := X
  subst hX
  pointwise [k0_pay2]

theorem cast_eq (c : Dev nD) (t : Fin cfg0.N) : k0_pay1 (iblk m c 0 t) = columns m c := by
  funext y
  obtain ⟨x, k, rfl⟩ : ∃ (x : Fin 1024) (k : Fin 2048), y = ix2 x k := ⟨y 0, y 1, by
    funext a
    match a with
    | 0 => rfl
    | 1 => rfl⟩
  rw [cast_at]
  exact blk_0 m c t k x

/-- At the first point: the weight is transposed, cast and used. -/
theorem first_point (c : Dev nD) (t : Fin cfg0.N) (h0 : t.val % 16 = 0) :
    outsAt0 m c t.val t.isLt = (k0_pay2 (k0_pay1 (iblk m c 0 t)) (iblk m c 1 t), k0_pay1 (iblk m c 0 t)) := by
  rw [outsAt0_A m c t h0]
  refine congrArg₂ Prod.mk ?_ ?_
  · unfold out0_A_2
    frame_out
  · unfold sout0_A_0
    frame_out

/-- At the later ones: what was kept is used and stays. -/
theorem later_point (c : Dev nD) (t : Fin cfg0.N) (h0 : ¬ t.val % 16 = 0) (w : Vec Ideal S1024x2048 .bf16)
    (hw : (outsAt0 m c (t.val - 1) (Nat.lt_of_le_of_lt (Nat.sub_le _ _) t.isLt)).2 = w) :
    outsAt0 m c t.val t.isLt = (k0_pay2 w (iblk m c 1 t), w) := by
  rw [outsAt0_B m c t h0, hw]
  refine congrArg₂ Prod.mk ?_ ?_
  · unfold out0_B_2
    frame_out
    simp only [read_unread_whole]
  · rfl

/-- At any point. -/
theorem point (c : Dev nD) : ∀ (n : ℕ) (hn : n < cfg0.N),
    outsAt0 m c n hn = (k0_pay2 (columns m c) (iblk m c 1 ⟨n, hn⟩), columns m c) := by
  intro n
  induction n with
  | zero =>
    intro hn
    refine (first_point m c ⟨0, hn⟩ rfl).trans ?_
    rw [cast_eq]
  | succ n ih =>
    intro hn
    have h : n + 1 < 16 := hn
    exact later_point m c ⟨n + 1, hn⟩ (by dsimp only; omega) (columns m c) (congrArg Prod.snd (ih (Nat.lt_of_succ_lt hn)))

/-- The result at the end. -/
theorem grouped_eq (c : Dev nD) : (dats m 0 c).arrAt 2 cfg0.N = grouped (tokens m c) (weight m c) := by
  refine (dats m 0 c).arrAt_eq_of_covers 2 _ (by decide +kernel) fun t hf y => ?_
  blk_simp
  rw [after0_2, point m c t.val t.isLt]
  obtain ⟨e0, e1, e2, e3⟩ := index_2 t
  obtain ⟨g, r, n, rfl⟩ : ∃ (g : Fin 64) (r : Fin 16) (n : Fin 1152), y = ix4 g 0 r n := ⟨y 0, y 2, y 3, by
    funext a
    match a with
    | 0 => rfl
    | 1 => exact Fin.ext (by have : (y 1).val < 1 := (y 1).isLt; show (y 1).val = 0; omega)
    | 2 => rfl
    | 3 => rfl⟩
  obtain ⟨X, hX⟩ : ∃ X : Fin 1024, g.val * 16 + r.val = X.val := ⟨⟨_, by omega⟩, rfl⟩
  refine (product_at _ _ g r n X hX).trans (Eq.trans ?_ ((grouped_at (tokens m c) (weight m c) g t r n X hX).symm.trans
    (congrArg (grouped (tokens m c) (weight m c)) ?_)))
  · exact Finset.sum_congr rfl fun k _ => (mul_comm _ _).trans (congrArg₂ (· * ·) (blk_1 m c t n k) rfl)
  · funext a
    match a with
    | 0 =>
      refine Fin.ext ?_
      blk_simp [e0]
    | 1 =>
      refine Fin.ext ?_
      blk_simp [e1]
      rfl
    | 2 =>
      refine Fin.ext ?_
      blk_simp [e2]
    | 3 =>
      refine Fin.ext ?_
      blk_simp [e3]

end Cert.Kernel8Ideal.ScanIn
end
-- ==== Proof.ScanInClaim.lean ====
/- The claims about the S5's input product. -/
module

public import proofs.«01_k».proof.Proof.ScanInEq
public import proofs.«01_k».proof.Defs
public import proofs.«01_k».proof.Proof.Gen.Kernel8
public import Idealize.ShloMosaic.Adequacy
public import Idealize.ShloMosaic.Init

@[expose] public section

set_option maxRecDepth 16384

noncomputable section

namespace Cert.Proof.ScanIn

open Idealize.ShloMosaic Idealize.SL.Sem

/-- The frame, said of the text that is read at the ideal instance, over words. -/
def Quiet : Prop :=
  ∀ (m : (ℓ : Loc Cert.Kernel8Ideal.nD Cert.Kernel8Ideal.τ Cert.Kernel8Ideal.sig) → Buf (Elt Bits) ℓ)
    (ρ : Dev Cert.Kernel8Ideal.nD → PrngReg), True →
    θ_run (Cert.Kernel8Ideal.defs (F := Bits)) (onTc (τ := Cert.Kernel8Ideal.τ) (Cert.Kernel8Ideal.main (F := Bits))) ⟨m, fun _ => 0, ρ⟩ (fun r => (∀ c : Dev Cert.Kernel8Ideal.nD,
      r.2.mem (c.tc.loc Cert.Kernel8Ideal.main_arg0) = m (c.tc.loc Cert.Kernel8Ideal.main_arg0)
      ∧ r.2.mem (c.tc.loc Cert.Kernel8Ideal.main_arg1) = m (c.tc.loc Cert.Kernel8Ideal.main_arg1))
      ∧ r.2.sem = fun _ => 0)

/-- The two texts are one. -/
theorem same : Quiet = Cert.quiescent_Kernel8 (hKernel8 := Cert.Kernel8.Gen.facts) := by
  sl_kernel_rfl

/-- The kernel over words ends with its arguments unchanged and every counter at zero. -/
theorem frame_kernel : Cert.quiescent_Kernel8 (hKernel8 := Cert.Kernel8.Gen.facts) :=
  same ▸ fun m ρ _ => Cert.Kernel8Ideal.Gen.frame (F := Bits) m ρ

/-- The idealized kernel ends with its arguments unchanged and every counter at zero. -/
theorem frame_ideal : Cert.quiescent_Kernel8Ideal (hKernel8Ideal := Cert.Kernel8Ideal.Gen.facts) :=
  fun m ρ _ => Cert.Kernel8Ideal.Gen.frame m ρ

/-- The reference ends with its arguments unchanged; it has no counter. -/
theorem frame_reference : Cert.quiescent_Reference8Ideal (hReference8Ideal := Cert.Reference8Ideal.Gen.facts) :=
  fun m ρ _ => (θ_run Cert.Reference8Ideal.defs _ _).mono
    (fun r h => ⟨fun c => (h c).2, sem_eq_zero_of_no_sems (by decide) r.2⟩) (Cert.Reference8Ideal.Value.run m ρ)

/-- The kernel's result is the reference's. -/
theorem equal : Cert.algebraic_Kernel8Ideal_Reference8Ideal (hKernel8Ideal := Cert.Kernel8Ideal.Gen.facts)
    (hReference8Ideal := Cert.Reference8Ideal.Gen.facts) := by
  intro m g m' g' _ he
  refine ⟨fun c => (Cert.Kernel8Ideal.Gen.dats m 0 c).arrAt 2 Cert.Kernel8Ideal.cfg0.N,
    Cert.Kernel8Ideal.Value.run_blocks m g,
    (θ_run Cert.Reference8Ideal.defs _ _).mono (fun r h c => ?_) (Cert.Reference8Ideal.Value.run m' g')⟩
  obtain ⟨h0, hk⟩ := h c
  refine ⟨h0.trans ?_, hk⟩
  rw [(he c).1, (he c).2]
  exact (Cert.Kernel8Ideal.ScanIn.grouped_eq m c).symm

end Cert.Proof.ScanIn

end
-- ==== Proof.JoinPerm.lean ====
module

/-
The matrix that brings the stacked token groups into row order, from the host code.
-/

public import proofs.«01_k».proof.Proof.Gen.Kernel10Ideal.Value
public import Idealize.ShloMosaic.Lib.StableHlo.ReadAt
public import Idealize.ShloMosaic.Lib.Pipeline.ValueKit
public import Idealize.ShloMosaic.Lib.WordCmp

@[expose] public section
set_option maxRecDepth 16384
noncomputable section
namespace Cert.Kernel10Ideal.Join

open Cert.Kernel10Ideal Cert.Kernel10Ideal.Gen
open Idealize.ShloMosaic Idealize.ShloMosaic.TcCoe Idealize.ShloMosaic.Tactic

theorem after_two (l k : List (HloOp τ sig (Elt Ideal))) (W : Valuation τ sig (Elt Ideal)) :
    StableHlo.after (l ++ k) W = StableHlo.after k (StableHlo.after l W) := by
  induction l generalizing W with
  | nil => rfl
  | cons o l ih => exact ih _

variable (W : Valuation τ sig (Elt Ideal))

/-- The matrix from the column each row takes its one from. -/
def permOf (v : Vec Ideal S512 .i32) : FVec Ideal S512x512 .bf16 :=
  truncf .bf16 (transpose S512x512 [1, 0] (uitofp (F := Ideal) .f32 (cmpi .eq
    (broadcastInDim S512x512 ![0, 1] bcast_S1x512_S512x512_0_1 (broadcastInDim S1x512 ![1] bcast_S512_S1x512_1 v))
    (broadcastInDim S512x512 ![0, 1] bcast_S512x1_S512x512_0_1
      (broadcastInDim S512x1 ![0] bcast_S512_S512x1_0 (iotaInDim S512 32 0))))) transposes_S512x512_S512x512_1_0) bitsLt_bf16_f32

theorem read4 : StableHlo.after (hostOps0_4 (F := Ideal)) W (Proc.devRef .tc main_v15) =
    permOf (addi (W (Proc.devRef .tc main_v4)) (W (Proc.devRef .tc main_v5))) := by
  after_reads_simp
  rfl

/-- A quotient rounded down. -/
def quot (x : Vec Ideal S512 .i32) (d : Vec Ideal S_ .i32) : Vec Ideal S512 .i32 :=
  select (andi (cmpi .ne (signi x) (broadcastInDim S512 ![] bcast_S_S512 (signi d)))
      (cmpi .ne (Host.remsi x (broadcastInDim S512 ![] bcast_S_S512 d)) (broadcastInDim S512 ![] bcast_S_S512 (constantI S_ 32 0#32))))
    (subi (Host.divsi x (broadcastInDim S512 ![] bcast_S_S512 d)) (broadcastInDim S512 ![] bcast_S_S512 (constantI S_ 32 1#32)))
    (Host.divsi x (broadcastInDim S512 ![] bcast_S_S512 d))

theorem read3 : StableHlo.after (hostOps0_3 (F := Ideal)) W (Proc.devRef .tc main_v5) =
    quot (W (Proc.devRef .tc main_v1)) (W (Proc.devRef .tc main_c_1)) := by
  after_reads_simp
  rfl

theorem keep3 : StableHlo.after (hostOps0_3 (F := Ideal)) W (Proc.devRef .tc main_v4) = W (Proc.devRef .tc main_v4) := by
  after_reads_simp

theorem read2 : StableHlo.after (hostOps0_2 (F := Ideal)) W (Proc.devRef .tc main_v4) =
    (muli (W (Proc.devRef .tc main_v2)) (broadcastInDim S512 ![] bcast_S_S512 (constantI S_ 32 32#32)) : Vec Ideal S512 .i32) := by
  after_reads_simp

theorem const2 : StableHlo.after (hostOps0_2 (F := Ideal)) W (Proc.devRef .tc main_c_1) = (constantI S_ 32 16#32 : Vec Ideal S_ .i32) := by
  after_reads_simp

theorem keep2 : StableHlo.after (hostOps0_2 (F := Ideal)) W (Proc.devRef .tc main_v1) = W (Proc.devRef .tc main_v1) := by
  after_reads_simp

/-- The divisor of a remainder: one for zero. -/
def divisor (d : Vec Ideal S_ .i32) : Vec Ideal S_ .i32 := select (cmpi .eq d (constantI S_ 32 0#32)) (constantI S_ 32 1#32) d

/-- A remainder `r` brought to the sign of the divisor. -/
def signed (r : Vec Ideal S512 .i32) (e : Vec Ideal S_ .i32) : Vec Ideal S512 .i32 :=
  select (andi (cmpi .ne (cmpi .slt r (broadcastInDim S512 ![] bcast_S_S512 (constantI S_ 32 0#32)))
      (broadcastInDim S512 ![] bcast_S_S512 (cmpi .slt e (constantI S_ 32 0#32))))
      (cmpi .ne r (broadcastInDim S512 ![] bcast_S_S512 (constantI S_ 32 0#32))))
    (addi r (broadcastInDim S512 ![] bcast_S_S512 e)) r

/-- What a quotient leaves, of the divisor's sign. -/
def left (x : Vec Ideal S512 .i32) (d : Vec Ideal S_ .i32) : Vec Ideal S512 .i32 :=
  signed (Host.remsi x (broadcastInDim S512 ![] bcast_S_S512 (divisor d))) (divisor d)

theorem read1 : StableHlo.after (hostOps0_1 (F := Ideal)) W (Proc.devRef .tc main_v2) =
    left (W (Proc.devRef .tc main_v1)) (W (Proc.devRef .tc main_c)) := by
  after_reads_simp
  simp only [StableHlo.TRef.ofBuf_toBuf, id]
  rfl

theorem keep1 : StableHlo.after (hostOps0_1 (F := Ideal)) W (Proc.devRef .tc main_v1) = W (Proc.devRef .tc main_v1) := by
  after_reads_simp

theorem read0 : StableHlo.after (hostOps0 (F := Ideal)) W (Proc.devRef .tc main_v1) = (iotaInDim S512 32 0 : Vec Ideal S512 .i32) := by
  after_reads_simp

theorem const0 : StableHlo.after (hostOps0 (F := Ideal)) W (Proc.devRef .tc main_c) = (constantI S_ 32 16#32 : Vec Ideal S_ .i32) := by
  after_reads_simp

/-- The column each row takes its one from. -/
def source : Vec Ideal S512 .i32 :=
  addi (muli (left (iotaInDim S512 32 0) (constantI S_ 32 16#32)) (broadcastInDim S512 ![] bcast_S_S512 (constantI S_ 32 32#32)))
    (quot (iotaInDim S512 32 0) (constantI S_ 32 16#32))

/-- Row `r` of a block is token `r mod 16`'s row of group `r / 16`. -/
theorem source_at : ∀ r : Fin 512, source (ix1 r) = BitVec.ofNat 32 (r.val % 16 * 32 + r.val / 16) := by
  decide +kernel

variable (m : (ℓ : Loc nD τ sig) → Buf (Elt Ideal) ℓ)

/-- The host code leaves the matrix. -/
theorem perm_read (c : Dev nD) : V m c main_v15 = permOf source := by
  show StableHlo.after (List.flatten [hostOps0 (F := Ideal), hostOps0_1, hostOps0_2, hostOps0_3, hostOps0_4])
    (fun b => m (c, b)) (Proc.devRef .tc main_v15) = _
  rw [show List.flatten [hostOps0 (F := Ideal), hostOps0_1, hostOps0_2, hostOps0_3, hostOps0_4] =
    hostOps0 ++ (hostOps0_1 ++ (hostOps0_2 ++ (hostOps0_3 ++ hostOps0_4))) by
      simp only [List.flatten_cons, List.flatten_nil, List.append_nil]]
  rw [after_two, after_two, after_two, after_two, read4, keep3, read3, read2, const2, keep2, read1, keep1, read0, const0]
  rfl

/-- The matrix at an index. -/
theorem perm_at (r q : Fin 512) : permOf source (ix2 r q) = if q.val = r.val % 16 * 32 + r.val / 16 then 1 else 0 := by
  pointwise [permOf]
  have hr := r.isLt
  have hq := q.isLt
  rw [source_at, WordCmp.cmpi_eq_ofNat (by omega) (by omega)]
  by_cases h : q.val = r.val % 16 * 32 + r.val / 16
  · rw [if_pos h]
    simp [h.symm, FloatOps.uitofp]
  · rw [if_neg h]
    have h' : ¬ r.val % 16 * 32 + r.val / 16 = q.val := fun e => h e.symm
    simp [h', FloatOps.uitofp]

/-- The norm's weight as a row. -/
theorem gain_row (c : Dev nD) : V m c main_v0 =
    (shapeCast S1x2048 (m (c, Proc.devRef .tc main_arg6) : Vec Ideal S2048 .f32) shapeCasts_S2048_S1x2048 : Vec Ideal S1x2048 .f32) := by
  show StableHlo.after (List.flatten [hostOps0 (F := Ideal), hostOps0_1, hostOps0_2, hostOps0_3, hostOps0_4])
    (fun b => m (c, b)) (Proc.devRef .tc main_v0) = _
  simp only [List.flatten_cons, List.flatten_nil, List.append_nil]
  simp only [List.cons_append, List.nil_append]
  after_reads_simp
  rfl

end Cert.Kernel10Ideal.Join

end
-- ==== Proof.JoinStack.lean ====
module

/-
The grouped tokens of one block in row order: the sixteen column blocks are stacked and multiplied by the matrix that
reorders their rows.
-/

public import proofs.«01_k».proof.Proof.JoinPerm
public import Idealize.ShloMosaic.Lib.Pointwise

@[expose] public section
set_option maxRecDepth 16384
noncomputable section
namespace Cert.Kernel10Ideal.Join

open Cert.Kernel10Ideal Cert.Kernel10Ideal.Gen
open Idealize.ShloMosaic Idealize.ShloMosaic.TcCoe Idealize.ShloMosaic.Tactic

/-- The column block `n` of the groups. -/
def piece (s : Vec Ideal S32x16384 .bf16) (n : Fin 16) : Vec Ideal S32x1024 .bf16 :=
  View.ld s (Rect.unit ![0, n.val * 1024] ![32, 1024] fun a => by
    have := n.isLt
    match a with
    | 0 => exact Nat.le_refl 32
    | 1 => show n.val * 1024 + 1024 ≤ 16384; omega)

/-- The sixteen column blocks. -/
abbrev pieces (s : Vec Ideal S32x16384 .bf16) : List ((s : Shape) × (s.Idx → Elt Ideal .bf16)) :=
  [⟨S32x1024, View.ld s (Rect.unit ![0, 0] ![32, 1024] inb_S32x16384_S32x1024_0_0)⟩,
    ⟨S32x1024, View.ld s (Rect.unit ![0, 1024] ![32, 1024] inb_S32x16384_S32x1024_0_1024)⟩,
    ⟨S32x1024, View.ld s (Rect.unit ![0, 2048] ![32, 1024] inb_S32x16384_S32x1024_0_2048)⟩,
    ⟨S32x1024, View.ld s (Rect.unit ![0, 3072] ![32, 1024] inb_S32x16384_S32x1024_0_3072)⟩,
    ⟨S32x1024, View.ld s (Rect.unit ![0, 4096] ![32, 1024] inb_S32x16384_S32x1024_0_4096)⟩,
    ⟨S32x1024, View.ld s (Rect.unit ![0, 5120] ![32, 1024] inb_S32x16384_S32x1024_0_5120)⟩,
    ⟨S32x1024, View.ld s (Rect.unit ![0, 6144] ![32, 1024] inb_S32x16384_S32x1024_0_6144)⟩,
    ⟨S32x1024, View.ld s (Rect.unit ![0, 7168] ![32, 1024] inb_S32x16384_S32x1024_0_7168)⟩,
    ⟨S32x1024, View.ld s (Rect.unit ![0, 8192] ![32, 1024] inb_S32x16384_S32x1024_0_8192)⟩,
    ⟨S32x1024, View.ld s (Rect.unit ![0, 9216] ![32, 1024] inb_S32x16384_S32x1024_0_9216)⟩,
    ⟨S32x1024, View.ld s (Rect.unit ![0, 10240] ![32, 1024] inb_S32x16384_S32x1024_0_10240)⟩,
    ⟨S32x1024, View.ld s (Rect.unit ![0, 11264] ![32, 1024] inb_S32x16384_S32x1024_0_11264)⟩,
    ⟨S32x1024, View.ld s (Rect.unit ![0, 12288] ![32, 1024] inb_S32x16384_S32x1024_0_12288)⟩,
    ⟨S32x1024, View.ld s (Rect.unit ![0, 13312] ![32, 1024] inb_S32x16384_S32x1024_0_13312)⟩,
    ⟨S32x1024, View.ld s (Rect.unit ![0, 14336] ![32, 1024] inb_S32x16384_S32x1024_0_14336)⟩,
    ⟨S32x1024, View.ld s (Rect.unit ![0, 15360] ![32, 1024] inb_S32x16384_S32x1024_0_15360)⟩]

theorem pieces_eq (s : Vec Ideal S32x16384 .bf16) :
    pieces s = List.ofFn fun n : Fin 16 => (⟨S32x1024, piece s n⟩ : (s : Shape) × (s.Idx → Elt Ideal .bf16)) := rfl

/-- The column blocks stacked. -/
def stack (s : Vec Ideal S32x16384 .bf16) : FVec Ideal S512x1024 .bf16 :=
  concatenate S512x1024 0 (pieces s)
    concatenates_S32x1024_S32x1024_S32x1024_S32x1024_S32x1024_S32x1024_S32x1024_S32x1024_S32x1024_S32x1024_S32x1024_S32x1024_S32x1024_S32x1024_S32x1024_S32x1024_S512x1024_d0

theorem stack_def (s : Vec Ideal S32x16384 .bf16) : (concatenate S512x1024 0 (pieces s)
    concatenates_S32x1024_S32x1024_S32x1024_S32x1024_S32x1024_S32x1024_S32x1024_S32x1024_S32x1024_S32x1024_S32x1024_S32x1024_S32x1024_S32x1024_S32x1024_S32x1024_S512x1024_d0 : FVec Ideal S512x1024 .bf16) = stack s := rfl

theorem stack_eq (s : Vec Ideal S32x16384 .bf16) (q : Fin 512) (j : Fin 1024)
    (xs : List ((s : Shape) × (s.Idx → Elt Ideal .bf16))) (h) (e : xs = List.ofFn fun n : Fin 16 => ⟨S32x1024, piece s n⟩) :
    concatenate S512x1024 0 xs h (ix2 q j) = s (ix2 ⟨q.val % 32, by omega⟩ ⟨q.val / 32 * 1024 + j.val, by have := q.isLt; have := j.isLt; omega⟩) := by
  subst e
  have hq := q.isLt
  rw [concatenate_ofFn_apply (s₁ := S32x1024) 0 (piece s) h rfl 32 rfl (ix2 q j) ⟨q.val / 32, by omega⟩ rfl (ix2 ⟨q.val % 32, by omega⟩ j) rfl
    fun b hb => by
      match b with
      | 0 => exact absurd rfl hb
      | 1 => rfl]
  refine congrArg s ?_
  funext b
  match b with
  | 0 => exact Fin.ext (by show 0 + 1 * (q.val % 32) = q.val % 32; omega)
  | 1 => exact Fin.ext (by show q.val / 32 * 1024 + 1 * j.val = q.val / 32 * 1024 + j.val; omega)

theorem stack_at (s : Vec Ideal S32x16384 .bf16) (q : Fin 512) (j : Fin 1024) :
    stack s (ix2 q j) = s (ix2 ⟨q.val % 32, by omega⟩ ⟨q.val / 32 * 1024 + j.val, by have := q.isLt; have := j.isLt; omega⟩) :=
  stack_eq s q j _ _ (pieces_eq s)

/-- The stacked rows reordered: row `r` is token `r mod 16` of group `r / 16`. -/
theorem ordered_at (s : Vec Ideal S32x16384 .bf16) (r : Fin 512) (j : Fin 1024) : k0_pay2 (stack s) (permOf source) (ix2 r j) =
    s (ix2 ⟨r.val / 16, by omega⟩ ⟨r.val % 16 * 1024 + j.val, by have := r.isLt; have := j.isLt; omega⟩) := by
  have e : k0_pay2 (stack s) (permOf source) (ix2 r j) = ∑ q : Fin 512, permOf source (ix2 r q) * stack s (ix2 q j) := by
    pointwise [k0_pay2]
  have hr := r.isLt
  rw [e, Finset.sum_eq_single ⟨r.val % 16 * 32 + r.val / 16, by omega⟩]
  · rw [perm_at, if_pos rfl, one_mul, stack_at]
    refine congrArg s (congrArg₂ ix2 (Fin.ext ?_) (Fin.ext ?_))
    · show (r.val % 16 * 32 + r.val / 16) % 32 = r.val / 16
      omega
    · show (r.val % 16 * 32 + r.val / 16) / 32 * 1024 + j.val = r.val % 16 * 1024 + j.val
      omega
  · intro q _ hq
    rw [perm_at, if_neg fun e => hq (Fin.ext e), zero_mul]
  · exact fun g => absurd (Finset.mem_univ _) g

end Cert.Kernel10Ideal.Join

end
-- ==== Proof.JoinBody.lean ====
module

/-
What the body of the first layer's output product leaves at one grid point: the two halves of the block's rows are done
one after the other, each in four blocks of columns, and normed when its four blocks are there.
-/

public import proofs.«01_k».proof.Proof.JoinStack
public import proofs.«01_k».proof.Proof.OutBody

@[expose] public section
set_option maxRecDepth 16384
noncomputable section
namespace Cert.Kernel10Ideal.Join

open Cert.Kernel10Ideal Cert.Kernel10Ideal.Gen
open Cert.Kernel7Ideal.Out (normRows norm_half half_eq)
open Idealize.ShloMosaic Idealize.ShloMosaic.TcCoe Idealize.ShloMosaic.Tactic

/-- A block's rows: the residual, of the latents or of the context, and the gated sum of the two products. -/
def joinRows (a : BitVec 32) (h : Vec Ideal S512x1024 .bf16) (v : Vec Ideal S512x1024 .bf16) (w u : Vec Ideal S1x1024x2048 .bf16)
    (g : Vec Ideal S1x1x2048 .f32) (x y : Vec Ideal S512x2048 .f32) : Vec Ideal S512x2048 .f32 :=
  fun z => Scalar.select (Scalar.cmpi .slt a 32#32) (x z) (y z) + g (ix3 0 0 (z 1)) *
    ((∑ k : Fin 1024, h (ix2 (z 0) k) * w (ix3 0 k (z 1))) + ∑ k : Fin 1024, v (ix2 (z 0) k) * u (ix3 0 k (z 1)))

/-- A block of the rows and columns. -/
def chunkOf (a : BitVec 32) (h v : Vec Ideal S256x1024 .bf16) (w u : Vec Ideal S1x1024x512 .bf16)
    (g : Vec Ideal S1x1x512 .f32) (x y : Vec Ideal S256x512 .f32) : FVec Ideal S256x512 .f32 :=
  addf (F := Ideal) (φ := .f32) (Scalar.select (Scalar.cmpi .slt a 32#32) x y) (mulf
    (broadcastTo S256x512 (shapeCast S1x512 g shapeCasts_S1x1x512_S1x512) broadcasts_S1x512_S256x512)
    (addf
      (matmul (φ₁ := .bf16) (φ₂ := .bf16) dot_S256x1024_S1024x512_S256x512_1_0_0_1_n_n none h
        (shapeCast S1024x512 w shapeCasts_S1x1024x512_S1024x512) (constant S256x512 .f32 0x00000000#32))
      (matmul (φ₁ := .bf16) (φ₂ := .bf16) dot_S256x1024_S1024x512_S256x512_1_0_0_1_n_n none v
        (shapeCast S1024x512 u shapeCasts_S1x1024x512_S1024x512) (constant S256x512 .f32 0x00000000#32))))

theorem chunk_at (a : BitVec 32) (h v : Vec Ideal S256x1024 .bf16) (w u : Vec Ideal S1x1024x512 .bf16)
    (g : Vec Ideal S1x1x512 .f32) (x y : Vec Ideal S256x512 .f32) (r : Fin 256) (b : Fin 512) :
    chunkOf a h v w u g x y (ix2 r b) = Scalar.select (Scalar.cmpi .slt a 32#32) (x (ix2 r b)) (y (ix2 r b)) + g (ix3 0 0 b) *
      ((∑ k : Fin 1024, h (ix2 r k) * w (ix3 0 k b)) + ∑ k : Fin 1024, v (ix2 r k) * u (ix3 0 k b)) := by
  pointwise [chunkOf]

/-- The same where the rows start at `I` and the columns at `J`. -/
theorem chunk (I J : ℕ) (hh : ∀ a, (![I, 0] : Fin 2 → ℕ) a + (![256, 1024] : Fin 2 → ℕ) a ≤ S512x1024.size a)
    (hv : S512x1024.Slices ![I, 0] S256x1024)
    (hw : ∀ a, (![0, 0, J] : Fin 3 → ℕ) a + (![1, 1024, 512] : Fin 3 → ℕ) a ≤ S1x1024x2048.size a)
    (hg : ∀ a, (![0, 0, J] : Fin 3 → ℕ) a + (![1, 1, 512] : Fin 3 → ℕ) a ≤ S1x1x2048.size a)
    (hx : ∀ a, (![I, J] : Fin 2 → ℕ) a + (![256, 512] : Fin 2 → ℕ) a ≤ S512x2048.size a)
    (a : BitVec 32) (h v : Vec Ideal S512x1024 .bf16) (w u : Vec Ideal S1x1024x2048 .bf16) (g : Vec Ideal S1x1x2048 .f32)
    (x y : Vec Ideal S512x2048 .f32) (z : S256x512.Idx) :
    chunkOf a (View.ld h (Rect.unit ![I, 0] ![256, 1024] hh)) (extractStridedSlice S256x1024 ![I, 0] v hv)
      (View.ld w (Rect.unit ![0, 0, J] ![1, 1024, 512] hw)) (View.ld u (Rect.unit ![0, 0, J] ![1, 1024, 512] hw))
      (View.ld g (Rect.unit ![0, 0, J] ![1, 1, 512] hg)) (View.ld x (Rect.unit ![I, J] ![256, 512] hx))
      (View.ld y (Rect.unit ![I, J] ![256, 512] hx)) z =
      joinRows a h v w u g x y ((Rect.unit (s := S512x2048) ![I, J] ![256, 512] hx).emb z) := by
  obtain ⟨r, b, rfl⟩ : ∃ (r : Fin 256) (b : Fin 512), z = ix2 r b := ⟨z 0, z 1, by
    funext a
    match a with
    | 0 => rfl
    | 1 => rfl⟩
  have weights (k : Fin 1024) : (Rect.unit (s := S1x1024x2048) ![0, 0, J] ![1, 1024, 512] hw).emb (ix3 0 k b) =
      ix3 0 k ((Rect.unit (s := S512x2048) ![I, J] ![256, 512] hx).emb (ix2 r b) 1) := by
    funext d
    match d with
    | 0 => rfl
    | 1 => exact Fin.ext (by show 0 + 1 * k.val = k.val; omega)
    | 2 => rfl
  rw [chunk_at]
  unfold joinRows
  refine congrArg₂ (· + ·) rfl (congrArg₂ (· * ·) (congrArg g ?_) (congrArg₂ (· + ·)
    (Finset.sum_congr rfl fun k _ => congrArg₂ (· * ·) (congrArg h ?_) (congrArg w (weights k)))
    (Finset.sum_congr rfl fun k _ => congrArg₂ (· * ·) ?_ (congrArg u (weights k)))))
  · funext d
    match d with
    | 0 => rfl
    | 1 => rfl
    | 2 => rfl
  · funext d
    match d with
    | 0 => rfl
    | 1 => exact Fin.ext (by show 0 + 1 * k.val = k.val; omega)
  · refine congrArg v ?_
    funext d
    match d with
    | 0 => exact Fin.ext (by show I + r.val = I + 1 * r.val; omega)
    | 1 => exact Fin.ext (by show 0 + k.val = k.val; omega)

variable (m : (ℓ : Loc nD τ sig) → Buf (Elt Ideal) ℓ)

/-- The reordered rows of the grouped tokens. -/
abbrev orderedOf (c : Dev nD) (t : Fin cfg0.N) : Vec Ideal S512x1024 .bf16 := k0_pay2 (stack (iblk m c 1 t)) (iblk m c 10 t)

/-- A block's rows. -/
abbrev rowsOf (c : Dev nD) (t : Fin cfg0.N) : Vec Ideal S512x2048 .f32 :=
  joinRows (BitVec.ofNat 32 (grid0.coords t 0).val) (iblk m c 0 t) (orderedOf m c t) (iblk m c 2 t) (iblk m c 3 t) (iblk m c 6 t)
    (iblk m c 4 t) (iblk m c 5 t)

set_option maxHeartbeats 1000000 in
theorem point (c : Dev nD) (t : Fin cfg0.N) : (outsAt0 m c t).1 = rowsOf m c t := by
  unfold outsAt0 out0_A_11
  frame_out
  rw [show ∀ h : (ms0_1 t).IsWhole, View.read (Elt Ideal) (ms0_1 t).view (h.unread (iblk m c 1 t)) = iblk m c 1 t from
    fun h => h.read_unread _]
  rw [stack_def (iblk m c 1 t)]
  funext y
  refine View.canon_append_of_piecesOf (rowsOf m c t) [] [_, _, _, _, _, _, _, _]
    ⟨fun z => chunk 256 1536 _ _ _ _ _ _ _ _ _ _ _ _ _ z, fun z => chunk 256 1024 _ _ _ _ _ _ _ _ _ _ _ _ _ z,
      fun z => chunk 256 512 _ _ _ _ _ _ _ _ _ _ _ _ _ z, fun z => chunk 256 0 _ _ _ _ _ _ _ _ _ _ _ _ _ z,
      fun z => chunk 0 1536 _ _ _ _ _ _ _ _ _ _ _ _ _ z, fun z => chunk 0 1024 _ _ _ _ _ _ _ _ _ _ _ _ _ z,
      fun z => chunk 0 512 _ _ _ _ _ _ _ _ _ _ _ _ _ z, fun z => chunk 0 0 _ _ _ _ _ _ _ _ _ _ _ _ _ z, trivial⟩ y ?_
  exact View.cover_of_tiledBy _ ![256, 512] (by sl_kernel_rfl) y

set_option maxHeartbeats 1000000 in
theorem point_norm (c : Dev nD) (t : Fin cfg0.N) : (outsAt0 m c t).2 =
    normRows (iblk m c 9 t) (iblk m c 8 t) (rowsOf m c t) (iblk m c 7 t) := by
  unfold outsAt0 out0_A_12
  frame_out
  rw [show ∀ h : (ms0_1 t).IsWhole, View.read (Elt Ideal) (ms0_1 t).view (h.unread (iblk m c 1 t)) = iblk m c 1 t from
    fun h => h.read_unread _]
  rw [stack_def (iblk m c 1 t)]
  funext y
  refine View.canon_append_of_piecesOf (normRows (iblk m c 9 t) (iblk m c 8 t) (rowsOf m c t) (iblk m c 7 t)) [] [_, _]
    ⟨fun z => norm_half 256 inb_S512x2048_S256x2048_256_0 _ _ _ (rowsOf m c t) _ (fun z => ?_) z,
      fun z => norm_half 0 inb_S512x2048_S256x2048_0_0 _ _ _ (rowsOf m c t) _ (fun z => ?_) z, trivial⟩ y ?_
  · rw [View.readCov_eq_canon']
    exact half_eq (rowsOf m c t) 256 _ _ _ _ _ _ _ _ (fun z => chunk 256 0 _ _ _ _ _ _ _ _ _ _ _ _ _ z)
      (fun z => chunk 256 512 _ _ _ _ _ _ _ _ _ _ _ _ _ z) (fun z => chunk 256 1024 _ _ _ _ _ _ _ _ _ _ _ _ _ z)
      (fun z => chunk 256 1536 _ _ _ _ _ _ _ _ _ _ _ _ _ z) _ _
      (by show 256 ≤ 256 + 1 * (z 0).val; omega) (by have : (z 0).val < 256 := (z 0).isLt; show 256 + 1 * (z 0).val < 256 + 256; omega)
  · rw [View.readCov_eq_canon']
    exact half_eq (rowsOf m c t) 0 _ _ _ _ _ _ _ _ (fun z => chunk 0 0 _ _ _ _ _ _ _ _ _ _ _ _ _ z)
      (fun z => chunk 0 512 _ _ _ _ _ _ _ _ _ _ _ _ _ z) (fun z => chunk 0 1024 _ _ _ _ _ _ _ _ _ _ _ _ _ z)
      (fun z => chunk 0 1536 _ _ _ _ _ _ _ _ _ _ _ _ _ z) _ _
      (by show 0 ≤ 0 + 1 * (z 0).val; omega) (by have : (z 0).val < 256 := (z 0).isLt; show 0 + 1 * (z 0).val < 0 + 256; omega)
  · exact View.cover_of_tiledBy _ ![256, 2048] (by sl_kernel_rfl) y

end Cert.Kernel10Ideal.Join

end
-- ==== Proof.JoinRef.lean ====
module

/-
The reference of the first layer's output product and of the norm that follows it, at an element of its two results. The
left factor's columns are the attention's and, from 1024 on, the S5's, whose rows hold 16 tokens each.
-/

public import proofs.«01_k».proof.Proof.Gen.Reference10Ideal.Run
public import proofs.«01_k».proof.Proof.NextRef

@[expose] public section
set_option maxRecDepth 16384
noncomputable section
namespace Cert.Reference10Ideal.Join

open Cert.Reference10Ideal Cert.Reference10Ideal.Gen
open Cert.Reference3Ideal.Tail (inverseRoot)
open Cert.Reference4Ideal.Next (modLat modCtx scaleLat scaleCtx batch modLat_at modCtx_at scaleLat_at scaleCtx_at parts_at)
open Idealize.ShloMosaic Idealize.ShloMosaic.TcCoe Idealize.ShloMosaic.Tactic

/-- The S5's rows, one token each. -/
def unstacked (s : FVec Ideal S1152x16384 .bf16) : FVec Ideal S18432x1024 .f32 :=
  shapeCast _ (extf .f32 s bitsLt_bf16_f32) shapeCasts_S1152x16384_S18432x1024

/-- The attention's columns and the S5's. -/
def joined (a : FVec Ideal S18432x1024 .bf16) (s : FVec Ideal S1152x16384 .bf16) : FVec Ideal S18432x2048 .f32 :=
  concatenate S18432x2048 1 [⟨S18432x1024, extf .f32 a bitsLt_bf16_f32⟩, ⟨S18432x1024, unstacked s⟩]
    concatenates_S18432x1024_S18432x1024_S18432x2048_d1

/-- Their product with the output's weight. -/
def product (a : FVec Ideal S18432x1024 .bf16) (s : FVec Ideal S1152x16384 .bf16) (w : FVec Ideal S1x2048x2048 .bf16) :
    FVec Ideal S18432x2048 .f32 :=
  Host.dotGeneral dot_S18432x2048_S2048x2048_S18432x2048_1_0_0_1_n_n none (joined a s)
    (extf .f32 (shapeCast _ w shapeCasts_S1x2048x2048_S2048x2048) bitsLt_bf16_f32)

/-- The latents' residual and gated product. -/
def sumLat (p : FVec Ideal S18432x2048 .f32) (x : FVec Ideal S16384x2048 .f32) (mod : FVec Ideal S16x1x12288 .f32) :
    FVec Ideal S8x2048x2048 .f32 :=
  addf (shapeCast _ x shapeCasts_S16384x2048_S8x2048x2048)
    (mulf (broadcastInDim S8x2048x2048 ![0, 1, 2] bcast_S8x1x2048_S8x2048x2048_0_1_2
      (extractStridedSlice S8x1x2048 ![0, 0, 4096] (modLat mod) slices_S8x1x12288_S8x1x2048_0_0_4096))
      (shapeCast _ (extractStridedSlice S16384x2048 ![0, 0] p slices_S18432x2048_S16384x2048_0_0) shapeCasts_S16384x2048_S8x2048x2048))

/-- The context's. -/
def sumCtx (p : FVec Ideal S18432x2048 .f32) (x : FVec Ideal S2048x2048 .f32) (mod : FVec Ideal S16x1x12288 .f32) :
    FVec Ideal S8x256x2048 .f32 :=
  addf (shapeCast _ x shapeCasts_S2048x2048_S8x256x2048)
    (mulf (broadcastInDim S8x256x2048 ![0, 1, 2] bcast_S1x1x2048_S8x256x2048_0_1_2
      (extractStridedSlice S1x1x2048 ![0, 0, 4096] (modCtx mod) slices_S1x1x12288_S1x1x2048_0_0_4096))
      (shapeCast _ (extractStridedSlice S2048x2048 ![16384, 0] p slices_S18432x2048_S2048x2048_16384_0) shapeCasts_S2048x2048_S8x256x2048))

/-- The latents' norm and modulation. -/
def normLat (y : FVec Ideal S8x2048x2048 .f32) (mod : FVec Ideal S16x1x12288 .f32) (g : FVec Ideal S2048 .f32) :
    FVec Ideal S8x2048x2048 .f32 :=
  addf (mulf (mulf (mulf y (broadcastInDim S8x2048x2048 ![0, 1, 2] bcast_S8x2048x1_S8x2048x2048_0_1_2 (scaleLat y)))
    (broadcastInDim S8x2048x2048 ![0, 1, 2] bcast_S1x1x2048_S8x2048x2048_0_1_2
      (broadcastInDim S1x1x2048 ![2] bcast_S2048_S1x1x2048_2 g)))
    (broadcastInDim S8x2048x2048 ![0, 1, 2] bcast_S8x1x2048_S8x2048x2048_0_1_2
      (addf (broadcastInDim S8x1x2048 ![] bcast_S_S8x1x2048 (constant S_ .f32 0x3F800000#32))
        (extractStridedSlice S8x1x2048 ![0, 0, 8192] (modLat mod) slices_S8x1x12288_S8x1x2048_0_0_8192))))
    (broadcastInDim S8x2048x2048 ![0, 1, 2] bcast_S8x1x2048_S8x2048x2048_0_1_2
      (extractStridedSlice S8x1x2048 ![0, 0, 6144] (modLat mod) slices_S8x1x12288_S8x1x2048_0_0_6144))

/-- The context's. -/
def normCtx (y : FVec Ideal S8x256x2048 .f32) (mod : FVec Ideal S16x1x12288 .f32) (g : FVec Ideal S2048 .f32) :
    FVec Ideal S8x256x2048 .f32 :=
  addf (mulf (mulf (mulf y (broadcastInDim S8x256x2048 ![0, 1, 2] bcast_S8x256x1_S8x256x2048_0_1_2 (scaleCtx y)))
    (broadcastInDim S8x256x2048 ![0, 1, 2] bcast_S1x1x2048_S8x256x2048_0_1_2
      (broadcastInDim S1x1x2048 ![2] bcast_S2048_S1x1x2048_2 g)))
    (broadcastInDim S8x256x2048 ![0, 1, 2] bcast_S1x1x2048_S8x256x2048_0_1_2
      (addf (broadcastInDim S1x1x2048 ![] bcast_S_S1x1x2048 (constant S_ .f32 0x3F800000#32))
        (extractStridedSlice S1x1x2048 ![0, 0, 8192] (modCtx mod) slices_S1x1x12288_S1x1x2048_0_0_8192))))
    (broadcastInDim S8x256x2048 ![0, 1, 2] bcast_S1x1x2048_S8x256x2048_0_1_2
      (extractStridedSlice S1x1x2048 ![0, 0, 6144] (modCtx mod) slices_S1x1x12288_S1x1x2048_0_0_6144))

variable (a : FVec Ideal S18432x1024 .bf16) (s : FVec Ideal S1152x16384 .bf16) (w : FVec Ideal S1x2048x2048 .bf16)
  (xl : FVec Ideal S16384x2048 .f32) (xc : FVec Ideal S2048x2048 .f32) (mod : FVec Ideal S16x1x12288 .f32)

/-- The first result: the tokens. -/
def tokens : FVec Ideal S18432x2048 .f32 :=
  concatenate S18432x2048 0 [⟨S16384x2048, shapeCast _ (sumLat (product a s w) xl mod) shapeCasts_S8x2048x2048_S16384x2048⟩,
    ⟨S2048x2048, shapeCast _ (sumCtx (product a s w) xc mod) shapeCasts_S8x256x2048_S2048x2048⟩]
    concatenates_S16384x2048_S2048x2048_S18432x2048_d0

/-- The second: the tokens that the feed-forward part takes. -/
def nextIn (g : FVec Ideal S2048 .f32) : FVec Ideal S18432x2048 .bf16 :=
  concatenate S18432x2048 0
    [⟨S16384x2048, truncf .bf16 (shapeCast _ (normLat (sumLat (product a s w) xl mod) mod g) shapeCasts_S8x2048x2048_S16384x2048) bitsLt_bf16_f32⟩,
    ⟨S2048x2048, truncf .bf16 (shapeCast _ (normCtx (sumCtx (product a s w) xc mod) mod g) shapeCasts_S8x256x2048_S2048x2048) bitsLt_bf16_f32⟩]
    concatenates_S16384x2048_S2048x2048_S18432x2048_d0

/-- A token of the residual. -/
def residual (R : Fin 18432) (X : Fin 2048) : EReal :=
  if h : R.val < 16384 then xl (ix2 ⟨R.val, h⟩ X) else xc (ix2 ⟨R.val - 16384, by omega⟩ X)

/-- A token of the S5's rows. -/
def stacked (R : Fin 18432) (k : Fin 1024) : EReal := s (ix2 ⟨R.val / 16, by omega⟩ ⟨R.val % 16 * 1024 + k.val, by omega⟩)

/-- A token's residual and gated product. -/
def row (R : Fin 18432) (X : Fin 2048) : EReal :=
  residual xl xc R X + mod (ix3 (batch R) 0 ⟨4096 + X.val, by omega⟩) *
    ((∑ k : Fin 1024, a (ix2 R k) * w (ix3 0 ⟨k.val, by omega⟩ X)) +
      ∑ k : Fin 1024, stacked s R k * w (ix3 0 ⟨1024 + k.val, by omega⟩ X))

/-- A token's norm and modulation. -/
def normed (y : Fin 2048 → EReal) (g : FVec Ideal S2048 .f32) (R : Fin 18432) (X : Fin 2048) : EReal :=
  y X * inverseRoot y * g (ix1 X) * (Ideal.ofBits .f32 0x3F800000#32 + mod (ix3 (batch R) 0 ⟨8192 + X.val, by omega⟩))
    + mod (ix3 (batch R) 0 ⟨6144 + X.val, by omega⟩)

theorem unstacked_at (R : Fin 18432) (k : Fin 1024) : unstacked s (ix2 R k) = stacked s R k := by
  pointwise [unstacked, stacked]

theorem joined_left (R : Fin 18432) (k : Fin 1024) : joined a s (ix2 R ⟨k.val, by omega⟩) = a (ix2 R k) := by
  unfold joined
  rw [concatenate_pair_apply_left (s₁ := S18432x1024) (s₂ := S18432x1024) 1 _ _ concatenates_S18432x1024_S18432x1024_S18432x2048_d1
    (ix2 R ⟨k.val, by omega⟩) rfl (ix2 R k) fun b => by
      match b with
      | 0 => rfl
      | 1 => rfl]
  pointwise []

theorem joined_right (R : Fin 18432) (k : Fin 1024) : joined a s (ix2 R ⟨1024 + k.val, by omega⟩) = stacked s R k := by
  unfold joined
  rw [concatenate_pair_apply_right (s₁ := S18432x1024) (s₂ := S18432x1024) 1 _ _ concatenates_S18432x1024_S18432x1024_S18432x2048_d1
    (ix2 R ⟨1024 + k.val, by omega⟩) rfl rfl (ix2 R k) (fun b hb => by
      match b with
      | 0 => rfl
      | 1 => exact absurd rfl hb) (by show k.val + 1024 = 1024 + k.val; omega)]
  exact unstacked_at s R k

theorem product_at (R : Fin 18432) (X : Fin 2048) : product a s w (ix2 R X) =
    (∑ k : Fin 1024, a (ix2 R k) * w (ix3 0 ⟨k.val, by omega⟩ X)) +
      ∑ k : Fin 1024, stacked s R k * w (ix3 0 ⟨1024 + k.val, by omega⟩ X) := by
  have e : product a s w (ix2 R X) = ∑ K : Fin 2048, joined a s (ix2 R K) * w (ix3 0 K X) := by
    pointwise [product]
  rw [e]
  refine (Fin.sum_univ_add (a := 1024) (b := 1024) fun K : Fin 2048 => joined a s (ix2 R K) * w (ix3 0 K X)).trans ?_
  exact congrArg₂ (· + ·) (Finset.sum_congr rfl fun k _ => congrArg (· * _) (joined_left a s R k))
    (Finset.sum_congr rfl fun k _ => congrArg (· * _) (joined_right a s R k))

theorem sumLat_at (b : Fin 8) (t X : Fin 2048) (R : Fin 18432) (hR : b.val * 2048 + t.val = R.val) :
    sumLat (product a s w) xl mod (ix3 b t X) = row a s w xl xc mod R X := by
  have e : (⟨b.val * 2048 + t.val, by omega⟩ : Fin 18432) = R := Fin.ext hR
  have ex : residual xl xc R X = xl (ix2 ⟨b.val * 2048 + t.val, by omega⟩ X) := by
    unfold residual
    rw [dif_pos (by omega)]
    exact congrArg (fun r => xl (ix2 r X)) (Fin.ext hR.symm)
  unfold row
  rw [← product_at, ← modLat_at mod b _ (batch R) (by show min (R.val / 2048) 8 = b.val; omega), ex]
  pointwise [sumLat]
  rw [e]

theorem sumCtx_at (b : Fin 8) (t : Fin 256) (X : Fin 2048) (R : Fin 18432) (hR : 16384 + (b.val * 256 + t.val) = R.val) :
    sumCtx (product a s w) xc mod (ix3 b t X) = row a s w xl xc mod R X := by
  have e : (⟨16384 + (b.val * 256 + t.val), by omega⟩ : Fin 18432) = R := Fin.ext hR
  have eb : batch R = 8 := Fin.ext (by show min (R.val / 2048) 8 = 8; omega)
  have ex : residual xl xc R X = xc (ix2 ⟨b.val * 256 + t.val, by omega⟩ X) := by
    unfold residual
    rw [dif_neg (by omega)]
    exact congrArg (fun r => xc (ix2 r X)) (Fin.ext (by dsimp only; omega))
  unfold row
  rw [← product_at, eb, ← modCtx_at mod, ex]
  pointwise [sumCtx]
  rw [e]

theorem normLat_at (y : FVec Ideal S8x2048x2048 .f32) (g : FVec Ideal S2048 .f32) (b : Fin 8) (t X : Fin 2048) (R : Fin 18432)
    (hR : b.val * 2048 + t.val = R.val) : normLat y mod g (ix3 b t X) = normed mod (fun k => y (ix3 b t k)) g R X := by
  have hb : (batch R).val = b.val := by show min (R.val / 2048) 8 = b.val; omega
  unfold normed
  rw [← scaleLat_at, ← modLat_at mod b _ (batch R) hb, ← modLat_at mod b _ (batch R) hb]
  pointwise [normLat]

theorem normCtx_at (y : FVec Ideal S8x256x2048 .f32) (g : FVec Ideal S2048 .f32) (b : Fin 8) (t : Fin 256) (X : Fin 2048)
    (R : Fin 18432) (hR : 16384 + (b.val * 256 + t.val) = R.val) :
    normCtx y mod g (ix3 b t X) = normed mod (fun k => y (ix3 b t k)) g R X := by
  have eb : batch R = 8 := Fin.ext (by show min (R.val / 2048) 8 = 8; omega)
  unfold normed
  rw [← scaleCtx_at, eb, ← modCtx_at mod, ← modCtx_at mod]
  pointwise [normCtx]

/-- The first result at an index. -/
theorem tokens_at (R : Fin 18432) (X : Fin 2048) : tokens a s w xl xc mod (ix2 R X) = row a s w xl xc mod R X :=
  parts_at _ _ R X _ (fun b t e => sumLat_at a s w xl xc mod b t X R e) fun b t e => sumCtx_at a s w xl xc mod b t X R e

/-- The second. -/
theorem nextIn_at (g : FVec Ideal S2048 .f32) (R : Fin 18432) (X : Fin 2048) :
    nextIn a s w xl xc mod g (ix2 R X) = normed mod (row a s w xl xc mod R) g R X :=
  parts_at (normLat (sumLat (product a s w) xl mod) mod g) (normCtx (sumCtx (product a s w) xc mod) mod g) R X _
    (fun b t e => by rw [normLat_at mod _ g b t X R e, funext fun k => sumLat_at a s w xl xc mod b t k R e])
    fun b t e => by rw [normCtx_at mod _ g b t X R e, funext fun k => sumCtx_at a s w xl xc mod b t k R e]

end Cert.Reference10Ideal.Join

end
-- ==== Proof.JoinEq.lean ====
module

/-
The first layer's output product: the kernel's two results are the reference's. The grid runs over 36 blocks of rows, the
latents' 32 and the context's 4.
-/

public import proofs.«01_k».proof.Proof.JoinBody
public import proofs.«01_k».proof.Proof.JoinRef

@[expose] public section
set_option maxRecDepth 16384
noncomputable section
namespace Cert.Kernel10Ideal.Join

open Cert.Kernel10Ideal Cert.Kernel10Ideal.Gen
open Cert.Kernel7Ideal.Out (normRows normRows_at)
open Cert.Reference4Ideal.Next (batch)
open Cert.Reference10Ideal.Join (row residual stacked normed tokens nextIn tokens_at nextIn_at)
open Idealize.ShloMosaic Idealize.ShloMosaic.TcCoe Idealize.ShloMosaic.Tactic

theorem index_0 : ∀ t : Fin 36, win0_0.index t (0 : Fin 2) = t.val ∧ win0_0.index t (1 : Fin 2) = 0 := by decide +kernel
theorem index_1 : ∀ t : Fin 36, win0_1.index t (0 : Fin 2) = t.val ∧ win0_1.index t (1 : Fin 2) = 0 := by decide +kernel
theorem index_2 : ∀ t : Fin 36, win0_2.index t (0 : Fin 3) = 0 ∧ win0_2.index t (1 : Fin 3) = 0 ∧
    win0_2.index t (2 : Fin 3) = 0 := by decide +kernel
theorem index_3 : ∀ t : Fin 36, win0_3.index t (0 : Fin 3) = 0 ∧ win0_3.index t (1 : Fin 3) = 1 ∧
    win0_3.index t (2 : Fin 3) = 0 := by decide +kernel
theorem index_4 : ∀ t : Fin 36, win0_4.index t (0 : Fin 2) = min t.val 31 ∧
    win0_4.index t (1 : Fin 2) = 0 := by decide +kernel
theorem index_5 : ∀ t : Fin 36, win0_5.index t (0 : Fin 2) = t.val - 32 ∧
    win0_5.index t (1 : Fin 2) = 0 := by decide +kernel
theorem index_6 : ∀ t : Fin 36, win0_6.index t (0 : Fin 3) = min (t.val / 4) 8 ∧ win0_6.index t (1 : Fin 3) = 0 ∧
    win0_6.index t (2 : Fin 3) = 2 := by decide +kernel
theorem index_7 : ∀ t : Fin 36, win0_7.index t (0 : Fin 3) = min (t.val / 4) 8 ∧ win0_7.index t (1 : Fin 3) = 0 ∧
    win0_7.index t (2 : Fin 3) = 3 := by decide +kernel
theorem index_8 : ∀ t : Fin 36, win0_8.index t (0 : Fin 3) = min (t.val / 4) 8 ∧ win0_8.index t (1 : Fin 3) = 0 ∧
    win0_8.index t (2 : Fin 3) = 4 := by decide +kernel
theorem index_9 : ∀ t : Fin 36, win0_9.index t (0 : Fin 2) = 0 ∧ win0_9.index t (1 : Fin 2) = 0 := by decide +kernel
theorem index_10 : ∀ t : Fin 36, win0_10.index t (0 : Fin 2) = 0 ∧ win0_10.index t (1 : Fin 2) = 0 := by decide +kernel
theorem index_11 : ∀ t : Fin 36, win0_11.index t (0 : Fin 2) = t.val ∧ win0_11.index t (1 : Fin 2) = 0 := by decide +kernel
theorem index_12 : ∀ t : Fin 36, win0_12.index t (0 : Fin 2) = t.val ∧ win0_12.index t (1 : Fin 2) = 0 := by decide +kernel
theorem coord : ∀ t : Fin 36, ((grid0.coords t) 0).val = t.val := by decide +kernel

theorem below : ∀ t : Fin 36, t.val < 32 → Scalar.cmpi .slt (BitVec.ofNat 32 t.val) 32#32 = 1#1 := by decide +kernel
theorem above : ∀ t : Fin 36, ¬ t.val < 32 → Scalar.cmpi .slt (BitVec.ofNat 32 t.val) 32#32 = 0#1 := by decide +kernel

variable (m : (ℓ : Loc nD τ sig) → Buf (Elt Ideal) ℓ)

/-- The attention's rows. -/
abbrev att (c : Dev nD) : Vec Ideal S18432x1024 .bf16 := m (c.tc.loc main_arg0)
/-- The S5's rows, 16 tokens each. -/
abbrev groups (c : Dev nD) : Vec Ideal S1152x16384 .bf16 := m (c.tc.loc main_arg1)
/-- The output's weight. -/
abbrev weight (c : Dev nD) : Vec Ideal S1x2048x2048 .bf16 := m (c.tc.loc main_arg2)
/-- The latents' residual. -/
abbrev latents (c : Dev nD) : Vec Ideal S16384x2048 .f32 := m (c.tc.loc main_arg3)
/-- The context's. -/
abbrev context (c : Dev nD) : Vec Ideal S2048x2048 .f32 := m (c.tc.loc main_arg4)
/-- The modulation. -/
abbrev modulation (c : Dev nD) : Vec Ideal S16x1x12288 .f32 := m (c.tc.loc main_arg5)
/-- The norm's gain. -/
abbrev gain (c : Dev nD) : Vec Ideal S2048 .f32 := m (c.tc.loc main_arg6)

theorem blk_0 (c : Dev nD) (t : Fin 36) (r : Fin 512) (k : Fin 1024) (R : Fin 18432) (hR : R.val = t.val * 512 + r.val) :
    iblk m c 0 t (ix2 r k) = att m c (ix2 R k) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]

theorem blk_1 (c : Dev nD) (t : Fin 36) (q : Fin 32) (k : Fin 16384) (Q : Fin 1152) (hQ : Q.val = t.val * 32 + q.val) :
    iblk m c 1 t (ix2 q k) = groups m c (ix2 Q k) := by
  blk_simp [iblk]
  refine congrArg (m (c.tc.loc main_arg1)) ?_
  obtain ⟨e0, e1⟩ := index_1 t
  funext a
  match a with
  | 0 =>
    refine Fin.ext ?_
    blk_simp [e0]
    exact hQ.symm
  | 1 =>
    refine Fin.ext ?_
    blk_simp [e1]

theorem blk_2 (c : Dev nD) (t : Fin 36) (k : Fin 1024) (X : Fin 2048) :
    iblk m c 2 t (ix3 0 k X) = weight m c (ix3 0 ⟨k.val, by omega⟩ X) := by
  blk_simp [iblk]
  refine congrArg (m (c.tc.loc main_arg2)) ?_
  obtain ⟨e0, e1, e2⟩ := index_2 t
  funext a
  match a with
  | 0 =>
    refine Fin.ext ?_
    blk_simp [e0]
  | 1 =>
    refine Fin.ext ?_
    blk_simp [e1]
  | 2 =>
    refine Fin.ext ?_
    blk_simp [e2]

theorem blk_3 (c : Dev nD) (t : Fin 36) (k : Fin 1024) (X : Fin 2048) :
    iblk m c 3 t (ix3 0 k X) = weight m c (ix3 0 ⟨1024 + k.val, by omega⟩ X) := by
  blk_simp [iblk]
  refine congrArg (m (c.tc.loc main_arg2)) ?_
  obtain ⟨e0, e1, e2⟩ := index_3 t
  funext a
  match a with
  | 0 =>
    refine Fin.ext ?_
    blk_simp [e0]
  | 1 =>
    refine Fin.ext ?_
    blk_simp [e1]
  | 2 =>
    refine Fin.ext ?_
    blk_simp [e2]

theorem blk_4 (c : Dev nD) (t : Fin 36) (r : Fin 512) (X : Fin 2048) (R : Fin 16384) (hR : R.val = min t.val 31 * 512 + r.val) :
    iblk m c 4 t (ix2 r X) = latents m c (ix2 R X) := by
  blk_simp [iblk]
  refine congrArg (m (c.tc.loc main_arg3)) ?_
  obtain ⟨e0, e1⟩ := index_4 t
  funext a
  match a with
  | 0 =>
    refine Fin.ext ?_
    blk_simp [e0]
    exact hR.symm
  | 1 =>
    refine Fin.ext ?_
    blk_simp [e1]

theorem blk_5 (c : Dev nD) (t : Fin 36) (r : Fin 512) (X : Fin 2048) (R : Fin 2048) (hR : R.val = (t.val - 32) * 512 + r.val) :
    iblk m c 5 t (ix2 r X) = context m c (ix2 R X) := by
  blk_simp [iblk]
  refine congrArg (m (c.tc.loc main_arg4)) ?_
  obtain ⟨e0, e1⟩ := index_5 t
  funext a
  match a with
  | 0 =>
    refine Fin.ext ?_
    blk_simp [e0]
    exact hR.symm
  | 1 =>
    refine Fin.ext ?_
    blk_simp [e1]

theorem blk_6 (c : Dev nD) (t : Fin 36) (X : Fin 2048) (B : Fin 16) (G : Fin 12288) (hB : B.val = min (t.val / 4) 8)
    (hG : G.val = 4096 + X.val) :
    iblk m c 6 t (ix3 0 0 X) = modulation m c (ix3 B 0 G) := by
  blk_simp [iblk]
  refine congrArg (m (c.tc.loc main_arg5)) ?_
  obtain ⟨e0, e1, e2⟩ := index_6 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_7 (c : Dev nD) (t : Fin 36) (X : Fin 2048) (B : Fin 16) (G : Fin 12288) (hB : B.val = min (t.val / 4) 8)
    (hG : G.val = 6144 + X.val) :
    iblk m c 7 t (ix3 0 0 X) = modulation m c (ix3 B 0 G) := by
  blk_simp [iblk]
  refine congrArg (m (c.tc.loc main_arg5)) ?_
  obtain ⟨e0, e1, e2⟩ := index_7 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_8 (c : Dev nD) (t : Fin 36) (X : Fin 2048) (B : Fin 16) (G : Fin 12288) (hB : B.val = min (t.val / 4) 8)
    (hG : G.val = 8192 + X.val) :
    iblk m c 8 t (ix3 0 0 X) = modulation m c (ix3 B 0 G) := by
  blk_simp [iblk]
  refine congrArg (m (c.tc.loc main_arg5)) ?_
  obtain ⟨e0, e1, e2⟩ := index_8 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_9 (c : Dev nD) (t : Fin 36) (X : Fin 2048) : iblk m c 9 t (ix2 0 X) = gain m c (ix1 X) := by
  have e : iblk m c 9 t (ix2 0 X) = V m c main_v0 (ix2 0 X) := by
    unfold iblk
    refine congrArg (V m c main_v0) ?_
    obtain ⟨e0, e1⟩ := index_9 t
    funext a
    match a with
    | 0 =>
      refine Fin.ext ?_
      blk_simp [e0]
    | 1 =>
      refine Fin.ext ?_
      blk_simp [e1]
  rw [e, gain_row]
  pointwise []

theorem blk_10 (c : Dev nD) (t : Fin 36) : iblk m c 10 t = permOf source := by
  funext z
  have e : iblk m c 10 t (z) = V m c main_v15 (z) := by
    unfold iblk
    refine congrArg (V m c main_v15) ?_
    obtain ⟨e0, e1⟩ := index_10 t
    funext a
    match a with
    | 0 =>
      refine Fin.ext ?_
      blk_simp [e0]
    | 1 =>
      refine Fin.ext ?_
      blk_simp [e1]
  rw [e, perm_read]

/-- The reordered rows at an index. -/
theorem orderedOf_at (c : Dev nD) (t : Fin 36) (r : Fin 512) (k : Fin 1024) (R : Fin 18432) (hR : R.val = t.val * 512 + r.val) :
    orderedOf m c t (ix2 r k) = stacked (groups m c) R k := by
  have e : iblk m c 10 t = permOf source := blk_10 m c t
  unfold orderedOf
  rw [e]
  refine (ordered_at _ r k).trans ((blk_1 m c t _ _ ⟨R.val / 16, by omega⟩ (by show R.val / 16 = t.val * 32 + r.val / 16; omega)).trans ?_)
  exact congrArg (fun j => groups m c (ix2 _ j)) (Fin.ext (by show r.val % 16 * 1024 + k.val = R.val % 16 * 1024 + k.val; omega))

/-- The residual's block at an index. -/
theorem residual_at (c : Dev nD) (t : Fin 36) (r : Fin 512) (X : Fin 2048) (R : Fin 18432) (hR : R.val = t.val * 512 + r.val) :
    Scalar.select (Scalar.cmpi .slt (BitVec.ofNat 32 (grid0.coords t 0).val) 32#32) (iblk m c 4 t (ix2 r X)) (iblk m c 5 t (ix2 r X)) =
      residual (latents m c) (context m c) R X := by
  have ht := t.isLt
  unfold Cert.Reference10Ideal.Join.residual
  rw [coord t]
  by_cases h : R.val < 16384
  · have e : Scalar.cmpi .slt (BitVec.ofNat 32 t.val) 32#32 = 1#1 := below t (by omega)
    rw [dif_pos h, e]
    exact blk_4 m c t r X ⟨R.val, h⟩ (by show R.val = min t.val 31 * 512 + r.val; omega)
  · have e : Scalar.cmpi .slt (BitVec.ofNat 32 t.val) 32#32 = 0#1 := above t (by omega)
    rw [dif_neg h, e]
    exact blk_5 m c t r X ⟨R.val - 16384, by omega⟩ (by show R.val - 16384 = (t.val - 32) * 512 + r.val; omega)

/-- A block's rows, at an index. -/
theorem rows_at (c : Dev nD) (t : Fin 36) (r : Fin 512) (X : Fin 2048) (R : Fin 18432) (hR : R.val = t.val * 512 + r.val) :
    rowsOf m c t (ix2 r X) = row (att m c) (groups m c) (weight m c) (latents m c) (context m c) (modulation m c) R X :=
  congrArg₂ (· + ·) (residual_at m c t r X R hR) (congrArg₂ (· * ·)
    (blk_6 m c t X _ _ (by show min (R.val / 2048) 8 = min (t.val / 4) 8; omega) rfl)
    (congrArg₂ (· + ·) (Finset.sum_congr rfl fun k _ => congrArg₂ (· * ·) (blk_0 m c t r k R hR) (blk_2 m c t k X))
      (Finset.sum_congr rfl fun k _ => congrArg₂ (· * ·) (orderedOf_at m c t r k R hR) (blk_3 m c t k X))))

/-- The row and the column of a row block's element. -/
theorem split (y : S512x2048.Idx) : ∃ (r : Fin 512) (X : Fin 2048), y = ix2 r X := ⟨y 0, y 1, by
  funext a
  match a with
  | 0 => rfl
  | 1 => rfl⟩

/-- The first result at the end. -/
theorem tokens_eq (c : Dev nD) : (dats m 0 c).arrAt 11 cfg0.N =
    tokens (att m c) (groups m c) (weight m c) (latents m c) (context m c) (modulation m c) := by
  refine (dats m 0 c).arrAt_eq_of_covers 11 _ (by decide +kernel) fun t hf y => ?_
  have ht : t.val < 36 := t.isLt
  blk_simp
  rw [after0_11, point m c t]
  obtain ⟨e0, e1⟩ := index_11 t
  obtain ⟨r, X, rfl⟩ := split y
  obtain ⟨R, hR⟩ : ∃ R : Fin 18432, R.val = t.val * 512 + r.val := ⟨⟨_, by omega⟩, rfl⟩
  refine (rows_at m c t r X R hR).trans ((tokens_at (att m c) (groups m c) (weight m c) (latents m c) (context m c) (modulation m c) R X).symm.trans
    (congrArg (tokens (att m c) (groups m c) (weight m c) (latents m c) (context m c) (modulation m c)) ?_))
  funext a
  match a with
  | 0 =>
    refine Fin.ext ?_
    blk_simp
    exact hR.trans (congrArg (· * 512 + r.val) e0.symm)
  | 1 =>
    refine Fin.ext ?_
    blk_simp
    exact (Nat.zero_add _).symm.trans (congrArg (· * 2048 + X.val) e1.symm)

/-- The second result at the end. -/
theorem next_eq (c : Dev nD) : (dats m 0 c).arrAt 12 cfg0.N =
    nextIn (att m c) (groups m c) (weight m c) (latents m c) (context m c) (modulation m c) (gain m c) := by
  refine (dats m 0 c).arrAt_eq_of_covers 12 _ (by decide +kernel) fun t hf y => ?_
  have ht : t.val < 36 := t.isLt
  blk_simp
  rw [after0_12, point_norm m c t]
  obtain ⟨e0, e1⟩ := index_12 t
  obtain ⟨r, X, rfl⟩ := split y
  obtain ⟨R, hR⟩ : ∃ R : Fin 18432, R.val = t.val * 512 + r.val := ⟨⟨_, by omega⟩, rfl⟩
  have hB : (batch R).val = min (t.val / 4) 8 := by show min (R.val / 2048) 8 = min (t.val / 4) 8; omega
  refine (normRows_at _ _ _ _ r X).trans (Eq.trans ?_ ((nextIn_at (att m c) (groups m c) (weight m c) (latents m c) (context m c) (modulation m c)
    (gain m c) R X).symm.trans (congrArg (nextIn (att m c) (groups m c) (weight m c) (latents m c) (context m c) (modulation m c) (gain m c)) ?_)))
  · have e9 : iblk m c 9 t (ix2 0 X) = gain m c (ix1 X) := blk_9 m c t X
    have e8 : iblk m c 8 t (ix3 0 0 X) = _ := blk_8 m c t X (batch R) ⟨8192 + X.val, by omega⟩ hB rfl
    have e7 : iblk m c 7 t (ix3 0 0 X) = _ := blk_7 m c t X (batch R) ⟨6144 + X.val, by omega⟩ hB rfl
    rw [rows_at m c t r X R hR, funext fun k => rows_at m c t r k R hR, e9, e8, e7, ← mul_assoc]
    rfl
  · funext a
    match a with
    | 0 =>
      refine Fin.ext ?_
      blk_simp
      exact hR.trans (congrArg (· * 512 + r.val) e0.symm)
    | 1 =>
      refine Fin.ext ?_
      blk_simp
      exact (Nat.zero_add _).symm.trans (congrArg (· * 2048 + X.val) e1.symm)

end Cert.Kernel10Ideal.Join
end
-- ==== Proof.JoinClaim.lean ====
/- The claims about the first layer's output product. -/
module

public import proofs.«01_k».proof.Proof.JoinEq
public import proofs.«01_k».proof.Defs
public import proofs.«01_k».proof.Proof.Gen.Kernel10
public import Idealize.ShloMosaic.Adequacy
public import Idealize.ShloMosaic.Init

@[expose] public section

set_option maxRecDepth 16384

noncomputable section

namespace Cert.Proof.Join

open Idealize.ShloMosaic Idealize.SL.Sem

/-- The frame, said of the text that is read at the ideal instance, over words. -/
def Quiet : Prop :=
  ∀ (m : (ℓ : Loc Cert.Kernel10Ideal.nD Cert.Kernel10Ideal.τ Cert.Kernel10Ideal.sig) → Buf (Elt Bits) ℓ)
    (ρ : Dev Cert.Kernel10Ideal.nD → PrngReg), True →
    θ_run (Cert.Kernel10Ideal.defs (F := Bits)) (onTc (τ := Cert.Kernel10Ideal.τ) (Cert.Kernel10Ideal.main (F := Bits))) ⟨m, fun _ => 0, ρ⟩ (fun r => (∀ c : Dev Cert.Kernel10Ideal.nD,
      r.2.mem (c.tc.loc Cert.Kernel10Ideal.main_arg0) = m (c.tc.loc Cert.Kernel10Ideal.main_arg0)
      ∧ r.2.mem (c.tc.loc Cert.Kernel10Ideal.main_arg1) = m (c.tc.loc Cert.Kernel10Ideal.main_arg1)
      ∧ r.2.mem (c.tc.loc Cert.Kernel10Ideal.main_arg2) = m (c.tc.loc Cert.Kernel10Ideal.main_arg2)
      ∧ r.2.mem (c.tc.loc Cert.Kernel10Ideal.main_arg3) = m (c.tc.loc Cert.Kernel10Ideal.main_arg3)
      ∧ r.2.mem (c.tc.loc Cert.Kernel10Ideal.main_arg4) = m (c.tc.loc Cert.Kernel10Ideal.main_arg4)
      ∧ r.2.mem (c.tc.loc Cert.Kernel10Ideal.main_arg5) = m (c.tc.loc Cert.Kernel10Ideal.main_arg5)
      ∧ r.2.mem (c.tc.loc Cert.Kernel10Ideal.main_arg6) = m (c.tc.loc Cert.Kernel10Ideal.main_arg6))
      ∧ r.2.sem = fun _ => 0)

/-- The two texts are one. -/
theorem same : Quiet = Cert.quiescent_Kernel10 (hKernel10 := Cert.Kernel10.Gen.facts) := by
  sl_kernel_rfl

/-- The kernel over words ends with its arguments unchanged and every counter at zero. -/
theorem frame_kernel : Cert.quiescent_Kernel10 (hKernel10 := Cert.Kernel10.Gen.facts) :=
  same ▸ fun m ρ _ => Cert.Kernel10Ideal.Gen.frame (F := Bits) m ρ

/-- The idealized kernel ends with its arguments unchanged and every counter at zero. -/
theorem frame_ideal : Cert.quiescent_Kernel10Ideal (hKernel10Ideal := Cert.Kernel10Ideal.Gen.facts) :=
  fun m ρ _ => Cert.Kernel10Ideal.Gen.frame m ρ

/-- The reference ends with its arguments unchanged; it has no counter. -/
theorem reference_quiet (m : (ℓ : Loc Cert.Reference10Ideal.nD Cert.Reference10Ideal.τ Cert.Reference10Ideal.sig) → Buf (Elt Ideal) ℓ)
    (ρ : Dev Cert.Reference10Ideal.nD → PrngReg) :
    θ_run Cert.Reference10Ideal.defs (onTc (τ := Cert.Reference10Ideal.τ) (Cert.Reference10Ideal.main (F := Ideal))) ⟨m, fun _ => 0, ρ⟩ (fun r => (∀ c : Dev Cert.Reference10Ideal.nD,
      r.2.mem (c.tc.loc Cert.Reference10Ideal.main_arg0) = m (c.tc.loc Cert.Reference10Ideal.main_arg0)
      ∧ r.2.mem (c.tc.loc Cert.Reference10Ideal.main_arg1) = m (c.tc.loc Cert.Reference10Ideal.main_arg1)
      ∧ r.2.mem (c.tc.loc Cert.Reference10Ideal.main_arg2) = m (c.tc.loc Cert.Reference10Ideal.main_arg2)
      ∧ r.2.mem (c.tc.loc Cert.Reference10Ideal.main_arg3) = m (c.tc.loc Cert.Reference10Ideal.main_arg3)
      ∧ r.2.mem (c.tc.loc Cert.Reference10Ideal.main_arg4) = m (c.tc.loc Cert.Reference10Ideal.main_arg4)
      ∧ r.2.mem (c.tc.loc Cert.Reference10Ideal.main_arg5) = m (c.tc.loc Cert.Reference10Ideal.main_arg5)
      ∧ r.2.mem (c.tc.loc Cert.Reference10Ideal.main_arg6) = m (c.tc.loc Cert.Reference10Ideal.main_arg6))
      ∧ r.2.sem = fun _ => 0) :=
  (θ_run Cert.Reference10Ideal.defs _ _).mono (fun r h => ⟨fun c => (h c).2.2, sem_eq_zero_of_no_sems (by decide) r.2⟩)
    (Cert.Reference10Ideal.Value.run m ρ)

/-- The kernel's results are the reference's, at any arguments. -/
theorem equal : Cert.algebraic_Kernel10Ideal_Reference10Ideal (hKernel10Ideal := Cert.Kernel10Ideal.Gen.facts)
    (hReference10Ideal := Cert.Reference10Ideal.Gen.facts) := by
  intro m g m' g' hp he
  refine ⟨fun c => (Cert.Kernel10Ideal.Gen.dats m 0 c).arrAt 11 Cert.Kernel10Ideal.cfg0.N,
    fun c => (Cert.Kernel10Ideal.Gen.dats m 0 c).arrAt 12 Cert.Kernel10Ideal.cfg0.N,
    Cert.Kernel10Ideal.Value.run_blocks m g,
    (θ_run Cert.Reference10Ideal.defs _ _).mono (fun r h c => ?_) (Cert.Reference10Ideal.Value.run m' g')⟩
  obtain ⟨h0, h1, hk⟩ := h c
  refine ⟨h0.trans ?_, h1.trans ?_, hk⟩
  · rw [(he c).1, (he c).2.1, (he c).2.2.1, (he c).2.2.2.1, (he c).2.2.2.2.1, (he c).2.2.2.2.2.1]
    exact (Cert.Kernel10Ideal.Join.tokens_eq m c).symm
  · unfold Cert.Reference10Ideal.Value.res_main_v72
    rw [(he c).1, (he c).2.1, (he c).2.2.1, (he c).2.2.2.1, (he c).2.2.2.2.1,
      (he c).2.2.2.2.2.1, (he c).2.2.2.2.2.2]
    exact (Cert.Kernel10Ideal.Join.next_eq m c).symm

end Cert.Proof.Join

end
-- ==== Proof.UnitRef.lean ====
module

/-
The reference of the S5's gated unit, at an element of its result.
-/

public import proofs.«01_k».proof.Proof.Gen.Reference9Ideal.Run
public import Idealize.ShloMosaic.Lib.Pointwise

@[expose] public section
set_option maxRecDepth 16384
noncomputable section
namespace Cert.Reference9Ideal.Unit

open Cert.Reference9Ideal Cert.Reference9Ideal.Gen
open Idealize.ShloMosaic Idealize.ShloMosaic.TcCoe Idealize.ShloMosaic.Tactic

variable (g : FVec Ideal S64x16x16x1152 .bf16) (w : FVec Ideal S1x1024x1024 .f32) (b : FVec Ideal S1x1024 .f32)

/-- The unit's argument, its channels last. -/
def inner : FVec Ideal S1152x16x1024 .f32 :=
  shapeCast _ (transpose S1152x16x64x16 [3, 1, 0, 2] (extf .f32 g bitsLt_bf16_f32) transposes_S64x16x16x1152_S1152x16x64x16_3_1_0_2)
    shapeCasts_S1152x16x64x16_S1152x16x1024

/-- Its product with the weight. -/
def mixed : FVec Ideal S1152x16x1024 .f32 :=
  Host.dotGeneral dot_S1152x16x1024_S1024x1024_S1152x16x1024_2_0_01_1_n_n none (inner g) (shapeCast _ w shapeCasts_S1x1024x1024_S1024x1024)

/-- The bias, the same for all tokens. -/
def bias : FVec Ideal S1152x16x1024 .f32 :=
  broadcastInDim S1152x16x1024 ![0, 1, 2] bcast_S1x1x1024_S1152x16x1024_0_1_2
    (broadcastInDim S1x1x1024 ![2] bcast_S1024_S1x1x1024_2 (shapeCast _ b shapeCasts_S1x1024_S1024))

def one : FVec Ideal S1152x16x1024 .f32 :=
  broadcastInDim S1152x16x1024 ![] bcast_S_S1152x16x1024 (constant S_ .f32 0x3F800000#32)

/-- The result. -/
def gated : FVec Ideal S1152x16384 .bf16 :=
  truncf .bf16 (shapeCast _ (mulf (inner g) (Host.divf one (addf one (Host.exp (Host.negf (addf (mixed g w) (bias b)))))))
    shapeCasts_S1152x16x1024_S1152x16384) bitsLt_bf16_f32

/-- A channel of the argument: channel `j` is the `j % 16`-th of group `j / 16`. -/
def channel (t : Fin 16) (n : Fin 1152) (j : Fin 1024) : EReal := g (ix4 ⟨j.val / 16, by omega⟩ t ⟨j.val % 16, by omega⟩ n)

/-- What the logistic function is taken of. -/
def score (t : Fin 16) (n : Fin 1152) (j : Fin 1024) : EReal := (∑ k : Fin 1024, channel g t n k * w (ix3 0 k j)) + b (ix2 0 j)

theorem inner_at (t : Fin 16) (n : Fin 1152) (j : Fin 1024) : inner g (ix3 n t j) = channel g t n j := by
  pointwise [inner, channel]

theorem mixed_at (t : Fin 16) (n : Fin 1152) (j : Fin 1024) :
    mixed g w (ix3 n t j) = ∑ k : Fin 1024, inner g (ix3 n t k) * w (ix3 0 k j) := by
  pointwise [mixed]

theorem bias_at (t : Fin 16) (n : Fin 1152) (j : Fin 1024) : bias b (ix3 n t j) = b (ix2 0 j) := by
  pointwise [bias]

theorem gated_at (t : Fin 16) (n : Fin 1152) (j : Fin 1024) (R : Fin 16384) (hR : t.val * 1024 + j.val = R.val) :
    gated g w b (ix2 n R) = channel g t n j * Ideal.div 1 (1 + Ideal.exp (-score g w b t n j)) := by
  obtain ⟨R, h⟩ := R
  subst hR
  have es : mixed g w (ix3 n t j) + bias b (ix3 n t j) = score g w b t n j :=
    congrArg₂ (· + ·) ((mixed_at g w t n j).trans (Finset.sum_congr rfl fun k _ => congrArg (· * _) (inner_at g t n k))) (bias_at b t n j)
  rw [← es, ← inner_at]
  pointwise [gated, one]

end Cert.Reference9Ideal.Unit

end
-- ==== Proof.UnitEq.lean ====
module

/-
The S5's gated unit: the kernel's result is the reference's. The grid runs over the 16 places in a chunk.
-/

public import proofs.«01_k».proof.Proof.Gen.Kernel9Ideal.Value
public import proofs.«01_k».proof.Proof.UnitRef
public import Idealize.ShloMosaic.Lib.Pipeline.ValueKit
public import Idealize.ShloMosaic.Lib.Pipeline.ReadBack

@[expose] public section
set_option maxRecDepth 16384
noncomputable section
namespace Cert.Kernel9Ideal.Unit

open Cert.Kernel9Ideal Cert.Kernel9Ideal.Gen
open Cert.Reference9Ideal.Unit (gated gated_at channel score)
open Idealize.ShloMosaic Idealize.ShloMosaic.TcCoe Idealize.ShloMosaic.Tactic

theorem index_0 : ∀ t : Fin 16, win0_0.index t (0 : Fin 4) = 0 ∧ win0_0.index t (1 : Fin 4) = t.val ∧
    win0_0.index t (2 : Fin 4) = 0 ∧ win0_0.index t (3 : Fin 4) = 0 := by decide +kernel
theorem index_1 : ∀ t : Fin 16, win0_1.index t (0 : Fin 2) = 0 ∧ win0_1.index t (1 : Fin 2) = 0 := by decide +kernel
theorem index_2 : ∀ t : Fin 16, win0_2.index t (0 : Fin 2) = 0 ∧ win0_2.index t (1 : Fin 2) = 0 := by decide +kernel
theorem index_3 : ∀ t : Fin 16, win0_3.index t (0 : Fin 2) = 0 ∧ win0_3.index t (1 : Fin 2) = t.val := by decide +kernel

variable (m : (ℓ : Loc nD τ sig) → Buf (Elt Ideal) ℓ)

/-- The unit's argument: channel groups, places in a chunk, channels of a group, chunks. -/
abbrev inner (c : Dev nD) : Vec Ideal S64x16x16x1152 .bf16 := m (c.tc.loc main_arg0)
/-- The weight. -/
abbrev weight (c : Dev nD) : Vec Ideal S1x1024x1024 .f32 := m (c.tc.loc main_arg1)
/-- The bias. -/
abbrev bias (c : Dev nD) : Vec Ideal S1x1024 .f32 := m (c.tc.loc main_arg2)

theorem blk_0 (c : Dev nD) (t : Fin 16) (g : Fin 64) (r : Fin 16) (n : Fin 1152) :
    iblk m c 0 t (ix4 g 0 r n) = inner m c (ix4 g t r n) := by
  blk_simp [iblk]
  refine congrArg (m (c.tc.loc main_arg0)) ?_
  obtain ⟨e0, e1, e2, e3⟩ := index_0 t
  funext a
  match a with
  | 0 =>
    refine Fin.ext ?_
    blk_simp [e0]
  | 1 =>
    refine Fin.ext ?_
    blk_simp [e1]
    rfl
  | 2 =>
    refine Fin.ext ?_
    blk_simp [e2]
  | 3 =>
    refine Fin.ext ?_
    blk_simp [e3]

/-- The weight as the launch's host lines leave it: transposed and cast. -/
theorem host_weight (c : Dev nD) : V m c main_v2 = (truncf (F := Ideal) .bf16 (transpose S1024x1024 [1, 0]
    (shapeCast S1024x1024 (weight m c) shapeCasts_S1x1024x1024_S1024x1024) transposes_S1024x1024_S1024x1024_1_0) bitsLt_bf16_f32 :
    FVec Ideal S1024x1024 .bf16) := by
  unfold_abbrev_sides
  after_results
  rfl

/-- The bias as the launch's host lines leave it: a column. -/
theorem host_bias (c : Dev nD) : V m c main_v4 = shapeCast S1024x1 (shapeCast S1024 (bias m c) shapeCasts_S1x1024_S1024)
    shapeCasts_S1024_S1024x1 := by
  unfold_abbrev_sides
  after_results
  rfl

theorem blk_1 (c : Dev nD) (t : Fin 16) (j k : Fin 1024) : iblk m c 1 t (ix2 j k) = weight m c (ix3 0 k j) := by
  have e : iblk m c 1 t (ix2 j k) = V m c main_v2 (ix2 j k) := by
    unfold iblk
    refine congrArg (V m c main_v2) ?_
    obtain ⟨e0, e1⟩ := index_1 t
    funext a
    match a with
    | 0 =>
      refine Fin.ext ?_
      blk_simp [e0]
    | 1 =>
      refine Fin.ext ?_
      blk_simp [e1]
  rw [e, host_weight]
  pointwise []

theorem blk_2 (c : Dev nD) (t : Fin 16) (j : Fin 1024) : iblk m c 2 t (ix2 j 0) = bias m c (ix2 0 j) := by
  have e : iblk m c 2 t (ix2 j 0) = V m c main_v4 (ix2 j 0) := by
    unfold iblk
    refine congrArg (V m c main_v4) ?_
    obtain ⟨e0, e1⟩ := index_2 t
    funext a
    match a with
    | 0 =>
      refine Fin.ext ?_
      blk_simp [e0]
    | 1 =>
      refine Fin.ext ?_
      blk_simp [e1]
  rw [e, host_bias]
  pointwise []

/-- A channel of a block. -/
def row (v : Vec Ideal S64x1x16x1152 .bf16) (n : Fin 1152) (j : Fin 1024) : EReal :=
  v (ix4 ⟨j.val / 16, by omega⟩ 0 ⟨j.val % 16, by omega⟩ n)

theorem body_at (v : Vec Ideal S64x1x16x1152 .bf16) (w : Vec Ideal S1024x1024 .bf16) (b : Vec Ideal S1024x1 .f32) (n : Fin 1152)
    (j : Fin 1024) : k0_pay1 v w b (ix2 n j) =
      row v n j * Ideal.div 1 (1 + Ideal.exp (-((∑ k : Fin 1024, w (ix2 j k) * row v n k) + b (ix2 j 0)))) := by
  pointwise [k0_pay1, row]
  rfl

/-- The body's result at a point. -/
theorem point (v : Vec Ideal S64x1x16x1152 .bf16) (w : Vec Ideal S1024x1024 .bf16) (b : Vec Ideal S1024x1 .f32) :
    out0_3 v w b = k0_pay1 v w b := by
  unfold out0_3
  frame_out

theorem score_eq (c : Dev nD) (t : Fin 16) (n : Fin 1152) (j : Fin 1024) (v : Vec Ideal S64x1x16x1152 .bf16)
    (w : Vec Ideal S1024x1024 .bf16) (b : Vec Ideal S1024x1 .f32) (hv : v = iblk m c 0 t) (hw : w = iblk m c 1 t)
    (hb : b = iblk m c 2 t) :
    (∑ k : Fin 1024, w (ix2 j k) * row v n k) + b (ix2 j 0) = score (inner m c) (weight m c) (bias m c) t n j := by
  subst hv hw hb
  exact congrArg₂ (· + ·) (Finset.sum_congr rfl fun k _ => (mul_comm _ _).trans
    (congrArg₂ (· * ·) (blk_0 m c t _ _ n) (blk_1 m c t j k))) (blk_2 m c t j)

/-- The result at the end. -/
theorem gated_eq (c : Dev nD) : (dats m 0 c).arrAt 3 cfg0.N = gated (inner m c) (weight m c) (bias m c) := by
  refine (dats m 0 c).arrAt_eq_of_covers 3 _ (by decide +kernel) fun t hf y => ?_
  blk_simp
  rw [after0_3, point]
  obtain ⟨e0, e1⟩ := index_3 t
  obtain ⟨n, j, rfl⟩ : ∃ (n : Fin 1152) (j : Fin 1024), y = ix2 n j := ⟨y 0, y 1, by
    funext a
    match a with
    | 0 => rfl
    | 1 => rfl⟩
  have ht : t.val < 16 := t.isLt
  obtain ⟨R, hR⟩ : ∃ R : Fin 16384, t.val * 1024 + j.val = R.val := ⟨⟨_, by omega⟩, rfl⟩
  refine (body_at _ _ _ n j).trans (Eq.trans ?_ ((gated_at (inner m c) (weight m c) (bias m c) t n j R hR).symm.trans
    (congrArg (gated (inner m c) (weight m c) (bias m c)) ?_)))
  · exact congrArg₂ (fun u s => u * Ideal.div 1 (1 + Ideal.exp (-s))) (blk_0 m c t _ _ n) (score_eq m c t n j _ _ _ rfl rfl rfl)
  · funext a
    match a with
    | 0 =>
      refine Fin.ext ?_
      blk_simp [e0]
    | 1 =>
      refine Fin.ext ?_
      blk_simp [e1]
      exact hR.symm

end Cert.Kernel9Ideal.Unit
end
-- ==== Proof.UnitClaim.lean ====
/- The claims about the S5's gated unit. -/
module

public import proofs.«01_k».proof.Proof.UnitEq
public import proofs.«01_k».proof.Defs
public import proofs.«01_k».proof.Proof.Gen.Kernel9
public import Idealize.ShloMosaic.Adequacy
public import Idealize.ShloMosaic.Init

@[expose] public section

set_option maxRecDepth 16384

noncomputable section

namespace Cert.Proof.Unit

open Idealize.ShloMosaic Idealize.SL.Sem

/-- The frame, said of the text that is read at the ideal instance, over words. -/
def Quiet : Prop :=
  ∀ (m : (ℓ : Loc Cert.Kernel9Ideal.nD Cert.Kernel9Ideal.τ Cert.Kernel9Ideal.sig) → Buf (Elt Bits) ℓ)
    (ρ : Dev Cert.Kernel9Ideal.nD → PrngReg), True →
    θ_run (Cert.Kernel9Ideal.defs (F := Bits)) (onTc (τ := Cert.Kernel9Ideal.τ) (Cert.Kernel9Ideal.main (F := Bits))) ⟨m, fun _ => 0, ρ⟩ (fun r => (∀ c : Dev Cert.Kernel9Ideal.nD,
      r.2.mem (c.tc.loc Cert.Kernel9Ideal.main_arg0) = m (c.tc.loc Cert.Kernel9Ideal.main_arg0)
      ∧ r.2.mem (c.tc.loc Cert.Kernel9Ideal.main_arg1) = m (c.tc.loc Cert.Kernel9Ideal.main_arg1)
      ∧ r.2.mem (c.tc.loc Cert.Kernel9Ideal.main_arg2) = m (c.tc.loc Cert.Kernel9Ideal.main_arg2))
      ∧ r.2.sem = fun _ => 0)

/-- The two texts are one. -/
theorem same : Quiet = Cert.quiescent_Kernel9 (hKernel9 := Cert.Kernel9.Gen.facts) := by
  sl_kernel_rfl

/-- The kernel over words ends with its arguments unchanged and every counter at zero. -/
theorem frame_kernel : Cert.quiescent_Kernel9 (hKernel9 := Cert.Kernel9.Gen.facts) :=
  same ▸ fun m ρ _ => Cert.Kernel9Ideal.Gen.frame (F := Bits) m ρ

/-- The idealized kernel ends with its arguments unchanged and every counter at zero. -/
theorem frame_ideal : Cert.quiescent_Kernel9Ideal (hKernel9Ideal := Cert.Kernel9Ideal.Gen.facts) :=
  fun m ρ _ => Cert.Kernel9Ideal.Gen.frame m ρ

/-- The reference ends with its arguments unchanged; it has no counter. -/
theorem frame_reference : Cert.quiescent_Reference9Ideal (hReference9Ideal := Cert.Reference9Ideal.Gen.facts) :=
  fun m ρ _ => (θ_run Cert.Reference9Ideal.defs _ _).mono
    (fun r h => ⟨fun c => (h c).2, sem_eq_zero_of_no_sems (by decide) r.2⟩) (Cert.Reference9Ideal.Value.run m ρ)

/-- The kernel's result is the reference's. -/
theorem equal : Cert.algebraic_Kernel9Ideal_Reference9Ideal (hKernel9Ideal := Cert.Kernel9Ideal.Gen.facts)
    (hReference9Ideal := Cert.Reference9Ideal.Gen.facts) := by
  intro m g m' g' _ he
  refine ⟨fun c => (Cert.Kernel9Ideal.Gen.dats m 0 c).arrAt 3 Cert.Kernel9Ideal.cfg0.N,
    Cert.Kernel9Ideal.Value.run_blocks m g,
    (θ_run Cert.Reference9Ideal.defs _ _).mono (fun r h c => ?_) (Cert.Reference9Ideal.Value.run m' g')⟩
  obtain ⟨h0, hk⟩ := h c
  refine ⟨h0.trans ?_, hk⟩
  rw [(he c).1, (he c).2.1, (he c).2.2]
  exact (Cert.Kernel9Ideal.Unit.gated_eq m c).symm

end Cert.Proof.Unit

end
-- ==== Proof.NormPerm.lean ====
module

/-
The matrix that brings a block's rows into the order of the places in a chunk, from the host code of the first norm.
-/

public import proofs.«01_k».proof.Proof.Gen.Kernel11Ideal.Value
public import proofs.«01_k».proof.Proof.JoinPerm

@[expose] public section
set_option maxRecDepth 16384
noncomputable section
namespace Cert.Kernel11Ideal.Norm

open Cert.Kernel11Ideal Cert.Kernel11Ideal.Gen
open Cert.Kernel10Ideal.Join (quot left source source_at)
open Idealize.ShloMosaic Idealize.ShloMosaic.TcCoe Idealize.ShloMosaic.Tactic

theorem after_two (l k : List (HloOp τ sig (Elt Ideal))) (W : Valuation τ sig (Elt Ideal)) :
    StableHlo.after (l ++ k) W = StableHlo.after k (StableHlo.after l W) := by
  induction l generalizing W with
  | nil => rfl
  | cons o l ih => exact ih _

variable (W : Valuation τ sig (Elt Ideal))

/-- The matrix from the row each column takes its one from. -/
def permOf (v : Vec Ideal S512 .i32) : FVec Ideal S512x512 .bf16 :=
  truncf .bf16 (uitofp (F := Ideal) .f32 (cmpi .eq
    (broadcastInDim S512x512 ![0, 1] bcast_S1x512_S512x512_0_1 (broadcastInDim S1x512 ![1] bcast_S512_S1x512_1 v))
    (broadcastInDim S512x512 ![0, 1] bcast_S512x1_S512x512_0_1
      (broadcastInDim S512x1 ![0] bcast_S512_S512x1_0 (iotaInDim S512 32 0))))) bitsLt_bf16_f32

theorem read4 : StableHlo.after (hostOps0_4 (F := Ideal)) W (Proc.devRef .tc main_v14) =
    permOf (addi (W (Proc.devRef .tc main_v3)) (W (Proc.devRef .tc main_v4))) := by
  after_reads_simp
  rfl

theorem gain4 : StableHlo.after (hostOps0_4 (F := Ideal)) W (Proc.devRef .tc main_v13) =
    shapeCast S1x2048 (W (Proc.devRef .tc main_arg3) : Vec Ideal S2048 .f32) shapeCasts_S2048_S1x2048 := by
  after_reads_simp
  rfl

theorem read3 : StableHlo.after (hostOps0_3 (F := Ideal)) W (Proc.devRef .tc main_v4) =
    quot (W (Proc.devRef .tc main_v0)) (W (Proc.devRef .tc main_c_1)) := by
  after_reads_simp
  rfl

theorem keep3 : StableHlo.after (hostOps0_3 (F := Ideal)) W (Proc.devRef .tc main_v3) = W (Proc.devRef .tc main_v3) := by
  after_reads_simp

theorem gain3 : StableHlo.after (hostOps0_3 (F := Ideal)) W (Proc.devRef .tc main_arg3) = W (Proc.devRef .tc main_arg3) := by
  after_reads_simp

theorem read2 : StableHlo.after (hostOps0_2 (F := Ideal)) W (Proc.devRef .tc main_v3) =
    (muli (W (Proc.devRef .tc main_v1)) (broadcastInDim S512 ![] bcast_S_S512 (constantI S_ 32 32#32)) : Vec Ideal S512 .i32) := by
  after_reads_simp

theorem const2 : StableHlo.after (hostOps0_2 (F := Ideal)) W (Proc.devRef .tc main_c_1) = (constantI S_ 32 16#32 : Vec Ideal S_ .i32) := by
  after_reads_simp

theorem keep2 : StableHlo.after (hostOps0_2 (F := Ideal)) W (Proc.devRef .tc main_v0) = W (Proc.devRef .tc main_v0) := by
  after_reads_simp

theorem gain2 : StableHlo.after (hostOps0_2 (F := Ideal)) W (Proc.devRef .tc main_arg3) = W (Proc.devRef .tc main_arg3) := by
  after_reads_simp

theorem read1 : StableHlo.after (hostOps0_1 (F := Ideal)) W (Proc.devRef .tc main_v1) =
    left (W (Proc.devRef .tc main_v0)) (W (Proc.devRef .tc main_c)) := by
  after_reads_simp
  simp only [StableHlo.TRef.ofBuf_toBuf, id]
  rfl

theorem keep1 : StableHlo.after (hostOps0_1 (F := Ideal)) W (Proc.devRef .tc main_v0) = W (Proc.devRef .tc main_v0) := by
  after_reads_simp

theorem gain1 : StableHlo.after (hostOps0_1 (F := Ideal)) W (Proc.devRef .tc main_arg3) = W (Proc.devRef .tc main_arg3) := by
  after_reads_simp

theorem read0 : StableHlo.after (hostOps0 (F := Ideal)) W (Proc.devRef .tc main_v0) = (iotaInDim S512 32 0 : Vec Ideal S512 .i32) := by
  after_reads_simp

theorem const0 : StableHlo.after (hostOps0 (F := Ideal)) W (Proc.devRef .tc main_c) = (constantI S_ 32 16#32 : Vec Ideal S_ .i32) := by
  after_reads_simp

theorem gain0 : StableHlo.after (hostOps0 (F := Ideal)) W (Proc.devRef .tc main_arg3) = W (Proc.devRef .tc main_arg3) := by
  after_reads_simp

theorem parts : List.flatten [hostOps0 (F := Ideal), hostOps0_1, hostOps0_2, hostOps0_3, hostOps0_4] =
    hostOps0 ++ (hostOps0_1 ++ (hostOps0_2 ++ (hostOps0_3 ++ hostOps0_4))) := by
  simp only [List.flatten_cons, List.flatten_nil, List.append_nil]

variable (m : (ℓ : Loc nD τ sig) → Buf (Elt Ideal) ℓ)

/-- The host code leaves the matrix. -/
theorem perm_read (c : Dev nD) : V m c main_v14 = permOf source := by
  show StableHlo.after (List.flatten [hostOps0 (F := Ideal), hostOps0_1, hostOps0_2, hostOps0_3, hostOps0_4])
    (fun b => m (c, b)) (Proc.devRef .tc main_v14) = _
  rw [parts, after_two, after_two, after_two, after_two, read4, keep3, read3, read2, const2, keep2, read1, keep1, read0, const0]
  rfl

/-- And the norm's weight as a row. -/
theorem gain_row (c : Dev nD) : V m c main_v13 =
    shapeCast S1x2048 (m (c, Proc.devRef .tc main_arg3) : Vec Ideal S2048 .f32) shapeCasts_S2048_S1x2048 := by
  show StableHlo.after (List.flatten [hostOps0 (F := Ideal), hostOps0_1, hostOps0_2, hostOps0_3, hostOps0_4])
    (fun b => m (c, b)) (Proc.devRef .tc main_v13) = _
  rw [parts, after_two, after_two, after_two, after_two, gain4, gain3, gain2, gain1, gain0]

/-- The matrix at an index: it is the other call's, transposed. -/
theorem perm_at (q r : Fin 512) : permOf source (ix2 q r) = if q.val = r.val % 16 * 32 + r.val / 16 then 1 else 0 := by
  refine Eq.trans ?_ (Cert.Kernel10Ideal.Join.perm_at r q)
  pointwise [permOf, Cert.Kernel10Ideal.Join.permOf]

end Cert.Kernel11Ideal.Norm

end
-- ==== Proof.NormRef.lean ====
module

/-
The reference of the first layer's norm and modulation, at an element of each of its two results.
-/

public import proofs.«01_k».proof.Proof.Gen.Reference11Ideal.Run
public import proofs.«01_k».proof.Proof.JoinRef

@[expose] public section
set_option maxRecDepth 16384
noncomputable section
namespace Cert.Reference11Ideal.Norm

open Cert.Reference11Ideal Cert.Reference11Ideal.Gen
open Cert.Reference4Ideal.Next (normLat normCtx normLat_at normCtx_at normed parts_at)
open Idealize.ShloMosaic Idealize.ShloMosaic.TcCoe Idealize.ShloMosaic.Tactic

variable (xl : FVec Ideal S16384x2048 .f32) (xc : FVec Ideal S2048x2048 .f32) (mod : FVec Ideal S16x1x12288 .f32)
  (g : FVec Ideal S2048 .f32)

/-- The first result: the latents' rows, then the context's. -/
def rows : FVec Ideal S18432x2048 .bf16 :=
  concatenate S18432x2048 0
    [⟨S16384x2048, truncf .bf16 (shapeCast _ (normLat (shapeCast _ xl shapeCasts_S16384x2048_S8x2048x2048) mod g)
      shapeCasts_S8x2048x2048_S16384x2048) bitsLt_bf16_f32⟩,
    ⟨S2048x2048, truncf .bf16 (shapeCast _ (normCtx (shapeCast _ xc shapeCasts_S2048x2048_S8x256x2048) mod g)
      shapeCasts_S8x256x2048_S2048x2048) bitsLt_bf16_f32⟩]
    concatenates_S16384x2048_S2048x2048_S18432x2048_d0

/-- The second: the same rows, the place in a chunk first. -/
def places : FVec Ideal S16x1152x2048 .bf16 :=
  transpose S16x1152x2048 [1, 0, 2] (shapeCast _ (rows xl xc mod g) shapeCasts_S18432x2048_S1152x16x2048)
    transposes_S1152x16x2048_S16x1152x2048_1_0_2

theorem latent_at (b : Fin 8) (s X : Fin 2048) (R : Fin 18432) (hR : b.val * 2048 + s.val = R.val) :
    (shapeCast S8x2048x2048 xl shapeCasts_S16384x2048_S8x2048x2048 : FVec Ideal S8x2048x2048 .f32) (ix3 b s X) =
      Cert.Reference10Ideal.Join.residual xl xc R X := by
  unfold Cert.Reference10Ideal.Join.residual
  rw [dif_pos (show R.val < 16384 by omega), show (⟨R.val, by omega⟩ : Fin 16384) = ⟨b.val * 2048 + s.val, by omega⟩ from Fin.ext hR.symm]
  pointwise []

theorem context_at (b : Fin 8) (s : Fin 256) (X : Fin 2048) (R : Fin 18432) (hR : 16384 + (b.val * 256 + s.val) = R.val) :
    (shapeCast S8x256x2048 xc shapeCasts_S2048x2048_S8x256x2048 : FVec Ideal S8x256x2048 .f32) (ix3 b s X) =
      Cert.Reference10Ideal.Join.residual xl xc R X := by
  unfold Cert.Reference10Ideal.Join.residual
  rw [dif_neg (show ¬ R.val < 16384 by omega), show (⟨R.val - 16384, by omega⟩ : Fin 2048) = ⟨b.val * 256 + s.val, by omega⟩ from
    Fin.ext (by dsimp only; omega)]
  pointwise []

theorem rows_at (R : Fin 18432) (X : Fin 2048) :
    rows xl xc mod g (ix2 R X) = normed (Cert.Reference10Ideal.Join.residual xl xc R) mod g R X :=
  parts_at (normLat (shapeCast _ xl shapeCasts_S16384x2048_S8x2048x2048) mod g)
    (normCtx (shapeCast _ xc shapeCasts_S2048x2048_S8x256x2048) mod g) R X _
    (fun b s e => by rw [normLat_at _ _ _ b s X R e, funext fun k => latent_at xl xc b s k R e])
    fun b s e => by rw [normCtx_at _ _ _ b s X R e, funext fun k => context_at xl xc b s k R e]

theorem places_at (p : Fin 16) (Q : Fin 1152) (X : Fin 2048) (R : Fin 18432) (hR : Q.val * 16 + p.val = R.val) :
    places xl xc mod g (ix3 p Q X) = rows xl xc mod g (ix2 R X) := by
  obtain ⟨R, h⟩ := R
  subst hR
  pointwise [places]

end Cert.Reference11Ideal.Norm

end
-- ==== Proof.NormEq.lean ====
module

/-
The first layer's norm and modulation: the kernel's two results are the reference's. The grid runs over 36 blocks of rows,
32 of the latents and four of the context.
-/

public import proofs.«01_k».proof.Proof.NormPerm
public import proofs.«01_k».proof.Proof.NormRef
public import Idealize.ShloMosaic.Lib.Pipeline.ReadBack

@[expose] public section
set_option maxRecDepth 16384
noncomputable section
namespace Cert.Kernel11Ideal.Norm

open Cert.Kernel11Ideal Cert.Kernel11Ideal.Gen
open Cert.Kernel10Ideal.Join (source)
open Cert.Reference3Ideal.Tail (inverseRoot)
open Cert.Reference4Ideal.Next (batch normed)
open Cert.Reference11Ideal.Norm (rows places rows_at places_at)
open Idealize.ShloMosaic Idealize.ShloMosaic.TcCoe Idealize.ShloMosaic.Tactic

theorem index_0 : ∀ t : Fin 36, win0_0.index t (0 : Fin 2) = min t.val 31 ∧ win0_0.index t (1 : Fin 2) = 0 := by decide +kernel
theorem index_1 : ∀ t : Fin 36, win0_1.index t (0 : Fin 2) = t.val - 32 ∧ win0_1.index t (1 : Fin 2) = 0 := by decide +kernel
theorem index_2 : ∀ t : Fin 36, win0_2.index t (0 : Fin 3) = min (t.val / 4) 8 ∧ win0_2.index t (1 : Fin 3) = 0 ∧
    win0_2.index t (2 : Fin 3) = 0 := by decide +kernel
theorem index_3 : ∀ t : Fin 36, win0_3.index t (0 : Fin 3) = min (t.val / 4) 8 ∧ win0_3.index t (1 : Fin 3) = 0 ∧
    win0_3.index t (2 : Fin 3) = 1 := by decide +kernel
theorem index_4 : ∀ t : Fin 36, win0_4.index t (0 : Fin 2) = 0 ∧ win0_4.index t (1 : Fin 2) = 0 := by decide +kernel
theorem index_5 : ∀ t : Fin 36, win0_5.index t (0 : Fin 2) = 0 ∧ win0_5.index t (1 : Fin 2) = 0 := by decide +kernel
theorem index_6 : ∀ t : Fin 36, win0_6.index t (0 : Fin 2) = t.val ∧ win0_6.index t (1 : Fin 2) = 0 := by decide +kernel
theorem index_7 : ∀ t : Fin 36, win0_7.index t (0 : Fin 3) = 0 ∧ win0_7.index t (1 : Fin 3) = t.val ∧
    win0_7.index t (2 : Fin 3) = 0 := by decide +kernel

/-- The body takes the latents at the first 32 points. -/
theorem latent_points : ∀ t : Fin 36, Scalar.cmpi .slt (BitVec.ofNat 32 (grid0.coords t 0).val) 32#32 =
    if t.val < 32 then 1#1 else 0#1 := by decide +kernel

variable (m : (ℓ : Loc nD τ sig) → Buf (Elt Ideal) ℓ)

/-- The latents. -/
abbrev lat (c : Dev nD) : Vec Ideal S16384x2048 .f32 := m (c.tc.loc main_arg0)
/-- The context. -/
abbrev ctx (c : Dev nD) : Vec Ideal S2048x2048 .f32 := m (c.tc.loc main_arg1)
/-- The modulation. -/
abbrev modulation (c : Dev nD) : Vec Ideal S16x1x12288 .f32 := m (c.tc.loc main_arg2)
/-- The norm's gain. -/
abbrev gain (c : Dev nD) : Vec Ideal S2048 .f32 := m (c.tc.loc main_arg3)

theorem blk_0 (c : Dev nD) (t : Fin 36) (r : Fin 512) (X : Fin 2048) (R : Fin 16384) (hR : R.val = min t.val 31 * 512 + r.val) :
    iblk m c 0 t (ix2 r X) = lat m c (ix2 R X) := by
  blk_simp [iblk]
  refine congrArg (m (c.tc.loc main_arg0)) ?_
  obtain ⟨e0, e1⟩ := index_0 t
  funext a
  match a with
  | 0 =>
    refine Fin.ext ?_
    blk_simp [e0]
    exact hR.symm
  | 1 =>
    refine Fin.ext ?_
    blk_simp [e1]

theorem blk_1 (c : Dev nD) (t : Fin 36) (r : Fin 512) (X : Fin 2048) (R : Fin 2048) (hR : R.val = (t.val - 32) * 512 + r.val) :
    iblk m c 1 t (ix2 r X) = ctx m c (ix2 R X) := by
  blk_simp [iblk]
  refine congrArg (m (c.tc.loc main_arg1)) ?_
  obtain ⟨e0, e1⟩ := index_1 t
  funext a
  match a with
  | 0 =>
    refine Fin.ext ?_
    blk_simp [e0]
    exact hR.symm
  | 1 =>
    refine Fin.ext ?_
    blk_simp [e1]

theorem blk_2 (c : Dev nD) (t : Fin 36) (X : Fin 2048) (B : Fin 16) (G : Fin 12288) (hB : B.val = min (t.val / 4) 8)
    (hG : G.val = X.val) : iblk m c 2 t (ix3 0 0 X) = modulation m c (ix3 B 0 G) := by
  blk_simp [iblk]
  refine congrArg (m (c.tc.loc main_arg2)) ?_
  obtain ⟨e0, e1, e2⟩ := index_2 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_3 (c : Dev nD) (t : Fin 36) (X : Fin 2048) (B : Fin 16) (G : Fin 12288) (hB : B.val = min (t.val / 4) 8)
    (hG : G.val = 2048 + X.val) : iblk m c 3 t (ix3 0 0 X) = modulation m c (ix3 B 0 G) := by
  blk_simp [iblk]
  refine congrArg (m (c.tc.loc main_arg2)) ?_
  obtain ⟨e0, e1, e2⟩ := index_3 t
  funext a
  match a with
  | 0 =>
    refine Fin.ext ?_
    blk_simp [e0]
    exact hB.symm
  | 1 =>
    refine Fin.ext ?_
    blk_simp [e1]
  | 2 =>
    refine Fin.ext ?_
    blk_simp [e2]
    exact hG.symm

theorem blk_4 (c : Dev nD) (t : Fin 36) (X : Fin 2048) : iblk m c 4 t (ix2 0 X) = gain m c (ix1 X) := by
  have e : iblk m c 4 t (ix2 0 X) = V m c main_v13 (ix2 0 X) := by
    unfold iblk
    refine congrArg (V m c main_v13) ?_
    obtain ⟨e0, e1⟩ := index_4 t
    funext a
    match a with
    | 0 =>
      refine Fin.ext ?_
      blk_simp [e0]
    | 1 =>
      refine Fin.ext ?_
      blk_simp [e1]
  rw [e, gain_row]
  pointwise []

theorem blk_5 (c : Dev nD) (t : Fin 36) (q r : Fin 512) : iblk m c 5 t (ix2 q r) = permOf source (ix2 q r) := by
  have e : iblk m c 5 t (ix2 q r) = V m c main_v14 (ix2 q r) := by
    unfold iblk
    refine congrArg (V m c main_v14) ?_
    obtain ⟨e0, e1⟩ := index_5 t
    funext a
    match a with
    | 0 =>
      refine Fin.ext ?_
      blk_simp [e0]
    | 1 =>
      refine Fin.ext ?_
      blk_simp [e1]
  rw [e, perm_read]

/-- The rows that a point takes. -/
def taken (c : Dev nD) (t : Fin 36) : Vec Ideal S512x2048 .f32 :=
  Scalar.select (Scalar.cmpi .slt (BitVec.ofNat 32 (grid0.coords t 0).val) 32#32) (iblk m c 0 t) (iblk m c 1 t)

theorem taken_at (c : Dev nD) (t : Fin 36) (r : Fin 512) (X : Fin 2048) (R : Fin 18432) (hR : R.val = t.val * 512 + r.val) :
    taken m c t (ix2 r X) = Cert.Reference10Ideal.Join.residual (lat m c) (ctx m c) R X := by
  unfold taken Cert.Reference10Ideal.Join.residual
  rw [latent_points]
  by_cases h : t.val < 32
  · rw [if_pos h, dif_pos (by omega)]
    exact blk_0 m c t r X _ (by show R.val = min t.val 31 * 512 + r.val; omega)
  · rw [if_neg h, dif_neg (by omega)]
    exact blk_1 m c t r X _ (by show R.val - 16384 = (t.val - 32) * 512 + r.val; omega)

/-- The rows' norm and modulation. -/
theorem body_at (i : grid0.Coords) (v w y : Vec Ideal S512x2048 .f32) (g : Vec Ideal S1x2048 .f32) (s a : Vec Ideal S1x1x2048 .f32)
    (hy : Scalar.select (Scalar.cmpi .slt (BitVec.ofNat 32 (i 0).val) 32#32) v w = y) (r : Fin 512) (X : Fin 2048) :
    k0_pay1 i v w g s a (ix2 r X) = y (ix2 r X) * inverseRoot (fun k => y (ix2 r k)) * g (ix2 0 X) *
      (Ideal.ofBits .f32 0x3F800000#32 + s (ix3 0 0 X)) + a (ix3 0 0 X) := by
  unfold k0_pay1
  simp only [hy]
  pointwise []
  rfl

/-- A point's rows, at an index. -/
theorem rows_of (c : Dev nD) (t : Fin 36) (r : Fin 512) (X : Fin 2048) (R : Fin 18432) (hR : R.val = t.val * 512 + r.val) :
    k0_pay1 (grid0.coords t) (iblk m c 0 t) (iblk m c 1 t) (iblk m c 4 t) (iblk m c 3 t) (iblk m c 2 t) (ix2 r X) =
      rows (lat m c) (ctx m c) (modulation m c) (gain m c) (ix2 R X) := by
  have hB : (batch R).val = min (t.val / 4) 8 := by
    show min (R.val / 2048) 8 = min (t.val / 4) 8
    omega
  rw [rows_at, body_at _ _ _ (taken m c t) _ _ _ rfl r X, taken_at m c t r X R hR, funext fun k => taken_at m c t r k R hR, blk_4,
    blk_3 m c t X (batch R) ⟨2048 + X.val, by omega⟩ hB rfl, blk_2 m c t X (batch R) ⟨X.val, by omega⟩ hB rfl]
  rfl

/-- The product with the matrix brings the rows into the other order. -/
theorem ordered_at (i : grid0.Coords) (v w : Vec Ideal S512x2048 .f32) (g : Vec Ideal S1x2048 .f32) (s a : Vec Ideal S1x1x2048 .f32)
    (u : Vec Ideal S512x512 .bf16) (hu : ∀ q r : Fin 512, u (ix2 q r) = permOf source (ix2 q r)) (p : Fin 16) (r : Fin 32)
    (X : Fin 2048) : k0_pay2 i v w g s a u (ix3 p r X) = k0_pay1 i v w g s a (ix2 ⟨r.val * 16 + p.val, by omega⟩ X) := by
  have e : k0_pay2 i v w g s a u (ix3 p r X) =
      ∑ k : Fin 512, u (ix2 ⟨p.val * 32 + r.val, by omega⟩ k) * k0_pay1 i v w g s a (ix2 k X) := by
    unfold k0_pay2
    generalize k0_pay1 i v w g s a = h
    pointwise []
  rw [e, Finset.sum_eq_single ⟨r.val * 16 + p.val, by omega⟩]
  · rw [hu, perm_at, if_pos (by dsimp only; omega), one_mul]
  · intro k _ hk
    rw [hu, perm_at, if_neg fun h => hk (Fin.ext (by dsimp only at h ⊢; omega)), zero_mul]
  · exact fun h => absurd (Finset.mem_univ _) h

theorem point_rows (i : grid0.Coords) (v w : Vec Ideal S512x2048 .f32) (a s : Vec Ideal S1x1x2048 .f32) (g : Vec Ideal S1x2048 .f32)
    (u : Vec Ideal S512x512 .bf16) : out0_6 i v w a s g u = k0_pay1 i v w g s a := by
  unfold out0_6
  frame_out

theorem point_places (i : grid0.Coords) (v w : Vec Ideal S512x2048 .f32) (a s : Vec Ideal S1x1x2048 .f32) (g : Vec Ideal S1x2048 .f32)
    (u : Vec Ideal S512x512 .bf16) : out0_7 i v w a s g u = k0_pay2 i v w g s a u := by
  unfold out0_7
  frame_out

/-- The first result at the end. -/
theorem rows_eq (c : Dev nD) : (dats m 0 c).arrAt 6 cfg0.N = rows (lat m c) (ctx m c) (modulation m c) (gain m c) := by
  refine (dats m 0 c).arrAt_eq_of_covers 6 _ (by decide +kernel) fun t hf y => ?_
  blk_simp
  rw [after0_6, point_rows]
  obtain ⟨e0, e1⟩ := index_6 t
  obtain ⟨r, X, rfl⟩ : ∃ (r : Fin 512) (X : Fin 2048), y = ix2 r X := ⟨y 0, y 1, by
    funext a
    match a with
    | 0 => rfl
    | 1 => rfl⟩
  have ht : t.val < 36 := t.isLt
  obtain ⟨R, hR⟩ : ∃ R : Fin 18432, R.val = t.val * 512 + r.val := ⟨⟨_, by omega⟩, rfl⟩
  refine (rows_of m c t r X R hR).trans (congrArg (rows (lat m c) (ctx m c) (modulation m c) (gain m c)) ?_)
  funext a
  match a with
  | 0 =>
    refine Fin.ext ?_
    blk_simp [e0]
    exact hR
  | 1 =>
    refine Fin.ext ?_
    blk_simp [e1]

/-- The second result at the end. -/
theorem places_eq (c : Dev nD) : (dats m 0 c).arrAt 7 cfg0.N = places (lat m c) (ctx m c) (modulation m c) (gain m c) := by
  refine (dats m 0 c).arrAt_eq_of_covers 7 _ (by decide +kernel) fun t hf y => ?_
  blk_simp
  rw [after0_7, point_places]
  obtain ⟨e0, e1, e2⟩ := index_7 t
  obtain ⟨p, r, X, rfl⟩ : ∃ (p : Fin 16) (r : Fin 32) (X : Fin 2048), y = ix3 p r X := ⟨y 0, y 1, y 2, by
    funext a
    match a with
    | 0 => rfl
    | 1 => rfl
    | 2 => rfl⟩
  have ht : t.val < 36 := t.isLt
  obtain ⟨Q, hQ⟩ : ∃ Q : Fin 1152, Q.val = t.val * 32 + r.val := ⟨⟨_, by omega⟩, rfl⟩
  obtain ⟨R, hR⟩ : ∃ R : Fin 18432, Q.val * 16 + p.val = R.val := ⟨⟨_, by omega⟩, rfl⟩
  refine (ordered_at _ _ _ _ _ _ _ (blk_5 m c t) p r X).trans ((rows_of m c t _ X R (by dsimp only; omega)).trans
    ((places_at (lat m c) (ctx m c) (modulation m c) (gain m c) p Q X R hR).symm.trans
      (congrArg (places (lat m c) (ctx m c) (modulation m c) (gain m c)) ?_)))
  funext a
  match a with
  | 0 =>
    refine Fin.ext ?_
    blk_simp [e0]
  | 1 =>
    refine Fin.ext ?_
    blk_simp [e1]
    exact hQ
  | 2 =>
    refine Fin.ext ?_
    blk_simp [e2]

end Cert.Kernel11Ideal.Norm
end
-- ==== Proof.NormClaim.lean ====
/- The claims about the first layer's norm and modulation. -/
module

public import proofs.«01_k».proof.Proof.NormEq
public import proofs.«01_k».proof.Defs
public import proofs.«01_k».proof.Proof.Gen.Kernel11
public import Idealize.ShloMosaic.Adequacy
public import Idealize.ShloMosaic.Init

@[expose] public section

set_option maxRecDepth 16384

noncomputable section

namespace Cert.Proof.Norm

open Idealize.ShloMosaic Idealize.SL.Sem

/-- The frame, said of the text that is read at the ideal instance, over words. -/
def Quiet : Prop :=
  ∀ (m : (ℓ : Loc Cert.Kernel11Ideal.nD Cert.Kernel11Ideal.τ Cert.Kernel11Ideal.sig) → Buf (Elt Bits) ℓ)
    (ρ : Dev Cert.Kernel11Ideal.nD → PrngReg), True →
    θ_run (Cert.Kernel11Ideal.defs (F := Bits)) (onTc (τ := Cert.Kernel11Ideal.τ) (Cert.Kernel11Ideal.main (F := Bits))) ⟨m, fun _ => 0, ρ⟩ (fun r => (∀ c : Dev Cert.Kernel11Ideal.nD,
      r.2.mem (c.tc.loc Cert.Kernel11Ideal.main_arg0) = m (c.tc.loc Cert.Kernel11Ideal.main_arg0)
      ∧ r.2.mem (c.tc.loc Cert.Kernel11Ideal.main_arg1) = m (c.tc.loc Cert.Kernel11Ideal.main_arg1)
      ∧ r.2.mem (c.tc.loc Cert.Kernel11Ideal.main_arg2) = m (c.tc.loc Cert.Kernel11Ideal.main_arg2)
      ∧ r.2.mem (c.tc.loc Cert.Kernel11Ideal.main_arg3) = m (c.tc.loc Cert.Kernel11Ideal.main_arg3))
      ∧ r.2.sem = fun _ => 0)

/-- The two texts are one. -/
theorem same : Quiet = Cert.quiescent_Kernel11 (hKernel11 := Cert.Kernel11.Gen.facts) := by
  sl_kernel_rfl

/-- The kernel over words ends with its arguments unchanged and every counter at zero. -/
theorem frame_kernel : Cert.quiescent_Kernel11 (hKernel11 := Cert.Kernel11.Gen.facts) :=
  same ▸ fun m ρ _ => Cert.Kernel11Ideal.Gen.frame (F := Bits) m ρ

/-- The idealized kernel ends with its arguments unchanged and every counter at zero. -/
theorem frame_ideal : Cert.quiescent_Kernel11Ideal (hKernel11Ideal := Cert.Kernel11Ideal.Gen.facts) :=
  fun m ρ _ => Cert.Kernel11Ideal.Gen.frame m ρ

/-- The reference ends with its arguments unchanged; it has no counter. -/
theorem reference_quiet (m : (ℓ : Loc Cert.Reference11Ideal.nD Cert.Reference11Ideal.τ Cert.Reference11Ideal.sig) → Buf (Elt Ideal) ℓ)
    (ρ : Dev Cert.Reference11Ideal.nD → PrngReg) :
    θ_run Cert.Reference11Ideal.defs (onTc (τ := Cert.Reference11Ideal.τ) (Cert.Reference11Ideal.main (F := Ideal))) ⟨m, fun _ => 0, ρ⟩ (fun r => (∀ c : Dev Cert.Reference11Ideal.nD,
      r.2.mem (c.tc.loc Cert.Reference11Ideal.main_arg0) = m (c.tc.loc Cert.Reference11Ideal.main_arg0)
      ∧ r.2.mem (c.tc.loc Cert.Reference11Ideal.main_arg1) = m (c.tc.loc Cert.Reference11Ideal.main_arg1)
      ∧ r.2.mem (c.tc.loc Cert.Reference11Ideal.main_arg2) = m (c.tc.loc Cert.Reference11Ideal.main_arg2)
      ∧ r.2.mem (c.tc.loc Cert.Reference11Ideal.main_arg3) = m (c.tc.loc Cert.Reference11Ideal.main_arg3))
      ∧ r.2.sem = fun _ => 0) :=
  (θ_run Cert.Reference11Ideal.defs _ _).mono (fun r h => ⟨fun c => (h c).2.2, sem_eq_zero_of_no_sems (by decide) r.2⟩)
    (Cert.Reference11Ideal.Value.run m ρ)

/-- The kernel's results are the reference's, at any arguments. -/
theorem equal : Cert.algebraic_Kernel11Ideal_Reference11Ideal (hKernel11Ideal := Cert.Kernel11Ideal.Gen.facts)
    (hReference11Ideal := Cert.Reference11Ideal.Gen.facts) := by
  intro m g m' g' hp he
  refine ⟨fun c => (Cert.Kernel11Ideal.Gen.dats m 0 c).arrAt 6 Cert.Kernel11Ideal.cfg0.N,
    fun c => (Cert.Kernel11Ideal.Gen.dats m 0 c).arrAt 7 Cert.Kernel11Ideal.cfg0.N,
    Cert.Kernel11Ideal.Value.run_blocks m g,
    (θ_run Cert.Reference11Ideal.defs _ _).mono (fun r h c => ?_) (Cert.Reference11Ideal.Value.run m' g')⟩
  obtain ⟨h0, h1, hk⟩ := h c
  refine ⟨h0.trans ?_, h1.trans ?_, hk⟩
  · rw [(he c).1, (he c).2.1, (he c).2.2.1, (he c).2.2.2]
    exact (Cert.Kernel11Ideal.Norm.rows_eq m c).symm
  · rw [(he c).1, (he c).2.1, (he c).2.2.1, (he c).2.2.2]
    exact (Cert.Kernel11Ideal.Norm.places_eq m c).symm

end Cert.Proof.Norm

end
-- ==== Proof.AdaRef.lean ====
module

/-
The reference of the two layers' modulation, at an element of its result.
-/

public import proofs.«01_k».proof.Proof.Gen.Reference12Ideal.Run
public import Idealize.ShloMosaic.Lib.Pointwise

@[expose] public section
set_option maxRecDepth 16384
noncomputable section
namespace Cert.Reference12Ideal.Ada

open Cert.Reference12Ideal Cert.Reference12Ideal.Gen
open Idealize.ShloMosaic Idealize.ShloMosaic.TcCoe Idealize.ShloMosaic.Tactic

def one : FVec Ideal S16x2048 .f32 := broadcastInDim S16x2048 ![] bcast_S_S16x2048 (constant S_ .f32 0x3F800000#32)

/-- The conditioning rows after the activation. -/
def active (v : FVec Ideal S16x2048 .f32) : FVec Ideal S16x2048 .f32 :=
  mulf v (Host.divf one (addf one (Host.exp (Host.negf v))))

/-- One layer's modulation, of its own weight and bias. -/
def layer (v : FVec Ideal S16x2048 .f32) (w : FVec Ideal S2048x12288 .f32) (b : FVec Ideal S12288 .f32) : FVec Ideal S1x16x12288 .f32 :=
  broadcastInDim S1x16x12288 ![1, 2] bcast_S16x12288_S1x16x12288_1_2
    (addf (Host.dotGeneral dot_S16x2048_S2048x12288_S16x12288_1_0_0_1_n_n none (active v) w)
      (broadcastInDim S16x12288 ![0, 1] bcast_S1x12288_S16x12288_0_1 (broadcastInDim S1x12288 ![1] bcast_S12288_S1x12288_1 b)))

/-- A row of the conditioning, after the activation. -/
def act (v : FVec Ideal S16x2048 .f32) (p : Fin 16) (k : Fin 2048) : EReal :=
  v (ix2 p k) * Ideal.div 1 (1 + Ideal.exp (-v (ix2 p k)))

theorem active_at (v : FVec Ideal S16x2048 .f32) (p : Fin 16) (k : Fin 2048) : active v (ix2 p k) = act v p k := by
  pointwise [active, one, act]

theorem layer_at (v : FVec Ideal S16x2048 .f32) (w : FVec Ideal S2048x12288 .f32) (b : FVec Ideal S12288 .f32) (p : Fin 16)
    (X : Fin 12288) : layer v w b (ix3 0 p X) = (∑ k : Fin 2048, act v p k * w (ix2 k X)) + b (ix1 X) := by
  simp only [← active_at]
  pointwise [layer]

variable (v : FVec Ideal S16x2048 .f32) (w : FVec Ideal S2x2048x12288 .f32) (b : FVec Ideal S2x12288 .f32)

/-- The result. -/
def both : FVec Ideal S2x16x12288 .f32 :=
  concatenate S2x16x12288 0
    [⟨S1x16x12288, layer v (shapeCast _ (extractStridedSlice S1x2048x12288 ![0, 0, 0] w slices_S2x2048x12288_S1x2048x12288_0_0_0)
        shapeCasts_S1x2048x12288_S2048x12288)
        (shapeCast _ (extractStridedSlice S1x12288 ![0, 0] b slices_S2x12288_S1x12288_0_0) shapeCasts_S1x12288_S12288)⟩,
      ⟨S1x16x12288, layer v (shapeCast _ (extractStridedSlice S1x2048x12288 ![1, 0, 0] w slices_S2x2048x12288_S1x2048x12288_1_0_0)
        shapeCasts_S1x2048x12288_S2048x12288)
        (shapeCast _ (extractStridedSlice S1x12288 ![1, 0] b slices_S2x12288_S1x12288_1_0) shapeCasts_S1x12288_S12288)⟩]
    concatenates_S1x16x12288_S1x16x12288_S2x16x12288_d0

/-- An element of the result. -/
def modulation (l : Fin 2) (p : Fin 16) (X : Fin 12288) : EReal := (∑ k : Fin 2048, act v p k * w (ix3 l k X)) + b (ix2 l X)

theorem both_at (l : Fin 2) (p : Fin 16) (X : Fin 12288) : both v w b (ix3 l p X) = modulation v w b l p X := by
  unfold both modulation
  match l with
  | 0 =>
    rw [concatenate_pair_apply_left (s₁ := S1x16x12288) (s₂ := S1x16x12288) 0 _ _ concatenates_S1x16x12288_S1x16x12288_S2x16x12288_d0
      (ix3 0 p X) rfl (ix3 0 p X) fun a => by
        match a with
        | 0 => rfl
        | 1 => rfl
        | 2 => rfl]
    rw [layer_at]
    pointwise []
  | 1 =>
    rw [concatenate_pair_apply_right (s₁ := S1x16x12288) (s₂ := S1x16x12288) 0 _ _ concatenates_S1x16x12288_S1x16x12288_S2x16x12288_d0
      (ix3 1 p X) rfl rfl (ix3 0 p X) (fun a ha => by
        match a with
        | 0 => exact absurd rfl ha
        | 1 => rfl
        | 2 => rfl) rfl]
    rw [layer_at]
    pointwise []

end Cert.Reference12Ideal.Ada

end
-- ==== Proof.AdaEq.lean ====
module

/-
The two layers' modulation: the kernel's result is the reference's. The grid runs over the layers and the twelve blocks of columns.
-/

public import proofs.«01_k».proof.Proof.Gen.Kernel12Ideal.Value
public import proofs.«01_k».proof.Proof.AdaRef
public import Idealize.ShloMosaic.Lib.Pipeline.ValueKit
public import Idealize.ShloMosaic.Lib.Pipeline.ReadBack

@[expose] public section
set_option maxRecDepth 16384
noncomputable section
namespace Cert.Kernel12Ideal.Ada

open Cert.Kernel12Ideal Cert.Kernel12Ideal.Gen
open Cert.Reference12Ideal.Ada (both both_at modulation act)
open Idealize.ShloMosaic Idealize.ShloMosaic.TcCoe Idealize.ShloMosaic.Tactic

theorem index_0 : ∀ t : Fin 24, win0_0.index t (0 : Fin 2) = 0 ∧ win0_0.index t (1 : Fin 2) = 0 := by decide +kernel
theorem index_1 : ∀ t : Fin 24, win0_1.index t (0 : Fin 3) = t.val / 12 ∧ win0_1.index t (1 : Fin 3) = 0 ∧
    win0_1.index t (2 : Fin 3) = t.val % 12 := by decide +kernel
theorem index_2 : ∀ t : Fin 24, win0_2.index t (0 : Fin 3) = t.val / 12 ∧ win0_2.index t (1 : Fin 3) = 0 ∧
    win0_2.index t (2 : Fin 3) = t.val % 12 := by decide +kernel
theorem index_3 : ∀ t : Fin 24, win0_3.index t (0 : Fin 3) = t.val / 12 ∧ win0_3.index t (1 : Fin 3) = 0 ∧
    win0_3.index t (2 : Fin 3) = t.val % 12 := by decide +kernel

/-- The layer of a point. -/
abbrev lay (t : Fin 24) : Fin 2 := ⟨t.val / 12, by omega⟩
/-- A column of a point's block. -/
abbrev col (t : Fin 24) (x : Fin 1024) : Fin 12288 := ⟨t.val % 12 * 1024 + x.val, by omega⟩

variable (m : (ℓ : Loc nD τ sig) → Buf (Elt Ideal) ℓ)

/-- The conditioning. -/
abbrev cond (c : Dev nD) : Vec Ideal S16x2048 .f32 := m (c.tc.loc main_arg0)
/-- The weights. -/
abbrev weight (c : Dev nD) : Vec Ideal S2x2048x12288 .f32 := m (c.tc.loc main_arg1)
/-- The biases. -/
abbrev bias (c : Dev nD) : Vec Ideal S2x12288 .f32 := m (c.tc.loc main_arg2)

theorem blk_0 (c : Dev nD) (t : Fin 24) (p : Fin 16) (k : Fin 2048) : iblk m c 0 t (ix2 p k) = cond m c (ix2 p k) := by
  blk_simp [iblk]
  refine congrArg (m (c.tc.loc main_arg0)) ?_
  obtain ⟨e0, e1⟩ := index_0 t
  funext a
  match a with
  | 0 =>
    refine Fin.ext ?_
    blk_simp [e0]
  | 1 =>
    refine Fin.ext ?_
    blk_simp [e1]

theorem blk_1 (c : Dev nD) (t : Fin 24) (k : Fin 2048) (x : Fin 1024) :
    iblk m c 1 t (ix3 0 k x) = weight m c (ix3 (lay t) k (col t x)) := by
  blk_simp [iblk]
  refine congrArg (m (c.tc.loc main_arg1)) ?_
  obtain ⟨e0, e1, e2⟩ := index_1 t
  funext a
  match a with
  | 0 =>
    refine Fin.ext ?_
    blk_simp [e0]
    rfl
  | 1 =>
    refine Fin.ext ?_
    blk_simp [e1]
  | 2 =>
    refine Fin.ext ?_
    blk_simp [e2]

/-- The biases as the launch's host line leaves them. -/
theorem host_bias (c : Dev nD) : V m c main_v0 = shapeCast S2x1x12288 (bias m c) shapeCasts_S2x12288_S2x1x12288 := by
  unfold_abbrev_sides
  after_results
  rfl

theorem blk_2 (c : Dev nD) (t : Fin 24) (x : Fin 1024) : iblk m c 2 t (ix3 0 0 x) = bias m c (ix2 (lay t) (col t x)) := by
  have e : iblk m c 2 t (ix3 0 0 x) = V m c main_v0 (ix3 (lay t) 0 (col t x)) := by
    unfold iblk
    refine congrArg (V m c main_v0) ?_
    obtain ⟨e0, e1, e2⟩ := index_2 t
    funext a
    match a with
    | 0 =>
      refine Fin.ext ?_
      blk_simp [e0]
      rfl
    | 1 =>
      refine Fin.ext ?_
      blk_simp [e1]
    | 2 =>
      refine Fin.ext ?_
      blk_simp [e2]
  rw [e, host_bias]
  pointwise []

theorem body_at (v : Vec Ideal S16x2048 .f32) (w : Vec Ideal S1x2048x1024 .f32) (b : Vec Ideal S1x1x1024 .f32) (p : Fin 16)
    (x : Fin 1024) : k0_pay1 v w b (ix3 0 p x) = (∑ k : Fin 2048, act v p k * w (ix3 0 k x)) + b (ix3 0 0 x) := by
  pointwise [k0_pay1, act]
  rfl

/-- The body's result at a point. -/
theorem point (v : Vec Ideal S16x2048 .f32) (w : Vec Ideal S1x2048x1024 .f32) (b : Vec Ideal S1x1x1024 .f32) :
    out0_3 v w b = k0_pay1 v w b := by
  unfold out0_3
  frame_out

theorem modulation_eq (c : Dev nD) (t : Fin 24) (p : Fin 16) (x : Fin 1024) (v : Vec Ideal S16x2048 .f32)
    (w : Vec Ideal S1x2048x1024 .f32) (b : Vec Ideal S1x1x1024 .f32) (hv : v = iblk m c 0 t) (hw : w = iblk m c 1 t)
    (hb : b = iblk m c 2 t) :
    (∑ k : Fin 2048, act v p k * w (ix3 0 k x)) + b (ix3 0 0 x) = modulation (cond m c) (weight m c) (bias m c) (lay t) p (col t x) := by
  subst hv hw hb
  refine congrArg₂ (· + ·) (Finset.sum_congr rfl fun k _ => congrArg₂ (· * ·) ?_ (blk_1 m c t k x)) (blk_2 m c t x)
  exact congrArg (fun u => u * Ideal.div 1 (1 + Ideal.exp (-u))) (blk_0 m c t p k)

/-- The result at the end. -/
theorem both_eq (c : Dev nD) : (dats m 0 c).arrAt 3 cfg0.N = both (cond m c) (weight m c) (bias m c) := by
  refine (dats m 0 c).arrAt_eq_of_covers 3 _ (by decide +kernel) fun t hf y => ?_
  blk_simp
  rw [after0_3, point]
  obtain ⟨e0, e1, e2⟩ := index_3 t
  obtain ⟨p, x, rfl⟩ : ∃ (p : Fin 16) (x : Fin 1024), y = ix3 0 p x := ⟨y 1, y 2, by
    funext a
    match a with
    | 0 => exact Fin.ext (by have h : (y 0).val < 1 := (y 0).isLt; show (y 0).val = 0; omega)
    | 1 => rfl
    | 2 => rfl⟩
  refine (body_at _ _ _ p x).trans ((modulation_eq m c t p x _ _ _ rfl rfl rfl).trans
    ((both_at (cond m c) (weight m c) (bias m c) (lay t) p (col t x)).symm.trans
      (congrArg (both (cond m c) (weight m c) (bias m c)) ?_)))
  funext a
  match a with
  | 0 =>
    refine Fin.ext ?_
    blk_simp [e0]
    rfl
  | 1 =>
    refine Fin.ext ?_
    blk_simp [e1]
  | 2 =>
    refine Fin.ext ?_
    blk_simp [e2]

end Cert.Kernel12Ideal.Ada
end
-- ==== Proof.AdaClaim.lean ====
/- The claims about the two layers' modulation. -/
module

public import proofs.«01_k».proof.Proof.AdaEq
public import proofs.«01_k».proof.Defs
public import proofs.«01_k».proof.Proof.Gen.Kernel12
public import Idealize.ShloMosaic.Adequacy
public import Idealize.ShloMosaic.Init

@[expose] public section

set_option maxRecDepth 16384

noncomputable section

namespace Cert.Proof.Ada

open Idealize.ShloMosaic Idealize.SL.Sem

/-- The frame, said of the text that is read at the ideal instance, over words. -/
def Quiet : Prop :=
  ∀ (m : (ℓ : Loc Cert.Kernel12Ideal.nD Cert.Kernel12Ideal.τ Cert.Kernel12Ideal.sig) → Buf (Elt Bits) ℓ)
    (ρ : Dev Cert.Kernel12Ideal.nD → PrngReg), True →
    θ_run (Cert.Kernel12Ideal.defs (F := Bits)) (onTc (τ := Cert.Kernel12Ideal.τ) (Cert.Kernel12Ideal.main (F := Bits))) ⟨m, fun _ => 0, ρ⟩ (fun r => (∀ c : Dev Cert.Kernel12Ideal.nD,
      r.2.mem (c.tc.loc Cert.Kernel12Ideal.main_arg0) = m (c.tc.loc Cert.Kernel12Ideal.main_arg0)
      ∧ r.2.mem (c.tc.loc Cert.Kernel12Ideal.main_arg1) = m (c.tc.loc Cert.Kernel12Ideal.main_arg1)
      ∧ r.2.mem (c.tc.loc Cert.Kernel12Ideal.main_arg2) = m (c.tc.loc Cert.Kernel12Ideal.main_arg2))
      ∧ r.2.sem = fun _ => 0)

/-- The two texts are one. -/
theorem same : Quiet = Cert.quiescent_Kernel12 (hKernel12 := Cert.Kernel12.Gen.facts) := by
  sl_kernel_rfl

/-- The kernel over words ends with its arguments unchanged and every counter at zero. -/
theorem frame_kernel : Cert.quiescent_Kernel12 (hKernel12 := Cert.Kernel12.Gen.facts) :=
  same ▸ fun m ρ _ => Cert.Kernel12Ideal.Gen.frame (F := Bits) m ρ

/-- The idealized kernel ends with its arguments unchanged and every counter at zero. -/
theorem frame_ideal : Cert.quiescent_Kernel12Ideal (hKernel12Ideal := Cert.Kernel12Ideal.Gen.facts) :=
  fun m ρ _ => Cert.Kernel12Ideal.Gen.frame m ρ

/-- The reference ends with its arguments unchanged; it has no counter. -/
theorem frame_reference : Cert.quiescent_Reference12Ideal (hReference12Ideal := Cert.Reference12Ideal.Gen.facts) :=
  fun m ρ _ => (θ_run Cert.Reference12Ideal.defs _ _).mono
    (fun r h => ⟨fun c => (h c).2, sem_eq_zero_of_no_sems (by decide) r.2⟩) (Cert.Reference12Ideal.Value.run m ρ)

/-- The kernel's result is the reference's. -/
theorem equal : Cert.algebraic_Kernel12Ideal_Reference12Ideal (hKernel12Ideal := Cert.Kernel12Ideal.Gen.facts)
    (hReference12Ideal := Cert.Reference12Ideal.Gen.facts) := by
  intro m g m' g' _ he
  refine ⟨fun c => (Cert.Kernel12Ideal.Gen.dats m 0 c).arrAt 3 Cert.Kernel12Ideal.cfg0.N,
    Cert.Kernel12Ideal.Value.run_blocks m g,
    (θ_run Cert.Reference12Ideal.defs _ _).mono (fun r h c => ?_) (Cert.Reference12Ideal.Value.run m' g')⟩
  obtain ⟨h0, hk⟩ := h c
  refine ⟨h0.trans ?_, hk⟩
  rw [(he c).1, (he c).2.1, (he c).2.2]
  exact (Cert.Kernel12Ideal.Ada.both_eq m c).symm

end Cert.Proof.Ada

end
-- ==== Proof.lean ====
/- The proof of the claim. Of each call: the two frames from one run of the kernel, the reference's frame from its run,
   and the equation of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal.Frame
public import proofs.«01_k».proof.Proof.Gen.Kernel12Ideal.Value
public import proofs.«01_k».proof.Proof.Gen.Reference12Ideal.Run
public import proofs.«01_k».proof.Proof.FrameKernel
public import proofs.«01_k».proof.Proof.Finite
public import proofs.«01_k».proof.Proof.Assembly
public import proofs.«01_k».proof.Proof.MlpClaim
public import proofs.«01_k».proof.Proof.TailClaim
public import proofs.«01_k».proof.Proof.NextClaim
public import proofs.«01_k».proof.Proof.NextFinite
public import proofs.«01_k».proof.Proof.GlaInClaim
public import proofs.«01_k».proof.Proof.NaInClaim
public import proofs.«01_k».proof.Proof.OutClaim
public import proofs.«01_k».proof.Proof.ScanInClaim
public import proofs.«01_k».proof.Proof.JoinClaim
public import proofs.«01_k».proof.Proof.UnitClaim
public import proofs.«01_k».proof.Proof.NormClaim
public import proofs.«01_k».proof.Proof.AdaClaim
public import Idealize.ShloMosaic.Adequacy
public import Idealize.ShloMosaic.Init

@[expose] public section

noncomputable section

namespace Cert.Proof

open Idealize.ShloMosaic Idealize.SL.Sem

/-- What the kernel's result is, at finite arguments. -/
theorem kernel_result (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) :
    (Cert.KernelIdeal.Run.dats m 0 c).arrAt 10 Cert.KernelIdeal.cfg0.N =
      Cert.ReferenceIdeal.Parts.out (Cert.Equation.tokens m c) (Cert.KernelIdeal.Table.biases m c) := by
  obtain ⟨hA, hT⟩ := Cert.Pre_finite.real_of (hf := Cert.Pre_finite.facts) _ _ (h c)
  exact Cert.Equation.result_eq m c hA hT

/-- The reference ends with its arguments unchanged; it has no counter. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The attention's result is the reference's, at finite arguments. -/
theorem equal : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp he
  refine ⟨fun c => (Cert.KernelIdeal.Run.dats m 0 c).arrAt 10 Cert.KernelIdeal.cfg0.N,
    Cert.KernelIdeal.Run.run_named m g,
    (θ_run Cert.ReferenceIdeal.defs _ _).mono (fun r h c => ?_) (Cert.ReferenceIdeal.Value.run m' g')⟩
  obtain ⟨h0, h1, h2⟩ := h c
  refine ⟨h0.trans ?_, h1, h2⟩
  rw [Cert.ReferenceIdeal.Parts.result_eq, (he c).1, (he c).2]
  exact (kernel_result m hp c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.facts, Cert.Pre_finite3.facts, Cert.Pre_finite4.facts,
  frame_kernel, fun m ρ _ => Cert.KernelIdeal.Run.quiet m ρ, fun m ρ _ => Cert.KernelIdeal.Run.quiet m ρ,
  fun m ρ _ => reference_quiet m ρ, fun m ρ _ => reference_quiet m ρ,
  Mlp.frame_kernel, Mlp.frame_ideal, Mlp.frame_reference,
  Tail.frame_kernel, Tail.frame_ideal, fun m ρ _ => Tail.frame_ideal m ρ trivial,
  fun m ρ _ => Tail.reference_quiet m ρ, fun m ρ _ => Tail.reference_quiet m ρ,
  Next.frame_kernel, Next.frame_ideal, fun m ρ _ => Next.frame_ideal m ρ trivial,
  fun m ρ _ => Next.reference_quiet m ρ, fun m ρ _ => Next.reference_quiet m ρ,
  GlaIn.frame_kernel, GlaIn.frame_ideal, GlaIn.frame_reference, NaIn.frame_kernel, NaIn.frame_ideal, NaIn.frame_reference,
  Out.frame_kernel, Out.frame_ideal, fun m ρ _ => Out.reference_quiet m ρ,
  ScanIn.frame_kernel, ScanIn.frame_ideal, ScanIn.frame_reference, Unit.frame_kernel, Unit.frame_ideal, Unit.frame_reference,
  Join.frame_kernel, Join.frame_ideal, fun m ρ _ => Join.reference_quiet m ρ,
  Norm.frame_kernel, Norm.frame_ideal, fun m ρ _ => Norm.reference_quiet m ρ, Ada.frame_kernel, Ada.frame_ideal, Ada.frame_reference,
  trivial, equal, trivial, Mlp.equal, trivial, Tail.equal, trivial, Next.equal, trivial, GlaIn.equal, trivial, NaIn.equal,
  trivial, Out.equal, trivial, ScanIn.equal, trivial, Unit.equal, trivial, Join.equal,
  trivial, Norm.equal, trivial, Ada.equal⟩

end Cert.Proof

end
